-- ==== Defs.lean ====
def Pre_Kernel [hPre_tabled : Cert.Pre_tabled.Facts] (m : (ℓ : Loc Cert.Kernel.nD Cert.Kernel.τ Cert.Kernel.sig) → Buf (Elt Bits) ℓ) : Prop :=
  ∀ c : Dev Cert.Kernel.nD,
    (Cert.Pre_tabled.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_tabled : Cert.Pre_tabled.Facts] (m : (ℓ : Loc Cert.KernelIdeal.nD Cert.KernelIdeal.τ Cert.KernelIdeal.sig) → Buf (Elt Ideal) ℓ) : Prop :=
  ∀ c : Dev Cert.KernelIdeal.nD,
    (Cert.Pre_tabled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_gated [hPre_gated : Cert.Pre_gated.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_gated.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_gated [hPre_gated : Cert.Pre_gated.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_gated.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))) = (fun _ => 1#1)

def quiescent_Kernel [hKernel : Cert.Kernel.Facts] [hPre_tabled : Cert.Pre_tabled.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_tabled : Cert.Pre_tabled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Kernel3Ideal_pre_gated [hKernel3Ideal : Cert.Kernel3Ideal.Facts] [hPre_gated : Cert.Pre_gated.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_gated m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Reference3Ideal_pre_gated [hReference3Ideal : Cert.Reference3Ideal.Facts] [hPre_gated : Cert.Pre_gated.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_gated m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v29_0)) (v1 : (c : Dev Cert.Kernel2Ideal.nD) → Buf (Elt Ideal) ((c.tc : Thread Cert.Kernel2Ideal.nD Cert.Kernel2Ideal.τ).loc Cert.Kernel2Ideal.main_v29_1)) (v2 : (c : Dev Cert.Kernel2Ideal.nD) → Buf (Elt Ideal) ((c.tc : Thread Cert.Kernel2Ideal.nD Cert.Kernel2Ideal.τ).loc Cert.Kernel2Ideal.main_v29_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29_0) = v0 c
          ∧ r.2.mem ((c.tc : Thread Cert.Kernel2Ideal.nD Cert.Kernel2Ideal.τ).loc Cert.Kernel2Ideal.main_v29_1) = v1 c
          ∧ r.2.mem ((c.tc : Thread Cert.Kernel2Ideal.nD Cert.Kernel2Ideal.τ).loc Cert.Kernel2Ideal.main_v29_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v112) = v0 c
          ∧ r.2.mem ((c.tc : Thread Cert.Reference2Ideal.nD Cert.Reference2Ideal.τ).loc Cert.Reference2Ideal.main_v114) = v1 c
          ∧ r.2.mem ((c.tc : Thread Cert.Reference2Ideal.nD Cert.Reference2Ideal.τ).loc Cert.Reference2Ideal.main_v115) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_gated [hKernel3Ideal : Cert.Kernel3Ideal.Facts] [hReference3Ideal : Cert.Reference3Ideal.Facts] [hPre_gated : Cert.Pre_gated.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_gated m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v28_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v118) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_tabled : Cert.Pre_tabled.Facts) (hPre_routed : Cert.Pre_routed.Facts) (hPre_finite : Cert.Pre_finite.Facts) (hPre_gated : Cert.Pre_gated.Facts),
    quiescent_Kernel (hKernel := hKernel) (hPre_tabled := hPre_tabled)
    ∧ quiescent_KernelIdeal (hKernelIdeal := hKernelIdeal) (hPre_tabled := hPre_tabled)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Kernel3Ideal_pre_gated (hKernel3Ideal := hKernel3Ideal) (hPre_gated := hPre_gated)
    ∧ quiescent_Reference3Ideal (hReference3Ideal := hReference3Ideal)
    ∧ quiescent_Reference3Ideal_pre_gated (hReference3Ideal := hReference3Ideal) (hPre_gated := hPre_gated)
    ∧ preserves_Kernel_KernelIdeal
    ∧ algebraic_KernelIdeal_ReferenceIdeal_pre_routed (hKernelIdeal := hKernelIdeal) (hReferenceIdeal := hReferenceIdeal) (hPre_routed := hPre_routed)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal_pre_gated (hKernel3Ideal := hKernel3Ideal) (hReference3Ideal := hReference3Ideal) (hPre_gated := hPre_gated)
-- ==== Pre_finite.lean ====
abbrev S8x4096x1024 : Shape := ⟨3, ![8, 4096, 1024]⟩
abbrev S4x1024x3088 : Shape := ⟨3, ![4, 1024, 3088]⟩
abbrev S4x5x1536 : Shape := ⟨3, ![4, 5, 1536]⟩
abbrev S4x4 : Shape := ⟨2, ![4, 4]⟩
abbrev S_ : Shape := ⟨0, ![]⟩
abbrev S1x1024x1536 : Shape := ⟨3, ![1, 1024, 1536]⟩
abbrev S1024x1536 : Shape := ⟨2, ![1024, 1536]⟩
abbrev S1x5x1536 : Shape := ⟨3, ![1, 5, 1536]⟩
abbrev S5x1536 : Shape := ⟨2, ![5, 1536]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  slices_S4x1024x3088_S1x1024x1536_0_0_0 : S4x1024x3088.Slices ![0, 0, 0] S1x1024x1536
  shapeCasts_S1x1024x1536_S1024x1536 : S1x1024x1536.ShapeCasts S1024x1536
  bcast_S_S1024x1536 : S_.BroadcastsInDim S1024x1536 (![] : Fin 0 → Fin S1024x1536.rank)
  reducesTo_S1024x1536_S_d0_1 : S1024x1536.ReducesTo [0, 1] S_
  slices_S4x5x1536_S1x5x1536_0_0_0 : S4x5x1536.Slices ![0, 0, 0] S1x5x1536
  shapeCasts_S1x5x1536_S5x1536 : S1x5x1536.ShapeCasts S5x1536
  bcast_S_S5x1536 : S_.BroadcastsInDim S5x1536 (![] : Fin 0 → Fin S5x1536.rank)
  reducesTo_S5x1536_S_d0_1 : S5x1536.ReducesTo [0, 1] S_

variable [Facts]

def fn {F : FTy → Type} [FloatOps F] (main_arg0 : FVec F S8x4096x1024 .f32) (main_arg1 : FVec F S4x1024x3088 .f32) (main_arg2 : FVec F S4x5x1536 .f32) (main_arg3 : FVec F S4x4 .f32) (main_arg4 : FVec F S4x4 .f32) (main_arg5 : FVec F S4x4 .f32) (main_arg6 : FVec F S4x4 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1x1024x1536 .f32 := (extractStridedSlice S1x1024x1536 ![0, 0, 0] · slices_S4x1024x3088_S1x1024x1536_0_0_0) main_arg1
  let main_v5 : FVec F S1024x1536 .f32 := shapeCast S1024x1536 main_v4 shapeCasts_S1x1024x1536_S1024x1536
  let main_v6 : FVec F S1024x1536 .f32 := Host.absf main_v5
  let main_cst_0 : FVec F S_ .f32 := constant S_ .f32 0x7F800000#32
  let main_v7 : FVec F S1024x1536 .f32 := broadcastInDim S1024x1536 ![] bcast_S_S1024x1536 main_cst_0
  let main_v8 : IVec S1024x1536 1 := cmpf .olt main_v6 main_v7
  let main_c_1 : IVec S_ 1 := constantI S_ 1 1#1
  let main_v9 : IVec S_ 1 := (fun x v => Host.reduce IntOp.andi x v reducesTo_S1024x1536_S_d0_1 h_S_) main_v8 main_c_1
  let main_v10 : IVec S_ 1 := andi main_v3 main_v9
  let main_v11 : FVec F S1x5x1536 .f32 := (extractStridedSlice S1x5x1536 ![0, 0, 0] · slices_S4x5x1536_S1x5x1536_0_0_0) main_arg2
  let main_v12 : FVec F S5x1536 .f32 := shapeCast S5x1536 main_v11 shapeCasts_S1x5x1536_S5x1536
  let main_v13 : FVec F S5x1536 .f32 := Host.absf main_v12
  let main_cst_2 : FVec F S_ .f32 := constant S_ .f32 0x7F800000#32
  let main_v14 : FVec F S5x1536 .f32 := broadcastInDim S5x1536 ![] bcast_S_S5x1536 main_cst_2
  let main_v15 : IVec S5x1536 1 := cmpf .olt main_v13 main_v14
  let main_c_3 : IVec S_ 1 := constantI S_ 1 1#1
  let main_v16 : IVec S_ 1 := (fun x v => Host.reduce IntOp.andi x v reducesTo_S5x1536_S_d0_1 h_S_) main_v15 main_c_3
  let main_v17 : IVec S_ 1 := andi main_v10 main_v16
  main_v17
-- ==== Pre_gated.lean ====
abbrev S32768x512 : Shape := ⟨2, ![32768, 512]⟩
abbrev S32768x1536 : Shape := ⟨2, ![32768, 1536]⟩
abbrev S32768x1024 : Shape := ⟨2, ![32768, 1024]⟩
abbrev S4x128 : Shape := ⟨2, ![4, 128]⟩
abbrev S4x512 : Shape := ⟨2, ![4, 512]⟩
abbrev S4x4x128x128 : Shape := ⟨4, ![4, 4, 128, 128]⟩
abbrev S4x4x128 : Shape := ⟨3, ![4, 4, 128]⟩
abbrev S4x1024x1024 : Shape := ⟨3, ![4, 1024, 1024]⟩
abbrev S4x1024 : Shape := ⟨2, ![4, 1024]⟩
abbrev S1024x16 : Shape := ⟨2, ![1024, 16]⟩
abbrev S16 : Shape := ⟨1, ![16]⟩
abbrev S_ : Shape := ⟨0, ![]⟩

class Facts : Prop where
  slices_S32768x1536_S32768x512_0_0 : S32768x1536.Slices ![0, 0] S32768x512
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel

variable [Facts]

def fn {F : FTy → Type} [FloatOps F] (main_arg0 : FVec F S32768x512 .f32) (main_arg1 : FVec F S32768x512 .f32) (main_arg2 : FVec F S32768x1536 .bf16) (main_arg3 : FVec F S32768x1024 .f32) (main_arg4 : FVec F S4x128 .f32) (main_arg5 : FVec F S4x512 .f32) (main_arg6 : FVec F S4x512 .f32) (main_arg7 : FVec F S4x4x128x128 .f32) (main_arg8 : FVec F S4x4x128 .f32) (main_arg9 : FVec F S4x1024x1024 .f32) (main_arg10 : FVec F S4x1024 .f32) (main_arg11 : FVec F S4x1024 .f32) (main_arg12 : FVec F S1024x16 .f32) (main_arg13 : FVec F S16 .f32) : IVec S_ 1 :=
  let main_v0 : FVec F S32768x512 .bf16 := (extractStridedSlice S32768x512 ![0, 0] · slices_S32768x1536_S32768x512_0_0) main_arg2
  let main_v1 : FVec F S32768x512 .f32 := (extf .f32 · bitsLt_bf16_f32) main_v0
  let main_v2 : FVec F S32768x512 .f32 := Host.absf main_v1
  let main_cst : FVec F S_ .f32 := constant S_ .f32 0x7F800000#32
  let main_v3 : FVec F S32768x512 .f32 := broadcastInDim S32768x512 ![] bcast_S_S32768x512 main_cst
  let main_v4 : IVec S32768x512 1 := cmpf .olt main_v2 main_v3
  let main_c : IVec S_ 1 := constantI S_ 1 1#1
  let main_v5 : IVec S_ 1 := (fun x v => Host.reduce IntOp.andi x v reducesTo_S32768x512_S_d0_1 h_S_) main_v4 main_c
  main_v5
-- ==== Pre_routed.lean ====
abbrev S144 : Shape := ⟨1, ![144]⟩
abbrev S1 : Shape := ⟨1, ![1]⟩
abbrev S589824x128 : Shape := ⟨2, ![589824, 128]⟩
abbrev S4x16x1024x1024 : Shape := ⟨4, ![4, 16, 1024, 1024]⟩
abbrev S_ : Shape := ⟨0, ![]⟩
abbrev S144x512x1024 : Shape := ⟨3, ![144, 512, 1024]⟩
abbrev S144x1x1 : Shape := ⟨3, ![144, 1, 1]⟩
abbrev S1x16x1024x1024 : Shape := ⟨4, ![1, 16, 1024, 1024]⟩
abbrev S16x1024x1024 : Shape := ⟨3, ![16, 1024, 1024]⟩

class Facts : Prop where
  shapeCasts_S1_S_ : S1.ShapeCasts S_
  bcast_S_S144 : S_.BroadcastsInDim S144 (![] : Fin 0 → Fin S144.rank)
  shapeCasts_S589824x128_S144x512x1024 : S589824x128.ShapeCasts S144x512x1024
  reducesTo_S144_S_d0 : S144.ReducesTo [0] S_
  h_S_ : 0 < S_.numel
  bcast_S144_S144x1x1_0 : S144.BroadcastsInDim S144x1x1 (![0] : Fin 1 → Fin S144x1x1.rank)
  bcast_S_S144x512x1024 : S_.BroadcastsInDim S144x512x1024 (![] : Fin 0 → Fin S144x512x1024.rank)
  bcast_S144x1x1_S144x512x1024_0_1_2 : S144x1x1.BroadcastsInDim S144x512x1024 (![0, 1, 2] : Fin 3 → Fin S144x512x1024.rank)
  reducesTo_S144x512x1024_S_d0_1_2 : S144x512x1024.ReducesTo [0, 1, 2] S_
  slices_S4x16x1024x1024_S1x16x1024x1024_0_0_0_0 : S4x16x1024x1024.Slices ![0, 0, 0, 0] S1x16x1024x1024
  shapeCasts_S1x16x1024x1024_S16x1024x1024 : S1x16x1024x1024.ShapeCasts S16x1024x1024
  bcast_S_S16x1024x1024 : S_.BroadcastsInDim S16x1024x1024 (![] : Fin 0 → Fin S16x1024x1024.rank)
  reducesTo_S16x1024x1024_S_d0_1_2 : S16x1024x1024.ReducesTo [0, 1, 2] S_

variable [Facts]

def fn_part1 {F : FTy → Type} [FloatOps F] (main_arg3 : FVec F S4x16x1024x1024 .f32) (main_v4 : FVec F S144x512x1024 .f32) (main_v18 : IVec S_ 1) (main_v19 : IVec S144x1x1 1) : IVec S_ 1 :=
  let main_v20 : FVec F S144x512x1024 .f32 := Host.absf main_v4
  let main_cst : FVec F S_ .f32 := constant S_ .f32 0x7F800000#32
  let main_v21 : FVec F S144x512x1024 .f32 := broadcastInDim S144x512x1024 ![] bcast_S_S144x512x1024 main_cst
  let main_v22 : IVec S144x512x1024 1 := cmpf .olt main_v20 main_v21
  let main_v23 : IVec S144x512x1024 1 := broadcastInDim S144x512x1024 ![0, 1, 2] bcast_S144x1x1_S144x512x1024_0_1_2 main_v19
  let main_v24 : IVec S144x512x1024 1 := ori main_v23 main_v22
  let main_c_3 : IVec S_ 1 := constantI S_ 1 1#1
  let main_v25 : IVec S_ 1 := (fun x v => Host.reduce IntOp.andi x v reducesTo_S144x512x1024_S_d0_1_2 h_S_) main_v24 main_c_3
  let main_v26 : IVec S_ 1 := andi main_v18 main_v25
  let main_v27 : FVec F S1x16x1024x1024 .f32 := (extractStridedSlice S1x16x1024x1024 ![0, 0, 0, 0] · slices_S4x16x1024x1024_S1x16x1024x1024_0_0_0_0) main_arg3
  let main_v28 : FVec F S16x1024x1024 .f32 := shapeCast S16x1024x1024 main_v27 shapeCasts_S1x16x1024x1024_S16x1024x1024
  let main_v29 : FVec F S16x1024x1024 .f32 := Host.absf main_v28
  let main_cst_4 : FVec F S_ .f32 := constant S_ .f32 0x7F800000#32
  let main_v30 : FVec F S16x1024x1024 .f32 := broadcastInDim S16x1024x1024 ![] bcast_S_S16x1024x1024 main_cst_4
  let main_v31 : IVec S16x1024x1024 1 := cmpf .olt main_v29 main_v30
  let main_c_5 : IVec S_ 1 := constantI S_ 1 1#1
  let main_v32 : IVec S_ 1 := (fun x v => Host.reduce IntOp.andi x v reducesTo_S16x1024x1024_S_d0_1_2 h_S_) main_v31 main_c_5
  let main_v33 : IVec S_ 1 := andi main_v26 main_v32
  main_v33

def fn {F : FTy → Type} [FloatOps F] (main_arg0 : IVec S144 32) (main_arg1 : IVec S1 32) (main_arg2 : FVec F S589824x128 .f32) (main_arg3 : FVec F S4x16x1024x1024 .f32) (main_arg4 : FVec F S4x16x1024x1024 .f32) (main_arg5 : FVec F S4x16x1024x1024 .f32) : IVec S_ 1 :=
  let main_v0 : IVec S144 32 := iotaInDim S144 32 0
  let main_v1 : IVec S_ 32 := shapeCast S_ main_arg1 shapeCasts_S1_S_
  let main_v2 : IVec S144 32 := broadcastInDim S144 ![] bcast_S_S144 main_v1
  let main_v3 : IVec S144 1 := cmpi .sge main_v0 main_v2
  let main_v4 : FVec F S144x512x1024 .f32 := shapeCast S144x512x1024 main_arg2 shapeCasts_S589824x128_S144x512x1024
  let main_c : IVec S_ 32 := constantI S_ 32 0#32
  let main_v5 : IVec S144 32 := broadcastInDim S144 ![] bcast_S_S144 main_c
  let main_v6 : IVec S144 1 := cmpi .sge main_arg0 main_v5
  let main_c_0 : IVec S_ 32 := constantI S_ 32 16#32
  let main_v7 : IVec S144 32 := broadcastInDim S144 ![] bcast_S_S144 main_c_0
  let main_v8 : IVec S144 1 := cmpi .slt main_arg0 main_v7
  let main_v9 : IVec S144 1 := andi main_v6 main_v8
  let main_v10 : IVec S_ 32 := shapeCast S_ main_arg1 shapeCasts_S1_S_
  let main_c_1 : IVec S_ 32 := constantI S_ 32 1#32
  let main_v11 : IVec S_ 1 := cmpi .sge main_v10 main_c_1
  let main_v12 : IVec S144 32 := iotaInDim S144 32 0
  let main_v13 : IVec S_ 32 := shapeCast S_ main_arg1 shapeCasts_S1_S_
  let main_v14 : IVec S144 32 := broadcastInDim S144 ![] bcast_S_S144 main_v13
  let main_v15 : IVec S144 1 := cmpi .sge main_v12 main_v14
  let main_v16 : IVec S144 1 := ori main_v15 main_v9
  let main_c_2 : IVec S_ 1 := constantI S_ 1 1#1
  let main_v17 : IVec S_ 1 := (fun x v => Host.reduce IntOp.andi x v reducesTo_S144_S_d0 h_S_) main_v16 main_c_2
  let main_v18 : IVec S_ 1 := andi main_v11 main_v17
  let main_v19 : IVec S144x1x1 1 := broadcastInDim S144x1x1 ![0] bcast_S144_S144x1x1_0 main_v3
  fn_part1 (F := F) main_arg3 main_v4 main_v18 main_v19
-- ==== Pre_tabled.lean ====
abbrev S144 : Shape := ⟨1, ![144]⟩
abbrev S1 : Shape := ⟨1, ![1]⟩
abbrev S589824x128 : Shape := ⟨2, ![589824, 128]⟩
abbrev S4x16x1024x1024 : Shape := ⟨4, ![4, 16, 1024, 1024]⟩
abbrev S_ : Shape := ⟨0, ![]⟩

class Facts : Prop where
  bcast_S_S144 : S_.BroadcastsInDim S144 (![] : Fin 0 → Fin S144.rank)
  shapeCasts_S1_S_ : S1.ShapeCasts S_
  reducesTo_S144_S_d0 : S144.ReducesTo [0] S_
  h_S_ : 0 < S_.numel

variable [Facts]

def fn {F : FTy → Type} [FloatOps F] (main_arg0 : IVec S144 32) (main_arg1 : IVec S1 32) (main_arg2 : FVec F S589824x128 .f32) (main_arg3 : FVec F S4x16x1024x1024 .f32) (main_arg4 : FVec F S4x16x1024x1024 .f32) (main_arg5 : FVec F S4x16x1024x1024 .f32) : IVec S_ 1 :=
  let main_c : IVec S_ 32 := constantI S_ 32 0#32
  let main_v0 : IVec S144 32 := broadcastInDim S144 ![] bcast_S_S144 main_c
  let main_v1 : IVec S144 1 := cmpi .sge main_arg0 main_v0
  let main_c_0 : IVec S_ 32 := constantI S_ 32 16#32
  let main_v2 : IVec S144 32 := broadcastInDim S144 ![] bcast_S_S144 main_c_0
  let main_v3 : IVec S144 1 := cmpi .slt main_arg0 main_v2
  let main_v4 : IVec S144 1 := andi main_v1 main_v3
  let main_v5 : IVec S_ 32 := shapeCast S_ main_arg1 shapeCasts_S1_S_
  let main_c_1 : IVec S_ 32 := constantI S_ 32 1#32
  let main_v6 : IVec S_ 1 := cmpi .sge main_v5 main_c_1
  let main_v7 : IVec S144 32 := iotaInDim S144 32 0
  let main_v8 : IVec S_ 32 := shapeCast S_ main_arg1 shapeCasts_S1_S_
  let main_v9 : IVec S144 32 := broadcastInDim S144 ![] bcast_S_S144 main_v8
  let main_v10 : IVec S144 1 := cmpi .sge main_v7 main_v9
  let main_v11 : IVec S144 1 := ori main_v10 main_v4
  let main_c_2 : IVec S_ 1 := constantI S_ 1 1#1
  let main_v12 : IVec S_ 1 := (fun x v => Host.reduce IntOp.andi x v reducesTo_S144_S_d0 h_S_) main_v11 main_c_2
  let main_v13 : IVec S_ 1 := andi main_v6 main_v12
  main_v13
-- ==== Kernel.lean ====
abbrev S144 : Shape := ⟨1, ![144]⟩
abbrev S1 : Shape := ⟨1, ![1]⟩
abbrev S589824x128 : Shape := ⟨2, ![589824, 128]⟩
abbrev S4x16x1024x1024 : Shape := ⟨4, ![4, 16, 1024, 1024]⟩
abbrev S_ : Shape := ⟨0, ![]⟩
abbrev S144x1 : Shape := ⟨2, ![144, 1]⟩
abbrev S4096x128 : Shape := ⟨2, ![4096, 128]⟩
abbrev S1x1x1024x1024 : Shape := ⟨4, ![1, 1, 1024, 1024]⟩
abbrev S1024x1024 : Shape := ⟨2, ![1024, 1024]⟩
abbrev S512x128 : Shape := ⟨2, ![512, 128]⟩
abbrev S512x1024 : Shape := ⟨2, ![512, 1024]⟩

abbrev nBuf : Space → Nat
  | .hbm => 20
  | .vmem => 13
  | .smem => 2
  | _ => 0

abbrev bufTy : (tb : Table) → Fin (tcTables nBuf tb) → BufTy
  | .hbm, ⟨0, _⟩ => ⟨S144, .i32⟩
  | .hbm, ⟨1, _⟩ => ⟨S589824x128, .f32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S144, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S144, .i32⟩
  | .hbm, ⟨10, _⟩ => ⟨S144, .i32⟩
  | .hbm, ⟨11, _⟩ => ⟨S_, .i32⟩
  | .hbm, ⟨12, _⟩ => ⟨S144, .i32⟩
  | .hbm, ⟨13, _⟩ => ⟨S144, .i1⟩
  | .hbm, ⟨14, _⟩ => ⟨S_, .i32⟩
  | .hbm, ⟨15, _⟩ => ⟨S144, .i32⟩
  | .hbm, ⟨16, _⟩ => ⟨S144, .i32⟩
  | .hbm, ⟨17, _⟩ => ⟨S144, .i32⟩
  | .hbm, ⟨18, _⟩ => ⟨S144x1, .i32⟩
  | .hbm, ⟨19, _⟩ => ⟨S589824x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S4096x128, .f32⟩
  | .local _ .vmem, ⟨9, _⟩ => ⟨S4096x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .smem, ⟨0, _⟩ => ⟨S144, .i32⟩
  | .local _ .smem, ⟨1, _⟩ => ⟨S1, .i32⟩
  | _, _ => ⟨S144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v12 : Ref sig .tc := ⟨.hbm, 19, rfl⟩
abbrev main_v11 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![144], ![false]⟩

abbrev pre0 : Pipeline.Prefetch sig := ⟨2, ![main_v11.idx, main_arg1.idx], fun | 0 => main_v11.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v8 : Index := Scalar.indexCast arg0
  ![v8.toNat]
def k0_off3 (i : grid0.Coords) : Fin 1 → Nat :=
  let arg0 : BitVec 32 := BitVec.ofNat 32 (i 0).val
  let c1_i32 : BitVec 32 := 1#32
  let v10 : BitVec 32 := Scalar.subi arg0 c1_i32
  let c0_i32_2 : BitVec 32 := 0#32
  let v11 : BitVec 32 := Scalar.maxsi v10 c0_i32_2
  let v12 : Index := Scalar.indexCast v11
  ![v12.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v0 : BitVec 32) : BitVec 1 :=
  let arg0 : BitVec 32 := BitVec.ofNat 32 (i 0).val
  let v4 : BitVec 1 := Scalar.cmpi .sge arg0 v0
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S144 : Shape := ⟨1, ![144]⟩
abbrev S1 : Shape := ⟨1, ![1]⟩
abbrev S589824x128 : Shape := ⟨2, ![589824, 128]⟩
abbrev S4x16x1024x1024 : Shape := ⟨4, ![4, 16, 1024, 1024]⟩
abbrev S144x512x1024 : Shape := ⟨3, ![144, 512, 1024]⟩
abbrev S1x16x1024x1024 : Shape := ⟨4, ![1, 16, 1024, 1024]⟩
abbrev S16x1024x1024 : Shape := ⟨3, ![16, 1024, 1024]⟩
abbrev S_ : Shape := ⟨0, ![]⟩
abbrev S144x1 : Shape := ⟨2, ![144, 1]⟩
abbrev S144x1024x1024 : Shape := ⟨3, ![144, 1024, 1024]⟩
abbrev S144x1x1 : Shape := ⟨3, ![144, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S144, .i32⟩
  | .hbm, ⟨1, _⟩ => ⟨S1, .i32⟩
  | .hbm, ⟨2, _⟩ => ⟨S589824x128, .f32⟩
  | .hbm, ⟨3, _⟩ => ⟨S4x16x1024x1024, .f32⟩
  | .hbm, ⟨4, _⟩ => ⟨S4x16x1024x1024, .f32⟩
  | .hbm, ⟨5, _⟩ => ⟨S4x16x1024x1024, .f32⟩
  | .hbm, ⟨6, _⟩ => ⟨S144x512x1024, .f32⟩
  | .hbm, ⟨7, _⟩ => ⟨S1x16x1024x1024, .f32⟩
  | .hbm, ⟨8, _⟩ => ⟨S16x1024x1024, .f32⟩
  | .hbm, ⟨9, _⟩ => ⟨S_, .i32⟩
  | .hbm, ⟨10, _⟩ => ⟨S144, .i32⟩
  | .hbm, ⟨11, _⟩ => ⟨S144, .i1⟩
  | .hbm, ⟨12, _⟩ => ⟨S_, .i32⟩
  | .hbm, ⟨13, _⟩ => ⟨S144, .i32⟩
  | .hbm, ⟨14, _⟩ => ⟨S144, .i32⟩
  | .hbm, ⟨15, _⟩ => ⟨S144, .i32⟩
  | .hbm, ⟨16, _⟩ => ⟨S144x1, .i32⟩
  | .hbm, ⟨17, _⟩ => ⟨S144x1024x1024, .f32⟩
  | .hbm, ⟨18, _⟩ => ⟨S1x16x1024x1024, .f32⟩
  | .hbm, ⟨19, _⟩ => ⟨S16x1024x1024, .f32⟩
  | .hbm, ⟨20, _⟩ => ⟨S_, .i32⟩
  | .hbm, ⟨21, _⟩ => ⟨S144, .i32⟩
  | .hbm, ⟨22, _⟩ => ⟨S144, .i1⟩
  | .hbm, ⟨23, _⟩ => ⟨S_, .i32⟩
  | .hbm, ⟨24, _⟩ => ⟨S144, .i32⟩
  | .hbm, ⟨25, _⟩ => ⟨S144, .i32⟩
  | .hbm, ⟨26, _⟩ => ⟨S144, .i32⟩
  | .hbm, ⟨27, _⟩ => ⟨S144x1, .i32⟩
  | .hbm, ⟨28, _⟩ => ⟨S144x1024x1024, .f32⟩
  | .hbm, ⟨29, _⟩ => ⟨S1x16x1024x1024, .f32⟩
  | .hbm, ⟨30, _⟩ => ⟨S16x1024x1024, .f32⟩
  | .hbm, ⟨31, _⟩ => ⟨S_, .i32⟩
  | .hbm, ⟨32, _⟩ => ⟨S144, .i32⟩
  | .hbm, ⟨33, _⟩ => ⟨S144, .i1⟩
  | .hbm, ⟨34, _⟩ => ⟨S_, .i32⟩
  | .hbm, ⟨35, _⟩ => ⟨S144, .i32⟩
  | .hbm, ⟨36, _⟩ => ⟨S144, .i32⟩
  | .hbm, ⟨37, _⟩ => ⟨S144, .i32⟩
  | .hbm, ⟨38, _⟩ => ⟨S144x1, .i32⟩
  | .hbm, ⟨39, _⟩ => ⟨S144x1024x1024, .f32⟩
  | .hbm, ⟨40, _⟩ => ⟨S144x512x1024, .f32⟩
  | .hbm, ⟨41, _⟩ => ⟨S144x512x1024, .f32⟩
  | .hbm, ⟨42, _⟩ => ⟨S144x512x1024, .f32⟩
  | .hbm, ⟨43, _⟩ => ⟨S_, .f32⟩
  | .hbm, ⟨44, _⟩ => ⟨S144x512x1024, .f32⟩
  | .hbm, ⟨45, _⟩ => ⟨S144x512x1024, .f32⟩
  | .hbm, ⟨46, _⟩ => ⟨S_, .f32⟩
  | .hbm, ⟨47, _⟩ => ⟨S144x512x1024, .f32⟩
  | .hbm, ⟨48, _⟩ => ⟨S144x512x1024, .f32⟩
  | .hbm, ⟨49, _⟩ => ⟨S144x512x1024, .f32⟩
  | .hbm, ⟨50, _⟩ => ⟨S144x512x1024, .f32⟩
  | .hbm, ⟨51, _⟩ => ⟨S144x512x1024, .f32⟩
  | .hbm, ⟨52, _⟩ => ⟨S144x512x1024, .f32⟩
  | .hbm, ⟨53, _⟩ => ⟨S144, .i32⟩
  | .hbm, ⟨54, _⟩ => ⟨S_, .i32⟩
  | .hbm, ⟨55, _⟩ => ⟨S144, .i32⟩
  | .hbm, ⟨56, _⟩ => ⟨S144, .i1⟩
  | .hbm, ⟨57, _⟩ => ⟨S144x1x1, .i1⟩
  | .hbm, ⟨58, _⟩ => ⟨S_, .f32⟩
  | .hbm, ⟨59, _⟩ => ⟨S_, .f32⟩
  | .hbm, ⟨60, _⟩ => ⟨S144x512x1024, .i1⟩
  | .hbm, ⟨61, _⟩ => ⟨S144x512x1024, .f32⟩
  | .hbm, ⟨62, _⟩ => ⟨S144x512x1024, .f32⟩
  | .hbm, ⟨63, _⟩ => ⟨S589824x128, .f32⟩
  | _, _ => ⟨S144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Kernel2.lean ====
abbrev S8x4096x1024 : Shape := ⟨3, ![8, 4096, 1024]⟩
abbrev S4x1024x3088 : Shape := ⟨3, ![4, 1024, 3088]⟩
abbrev S4x5x1536 : Shape := ⟨3, ![4, 5, 1536]⟩
abbrev S4x4 : Shape := ⟨2, ![4, 4]⟩
abbrev S32768x1024 : Shape := ⟨2, ![32768, 1024]⟩
abbrev S4x1024x1536 : Shape := ⟨3, ![4, 1024, 1536]⟩
abbrev S4x1024x512 : Shape := ⟨3, ![4, 1024, 512]⟩
abbrev S4x1024x1024 : Shape := ⟨3, ![4, 1024, 1024]⟩
abbrev S4x1024x16 : Shape := ⟨3, ![4, 1024, 16]⟩
abbrev S_ : Shape := ⟨0, ![]⟩
abbrev S4x1024x128 : Shape := ⟨3, ![4, 1024, 128]⟩
abbrev S4x8x1536 : Shape := ⟨3, ![4, 8, 1536]⟩
abbrev S4x8 : Shape := ⟨2, ![4, 8]⟩
abbrev S4x128 : Shape := ⟨2, ![4, 128]⟩
abbrev S4x1x128 : Shape := ⟨3, ![4, 1, 128]⟩
abbrev S4x2x128 : Shape := ⟨3, ![4, 2, 128]⟩
abbrev S4x8x128 : Shape := ⟨3, ![4, 8, 128]⟩
abbrev S1x1024x1536 : Shape := ⟨3, ![1, 1024, 1536]⟩
abbrev S1024x1536 : Shape := ⟨2, ![1024, 1536]⟩
abbrev S1x1024x128 : Shape := ⟨3, ![1, 1024, 128]⟩
abbrev S1024x128 : Shape := ⟨2, ![1024, 128]⟩
abbrev S1x8x1536 : Shape := ⟨3, ![1, 8, 1536]⟩
abbrev S8x1536 : Shape := ⟨2, ![8, 1536]⟩
abbrev S1x8x128 : Shape := ⟨3, ![1, 8, 128]⟩
abbrev S8x128 : Shape := ⟨2, ![8, 128]⟩
abbrev S32768x1536 : Shape := ⟨2, ![32768, 1536]⟩
abbrev S32768x16 : Shape := ⟨2, ![32768, 16]⟩
abbrev S1024x1024 : Shape := ⟨2, ![1024, 1024]⟩
abbrev S16x1024 : Shape := ⟨2, ![16, 1024]⟩
abbrev S1024x16 : Shape := ⟨2, ![1024, 16]⟩
abbrev S1056x1024 : Shape := ⟨2, ![1056, 1024]⟩
abbrev S1024x512 : Shape := ⟨2, ![1024, 512]⟩
abbrev S1056x512 : Shape := ⟨2, ![1056, 512]⟩
abbrev S8x512 : Shape := ⟨2, ![8, 512]⟩
abbrev S1x512 : Shape := ⟨2, ![1, 512]⟩
abbrev S1024 : Shape := ⟨1, ![1024]⟩
abbrev S1024x1 : Shape := ⟨2, ![1024, 1]⟩
abbrev S1x128 : Shape := ⟨2, ![1, 128]⟩
abbrev S64x128 : Shape := ⟨2, ![64, 128]⟩
abbrev S128x64 : Shape := ⟨2, ![128, 64]⟩
abbrev S128x128 : Shape := ⟨2, ![128, 128]⟩
abbrev S64x16 : Shape := ⟨2, ![64, 16]⟩

abbrev nBuf : Space → Nat
  | .hbm => 49
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S4x1024x3088, .f32⟩
  | .hbm, ⟨2, _⟩ => ⟨S4x5x1536, .f32⟩
  | .hbm, ⟨3, _⟩ => ⟨S4x4, .f32⟩
  | .hbm, ⟨4, _⟩ => ⟨S4x4, .f32⟩
  | .hbm, ⟨5, _⟩ => ⟨S4x4, .f32⟩
  | .hbm, ⟨6, _⟩ => ⟨S4x4, .f32⟩
  | .hbm, ⟨7, _⟩ => ⟨S32768x1024, .f32⟩
  | .hbm, ⟨8, _⟩ => ⟨S4x1024x1536, .f32⟩
  | .hbm, ⟨9, _⟩ => ⟨S4x1024x1536, .bf16⟩
  | .hbm, ⟨10, _⟩ => ⟨S4x1024x512, .f32⟩
  | .hbm, ⟨11, _⟩ => ⟨S4x1024x1024, .f32⟩
  | .hbm, ⟨12, _⟩ => ⟨S4x1024x1536, .f32⟩
  | .hbm, ⟨13, _⟩ => ⟨S4x1024x1536, .bf16⟩
  | .hbm, ⟨14, _⟩ => ⟨S4x1024x16, .f32⟩
  | .hbm, ⟨15, _⟩ => ⟨S_, .i32⟩
  | .hbm, ⟨16, _⟩ => ⟨S_, .f32⟩
  | .hbm, ⟨17, _⟩ => ⟨S4x1024x128, .f32⟩
  | .hbm, ⟨18, _⟩ => ⟨S4x1024x128, .bf16⟩
  | .hbm, ⟨19, _⟩ => ⟨S_, .i32⟩
  | .hbm, ⟨20, _⟩ => ⟨S_, .f32⟩
  | .hbm, ⟨21, _⟩ => ⟨S4x8x1536, .f32⟩
  | .hbm, ⟨22, _⟩ => ⟨S4x8, .f32⟩
  | .hbm, ⟨23, _⟩ => ⟨S_, .i32⟩
  | .hbm, ⟨24, _⟩ => ⟨S_, .f32⟩
  | .hbm, ⟨25, _⟩ => ⟨S4x128, .f32⟩
  | .hbm, ⟨26, _⟩ => ⟨S4x8, .f32⟩
  | .hbm, ⟨27, _⟩ => ⟨S_, .i32⟩
  | .hbm, ⟨28, _⟩ => ⟨S_, .f32⟩
  | .hbm, ⟨29, _⟩ => ⟨S4x128, .f32⟩
  | .hbm, ⟨30, _⟩ => ⟨S4x1x128, .f32⟩
  | .hbm, ⟨31, _⟩ => ⟨S4x1x128, .f32⟩
  | .hbm, ⟨32, _⟩ => ⟨S4x2x128, .f32⟩
  | .hbm, ⟨33, _⟩ => ⟨S_, .i32⟩
  | .hbm, ⟨34, _⟩ => ⟨S_, .f32⟩
  | .hbm, ⟨35, _⟩ => ⟨S4x8x128, .f32⟩
  | .hbm, ⟨36, _⟩ => ⟨S1x1024x1536, .bf16⟩
  | .hbm, ⟨37, _⟩ => ⟨S1024x1536, .bf16⟩
  | .hbm, ⟨38, _⟩ => ⟨S1x1024x1536, .bf16⟩
  | .hbm, ⟨39, _⟩ => ⟨S1024x1536, .bf16⟩
  | .hbm, ⟨40, _⟩ => ⟨S1x1024x128, .bf16⟩
  | .hbm, ⟨41, _⟩ => ⟨S1024x128, .bf16⟩
  | .hbm, ⟨42, _⟩ => ⟨S1x8x1536, .f32⟩
  | .hbm, ⟨43, _⟩ => ⟨S8x1536, .f32⟩
  | .hbm, ⟨44, _⟩ => ⟨S1x8x128, .f32⟩
  | .hbm, ⟨45, _⟩ => ⟨S8x128, .f32⟩
  | .hbm, ⟨46, _⟩ => ⟨S32768x1536, .bf16⟩
  | .hbm, ⟨47, _⟩ => ⟨S32768x1536, .bf16⟩
  | .hbm, ⟨48, _⟩ => ⟨S32768x16, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1024x1536, .bf16⟩
  | .local _ .vmem, ⟨7, _⟩ => ⟨S1024x1536, .bf16⟩
  | .local _ .vmem, ⟨8, _⟩ => ⟨S1024x128, .bf16⟩
  | .local _ .vmem, ⟨9, _⟩ => ⟨S8x1536, .f32⟩
  | .local _ .vmem, ⟨10, _⟩ => ⟨S8x128, .f32⟩
  | .local _ .vmem, ⟨11, _⟩ => ⟨S1024x1536, .bf16⟩
  | .local _ .vmem, ⟨12, _⟩ => ⟨S1024x1536, .bf16⟩
  | .local _ .vmem, ⟨13, _⟩ => ⟨S1024x1536, .bf16⟩
  | .local _ .vmem, ⟨14, _⟩ => ⟨S1024x1536, .bf16⟩
  | .local _ .vmem, ⟨15, _⟩ => ⟨S1024x16, .f32⟩
  | .local _ .vmem, ⟨16, _⟩ => ⟨S1024x16, .f32⟩
  | .local _ .vmem, ⟨17, _⟩ => ⟨S1056x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_call2_v0 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_call3_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_call4_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29_0 : Ref sig .tc := ⟨.hbm, 46, rfl⟩
abbrev main_v29_1 : Ref sig .tc := ⟨.hbm, 47, rfl⟩
abbrev main_v29_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8x4096x1024 : Shape := ⟨3, ![8, 4096, 1024]⟩
abbrev S4x1024x3088 : Shape := ⟨3, ![4, 1024, 3088]⟩
abbrev S4x5x1536 : Shape := ⟨3, ![4, 5, 1536]⟩
abbrev S4x4 : Shape := ⟨2, ![4, 4]⟩
abbrev S1x1024x3088 : Shape := ⟨3, ![1, 1024, 3088]⟩
abbrev S1024x3088 : Shape := ⟨2, ![1024, 3088]⟩
abbrev S8x4096x3088 : Shape := ⟨3, ![8, 4096, 3088]⟩
abbrev S8x4096x1536 : Shape := ⟨3, ![8, 4096, 1536]⟩
abbrev S_ : Shape := ⟨0, ![]⟩
abbrev S8x4100x1536 : Shape := ⟨3, ![8, 4100, 1536]⟩
abbrev S1x1x1536 : Shape := ⟨3, ![1, 1, 1536]⟩
abbrev S1536 : Shape := ⟨1, ![1536]⟩
abbrev S8x4096x12x128 : Shape := ⟨4, ![8, 4096, 12, 128]⟩
abbrev S8x4096x8x128 : Shape := ⟨4, ![8, 4096, 8, 128]⟩
abbrev S8x4096x4x128 : Shape := ⟨4, ![8, 4096, 4, 128]⟩
abbrev S8x4096x8 : Shape := ⟨3, ![8, 4096, 8]⟩
abbrev S8x4096x8x1 : Shape := ⟨4, ![8, 4096, 8, 1]⟩
abbrev S8x4096x512 : Shape := ⟨3, ![8, 4096, 512]⟩
abbrev S8x4096x16 : Shape := ⟨3, ![8, 4096, 16]⟩
abbrev S8x4096x4 : Shape := ⟨3, ![8, 4096, 4]⟩
abbrev S1x4 : Shape := ⟨2, ![1, 4]⟩
abbrev S4 : Shape := ⟨1, ![4]⟩
abbrev S1x1x4 : Shape := ⟨3, ![1, 1, 4]⟩
abbrev S8x64x64x4 : Shape := ⟨4, ![8, 64, 64, 4]⟩
abbrev S32768x1536 : Shape := ⟨2, ![32768, 1536]⟩
abbrev S32768x16 : Shape := ⟨2, ![32768, 16]⟩

abbrev nBuf : Space → Nat
  | .hbm => 171
  | .vmem => 0
  | .smem => 0
  | _ => 0

abbrev hbmTy0_0 (i : Nat) : BufTy := match i % 128 with
  | 0 => ⟨S8x4096x1024, .f32⟩
  | 1 => ⟨S4x1024x3088, .f32⟩
  | 2 => ⟨S4x5x1536, .f32⟩
  | 3 => ⟨S4x4, .f32⟩
  | 4 => ⟨S4x4, .f32⟩
  | 5 => ⟨S4x4, .f32⟩
  | 6 => ⟨S4x4, .f32⟩
  | 7 => ⟨S1x1024x3088, .f32⟩
  | 8 => ⟨S1024x3088, .f32⟩
  | 9 => ⟨S8x4096x3088, .f32⟩
  | 10 => ⟨S8x4096x1536, .f32⟩
  | 11 => ⟨S_, .i32⟩
  | 12 => ⟨S_, .f32⟩
  | 13 => ⟨S8x4100x1536, .f32⟩
  | 14 => ⟨S8x4096x1536, .f32⟩
  | 15 => ⟨S1x1x1536, .f32⟩
  | 16 => ⟨S1536, .f32⟩
  | 17 => ⟨S1x1x1536, .f32⟩
  | 18 => ⟨S8x4096x1536, .f32⟩
  | 19 => ⟨S8x4096x1536, .f32⟩
  | 20 => ⟨S_, .f32⟩
  | 21 => ⟨S8x4096x1536, .f32⟩
  | 22 => ⟨S8x4096x1536, .f32⟩
  | 23 => ⟨S8x4096x1536, .f32⟩
  | 24 => ⟨S1x1x1536, .f32⟩
  | 25 => ⟨S1536, .f32⟩
  | 26 => ⟨S1x1x1536, .f32⟩
  | 27 => ⟨S8x4096x1536, .f32⟩
  | 28 => ⟨S8x4096x1536, .f32⟩
  | 29 => ⟨S8x4096x1536, .f32⟩
  | 30 => ⟨S8x4096x1536, .f32⟩
  | 31 => ⟨S1x1x1536, .f32⟩
  | 32 => ⟨S1536, .f32⟩
  | 33 => ⟨S1x1x1536, .f32⟩
  | 34 => ⟨S8x4096x1536, .f32⟩
  | 35 => ⟨S8x4096x1536, .f32⟩
  | 36 => ⟨S8x4096x1536, .f32⟩
  | 37 => ⟨S8x4096x1536, .f32⟩
  | 38 => ⟨S1x1x1536, .f32⟩
  | 39 => ⟨S1536, .f32⟩
  | 40 => ⟨S1x1x1536, .f32⟩
  | 41 => ⟨S8x4096x1536, .f32⟩
  | 42 => ⟨S8x4096x1536, .f32⟩
  | 43 => ⟨S8x4096x1536, .f32⟩
  | 44 => ⟨S8x4096x1536, .f32⟩
  | 45 => ⟨S1x1x1536, .f32⟩
  | 46 => ⟨S1536, .f32⟩
  | 47 => ⟨S1x1x1536, .f32⟩
  | 48 => ⟨S8x4096x1536, .f32⟩
  | 49 => ⟨S8x4096x1536, .f32⟩
  | 50 => ⟨S8x4096x1536, .f32⟩
  | 51 => ⟨S8x4096x1536, .f32⟩
  | 52 => ⟨S8x4096x1536, .f32⟩
  | 53 => ⟨S_, .f32⟩
  | 54 => ⟨S8x4096x1536, .f32⟩
  | 55 => ⟨S8x4096x1536, .f32⟩
  | 56 => ⟨S_, .f32⟩
  | 57 => ⟨S8x4096x1536, .f32⟩
  | 58 => ⟨S8x4096x1536, .f32⟩
  | 59 => ⟨S8x4096x1536, .f32⟩
  | 60 => ⟨S8x4096x12x128, .f32⟩
  | 61 => ⟨S8x4096x8x128, .f32⟩
  | 62 => ⟨S8x4096x4x128, .f32⟩
  | 63 => ⟨S8x4096x8x128, .f32⟩
  | 64 => ⟨S_, .f32⟩
  | 65 => ⟨S8x4096x8, .f32⟩
  | 66 => ⟨S8x4096x8x1, .f32⟩
  | 67 => ⟨S_, .f32⟩
  | 68 => ⟨S8x4096x8x1, .f32⟩
  | 69 => ⟨S8x4096x8x1, .f32⟩
  | 70 => ⟨S8x4096x8x1, .f32⟩
  | 71 => ⟨S8x4096x8x128, .f32⟩
  | 72 => ⟨S8x4096x8x128, .f32⟩
  | 73 => ⟨S8x4096x4x128, .f32⟩
  | 74 => ⟨S_, .f32⟩
  | 75 => ⟨S8x4096x4x128, .f32⟩
  | 76 => ⟨S8x4096x4x128, .f32⟩
  | 77 => ⟨S8x4096x4x128, .f32⟩
  | 78 => ⟨S8x4096x12x128, .f32⟩
  | 79 => ⟨S8x4096x512, .f32⟩
  | 80 => ⟨S8x4096x1024, .f32⟩
  | 81 => ⟨S8x4096x1536, .f32⟩
  | 82 => ⟨S8x4096x16, .f32⟩
  | 83 => ⟨S8x4096x4, .f32⟩
  | 84 => ⟨S8x4096x4, .f32⟩
  | 85 => ⟨S8x4096x4, .f32⟩
  | 86 => ⟨S8x4096x4, .f32⟩
  | 87 => ⟨S1x4, .f32⟩
  | 88 => ⟨S4, .f32⟩
  | 89 => ⟨S4, .f32⟩
  | 90 => ⟨S4, .f32⟩
  | 91 => ⟨S1x4, .f32⟩
  | 92 => ⟨S4, .f32⟩
  | 93 => ⟨S1x1x4, .f32⟩
  | 94 => ⟨S8x4096x4, .f32⟩
  | 95 => ⟨S8x4096x4, .f32⟩
  | 96 => ⟨S_, .f32⟩
  | 97 => ⟨S8x4096x4, .f32⟩
  | 98 => ⟨S8x4096x4, .f32⟩
  | 99 => ⟨S8x4096x4, .f32⟩
  | 100 => ⟨S8x4096x4, .f32⟩
  | 101 => ⟨S8x4096x4, .i1⟩
  | 102 => ⟨S8x4096x4, .f32⟩
  | 103 => ⟨S8x4096x4, .f32⟩
  | 104 => ⟨S8x4096x4, .f32⟩
  | 105 => ⟨S8x4096x4, .f32⟩
  | 106 => ⟨S8x4096x4, .f32⟩
  | 107 => ⟨S8x4096x4, .f32⟩
  | 108 => ⟨S8x4096x4, .f32⟩
  | 109 => ⟨S8x4096x4, .f32⟩
  | 110 => ⟨S1x1x4, .f32⟩
  | 111 => ⟨S8x4096x4, .f32⟩
  | 112 => ⟨S8x4096x4, .f32⟩
  | 113 => ⟨S1x4, .f32⟩
  | 114 => ⟨S4, .f32⟩
  | 115 => ⟨S4, .f32⟩
  | 116 => ⟨S4, .f32⟩
  | 117 => ⟨S1x4, .f32⟩
  | 118 => ⟨S4, .f32⟩
  | 119 => ⟨S1x1x4, .f32⟩
  | 120 => ⟨S8x4096x4, .f32⟩
  | 121 => ⟨S8x4096x4, .f32⟩
  | 122 => ⟨S_, .f32⟩
  | 123 => ⟨S8x4096x4, .f32⟩
  | 124 => ⟨S8x4096x4, .f32⟩
  | 125 => ⟨S8x4096x4, .f32⟩
  | 126 => ⟨S8x4096x4, .f32⟩
  | 127 => ⟨S8x4096x4, .i1⟩
  | _ => ⟨S8x4096x1024, .f32⟩

abbrev hbmTy0_1 (i : Nat) : BufTy := match i % 128 with
  | 0 => ⟨S8x4096x4, .f32⟩
  | 1 => ⟨S8x4096x4, .f32⟩
  | 2 => ⟨S8x4096x4, .f32⟩
  | 3 => ⟨S8x4096x4, .f32⟩
  | 4 => ⟨S8x4096x4, .f32⟩
  | 5 => ⟨S8x4096x4, .f32⟩
  | 6 => ⟨S8x4096x4, .f32⟩
  | 7 => ⟨S8x4096x4, .f32⟩
  | 8 => ⟨S1x1x4, .f32⟩
  | 9 => ⟨S8x4096x4, .f32⟩
  | 10 => ⟨S8x4096x4, .f32⟩
  | 11 => ⟨S8x64x64x4, .f32⟩
  | 12 => ⟨S_, .f32⟩
  | 13 => ⟨S_, .f32⟩
  | 14 => ⟨S8x64x64x4, .f32⟩
  | 15 => ⟨S8x4096x4, .f32⟩
  | 16 => ⟨S8x64x64x4, .f32⟩
  | 17 => ⟨S_, .f32⟩
  | 18 => ⟨S_, .f32⟩
  | 19 => ⟨S8x64x64x4, .f32⟩
  | 20 => ⟨S8x4096x4, .f32⟩
  | 21 => ⟨S8x4096x4, .f32⟩
  | 22 => ⟨S8x4096x4, .f32⟩
  | 23 => ⟨S_, .f32⟩
  | 24 => ⟨S8x4096x4, .f32⟩
  | 25 => ⟨S8x4096x4, .f32⟩
  | 26 => ⟨S_, .f32⟩
  | 27 => ⟨S8x4096x4, .f32⟩
  | 28 => ⟨S8x4096x4, .f32⟩
  | 29 => ⟨S8x4096x4, .f32⟩
  | 30 => ⟨S8x4096x4, .f32⟩
  | 31 => ⟨S_, .f32⟩
  | 32 => ⟨S8x4096x4, .f32⟩
  | 33 => ⟨S8x4096x4, .f32⟩
  | 34 => ⟨S_, .f32⟩
  | 35 => ⟨S8x4096x4, .f32⟩
  | 36 => ⟨S8x4096x4, .f32⟩
  | 37 => ⟨S8x4096x16, .f32⟩
  | 38 => ⟨S8x4096x12x128, .bf16⟩
  | 39 => ⟨S32768x1536, .bf16⟩
  | 40 => ⟨S8x4096x1536, .bf16⟩
  | 41 => ⟨S32768x1536, .bf16⟩
  | 42 => ⟨S32768x16, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_0 : Ref sig .tc := ⟨.hbm, 64, rfl⟩
abbrev main_v46 : Ref sig .tc := ⟨.hbm, 65, rfl⟩
abbrev main_v47 : Ref sig .tc := ⟨.hbm, 66, rfl⟩
abbrev main_cst_1 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_2 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_call2_cst : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_v6 : Ref sig .tc := ⟨.hbm, 129, rfl⟩
abbrev main_call3_v7 : Ref sig .tc := ⟨.hbm, 130, rfl⟩
abbrev main_call3_v8 : Ref sig .tc := ⟨.hbm, 131, rfl⟩
abbrev main_call3_v9 : Ref sig .tc := ⟨.hbm, 132, rfl⟩
abbrev main_call3_v10 : Ref sig .tc := ⟨.hbm, 133, rfl⟩
abbrev main_call3_v11 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_call4_call0_cst : Ref sig .tc := ⟨.hbm, 140, rfl⟩
abbrev main_call4_call0_v0 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_call5_cst : Ref sig .tc := ⟨.hbm, 145, rfl⟩
abbrev main_call5_v0 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_cst_3 : Ref sig .tc := ⟨.hbm, 151, rfl⟩
abbrev main_v100 : Ref sig .tc := ⟨.hbm, 152, rfl⟩
abbrev main_v101 : Ref sig .tc := ⟨.hbm, 153, rfl⟩
abbrev main_cst_4 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_cst_5 : Ref sig .tc := ⟨.hbm, 159, rfl⟩
abbrev main_v106 : Ref sig .tc := ⟨.hbm, 160, rfl⟩
abbrev main_v107 : Ref sig .tc := ⟨.hbm, 161, rfl⟩
abbrev main_cst_6 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩

abbrev nD : Nat := 1
abbrev τ : Topo := Topo.v7x

variable {F : FTy → Type} [FloatOps F]
-- ==== Kernel3.lean ====
abbrev S32768x512 : Shape := ⟨2, ![32768, 512]⟩
abbrev S32768x1536 : Shape := ⟨2, ![32768, 1536]⟩
abbrev S32768x1024 : Shape := ⟨2, ![32768, 1024]⟩
abbrev S4x128 : Shape := ⟨2, ![4, 128]⟩
abbrev S4x512 : Shape := ⟨2, ![4, 512]⟩
abbrev S4x4x128x128 : Shape := ⟨4, ![4, 4, 128, 128]⟩
abbrev S4x4x128 : Shape := ⟨3, ![4, 4, 128]⟩
abbrev S4x1024x1024 : Shape := ⟨3, ![4, 1024, 1024]⟩
abbrev S4x1024 : Shape := ⟨2, ![4, 1024]⟩
abbrev S1024x16 : Shape := ⟨2, ![1024, 16]⟩
abbrev S16 : Shape := ⟨1, ![16]⟩
abbrev S4x4x128x1 : Shape := ⟨4, ![4, 4, 128, 1]⟩
abbrev S16x1024 : Shape := ⟨2, ![16, 1024]⟩
abbrev S16x1 : Shape := ⟨2, ![16, 1]⟩
abbrev S16x128 : Shape := ⟨2, ![16, 128]⟩
abbrev S1x128 : Shape := ⟨2, ![1, 128]⟩
abbrev S128 : Shape := ⟨1, ![128]⟩
abbrev S1x512 : Shape := ⟨2, ![1, 512]⟩
abbrev S512 : Shape := ⟨1, ![512]⟩
abbrev S1x4x128x128 : Shape := ⟨4, ![1, 4, 128, 128]⟩
abbrev S4x128x128 : Shape := ⟨3, ![4, 128, 128]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S262144x128 : Shape := ⟨2, ![262144, 128]⟩
abbrev S8x32768 : Shape := ⟨2, ![8, 32768]⟩
abbrev S1024x512 : Shape := ⟨2, ![1024, 512]⟩
abbrev S8192x128 : Shape := ⟨2, ![8192, 128]⟩
abbrev S8x1024 : Shape := ⟨2, ![8, 1024]⟩
abbrev S1024x128 : Shape := ⟨2, ![1024, 128]⟩
abbrev S1024x1 : Shape := ⟨2, ![1024, 1]⟩
abbrev S1x128x128 : Shape := ⟨3, ![1, 128, 128]⟩
abbrev S128x128 : Shape := ⟨2, ![128, 128]⟩
abbrev S2x1024 : Shape := ⟨2, ![2, 1024]⟩

abbrev nBuf : Space → Nat
  | .hbm => 45
  | .vmem => 27
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x1536, .bf16⟩
  | .hbm, ⟨3, _⟩ => ⟨S32768x1024, .f32⟩
  | .hbm, ⟨4, _⟩ => ⟨S4x128, .f32⟩
  | .hbm, ⟨5, _⟩ => ⟨S4x512, .f32⟩
  | .hbm, ⟨6, _⟩ => ⟨S4x512, .f32⟩
  | .hbm, ⟨7, _⟩ => ⟨S4x4x128x128, .f32⟩
  | .hbm, ⟨8, _⟩ => ⟨S4x4x128, .f32⟩
  | .hbm, ⟨9, _⟩ => ⟨S4x1024x1024, .f32⟩
  | .hbm, ⟨10, _⟩ => ⟨S4x1024, .f32⟩
  | .hbm, ⟨11, _⟩ => ⟨S4x1024, .f32⟩
  | .hbm, ⟨12, _⟩ => ⟨S1024x16, .f32⟩
  | .hbm, ⟨13, _⟩ => ⟨S16, .f32⟩
  | .hbm, ⟨14, _⟩ => ⟨S4x4x128x128, .bf16⟩
  | .hbm, ⟨15, _⟩ => ⟨S4x4x128x1, .f32⟩
  | .hbm, ⟨16, _⟩ => ⟨S4x4x128x128, .f32⟩
  | .hbm, ⟨17, _⟩ => ⟨S4x1024x1024, .bf16⟩
  | .hbm, ⟨18, _⟩ => ⟨S16x1024, .f32⟩
  | .hbm, ⟨19, _⟩ => ⟨S16x1, .f32⟩
  | .hbm, ⟨20, _⟩ => ⟨S16x128, .f32⟩
  | .hbm, ⟨21, _⟩ => ⟨S1x128, .f32⟩
  | .hbm, ⟨22, _⟩ => ⟨S128, .f32⟩
  | .hbm, ⟨23, _⟩ => ⟨S1x128, .f32⟩
  | .hbm, ⟨24, _⟩ => ⟨S1x512, .f32⟩
  | .hbm, ⟨25, _⟩ => ⟨S512, .f32⟩
  | .hbm, ⟨26, _⟩ => ⟨S1x512, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S1x4x128x128, .bf16⟩
  | .hbm, ⟨31, _⟩ => ⟨S4x128x128, .bf16⟩
  | .hbm, ⟨32, _⟩ => ⟨S1x4x128x128, .f32⟩
  | .hbm, ⟨33, _⟩ => ⟨S4x128x128, .f32⟩
  | .hbm, ⟨34, _⟩ => ⟨S1x1024x1024, .bf16⟩
  | .hbm, ⟨35, _⟩ => ⟨S1024x1024, .bf16⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S262144x128, .f32⟩
  | .hbm, ⟨43, _⟩ => ⟨S8x32768, .f32⟩
  | .hbm, ⟨44, _⟩ => ⟨S16x128, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .f32⟩
  | .local _ .vmem, ⟨11, _⟩ => ⟨S1024x1024, .f32⟩
  | .local _ .vmem, ⟨12, _⟩ => ⟨S1x128, .f32⟩
  | .local _ .vmem, ⟨13, _⟩ => ⟨S1x512, .f32⟩
  | .local _ .vmem, ⟨14, _⟩ => ⟨S1x512, .f32⟩
  | .local _ .vmem, ⟨15, _⟩ => ⟨S4x128x128, .bf16⟩
  | .local _ .vmem, ⟨16, _⟩ => ⟨S4x128x128, .f32⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S16x1024, .f32⟩
  | .local _ .vmem, ⟨21, _⟩ => ⟨S16x128, .f32⟩
  | .local _ .vmem, ⟨22, _⟩ => ⟨S8192x128, .f32⟩
  | .local _ .vmem, ⟨23, _⟩ => ⟨S8192x128, .f32⟩
  | .local _ .vmem, ⟨24, _⟩ => ⟨S8x1024, .f32⟩
  | .local _ .vmem, ⟨25, _⟩ => ⟨S8x1024, .f32⟩
  | .local _ .vmem, ⟨26, _⟩ => ⟨S16x128, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28_0 : Ref sig .tc := ⟨.hbm, 42, rfl⟩
abbrev main_v28_1 : Ref sig .tc := ⟨.hbm, 43, rfl⟩
abbrev main_v28_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S8192x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S16x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference3Ideal.lean ====
abbrev S32768x512 : Shape := ⟨2, ![32768, 512]⟩
abbrev S32768x1536 : Shape := ⟨2, ![32768, 1536]⟩
abbrev S32768x1024 : Shape := ⟨2, ![32768, 1024]⟩
abbrev S4x128 : Shape := ⟨2, ![4, 128]⟩
abbrev S4x512 : Shape := ⟨2, ![4, 512]⟩
abbrev S4x4x128x128 : Shape := ⟨4, ![4, 4, 128, 128]⟩
abbrev S4x4x128 : Shape := ⟨3, ![4, 4, 128]⟩
abbrev S4x1024x1024 : Shape := ⟨3, ![4, 1024, 1024]⟩
abbrev S4x1024 : Shape := ⟨2, ![4, 1024]⟩
abbrev S1024x16 : Shape := ⟨2, ![1024, 16]⟩
abbrev S16 : Shape := ⟨1, ![16]⟩
abbrev S32768x4x128 : Shape := ⟨3, ![32768, 4, 128]⟩
abbrev S_ : Shape := ⟨0, ![]⟩
abbrev S32768x4 : Shape := ⟨2, ![32768, 4]⟩
abbrev S32768x4x1 : Shape := ⟨3, ![32768, 4, 1]⟩
abbrev S1x128 : Shape := ⟨2, ![1, 128]⟩
abbrev S128 : Shape := ⟨1, ![128]⟩
abbrev S1x1x128 : Shape := ⟨3, ![1, 1, 128]⟩
abbrev S1x512 : Shape := ⟨2, ![1, 512]⟩
abbrev S512 : Shape := ⟨1, ![512]⟩
abbrev S32768 : Shape := ⟨1, ![32768]⟩
abbrev S32768x1 : Shape := ⟨2, ![32768, 1]⟩
abbrev S256x128x4x128 : Shape := ⟨4, ![256, 128, 4, 128]⟩
abbrev S1x4x128x128 : Shape := ⟨4, ![1, 4, 128, 128]⟩
abbrev S4x128x128 : Shape := ⟨3, ![4, 128, 128]⟩
abbrev S4x256x128x128 : Shape := ⟨4, ![4, 256, 128, 128]⟩
abbrev S1x4x128 : Shape := ⟨3, ![1, 4, 128]⟩
abbrev S128x4 : Shape := ⟨2, ![128, 4]⟩
abbrev S128x4x1 : Shape := ⟨3, ![128, 4, 1]⟩
abbrev S1x128x4x1 : Shape := ⟨4, ![1, 128, 4, 1]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S262144x128 : Shape := ⟨2, ![262144, 128]⟩

abbrev nBuf : Space → Nat
  | .hbm => 161
  | .vmem => 0
  | .smem => 0
  | _ => 0

abbrev hbmTy0_0 (i : Nat) : BufTy := match i % 128 with
  | 0 => ⟨S32768x512, .f32⟩
  | 1 => ⟨S32768x512, .f32⟩
  | 2 => ⟨S32768x1536, .bf16⟩
  | 3 => ⟨S32768x1024, .f32⟩
  | 4 => ⟨S4x128, .f32⟩
  | 5 => ⟨S4x512, .f32⟩
  | 6 => ⟨S4x512, .f32⟩
  | 7 => ⟨S4x4x128x128, .f32⟩
  | 8 => ⟨S4x4x128, .f32⟩
  | 9 => ⟨S4x1024x1024, .f32⟩
  | 10 => ⟨S4x1024, .f32⟩
  | 11 => ⟨S4x1024, .f32⟩
  | 12 => ⟨S1024x16, .f32⟩
  | 13 => ⟨S16, .f32⟩
  | 14 => ⟨S32768x1536, .f32⟩
  | 15 => ⟨S32768x512, .f32⟩
  | 16 => ⟨S32768x512, .f32⟩
  | 17 => ⟨S32768x512, .f32⟩
  | 18 => ⟨S32768x512, .f32⟩
  | 19 => ⟨S32768x4x128, .f32⟩
  | 20 => ⟨S32768x4x128, .f32⟩
  | 21 => ⟨S_, .f32⟩
  | 22 => ⟨S32768x4, .f32⟩
  | 23 => ⟨S32768x4x1, .f32⟩
  | 24 => ⟨S_, .f32⟩
  | 25 => ⟨S32768x4x1, .f32⟩
  | 26 => ⟨S32768x4x1, .f32⟩
  | 27 => ⟨S_, .f32⟩
  | 28 => ⟨S32768x4x1, .f32⟩
  | 29 => ⟨S32768x4x1, .f32⟩
  | 30 => ⟨S32768x4x1, .f32⟩
  | 31 => ⟨S32768x4x128, .f32⟩
  | 32 => ⟨S32768x4x128, .f32⟩
  | 33 => ⟨S1x128, .f32⟩
  | 34 => ⟨S128, .f32⟩
  | 35 => ⟨S1x1x128, .f32⟩
  | 36 => ⟨S32768x4x128, .f32⟩
  | 37 => ⟨S32768x4x128, .f32⟩
  | 38 => ⟨S32768x4x128, .f32⟩
  | 39 => ⟨S32768x4x128, .f32⟩
  | 40 => ⟨S32768x4x128, .f32⟩
  | 41 => ⟨S_, .f32⟩
  | 42 => ⟨S32768x4x128, .f32⟩
  | 43 => ⟨S32768x4x128, .f32⟩
  | 44 => ⟨S_, .f32⟩
  | 45 => ⟨S32768x4x128, .f32⟩
  | 46 => ⟨S32768x4x128, .f32⟩
  | 47 => ⟨S32768x4x128, .f32⟩
  | 48 => ⟨S32768x4x128, .f32⟩
  | 49 => ⟨S_, .f32⟩
  | 50 => ⟨S32768x512, .f32⟩
  | 51 => ⟨S32768x512, .f32⟩
  | 52 => ⟨S_, .f32⟩
  | 53 => ⟨S32768x512, .f32⟩
  | 54 => ⟨S32768x512, .f32⟩
  | 55 => ⟨S32768x512, .f32⟩
  | 56 => ⟨S_, .f32⟩
  | 57 => ⟨S32768x512, .f32⟩
  | 58 => ⟨S32768x512, .f32⟩
  | 59 => ⟨S32768x512, .f32⟩
  | 60 => ⟨S1x512, .f32⟩
  | 61 => ⟨S512, .f32⟩
  | 62 => ⟨S1x512, .f32⟩
  | 63 => ⟨S512, .f32⟩
  | 64 => ⟨S_, .f32⟩
  | 65 => ⟨S32768, .f32⟩
  | 66 => ⟨S32768x1, .f32⟩
  | 67 => ⟨S_, .f32⟩
  | 68 => ⟨S32768x1, .f32⟩
  | 69 => ⟨S32768x1, .f32⟩
  | 70 => ⟨S32768x512, .f32⟩
  | 71 => ⟨S32768x512, .f32⟩
  | 72 => ⟨S32768x512, .f32⟩
  | 73 => ⟨S_, .f32⟩
  | 74 => ⟨S32768, .f32⟩
  | 75 => ⟨S32768x1, .f32⟩
  | 76 => ⟨S_, .f32⟩
  | 77 => ⟨S32768x1, .f32⟩
  | 78 => ⟨S32768x1, .f32⟩
  | 79 => ⟨S32768x512, .f32⟩
  | 80 => ⟨S32768x512, .f32⟩
  | 81 => ⟨S_, .f32⟩
  | 82 => ⟨S32768x1, .f32⟩
  | 83 => ⟨S32768x1, .f32⟩
  | 84 => ⟨S32768x1, .f32⟩
  | 85 => ⟨S32768x512, .f32⟩
  | 86 => ⟨S32768x512, .f32⟩
  | 87 => ⟨S1x512, .f32⟩
  | 88 => ⟨S32768x512, .f32⟩
  | 89 => ⟨S32768x512, .f32⟩
  | 90 => ⟨S1x512, .f32⟩
  | 91 => ⟨S32768x512, .f32⟩
  | 92 => ⟨S32768x512, .f32⟩
  | 93 => ⟨S256x128x4x128, .f32⟩
  | 94 => ⟨S1x4x128x128, .f32⟩
  | 95 => ⟨S4x128x128, .f32⟩
  | 96 => ⟨S4x256x128x128, .f32⟩
  | 97 => ⟨S256x128x4x128, .f32⟩
  | 98 => ⟨S1x4x128, .f32⟩
  | 99 => ⟨S4x128, .f32⟩
  | 100 => ⟨S128x4, .f32⟩
  | 101 => ⟨S128x4x1, .f32⟩
  | 102 => ⟨S1x128x4x1, .f32⟩
  | 103 => ⟨S256x128x4x128, .f32⟩
  | 104 => ⟨S256x128x4x128, .f32⟩
  | 105 => ⟨S_, .f32⟩
  | 106 => ⟨S32768x512, .f32⟩
  | 107 => ⟨S32768x512, .f32⟩
  | 108 => ⟨S_, .f32⟩
  | 109 => ⟨S32768x512, .f32⟩
  | 110 => ⟨S32768x512, .f32⟩
  | 111 => ⟨S32768x512, .f32⟩
  | 112 => ⟨S_, .f32⟩
  | 113 => ⟨S32768x512, .f32⟩
  | 114 => ⟨S32768x512, .f32⟩
  | 115 => ⟨S32768x512, .f32⟩
  | 116 => ⟨S32768x512, .f32⟩
  | 117 => ⟨S32768x512, .f32⟩
  | 118 => ⟨S32768x512, .f32⟩
  | 119 => ⟨S32768x1024, .f32⟩
  | 120 => ⟨S1x1024x1024, .f32⟩
  | 121 => ⟨S1024x1024, .f32⟩
  | 122 => ⟨S32768x1024, .f32⟩
  | 123 => ⟨S_, .f32⟩
  | 124 => ⟨S32768x1024, .f32⟩
  | 125 => ⟨S32768x1024, .f32⟩
  | 126 => ⟨S32768x1024, .f32⟩
  | 127 => ⟨S1x1024, .f32⟩
  | _ => ⟨S32768x512, .f32⟩

abbrev hbmTy0_1 (i : Nat) : BufTy := match i % 128 with
  | 0 => ⟨S1024, .f32⟩
  | 1 => ⟨S1x1024, .f32⟩
  | 2 => ⟨S1024, .f32⟩
  | 3 => ⟨S_, .f32⟩
  | 4 => ⟨S32768, .f32⟩
  | 5 => ⟨S32768x1, .f32⟩
  | 6 => ⟨S_, .f32⟩
  | 7 => ⟨S32768x1, .f32⟩
  | 8 => ⟨S32768x1, .f32⟩
  | 9 => ⟨S32768x1024, .f32⟩
  | 10 => ⟨S32768x1024, .f32⟩
  | 11 => ⟨S32768x1024, .f32⟩
  | 12 => ⟨S_, .f32⟩
  | 13 => ⟨S32768, .f32⟩
  | 14 => ⟨S32768x1, .f32⟩
  | 15 => ⟨S_, .f32⟩
  | 16 => ⟨S32768x1, .f32⟩
  | 17 => ⟨S32768x1, .f32⟩
  | 18 => ⟨S32768x1024, .f32⟩
  | 19 => ⟨S32768x1024, .f32⟩
  | 20 => ⟨S_, .f32⟩
  | 21 => ⟨S32768x1, .f32⟩
  | 22 => ⟨S32768x1, .f32⟩
  | 23 => ⟨S32768x1, .f32⟩
  | 24 => ⟨S32768x1024, .f32⟩
  | 25 => ⟨S32768x1024, .f32⟩
  | 26 => ⟨S1x1024, .f32⟩
  | 27 => ⟨S32768x1024, .f32⟩
  | 28 => ⟨S32768x1024, .f32⟩
  | 29 => ⟨S1x1024, .f32⟩
  | 30 => ⟨S32768x1024, .f32⟩
  | 31 => ⟨S32768x1024, .f32⟩
  | 32 => ⟨S262144x128, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v22 : Ref sig .tc := ⟨.hbm, 47, rfl⟩
abbrev main_v23 : Ref sig .tc := ⟨.hbm, 48, rfl⟩
abbrev main_cst_2 : Ref sig .tc := ⟨.hbm, 49, rfl⟩
abbrev main_v24 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_4 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_5 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_7 : Ref sig .tc := ⟨.hbm, 73, rfl⟩
abbrev main_v43 : Ref sig .tc := ⟨.hbm, 74, rfl⟩
abbrev main_v44 : Ref sig .tc := ⟨.hbm, 75, rfl⟩
abbrev main_cst_8 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_9 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_10 : Ref sig .tc := ⟨.hbm, 105, rfl⟩
abbrev main_v72 : Ref sig .tc := ⟨.hbm, 106, rfl⟩
abbrev main_v73 : Ref sig .tc := ⟨.hbm, 107, rfl⟩
abbrev main_cst_11 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_12 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_13 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_14 : Ref sig .tc := ⟨.hbm, 131, rfl⟩
abbrev main_v94 : Ref sig .tc := ⟨.hbm, 132, rfl⟩
abbrev main_v95 : Ref sig .tc := ⟨.hbm, 133, rfl⟩
abbrev main_cst_15 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_16 : Ref sig .tc := ⟨.hbm, 140, rfl⟩
abbrev main_v101 : Ref sig .tc := ⟨.hbm, 141, rfl⟩
abbrev main_v102 : Ref sig .tc := ⟨.hbm, 142, rfl⟩
abbrev main_cst_17 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_18 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩

abbrev nD : Nat := 1
abbrev τ : Topo := Topo.v7x

variable {F : FTy → Type} [FloatOps F]
-- ==== Proof.Decode.lean ====
/- What the preconditions say of the arguments, entry by entry. -/
module

public import proofs.«01_k».proof.Pre_tabled
public import proofs.«01_k».proof.Proof.Gen.Pre_routed
public import Idealize.ShloMosaic.Lib.ReduceAll
public import Idealize.ShloMosaic.Lib.StableHlo.Predicate
public import Idealize.ShloMosaic.Lib.ValueIdxCore
public import Idealize.ShloMosaic.Lib.WordArith
public import Idealize.ShloMosaic.Lib.WordCmp
public import Idealize.ShloMosaic.Lib.Pipeline.Value

@[expose] public section

set_option maxRecDepth 16384

noncomputable section

namespace Cert.Routed

open Idealize.ShloMosaic Cert.Pre_routed Cert.Pre_routed.Gen
open Idealize.ShloMosaic.ValueIdx (ix1 ix3)

/-- The shapes of the tables' precondition agree. -/
instance tabled_facts : Cert.Pre_tabled.Facts where
  bcast_S_S144 := by decide
  shapeCasts_S1_S_ := by decide
  reducesTo_S144_S_d0 := by decide
  h_S_ := by decide

variable {F : FTy → Type} [FloatOps F]

/-- A bitwise `and` of two bits is one exactly when both are. -/
theorem both {a b : BitVec 1} : IntOp.andi a b = 1#1 ↔ a = 1#1 ∧ b = 1#1 := by revert a b; decide

/-- A bitwise `or` of two bits is one exactly when one of them is. -/
theorem either {a b : BitVec 1} : IntOp.ori a b = 1#1 ↔ a = 1#1 ∨ b = 1#1 := by revert a b; decide

/-- The word that counts the tiles. -/
abbrev count (a1 : IVec S1 32) : BitVec 32 := a1 (ix1 0)

theorem at_zero (a1 : IVec S1 32) (i : S1.Idx) : a1 i = count a1 := congrArg a1 (funext fun a => Fin.ext (by have h : (i a).val < S1.size a := (i a).isLt; obtain rfl : a = 0 := Subsingleton.elim (α := Fin 1) _ _; change (i 0).val < 1 at h; show (i 0).val = 0; omega))

/-- The tables' precondition, entry by entry: a tile has rows, and the tiles with rows have experts that exist. -/
structure Tabled (a0 : IVec S144 32) (a1 : IVec S1 32) : Prop where
  expert : ∀ t : Fin 144, t.val < (count a1).toNat → (a0 (ix1 t)).toNat < 16
  some_tile : 1 ≤ (count a1).toNat
  tiles : (count a1).toNat < 2 ^ 31

/-- The whole precondition, entry by entry: so, and the rows of those tiles and the gate weights of the layer are
    finite. -/
structure Says (a0 : IVec S144 32) (a1 : IVec S1 32) (a2 : FVec F S589824x128 .f32) (a3 : FVec F S4x16x1024x1024 .f32) : Prop extends Tabled a0 a1 where
  rows : ∀ (t : Fin 144) (r : Fin 512) (k : Fin 1024), t.val < (count a1).toNat →
    cmpf .olt (Host.absf (shapeCast S144x512x1024 a2 shapeCasts_S589824x128_S144x512x1024)) (fun _ => Scalar.ofBits .f32 0x7F800000#32) (ix3 t r k) = 1#1
  gate : ∀ i, cmpf .olt (Host.absf (shapeCast S16x1024x1024 (extractStridedSlice S1x16x1024x1024 ![0, 0, 0, 0] a3 slices_S4x16x1024x1024_S1x16x1024x1024_0_0_0_0) shapeCasts_S1x16x1024x1024_S16x1024x1024))
    (fun _ => Scalar.ofBits .f32 0x7F800000#32) i = 1#1

theorem sge_iff {a b : BitVec 32} : IntOp.cmpi .sge a b = 1#1 ↔ b.toInt ≤ a.toInt := by
  unfold IntOp.cmpi; rw [StableHlo.Predicate.ofBool_eq_one_iff]; exact BitVec.sle_iff_toInt_le
theorem sle_iff {a b : BitVec 32} : IntOp.cmpi .sle a b = 1#1 ↔ a.toInt ≤ b.toInt := by
  unfold IntOp.cmpi; rw [StableHlo.Predicate.ofBool_eq_one_iff]; exact BitVec.sle_iff_toInt_le
theorem slt_iff {a b : BitVec 32} : IntOp.cmpi .slt a b = 1#1 ↔ a.toInt < b.toInt := by
  unfold IntOp.cmpi; rw [StableHlo.Predicate.ofBool_eq_one_iff]; exact BitVec.slt_iff_toInt_lt

/-- A count of at least one, as a signed word, is one as a natural number. -/
theorem counted {w : BitVec 32} (h : IntOp.cmpi .sge w 1#32 = 1#1) : 1 ≤ w.toNat ∧ w.toNat < 2 ^ 31 := by
  have h1 := sge_iff.mp h
  rw [show (1#32 : BitVec 32).toInt = 1 from by decide] at h1
  have e := BitVec.toInt_eq_toNat_cond w
  have hw := w.isLt
  split at e <;> omega

/-- A tile with rows does not lie past the count. -/
theorem not_past {w : BitVec 32} (hw : w.toNat < 2 ^ 31) (t : Fin 144) (ht : t.val < w.toNat)
    (h : IntOp.cmpi .sge (BitVec.ofNat 32 t.val) w = 1#1) : False := by
  have h1 := sge_iff.mp h
  have := t.isLt
  rw [StableHlo.Predicate.toInt_ofNat_small _ (by omega), StableHlo.Predicate.toInt_eq_toNat_of_lt (by omega)] at h1
  omega

/-- The tables' precondition from the bits that state it. -/
theorem tabled_of (a0 : IVec S144 32) (a1 : IVec S1 32) (h1 : IntOp.cmpi .sge (count a1) 1#32 = 1#1)
    (hall : ∀ t : Fin 144, IntOp.ori (IntOp.cmpi .sge (BitVec.ofNat 32 t.val) (count a1))
      (IntOp.andi (IntOp.cmpi .sge (a0 (ix1 t)) 0#32) (IntOp.cmpi .slt (a0 (ix1 t)) 16#32)) = 1#1) : Tabled a0 a1 := by
  have hc := counted h1
  refine ⟨fun t ht => ?_, hc.1, hc.2⟩
  rcases either.mp (hall t) with h | h
  · exact (not_past hc.2 t ht h).elim
  obtain ⟨hlo, hhi⟩ := both.mp h
  have e1 := sge_iff.mp hlo
  have e2 := slt_iff.mp hhi
  rw [show (0#32 : BitVec 32).toInt = 0 from by decide] at e1
  rw [show (16#32 : BitVec 32).toInt = 16 from by decide] at e2
  have e := BitVec.toInt_eq_toNat_cond (a0 (ix1 t))
  have hw := (a0 (ix1 t)).isLt
  split at e <;> omega

theorem tabled_meaning (a0 : IVec S144 32) (a1 : IVec S1 32) (a2 : FVec F S589824x128 .f32) (a3 a4 a5 : FVec F S4x16x1024x1024 .f32)
    (h : Cert.Pre_tabled.fn (F := F) a0 a1 a2 a3 a4 a5 = fun _ => 1#1) : Tabled a0 a1 := by
  haveI : Subsingleton S_.Idx := inferInstanceAs (Subsingleton ((a : Fin 0) → _))
  have e := congrFun h fun a => a.elim0
  dsimp only [Cert.Pre_tabled.fn] at e
  obtain ⟨h1, hall⟩ := both.mp e
  refine tabled_of a0 a1 ((congrArg (fun w => IntOp.cmpi .sge w 1#32) (at_zero a1 _)).symm.trans h1) fun t => ?_
  have b := Host.reduce_andi_all _ _ _ _ _ hall (ix1 t)
  exact (congrArg (fun w => IntOp.ori (IntOp.cmpi .sge (BitVec.ofNat 32 t.val) w) _) (at_zero a1 _)).symm.trans b

theorem meaning (a0 : IVec S144 32) (a1 : IVec S1 32) (a2 : FVec F S589824x128 .f32) (a3 a4 a5 : FVec F S4x16x1024x1024 .f32)
    (h : fn (F := F) a0 a1 a2 a3 a4 a5 = fun _ => 1#1) : Says a0 a1 a2 a3 := by
  haveI : Subsingleton S_.Idx := inferInstanceAs (Subsingleton ((a : Fin 0) → _))
  have e := congrFun h fun a => a.elim0
  dsimp only [fn, fn_part1] at e
  obtain ⟨e, hg⟩ := both.mp e
  obtain ⟨e, hx⟩ := both.mp e
  obtain ⟨h1, hall⟩ := both.mp e
  have ht : Tabled a0 a1 := tabled_of a0 a1 ((congrArg (fun w => IntOp.cmpi .sge w 1#32) (at_zero a1 _)).symm.trans h1) fun t => by
    have b := Host.reduce_andi_all _ _ _ _ _ hall (ix1 t)
    exact (congrArg (fun w => IntOp.ori (IntOp.cmpi .sge (BitVec.ofNat 32 t.val) w) _) (at_zero a1 _)).symm.trans b
  refine ⟨ht, fun t r k hl => ?_, fun i => Host.reduce_andi_all _ _ _ _ _ hg i⟩
  rcases either.mp (Host.reduce_andi_all _ _ _ _ _ hx (ix3 t r k)) with b | b
  · exact (not_past ht.tiles t hl ((congrArg (IntOp.cmpi .sge (BitVec.ofNat 32 t.val)) (at_zero a1 _)).symm.trans b)).elim
  · exact b

end Cert.Routed

end
-- ==== Proof.Ideal.Kit.lean ====
/-
  The expert call: what its runs share.  The buffers as the pipeline finds them, the two tables, the blocks of the four
  inputs, and the staging and scratch memrefs under short names.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Kit
public import Idealize.ShloMosaic.Lib.Tactic
public import Idealize.ShloMosaic.Lib.WordCmp

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

/-! ## Up to the pipeline -/

/-- A buffer of core `c` once the host operations before the pipeline have run. -/
abbrev entry (c : Dev nD) (b : Ref sig .tc) : Buf (Elt F) ((c : Thread nD τ).loc b) := StableHlo.after hostOps0 (fun b => m (c, b)) b

theorem hostOps0_pure : (hostOps0 : List (HloOp τ sig (Elt F))).Forall fun op => op.fresh = ∅ := by
  simp only [List.Forall]; repeat' constructor

set_option maxHeartbeats 800000 in
/-- The main program reaches the pipeline with every buffer at `entry`. -/
theorem main_entry (𝒱₀ : Variants) : Pipeline.HMainP (Ix := Unit) (Name := ℕ) (U := UR sig nD τ) (Lvl := ℕ) pcfgs 0 defs₀ 𝒱₀ m main (entry m) :=
  Pipeline.hmainP_prefix pcfgs 0 defs₀ 𝒱₀ m main hostOps0 hostOps0_sub hostOps0_pure main_chain

/-- A buffer that none of the host operations writes is found as launched. -/
theorem entry_of_unwritten (c : Dev nD) (b : Ref sig .tc)
    (h : ∀ op ∈ (hostOps0 : List (HloOp τ sig (Elt F))), Proc.devRef .tc b ∉ op.writes) :
    entry m c b = m ((c : Thread nD τ).loc b) :=
  StableHlo.after_of_forall_not_mem (b := Proc.devRef .tc b) _ _ h

theorem entry_arg0 (c : Dev nD) : entry m c main_arg0 = m ((c : Thread nD τ).loc main_arg0) :=
  entry_of_unwritten m c _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.binaryIndexed_writes, Finset.mem_singleton]
    repeat' apply And.intro
    all_goals exact StableHlo.devRef_ne_of_ne (by decide)))

theorem entry_arg1 (c : Dev nD) : entry m c main_arg1 = m ((c : Thread nD τ).loc main_arg1) :=
  entry_of_unwritten m c _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.binaryIndexed_writes, Finset.mem_singleton]
    repeat' apply And.intro
    all_goals exact StableHlo.devRef_ne_of_ne (by decide)))

theorem entry_arg2 (c : Dev nD) : entry m c main_arg2 = m ((c : Thread nD τ).loc main_arg2) :=
  entry_of_unwritten m c _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.binaryIndexed_writes, Finset.mem_singleton]
    repeat' apply And.intro
    all_goals exact StableHlo.devRef_ne_of_ne (by decide)))

theorem entry_arg3 (c : Dev nD) : entry m c main_arg3 = m ((c : Thread nD τ).loc main_arg3) :=
  entry_of_unwritten m c _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.binaryIndexed_writes, Finset.mem_singleton]
    repeat' apply And.intro
    all_goals exact StableHlo.devRef_ne_of_ne (by decide)))

theorem entry_arg4 (c : Dev nD) : entry m c main_arg4 = m ((c : Thread nD τ).loc main_arg4) :=
  entry_of_unwritten m c _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.binaryIndexed_writes, Finset.mem_singleton]
    repeat' apply And.intro
    all_goals exact StableHlo.devRef_ne_of_ne (by decide)))

theorem entry_arg5 (c : Dev nD) : entry m c main_arg5 = m ((c : Thread nD τ).loc main_arg5) :=
  entry_of_unwritten m c _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.binaryIndexed_writes, Finset.mem_singleton]
    repeat' apply And.intro
    all_goals exact StableHlo.devRef_ne_of_ne (by decide)))

/-! ## The tables -/

/-- The two tables as the pipeline finds them: the tile's expert, and the number of tiles that have rows. -/
def tables : pre0.Contents (Elt F) := fun j => entry m (0 : Dev nD) (pre0.ref j)

theorem entry_table (c : Dev nD) (j : Fin 2) : entry m c (pre0.ref j) = tables m j := by
  obtain rfl : c = 0 := Subsingleton.elim _ _; rfl

/-- The tables' entries name weight blocks that exist. -/
abbrev Fits : Prop := ok0 (F := F) (tables m)
abbrev fitting (hO : Fits m) : (pcfg0 (F := F)).Adm := ⟨tables m, hO⟩
abbrev pipe (hO : Fits m) : Pipeline.Cfg sig Λ₀ := cfg0 (fitting m hO)

abbrev teM : Memref sig .tc .smem S144 .i32 := Memref.whole main_v11
abbrev teM_whole : teM.IsWhole := Memref.isWhole_whole _
abbrev ntM : Memref sig .tc .smem S1 .i32 := Memref.whole main_arg1
abbrev ntM_whole : ntM.IsWhole := Memref.isWhole_whole _

/-- What a table's buffer holds on core `c`. -/
abbrev TableBuf (c : Dev nD) {S : Shape} {e : EltTy} (M : Memref sig .tc .smem S e) : Type := Buf (Elt F) (M.view.loc (c : Thread nD τ))
/-- A table held at the half share that the body is given, at `f`. -/
abbrev tableAt (c : Dev nD) {S : Shape} {e : EltTy} (M : Memref sig .tc .smem S e) (f : TableBuf (F := F) c M) : sProp 𝕄 :=
  M.view.loc (c : Thread nD τ) ↦{fullShare.right} f

theorem tables_held (c : Dev nD) : (Pipeline.ΦT pre0 (tables m) c : sProp 𝕄) = iprop(tableAt c teM (tables m 0) ∗ tableAt c ntM (tables m 1)) := by
  unfold Pipeline.ΦT Pipeline.prefHeld
  rw [show (Finset.univ : Finset (Fin 2)) = insert (0 : Fin 2) {(1 : Fin 2)} from by decide,
    bigSep_insert (by decide), bigSep_singleton]
  rfl

/-! ## The blocks of the windows -/

/-- The block of window `w`'s array at point `t`. -/
def block (hO : Fits m) (c : Dev nD) (w : Fin (pipe m hO).W) (t : Fin (pipe m hO).N) : (((pipe m hO).win w).xblock ((pipe m hO).grid.coords t)).Idx → Elt F ((pipe m hO).win w).elt :=
  (((pipe m hO).win w).blk t).view.read (Elt F) (entry m c (Pipeline.arrRef spec0 w))

/-- Each input's staging buffer holds the block of the point when the body starts, whether it was just fetched or not. -/
theorem found_0 (hO : Fits m) {c : Dev nD} (dat : Dat τ (Elt F) Unit ℕ (UR sig nD τ) ℕ (pipe m hO) c) (hA : dat.A 0 = entry m c (Pipeline.arrRef spec0 0))
    (hafter : ∀ t, dat.after 0 t = block m hO c 0 t) (t : Fin (pipe m hO).N) (d) : dat.before 0 t d = block m hO c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)

theorem found_1 (hO : Fits m) {c : Dev nD} (dat : Dat τ (Elt F) Unit ℕ (UR sig nD τ) ℕ (pipe m hO) c) (hA : dat.A 1 = entry m c (Pipeline.arrRef spec0 1))
    (hafter : ∀ t, dat.after 1 t = block m hO c 1 t) (t : Fin (pipe m hO).N) (d) : dat.before 1 t d = block m hO c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)

theorem found_2 (hO : Fits m) {c : Dev nD} (dat : Dat τ (Elt F) Unit ℕ (UR sig nD τ) ℕ (pipe m hO) c) (hA : dat.A 2 = entry m c (Pipeline.arrRef spec0 2))
    (hafter : ∀ t, dat.after 2 t = block m hO c 2 t) (t : Fin (pipe m hO).N) (d) : dat.before 2 t d = block m hO c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)

theorem found_3 (hO : Fits m) {c : Dev nD} (dat : Dat τ (Elt F) Unit ℕ (UR sig nD τ) ℕ (pipe m hO) c) (hA : dat.A 3 = entry m c (Pipeline.arrRef spec0 3))
    (hafter : ∀ t, dat.after 3 t = block m hO c 3 t) (t : Fin (pipe m hO).N) (d) : dat.before 3 t d = block m hO c 3 t :=
  (dat.before_in_eq_fetched 3 rfl (fun _ => rfl) (fun _ _ _ => rfl) (fun t => by rw [hafter]; unfold Dat.blockOf block; rw [hA]; try rfl) t d).trans
    (by unfold Dat.fetched Dat.blockOf block; rw [hA]; try rfl)

/-- The result's block is written back at every point. -/
theorem writes_back (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-! ## The staging and scratch memrefs -/

abbrev xsM (hO : Fits m) (t : Fin (pipe m hO).N) : Memref sig .tc .vmem S4096x128 .f32 := spec0_0.stage ((pipe m hO).slots t 0)
abbrev xsM_whole (hO : Fits m) (t : Fin (pipe m hO).N) : (xsM m hO t).IsWhole := hstage0_0 (((pipe m hO).slots t 0).cast nbuf0_0)
abbrev wgM (hO : Fits m) (t : Fin (pipe m hO).N) : Memref sig .tc .vmem S1x1x1024x1024 .f32 := spec0_1.stage ((pipe m hO).slots t 1)
abbrev wgM_whole (hO : Fits m) (t : Fin (pipe m hO).N) : (wgM m hO t).IsWhole := hstage0_1 (((pipe m hO).slots t 1).cast nbuf0_1)
abbrev wuM (hO : Fits m) (t : Fin (pipe m hO).N) : Memref sig .tc .vmem S1x1x1024x1024 .f32 := spec0_2.stage ((pipe m hO).slots t 2)
abbrev wuM_whole (hO : Fits m) (t : Fin (pipe m hO).N) : (wuM m hO t).IsWhole := hstage0_2 (((pipe m hO).slots t 2).cast nbuf0_2)
abbrev wdM (hO : Fits m) (t : Fin (pipe m hO).N) : Memref sig .tc .vmem S1x1x1024x1024 .f32 := spec0_3.stage ((pipe m hO).slots t 3)
abbrev wdM_whole (hO : Fits m) (t : Fin (pipe m hO).N) : (wdM m hO t).IsWhole := hstage0_3 (((pipe m hO).slots t 3).cast nbuf0_3)
abbrev ysM (hO : Fits m) (t : Fin (pipe m hO).N) : Memref sig .tc .vmem S4096x128 .f32 := spec0_4.stage ((pipe m hO).slots t 4)
abbrev ysM_whole (hO : Fits m) (t : Fin (pipe m hO).N) : (ysM m hO t).IsWhole := hstage0_4 (((pipe m hO).slots t 4).cast nbuf0_4)
/-- The body at point `t`, as the pipeline calls it. -/
abbrev bodyAt (hO : Fits m) (t : Fin (pipe m hO).N) : Prog (TpuEff nD τ sig (Elt F) Λ₀ .tc) PUnit :=
  cc0_experts (grid0.coords t) (Memref.whole main_v11) (Memref.isWhole_whole _) (Memref.whole main_arg1) (Memref.isWhole_whole _)
    (xsM m hO t) (xsM_whole m hO t) (wgM m hO t) (wgM_whole m hO t) (wuM m hO t) (wuM_whole m hO t) (wdM m hO t) (wdM_whole m hO t)
    (ysM m hO t) (ysM_whole m hO t)
    (Memref.whole cc0_scratch0) (Memref.isWhole_whole _) (Memref.whole cc0_scratch1) (Memref.isWhole_whole _) (Memref.whole cc0_scratch2) (Memref.isWhole_whole _)

/-- The three scratch buffers that keep an expert's rounded weights from point to point. -/
abbrev sgM : Memref sig .tc .vmem S1024x1024 .bf16 := Memref.whole cc0_scratch0
abbrev suM : Memref sig .tc .vmem S1024x1024 .bf16 := Memref.whole cc0_scratch1
abbrev sdM : Memref sig .tc .vmem S1024x1024 .bf16 := Memref.whole cc0_scratch2

theorem scratch_held (c : Dev nD) :
    (Pipeline.ΦA spec0 c : sProp 𝕄)
      = iprop(iprop((∃ d, owns (c : Thread nD τ) sgM fullShare d) ∗ (∃ d, owns (c : Thread nD τ) suM fullShare d) ∗ (∃ d, owns (c : Thread nD τ) sdM fullShare d)) ∗ (∃ r, prngReg c r)) := by
  unfold Pipeline.ΦA; rw [scopedRest0_eq]; simp only [sgM, suM, sdM, owns_whole]; try rfl

end Cert.KernelIdeal.Experts

end
-- ==== Proof.Ideal.Rows.lean ====
/-
  The expert call: how a tile of 512 rows of 1024 lies in a buffer of 4096 rows of 128.  Row `8 r + s` of the buffer
  holds the columns `128 s, …, 128 s + 127` of row `r`; the body reads and writes it one `s` at a time, with stride 8.
-/
module

public import proofs.«01_k».proof.Proof.Ideal.Kit
public import Idealize.ShloMosaic.Lib.ValueIdxCore
public import Idealize.ShloMosaic.Lib.Pipeline.Value

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Idealize.ShloMosaic.ValueIdx (ix2)

variable {F : FTy → Type} [FloatOps F]

local notation "𝕄" => MT nD τ sig Unit (Elt F) ℕ (UR sig nD τ) ℕ

/-- The rows of the buffer that hold column group `s`. -/
abbrev slabOff (s : Fin 8) : Fin 2 → Nat := ![s.val, 0]

/-- What the buffer of 4096 rows holds when it holds the tile `P`. -/
def asSlabs {e : EltTy} (P : Vec F S512x1024 e) : Vec F S4096x128 e := fun y =>
  P (ix2 ⟨(y 0).val / 8, by have h : (y 0).val < 4096 := (y 0).isLt; omega⟩ ⟨(y 0).val % 8 * 128 + (y 1).val, by have h : (y 1).val < 128 := (y 1).isLt; omega⟩)

/-- The stores of one tile of results, the last one first. -/
def slabStores (h : FVec F S512x1024 .bf16) (d : Vec F S1024x1024 .bf16) : List (View.Piece (Elt F) S4096x128 .f32) :=
  [⟨⟨⟨![7, 0], S512x128.size, ![8, 1], inb_S4096x128_S512x128_7_0_s_8_1⟩, spos_8_1⟩, k0_pay9 h d⟩,
    ⟨⟨⟨![6, 0], S512x128.size, ![8, 1], inb_S4096x128_S512x128_6_0_s_8_1⟩, spos_8_1⟩, k0_pay8 h d⟩,
    ⟨⟨⟨![5, 0], S512x128.size, ![8, 1], inb_S4096x128_S512x128_5_0_s_8_1⟩, spos_8_1⟩, k0_pay7 h d⟩,
    ⟨⟨⟨![4, 0], S512x128.size, ![8, 1], inb_S4096x128_S512x128_4_0_s_8_1⟩, spos_8_1⟩, k0_pay6 h d⟩,
    ⟨⟨⟨![3, 0], S512x128.size, ![8, 1], inb_S4096x128_S512x128_3_0_s_8_1⟩, spos_8_1⟩, k0_pay5 h d⟩,
    ⟨⟨⟨![2, 0], S512x128.size, ![8, 1], inb_S4096x128_S512x128_2_0_s_8_1⟩, spos_8_1⟩, k0_pay4 h d⟩,
    ⟨⟨⟨![1, 0], S512x128.size, ![8, 1], inb_S4096x128_S512x128_1_0_s_8_1⟩, spos_8_1⟩, k0_pay3 h d⟩,
    ⟨⟨⟨![0, 0], S512x128.size, ![8, 1], inb_S4096x128_S512x128_0_0_s_8_1⟩, spos_8_1⟩, k0_pay2 h d⟩]

theorem mem_slab (s : Nat) (hs : s < 8) (inb : ∀ a, S512x128.size a = 0 ∨ (![s, 0] : Fin 2 → Nat) a + (![8, 1] : Fin 2 → Nat) a * (S512x128.size a - 1) < S4096x128.size a)
    (y : S4096x128.Idx) (hy : (y 0).val % 8 = s) :
    y ∈ (⟨⟨![s, 0], S512x128.size, ![8, 1], inb⟩, spos_8_1⟩ : Rect S4096x128).set := by
  have h0 : (y 0).val < 4096 := (y 0).isLt
  have h1 : (y 1).val < 128 := (y 1).isLt
  refine (LoadRect.mem_set _).mpr fun a => ?_
  fin_cases a
  · refine ⟨(y 0).val / 8, ?_, ?_⟩
    · show (y 0).val / 8 < 512
      omega
    · show _ = s + 8 * ((y 0).val / 8)
      show (y 0).val = _
      omega
  · refine ⟨(y 1).val, h1, ?_⟩
    show (y 1).val = 0 + 1 * (y 1).val
    omega

theorem slabStores_cover (h : FVec F S512x1024 .bf16) (d : Vec F S1024x1024 .bf16) (y : S4096x128.Idx) :
    ∃ p ∈ slabStores h d, y ∈ p.1.set := by
  have hlt : (y 0).val % 8 < 8 := Nat.mod_lt _ (by decide)
  unfold slabStores
  generalize hs : (y 0).val % 8 = s at hlt
  interval_cases s
  · exact ⟨_, List.Mem.tail _ (List.Mem.tail _ (List.Mem.tail _ (List.Mem.tail _ (List.Mem.tail _ (List.Mem.tail _ (List.Mem.tail _ (List.Mem.head _))))))), mem_slab 0 (by decide) inb_S4096x128_S512x128_0_0_s_8_1 y hs⟩
  · exact ⟨_, List.Mem.tail _ (List.Mem.tail _ (List.Mem.tail _ (List.Mem.tail _ (List.Mem.tail _ (List.Mem.tail _ (List.Mem.head _)))))), mem_slab 1 (by decide) inb_S4096x128_S512x128_1_0_s_8_1 y hs⟩
  · exact ⟨_, List.Mem.tail _ (List.Mem.tail _ (List.Mem.tail _ (List.Mem.tail _ (List.Mem.tail _ (List.Mem.head _))))), mem_slab 2 (by decide) inb_S4096x128_S512x128_2_0_s_8_1 y hs⟩
  · exact ⟨_, List.Mem.tail _ (List.Mem.tail _ (List.Mem.tail _ (List.Mem.tail _ (List.Mem.head _)))), mem_slab 3 (by decide) inb_S4096x128_S512x128_3_0_s_8_1 y hs⟩
  · exact ⟨_, List.Mem.tail _ (List.Mem.tail _ (List.Mem.tail _ (List.Mem.head _))), mem_slab 4 (by decide) inb_S4096x128_S512x128_4_0_s_8_1 y hs⟩
  · exact ⟨_, List.Mem.tail _ (List.Mem.tail _ (List.Mem.head _)), mem_slab 5 (by decide) inb_S4096x128_S512x128_5_0_s_8_1 y hs⟩
  · exact ⟨_, List.Mem.tail _ (List.Mem.head _), mem_slab 6 (by decide) inb_S4096x128_S512x128_6_0_s_8_1 y hs⟩
  · exact ⟨_, List.Mem.head _, mem_slab 7 (by decide) inb_S4096x128_S512x128_7_0_s_8_1 y hs⟩

/-- What the store of column group `s` writes is its part of the tile. -/
theorem slab_piece (P : FVec F S512x1024 .f32) (s : Nat) (hs : s < 8) (c : Nat) (hc : c = 128 * s)
    (inb : ∀ a, S512x128.size a = 0 ∨ (![s, 0] : Fin 2 → Nat) a + (![8, 1] : Fin 2 → Nat) a * (S512x128.size a - 1) < S4096x128.size a)
    (hsl : S512x1024.Slices ![0, c] S512x128) (x : S512x128.Idx) :
    extractStridedSlice S512x128 ![0, c] P hsl x
      = asSlabs (e := .f32) P ((⟨⟨![s, 0], S512x128.size, ![8, 1], inb⟩, spos_8_1⟩ : Rect S4096x128).emb x) := by
  refine congrArg P (funext fun a => Fin.ext ?_)
  have h0 : (x 0).val < 512 := (x 0).isLt
  have h1 : (x 1).val < 128 := (x 1).isLt
  fin_cases a
  · show 0 + (x 0).val = (s + 8 * (x 0).val) / 8
    omega
  · show c + (x 1).val = (s + 8 * (x 0).val) % 8 * 128 + (0 + 1 * (x 1).val)
    omega

/-- The eight stores leave the tile. -/
theorem canon_slabStores (h : FVec F S512x1024 .bf16) (d : Vec F S1024x1024 .bf16) :
    View.canon (slabStores h d) = asSlabs (e := .f32) (k0_pay1 h d) := by
  funext y
  refine View.canon_apply_of_pieces (asSlabs (e := .f32) (k0_pay1 h d)) _ ?_ y (slabStores_cover h d y)
  intro p hp
  unfold slabStores at hp
  simp only [List.mem_cons, List.not_mem_nil, or_false] at hp
  rcases hp with rfl | rfl | rfl | rfl | rfl | rfl | rfl | rfl
  · exact fun x => slab_piece (k0_pay1 h d) 7 (by decide) 896 rfl inb_S4096x128_S512x128_7_0_s_8_1 slices_S512x1024_o0_896_S512x128 x
  · exact fun x => slab_piece (k0_pay1 h d) 6 (by decide) 768 rfl inb_S4096x128_S512x128_6_0_s_8_1 slices_S512x1024_o0_768_S512x128 x
  · exact fun x => slab_piece (k0_pay1 h d) 5 (by decide) 640 rfl inb_S4096x128_S512x128_5_0_s_8_1 slices_S512x1024_o0_640_S512x128 x
  · exact fun x => slab_piece (k0_pay1 h d) 4 (by decide) 512 rfl inb_S4096x128_S512x128_4_0_s_8_1 slices_S512x1024_o0_512_S512x128 x
  · exact fun x => slab_piece (k0_pay1 h d) 3 (by decide) 384 rfl inb_S4096x128_S512x128_3_0_s_8_1 slices_S512x1024_o0_384_S512x128 x
  · exact fun x => slab_piece (k0_pay1 h d) 2 (by decide) 256 rfl inb_S4096x128_S512x128_2_0_s_8_1 slices_S512x1024_o0_256_S512x128 x
  · exact fun x => slab_piece (k0_pay1 h d) 1 (by decide) 128 rfl inb_S4096x128_S512x128_1_0_s_8_1 slices_S512x1024_o0_128_S512x128 x
  · exact fun x => slab_piece (k0_pay1 h d) 0 (by decide) 0 rfl inb_S4096x128_S512x128_0_0_s_8_1 slices_S512x1024_o0_0_S512x128 x

/-- Column group `s` of a buffer's tile. -/
def slab (s : Nat) (inb : ∀ a, S512x128.size a = 0 ∨ (![s, 0] : Fin 2 → Nat) a + (![8, 1] : Fin 2 → Nat) a * (S512x128.size a - 1) < S4096x128.size a)
    (x : Vec F S4096x128 .f32) : Vec F S512x128 .f32 :=
  View.ld x (⟨⟨![s, 0], S512x128.size, ![8, 1], inb⟩, spos_8_1⟩ : Rect S4096x128)

/-- The gated hidden values of a tile `x` at rounded weights `g` and `u`. -/
def hidden (x : Vec F S4096x128 .f32) (g u : Vec F S1024x1024 .bf16) : FVec F S512x1024 .bf16 :=
  k0_pay14 (slab 0 inb_S4096x128_S512x128_0_0_s_8_1 x) (slab 1 inb_S4096x128_S512x128_1_0_s_8_1 x) (slab 2 inb_S4096x128_S512x128_2_0_s_8_1 x) (slab 3 inb_S4096x128_S512x128_3_0_s_8_1 x)
    (slab 4 inb_S4096x128_S512x128_4_0_s_8_1 x) (slab 5 inb_S4096x128_S512x128_5_0_s_8_1 x) (slab 6 inb_S4096x128_S512x128_6_0_s_8_1 x) (slab 7 inb_S4096x128_S512x128_7_0_s_8_1 x) g u

/-- What the body leaves for a tile that has rows. -/
def tileOut (x : Vec F S4096x128 .f32) (g u d : Vec F S1024x1024 .bf16) : Vec F S4096x128 .f32 :=
  asSlabs (e := .f32) (k0_pay1 (hidden x g u) d)

end Cert.KernelIdeal.Experts

end
-- ==== Proof.Ideal.RunC.lean ====
/-
  The expert call: the words of the tables that the body branches on, and a point that has no rows.
-/
module

public import proofs.«01_k».proof.Proof.Ideal.Rows

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Idealize.ShloMosaic.ValueIdx (ix2)

variable {F : FTy → Type} [FloatOps F]

local notation "𝕄" => MT nD τ sig Unit (Elt F) ℕ (UR sig nD τ) ℕ

/-- The number of tiles that have rows, as the body reads it. -/
abbrev ntWord (c : Dev nD) (xt1 : TableBuf (F := F) c ntM) : BitVec 32 :=
  ntM.view.readAt (Elt F) (Rect.unit (s := S1) ![0] S1.size inb_S1_S1_0).toLoadRect xt1 (Shape.Idx.first (numel1_S1.symm ▸ Nat.one_pos))
/-- The expert of this tile. -/
abbrev teWord (c : Dev nD) (i : grid0.Coords) (xt0 : TableBuf (F := F) c teM) : BitVec 32 :=
  teM.view.readAt (Elt F) (Rect.unit (s := S144) (k0_off2 i) S1.size (k0_off2_inb i)).toLoadRect xt0 (Shape.Idx.first (numel1_S1.symm ▸ Nat.one_pos))
/-- The expert of the tile before. -/
abbrev tePrev (c : Dev nD) (i : grid0.Coords) (xt0 : TableBuf (F := F) c teM) : BitVec 32 :=
  teM.view.readAt (Elt F) (Rect.unit (s := S144) (k0_off3 i) S1.size (k0_off3_inb i)).toLoadRect xt0 (Shape.Idx.first (numel1_S1.symm ▸ Nat.one_pos))
/-- The tile has rows. -/
abbrev Rowed (c : Dev nD) (i : grid0.Coords) (xt1 : TableBuf (F := F) c ntM) : Prop := k0_cond1 i (ntWord c xt1) = 1#1
/-- The tile has none. -/
abbrev Rowless (c : Dev nD) (i : grid0.Coords) (xt1 : TableBuf (F := F) c ntM) : Prop := k0_cond3 i (ntWord c xt1) = 1#1
/-- The tile is the first of its expert. -/
abbrev Fresh (c : Dev nD) (i : grid0.Coords) (xt0 : TableBuf (F := F) c teM) : Prop :=
  Scalar.cmpi .ne (Scalar.extui (Scalar.ori (Scalar.cmpi .eq (BitVec.ofNat 32 (i 0).val) 0#32) (Scalar.cmpi .ne (teWord c i xt0) (tePrev c i xt0))) : BitVec 32) 0#32 = 1#1

/-- After one store over the whole buffer the buffer reads as what was stored. -/
theorem read_whole_store {sp : Space} {S : Shape} {e : EltTy} (v : View sig .tc sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w :=
  (View.read_writes_eq_canon _ _ _ (fun y => ⟨_, List.mem_singleton_self _, View.mem_set_unit_zero h inb y⟩)).trans (View.canon_unit_zero h inb w)

/-- A load from a buffer of known contents reads them at the loaded places. -/
theorem readAt_known {sp : Space} {S : Shape} {e : EltTy} {M : Memref sig .tc sp S e} (h : M.IsWhole) (x : S.Idx → Elt F e) (r : LoadRect S) :
    M.view.readAt (Elt F) r (h.unread x) = fun j => x (r.idx j) :=
  funext fun j => congrFun (h.read_unread (Val := Elt F) x) (r.idx j)

/-- A load of the whole of it reads them all. -/
theorem readAt_known_whole {sp : Space} {S : Shape} {e : EltTy} {M : Memref sig .tc sp S e} (h : M.IsWhole) (x : S.Idx → Elt F e) {off : Fin S.rank → Nat} (h0 : off = fun _ => 0)
    (inb : ∀ a, off a + S.size a ≤ S.size a) :
    M.view.readAt (Elt F) (Rect.unit off S.size inb).toLoadRect (h.unread x) = x :=
  (readAt_known h x _).trans (View.ld_unit_zero h0 inb x)

set_option maxHeartbeats 1600000 in
/-- A tile without rows: zeros, and the kept weights are as they were (of which nothing is needed). -/
theorem run_rowless (c : Dev nD) (i : grid0.Coords)
    (arg3 : Memref sig .tc .vmem S4096x128 .f32) (harg3 : arg3.IsWhole) (arg4 : Memref sig .tc .vmem S1x1x1024x1024 .f32) (harg4 : arg4.IsWhole)
    (arg5 : Memref sig .tc .vmem S1x1x1024x1024 .f32) (harg5 : arg5.IsWhole) (arg6 : Memref sig .tc .vmem S1x1x1024x1024 .f32) (harg6 : arg6.IsWhole)
    (arg7 : Memref sig .tc .vmem S4096x128 .f32) (harg7 : arg7.IsWhole) (arg8 : Memref sig .tc .vmem S1024x1024 .bf16) (harg8 : arg8.IsWhole)
    (arg9 : Memref sig .tc .vmem S1024x1024 .bf16) (harg9 : arg9.IsWhole) (arg10 : Memref sig .tc .vmem S1024x1024 .bf16) (harg10 : arg10.IsWhole)
    (x0 : Vec F S4096x128 .f32) (x1 x2 x3 : Vec F S1x1x1024x1024 .f32) (xt0 : TableBuf (F := F) c teM) (xt1 : TableBuf (F := F) c ntM)
    (h1 : ¬ Rowed c i xt1) (h3 : Rowless c i xt1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d) ∗ tableAt c teM xt0 ∗ tableAt c ntM xt1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (k0_pay10 (F := F)) ∗ (∃ d, owns (c : Thread nD τ) arg8 fullShare d) ∗ (∃ d, owns (c : Thread nD τ) arg9 fullShare d) ∗ (∃ d, owns (c : Thread nD τ) arg10 fullShare d) ∗ tableAt c teM xt0 ∗ tableAt c ntM xt1) -∗ K ⟨⟩))
      ⊢ wp frame (wpE (defs₀ (F := F)) Variants.none c none) E (cc0_experts i teM teM_whole ntM ntM_whole arg3 harg3 arg4 harg4 arg5 harg5 arg6 harg6 arg7 harg7 arg8 harg8 arg9 harg9 arg10 harg10) K := by
  simp only [cc0_experts_eq_skeleton]; unfold cc0_experts_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, HT1, Hk⟩
  obtain rfl := harg3.eq_unread hf0; obtain rfl := harg4.eq_unread hf1; obtain rfl := harg5.eq_unread hf2; obtain rfl := harg6.eq_unread hf3
  sl_exec (disch := first | sl_exact h1 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    exact read_whole_store _ _ (by decide) _ _
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HT0]; · iexact HT0
  iexact HT1

end Cert.KernelIdeal.Experts

end
-- ==== Proof.Ideal.RunB.lean ====
/-
  The expert call: a tile that has rows and is not the first of its expert.
-/
module

public import proofs.«01_k».proof.Proof.Ideal.RunC

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Idealize.ShloMosaic.ValueIdx (ix2)

variable {F : FTy → Type} [FloatOps F]

local notation "𝕄" => MT nD τ sig Unit (Elt F) ℕ (UR sig nD τ) ℕ

set_option maxHeartbeats 1600000 in
/-- A tile that has rows and goes on with the kept weights. -/
theorem run_kept (c : Dev nD) (i : grid0.Coords)
    (arg3 : Memref sig .tc .vmem S4096x128 .f32) (harg3 : arg3.IsWhole) (arg4 : Memref sig .tc .vmem S1x1x1024x1024 .f32) (harg4 : arg4.IsWhole)
    (arg5 : Memref sig .tc .vmem S1x1x1024x1024 .f32) (harg5 : arg5.IsWhole) (arg6 : Memref sig .tc .vmem S1x1x1024x1024 .f32) (harg6 : arg6.IsWhole)
    (arg7 : Memref sig .tc .vmem S4096x128 .f32) (harg7 : arg7.IsWhole) (arg8 : Memref sig .tc .vmem S1024x1024 .bf16) (harg8 : arg8.IsWhole)
    (arg9 : Memref sig .tc .vmem S1024x1024 .bf16) (harg9 : arg9.IsWhole) (arg10 : Memref sig .tc .vmem S1024x1024 .bf16) (harg10 : arg10.IsWhole)
    (x0 : Vec F S4096x128 .f32) (x1 x2 x3 : Vec F S1x1x1024x1024 .f32) (xt0 : TableBuf (F := F) c teM) (xt1 : TableBuf (F := F) c ntM)
    (g u d : Vec F S1024x1024 .bf16)
    (h1 : Rowed c i xt1) (h3 : ¬ Rowless c i xt1) (h2 : ¬ Fresh c i xt0)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ owns (c : Thread nD τ) arg8 fullShare g ∗ owns (c : Thread nD τ) arg9 fullShare u ∗ owns (c : Thread nD τ) arg10 fullShare d ∗ tableAt c teM xt0 ∗ tableAt c ntM xt1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (tileOut x0 g u d) ∗ owns (c : Thread nD τ) arg8 fullShare g ∗ owns (c : Thread nD τ) arg9 fullShare u ∗ owns (c : Thread nD τ) arg10 fullShare d ∗ tableAt c teM xt0 ∗ tableAt c ntM xt1) -∗ K ⟨⟩))
      ⊢ wp frame (wpE (defs₀ (F := F)) Variants.none c none) E (cc0_experts i teM teM_whole ntM ntM_whole arg3 harg3 arg4 harg4 arg5 harg5 arg6 harg6 arg7 harg7 arg8 harg8 arg9 harg9 arg10 harg10) K := by
  simp only [cc0_experts_eq_skeleton]; unfold cc0_experts_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
  obtain rfl := harg3.eq_unread hf0; obtain rfl := harg4.eq_unread hf1; obtain rfl := harg5.eq_unread hf2; obtain rfl := harg6.eq_unread hf3
  obtain rfl := harg8.eq_unread hs0; obtain rfl := harg9.eq_unread hs1; obtain rfl := harg10.eq_unread hs2
  sl_exec (disch := first | sl_exact h1 | sl_exact h3 | sl_exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    refine (View.read_writes_eq_canon _ _ _ (fun y => slabStores_cover _ _ y)).trans ((canon_slabStores _ _).trans ?_)
    unfold run_kept.sl.r_3
    rw [readAt_known_whole harg8 g (by decide), readAt_known_whole harg9 u (by decide), readAt_known_whole harg10 d (by decide)]
    simp only [readAt_known]
    rfl
  isplitl [HS0]
  · iexists _; isplitr; · ipureintro; exact harg8.read_unread _
    iexact HS0
  isplitl [HS1]
  · iexists _; isplitr; · ipureintro; exact harg9.read_unread _
    iexact HS1
  isplitl [HS2]
  · iexists _; isplitr; · ipureintro; exact harg10.read_unread _
    iexact HS2
  isplitl [HT0]; · iexact HT0
  iexact HT1

end Cert.KernelIdeal.Experts

end
-- ==== Proof.Ideal.RunA.lean ====
/-
  The expert call: a tile that has rows and is the first of its expert.
-/
module

public import proofs.«01_k».proof.Proof.Ideal.RunB

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Idealize.ShloMosaic.ValueIdx (ix2)

variable {F : FTy → Type} [FloatOps F]

local notation "𝕄" => MT nD τ sig Unit (Elt F) ℕ (UR sig nD τ) ℕ

set_option maxHeartbeats 1600000 in
/-- A tile that has rows and is the first of its expert: the weights are rounded and kept. -/
theorem run_fresh (c : Dev nD) (i : grid0.Coords)
    (arg3 : Memref sig .tc .vmem S4096x128 .f32) (harg3 : arg3.IsWhole) (arg4 : Memref sig .tc .vmem S1x1x1024x1024 .f32) (harg4 : arg4.IsWhole)
    (arg5 : Memref sig .tc .vmem S1x1x1024x1024 .f32) (harg5 : arg5.IsWhole) (arg6 : Memref sig .tc .vmem S1x1x1024x1024 .f32) (harg6 : arg6.IsWhole)
    (arg7 : Memref sig .tc .vmem S4096x128 .f32) (harg7 : arg7.IsWhole) (arg8 : Memref sig .tc .vmem S1024x1024 .bf16) (harg8 : arg8.IsWhole)
    (arg9 : Memref sig .tc .vmem S1024x1024 .bf16) (harg9 : arg9.IsWhole) (arg10 : Memref sig .tc .vmem S1024x1024 .bf16) (harg10 : arg10.IsWhole)
    (x0 : Vec F S4096x128 .f32) (x1 x2 x3 : Vec F S1x1x1024x1024 .f32) (xt0 : TableBuf (F := F) c teM) (xt1 : TableBuf (F := F) c ntM)
    (h1 : Rowed c i xt1) (h3 : ¬ Rowless c i xt1) (h2 : Fresh c i xt0)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d) ∗ tableAt c teM xt0 ∗ tableAt c ntM xt1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (tileOut x0 (k0_pay11 x1) (k0_pay12 x2) (k0_pay13 x3)) ∗ owns (c : Thread nD τ) arg8 fullShare (k0_pay11 x1) ∗ owns (c : Thread nD τ) arg9 fullShare (k0_pay12 x2) ∗ owns (c : Thread nD τ) arg10 fullShare (k0_pay13 x3) ∗ tableAt c teM xt0 ∗ tableAt c ntM xt1) -∗ K ⟨⟩))
      ⊢ wp frame (wpE (defs₀ (F := F)) Variants.none c none) E (cc0_experts i teM teM_whole ntM ntM_whole arg3 harg3 arg4 harg4 arg5 harg5 arg6 harg6 arg7 harg7 arg8 harg8 arg9 harg9 arg10 harg10) K := by
  simp only [cc0_experts_eq_skeleton]; unfold cc0_experts_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, HT1, Hk⟩
  obtain rfl := harg3.eq_unread hf0; obtain rfl := harg4.eq_unread hf1; obtain rfl := harg5.eq_unread hf2; obtain rfl := harg6.eq_unread hf3
  sl_exec (disch := first | sl_exact h1 | sl_exact h3 | sl_exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    refine (View.read_writes_eq_canon _ _ _ (fun y => slabStores_cover _ _ y)).trans ((canon_slabStores _ _).trans ?_)
    have e8 : run_fresh.sl.v28 c arg4 harg4 arg8 x1 = k0_pay11 x1 :=
      (View.readCov_unit_zero _ (by decide) _ _).trans (congrArg k0_pay11 (readAt_known_whole harg4 x1 (by decide) _))
    have e9 : run_fresh.sl.v30 c arg5 harg5 arg9 x2 = k0_pay12 x2 :=
      (View.readCov_unit_zero _ (by decide) _ _).trans (congrArg k0_pay12 (readAt_known_whole harg5 x2 (by decide) _))
    have e10 : run_fresh.sl.v39 c arg6 harg6 arg10 x3 = k0_pay13 x3 :=
      (View.readCov_unit_zero _ (by decide) _ _).trans (congrArg k0_pay13 (readAt_known_whole harg6 x3 (by decide) _))
    unfold run_fresh.sl.r_3
    rw [e8, e9, e10]
    simp only [readAt_known]
    rfl
  isplitl [HS0]
  · iexists _; isplitr; swap; · iexact HS0
    ipureintro
    refine (read_whole_store _ _ (by decide) _ _).trans ?_
    rw [readAt_known_whole harg4 x1 (by decide)]
  isplitl [HS1]
  · iexists _; isplitr; swap; · iexact HS1
    ipureintro
    refine (read_whole_store _ _ (by decide) _ _).trans ?_
    rw [readAt_known_whole harg5 x2 (by decide)]
  isplitl [HS2]
  · iexists _; isplitr; swap; · iexact HS2
    ipureintro
    refine (read_whole_store _ _ (by decide) _ _).trans ?_
    rw [readAt_known_whole harg6 x3 (by decide)]
  isplitl [HT0]; · iexact HT0
  iexact HT1

end Cert.KernelIdeal.Experts

end
-- ==== Proof.Ideal.Points.lean ====
/-
  The expert call: what holds from point to point.  Once a tile with rows is through, the three scratch
  buffers hold its expert's weights rounded to half width; the next tile either has the same expert, and finds them, or
  loads its own.
-/
module

public import proofs.«01_k».proof.Proof.Ideal.RunA
public import Idealize.ShloMosaic.Lib.Claim

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The branches, as arithmetic -/

/-- A bit widened and compared with zero is the bit. -/
theorem widened_bit : ∀ b : BitVec 1, Scalar.cmpi .ne (Scalar.extui b : BitVec 32) 0#32 = b := by decide

theorem rowed_iff (c : Dev nD) (i : grid0.Coords) (xt1 : TableBuf (F := F) c ntM) :
    Rowed c i xt1 ↔ (((i 0).val : ℕ) : ℤ) < (ntWord c xt1).toInt := by
  have hi : (i 0).val < 144 := (i 0).isLt
  have hw : (BitVec.ofNat 32 (i 0).val).toInt = ((i 0).val : ℤ) := WordCmp.toInt_ofNat_of_lt (by omega)
  change Scalar.cmpi .ne (Scalar.extui (Scalar.cmpi .slt (BitVec.ofNat 32 (i 0).val) (ntWord c xt1)) : BitVec 32) 0#32 = 1#1 ↔ _
  rw [widened_bit]
  show BitVec.ofBool (BitVec.slt (BitVec.ofNat 32 (i 0).val) (ntWord c xt1)) = 1#1 ↔ _
  rw [BitVec.slt_eq_decide, hw]
  by_cases h : ((i 0).val : ℤ) < (ntWord c xt1).toInt <;> simp [h]

theorem rowless_iff (c : Dev nD) (i : grid0.Coords) (xt1 : TableBuf (F := F) c ntM) :
    Rowless c i xt1 ↔ ¬ Rowed c i xt1 := by
  have hi : (i 0).val < 144 := (i 0).isLt
  have hw : (BitVec.ofNat 32 (i 0).val).toInt = ((i 0).val : ℤ) := WordCmp.toInt_ofNat_of_lt (by omega)
  rw [rowed_iff]
  change Scalar.cmpi .ne (Scalar.extui (Scalar.cmpi .sge (BitVec.ofNat 32 (i 0).val) (ntWord c xt1)) : BitVec 32) 0#32 = 1#1 ↔ _
  rw [widened_bit]
  show BitVec.ofBool (BitVec.sle (ntWord c xt1) (BitVec.ofNat 32 (i 0).val)) = 1#1 ↔ _
  rw [BitVec.sle_eq_decide, hw]
  by_cases h : ((i 0).val : ℤ) < (ntWord c xt1).toInt
  · rw [decide_eq_false (not_le.mpr h)]; simp [h]
  · rw [decide_eq_true (not_lt.mp h)]; simp [h]

/-- A read of one entry depends on the place alone. -/
theorem entry_at {c : Dev nD} (xt0 : TableBuf (F := F) c teM) {o o' : Fin 1 → Nat} (h : o = o') (inb : ∀ a, o a + S1.size a ≤ S144.size a)
    (inb' : ∀ a, o' a + S1.size a ≤ S144.size a) (j : S1.Idx) :
    teM.view.readAt (Elt F) (Rect.unit (s := S144) o S1.size inb).toLoadRect xt0 j
      = teM.view.readAt (Elt F) (Rect.unit (s := S144) o' S1.size inb').toLoadRect xt0 j := by
  subst h; rfl

theorem place_before : ∀ n : Fin 144, n.val ≠ 0 →
    (Scalar.indexCast (Scalar.maxsi (Scalar.subi (BitVec.ofNat 32 n.val) 1#32) 0#32) : Index).toNat
      = (Scalar.indexCast (BitVec.ofNat 32 (n.val - 1)) : Index).toNat := by decide +kernel

theorem off_before (i i' : grid0.Coords) (h0 : (i 0).val ≠ 0) (h : (i' 0).val = (i 0).val - 1) : k0_off3 i = k0_off2 i' := by
  unfold k0_off3 k0_off2
  simp only
  rw [h, place_before ⟨(i 0).val, (i 0).isLt⟩ h0]

theorem tePrev_eq (c : Dev nD) (i i' : grid0.Coords) (xt0 : TableBuf (F := F) c teM) (h0 : (i 0).val ≠ 0) (h : (i' 0).val = (i 0).val - 1) :
    tePrev c i xt0 = teWord c i' xt0 :=
  entry_at xt0 (off_before i i' h0 h) _ _ _

/-- A tile that is not the first of its expert is not the first tile, and has the expert of the tile before. -/
theorem not_fresh {c : Dev nD} {i : grid0.Coords} {xt0 : TableBuf (F := F) c teM} (h : ¬ Fresh c i xt0) :
    (i 0).val ≠ 0 ∧ teWord c i xt0 = tePrev c i xt0 := by
  unfold Fresh at h
  rw [widened_bit] at h
  constructor
  · intro h0
    apply h
    rw [h0]
    show IntOp.ori (BitVec.ofBool (0#32 == 0#32)) _ = 1#1
    generalize Scalar.cmpi _ _ _ = b
    revert b; decide
  · by_contra hne
    apply h
    have : Scalar.cmpi .ne (teWord c i xt0) (tePrev c i xt0) = 1#1 := by
      show BitVec.ofBool (teWord c i xt0 != tePrev c i xt0) = 1#1
      rw [show (teWord c i xt0 != tePrev c i xt0) = true from bne_iff_ne.mpr hne]; rfl
    rw [this]
    generalize Scalar.cmpi _ _ _ = b
    revert b; decide

variable (m : (ℓ : Loc nD τ sig) → Buf (Elt F) ℓ) (ρ : Dev nD → PrngReg)

/-! ## The contents after each point -/

/-- The result's block after point `t`. -/
def tileAt (hO : Fits m) (c : Dev nD) (t : Fin (pipe m hO).N) : Vec F S4096x128 .f32 :=
  if Rowed c (grid0.coords t) (tables m 1) then
    tileOut (block m hO c 0 t) (k0_pay11 (block m hO c 1 t)) (k0_pay12 (block m hO c 2 t)) (k0_pay13 (block m hO c 3 t))
  else k0_pay10

/-- The kept weights before point `n` are those of the point before, if that one had rows. -/
def Kept (hO : Fits m) (c : Dev nD) (n : ℕ) (g u d : Vec F S1024x1024 .bf16) : Prop :=
  ∀ t : Fin (pipe m hO).N, t.val + 1 = n → Rowed c (grid0.coords t) (tables m 1) →
    g = k0_pay11 (block m hO c 1 t) ∧ u = k0_pay12 (block m hO c 2 t) ∧ d = k0_pay13 (block m hO c 3 t)

/-- What the body is handed from point to point. -/
def Between (hO : Fits m) (c : Dev nD) (n : ℕ) : sProp 𝕄 :=
  iprop(iprop((∃ g u d, ⌜Kept m hO c n g u d⌝ ∗ owns (c : Thread nD τ) sgM fullShare g ∗ owns (c : Thread nD τ) suM fullShare u ∗ owns (c : Thread nD τ) sdM fullShare d)
    ∗ (∃ r, prngReg c r)) ∗ Pipeline.ΦT pre0 (tables m) c)

def dats (hO : Fits m) (_ : Fin 1) (c : Dev nD) : Dat τ (Elt F) Unit ℕ (UR sig nD τ) ℕ (pipe m hO) c where
  A w := entry m c (Pipeline.arrRef spec0 w)
  after w t := match w with
    | ⟨0, _⟩ => block m hO c 0 t
    | ⟨1, _⟩ => block m hO c 1 t
    | ⟨2, _⟩ => block m hO c 2 t
    | ⟨3, _⟩ => block m hO c 3 t
    | ⟨4, _⟩ => tileAt m hO c t
  Φ t := Between m hO c t.val
  q _ := fullShare
  owed _ := 0

theorem A_eq (hO : Fits m) (c : Dev nD) (w : Fin (pipe m hO).W) : (dats m hO 0 c).A w = entry m c (Pipeline.arrRef spec0 w) := by
  dsimp only [dats]

theorem after_0 (hO : Fits m) (c : Dev nD) (t : Fin (pipe m hO).N) : (dats m hO 0 c).after 0 t = block m hO c 0 t := by dsimp only [dats]; try rfl
theorem after_1 (hO : Fits m) (c : Dev nD) (t : Fin (pipe m hO).N) : (dats m hO 0 c).after 1 t = block m hO c 1 t := by dsimp only [dats]; try rfl
theorem after_2 (hO : Fits m) (c : Dev nD) (t : Fin (pipe m hO).N) : (dats m hO 0 c).after 2 t = block m hO c 2 t := by dsimp only [dats]; try rfl
theorem after_3 (hO : Fits m) (c : Dev nD) (t : Fin (pipe m hO).N) : (dats m hO 0 c).after 3 t = block m hO c 3 t := by dsimp only [dats]; try rfl
theorem after_4 (hO : Fits m) (c : Dev nD) (t : Fin (pipe m hO).N) : (dats m hO 0 c).after 4 t = tileAt m hO c t := by dsimp only [dats]; try rfl

theorem before_0 (hO : Fits m) (c : Dev nD) (t : Fin (pipe m hO).N) (d) : (dats m hO 0 c).before 0 t d = block m hO c 0 t :=
  found_0 m hO (dats m hO 0 c) (A_eq m hO c 0) (after_0 m hO c) t d
theorem before_1 (hO : Fits m) (c : Dev nD) (t : Fin (pipe m hO).N) (d) : (dats m hO 0 c).before 1 t d = block m hO c 1 t :=
  found_1 m hO (dats m hO 0 c) (A_eq m hO c 1) (after_1 m hO c) t d
theorem before_2 (hO : Fits m) (c : Dev nD) (t : Fin (pipe m hO).N) (d) : (dats m hO 0 c).before 2 t d = block m hO c 2 t :=
  found_2 m hO (dats m hO 0 c) (A_eq m hO c 2) (after_2 m hO c) t d
theorem before_3 (hO : Fits m) (c : Dev nD) (t : Fin (pipe m hO).N) (d) : (dats m hO 0 c).before 3 t d = block m hO c 3 t :=
  found_3 m hO (dats m hO 0 c) (A_eq m hO c 3) (after_3 m hO c) t d

/-! ## The same expert, the same blocks -/

theorem index_1 (hO : Fits m) (c : Dev nD) (t : Fin (pipe m hO).N) :
    ((pipe m hO).win 1).index t = ![0, (teWord c (grid0.coords t) (tables m 0)).toNat, 0, 0] := rfl
theorem index_2 (hO : Fits m) (c : Dev nD) (t : Fin (pipe m hO).N) :
    ((pipe m hO).win 2).index t = ![0, (teWord c (grid0.coords t) (tables m 0)).toNat, 0, 0] := rfl
theorem index_3 (hO : Fits m) (c : Dev nD) (t : Fin (pipe m hO).N) :
    ((pipe m hO).win 3).index t = ![0, (teWord c (grid0.coords t) (tables m 0)).toNat, 0, 0] := rfl

theorem fetched_1 (hO : Fits m) (c : Dev nD) (t : Fin (pipe m hO).N) (d) : (dats m hO 0 c).fetched 1 t d = block m hO c 1 t := by
  unfold Dat.fetched Dat.blockOf block; rw [A_eq]; rfl
theorem fetched_2 (hO : Fits m) (c : Dev nD) (t : Fin (pipe m hO).N) (d) : (dats m hO 0 c).fetched 2 t d = block m hO c 2 t := by
  unfold Dat.fetched Dat.blockOf block; rw [A_eq]; rfl
theorem fetched_3 (hO : Fits m) (c : Dev nD) (t : Fin (pipe m hO).N) (d) : (dats m hO 0 c).fetched 3 t d = block m hO c 3 t := by
  unfold Dat.fetched Dat.blockOf block; rw [A_eq]; rfl

theorem clip_1 (hO : Fits m) (i : grid0.Coords) : ((pipe m hO).win 1).clip i = fun _ => none := rfl
theorem same_1 (hO : Fits m) (c : Dev nD) (t t' : Fin (pipe m hO).N) (h : teWord c (grid0.coords t) (tables m 0) = teWord c (grid0.coords t') (tables m 0)) :
    (block m hO c 1 t : Vec F S1x1x1024x1024 .f32) = block m hO c 1 t' := by
  have hd : ∀ d : ((pipe m hO).win 1).block.Idx → Elt F ((pipe m hO).win 1).elt, (dats m hO 0 c).fetched 1 t d = (dats m hO 0 c).fetched 1 t' d :=
    fun d => (dats m hO 0 c).fetched_congr 1 (by rw [index_1 m hO c t, index_1 m hO c t', h]) ((clip_1 m hO (grid0.coords t)).trans (clip_1 m hO (grid0.coords t')).symm) d
  have := hd (block m hO c 1 t)
  rwa [fetched_1, fetched_1] at this
theorem clip_2 (hO : Fits m) (i : grid0.Coords) : ((pipe m hO).win 2).clip i = fun _ => none := rfl
theorem same_2 (hO : Fits m) (c : Dev nD) (t t' : Fin (pipe m hO).N) (h : teWord c (grid0.coords t) (tables m 0) = teWord c (grid0.coords t') (tables m 0)) :
    (block m hO c 2 t : Vec F S1x1x1024x1024 .f32) = block m hO c 2 t' := by
  have hd : ∀ d : ((pipe m hO).win 2).block.Idx → Elt F ((pipe m hO).win 2).elt, (dats m hO 0 c).fetched 2 t d = (dats m hO 0 c).fetched 2 t' d :=
    fun d => (dats m hO 0 c).fetched_congr 2 (by rw [index_2 m hO c t, index_2 m hO c t', h]) ((clip_2 m hO (grid0.coords t)).trans (clip_2 m hO (grid0.coords t')).symm) d
  have := hd (block m hO c 2 t)
  rwa [fetched_2, fetched_2] at this
theorem clip_3 (hO : Fits m) (i : grid0.Coords) : ((pipe m hO).win 3).clip i = fun _ => none := rfl
theorem same_3 (hO : Fits m) (c : Dev nD) (t t' : Fin (pipe m hO).N) (h : teWord c (grid0.coords t) (tables m 0) = teWord c (grid0.coords t') (tables m 0)) :
    (block m hO c 3 t : Vec F S1x1x1024x1024 .f32) = block m hO c 3 t' := by
  have hd : ∀ d : ((pipe m hO).win 3).block.Idx → Elt F ((pipe m hO).win 3).elt, (dats m hO 0 c).fetched 3 t d = (dats m hO 0 c).fetched 3 t' d :=
    fun d => (dats m hO 0 c).fetched_congr 3 (by rw [index_3 m hO c t, index_3 m hO c t', h]) ((clip_3 m hO (grid0.coords t)).trans (clip_3 m hO (grid0.coords t')).symm) d
  have := hd (block m hO c 3 t)
  rwa [fetched_3, fetched_3] at this

theorem coord_val (hO : Fits m) (t : Fin (pipe m hO).N) : (grid0.coords t 0).val = t.val := by
  have h : t.val < 144 := lt_of_lt_of_eq t.isLt (show (pipe m hO).N = 144 from N_0)
  exact (Pipeline.Grid.coords_val t 0 (show grid0.stride 0 = 1 by decide) (show grid0.bound 0 = 144 from rfl)).trans (by show t.val / 1 % 144 = t.val; omega)

/-- At a tile with rows that is not the first of its expert, the kept weights are the tile's. -/
theorem kept_here (hO : Fits m) (c : Dev nD) (t : Fin (pipe m hO).N) {g u d : Vec F S1024x1024 .bf16} (hk : Kept m hO c t.val g u d)
    (h1 : Rowed c (grid0.coords t) (tables m 1)) (h2 : ¬ Fresh c (grid0.coords t) (tables m 0)) :
    g = k0_pay11 (block m hO c 1 t) ∧ u = k0_pay12 (block m hO c 2 t) ∧ d = k0_pay13 (block m hO c 3 t) := by
  obtain ⟨h0, he⟩ := not_fresh h2
  have hv := coord_val m hO t
  rw [hv] at h0
  let t' : Fin (pipe m hO).N := ⟨t.val - 1, lt_of_le_of_lt (Nat.sub_le _ _) t.isLt⟩
  have hv' := coord_val m hO t'
  rw [tePrev_eq c (grid0.coords t) (grid0.coords t') (tables m 0) (by rw [hv]; exact h0) (by rw [hv, hv'])] at he
  have h1' : Rowed c (grid0.coords t') (tables m 1) := by
    have h1 := (rowed_iff (F := F) c _ _).mp h1
    refine (rowed_iff (F := F) c _ _).mpr ?_
    rw [hv']; rw [hv] at h1
    have : (t'.val : ℤ) ≤ t.val := by exact_mod_cast Nat.sub_le _ _
    omega
  rw [same_1 m hO c t t' he, same_2 m hO c t t' he, same_3 m hO c t t' he]
  exact hk t' (show t.val - 1 + 1 = t.val by omega) h1'

/-- After a tile with rows the weights kept are its own. -/
theorem kept_next (hO : Fits m) (c : Dev nD) (t : Fin (pipe m hO).N) :
    Kept m hO c (t.val + 1) (k0_pay11 (block m hO c 1 t)) (k0_pay12 (block m hO c 2 t)) (k0_pay13 (block m hO c 3 t)) := by
  intro t' ht _
  obtain rfl : t' = t := Fin.ext (Nat.succ.inj ht)
  exact ⟨rfl, rfl, rfl⟩

/-- After a tile without, nothing is claimed. -/
theorem kept_none (hO : Fits m) (c : Dev nD) (t : Fin (pipe m hO).N) (h : ¬ Rowed c (grid0.coords t) (tables m 1)) (g u d : Vec F S1024x1024 .bf16) :
    Kept m hO c (t.val + 1) g u d := by
  intro t' ht h'
  obtain rfl : t' = t := Fin.ext (Nat.succ.inj ht)
  exact absurd h' h

/-! ## The body at a point -/

def bodyPre (hO : Fits m) (c : Dev nD) (t : Fin (pipe m hO).N) : sProp 𝕄 :=
  iprop((dats m hO 0 c).Φ t.castSucc ∗ (dats m hO 0 c).owesAt () t.castSucc
    ∗ (∃ d, owns (c : Thread nD τ) (xsM m hO t) fullShare ((dats m hO 0 c).before 0 t d))
    ∗ (∃ d, owns (c : Thread nD τ) (wgM m hO t) fullShare ((dats m hO 0 c).before 1 t d))
    ∗ (∃ d, owns (c : Thread nD τ) (wuM m hO t) fullShare ((dats m hO 0 c).before 2 t d))
    ∗ (∃ d, owns (c : Thread nD τ) (wdM m hO t) fullShare ((dats m hO 0 c).before 3 t d))
    ∗ (∃ d, owns (c : Thread nD τ) (ysM m hO t) fullShare ((dats m hO 0 c).before 4 t d)))

def bodyPost (hO : Fits m) (c : Dev nD) (t : Fin (pipe m hO).N) : sProp 𝕄 :=
  iprop((dats m hO 0 c).Φ t.succ ∗ (dats m hO 0 c).owesAt () t.succ
    ∗ owns (c : Thread nD τ) (xsM m hO t) fullShare ((dats m hO 0 c).after 0 t)
    ∗ owns (c : Thread nD τ) (wgM m hO t) fullShare ((dats m hO 0 c).after 1 t)
    ∗ owns (c : Thread nD τ) (wuM m hO t) fullShare ((dats m hO 0 c).after 2 t)
    ∗ owns (c : Thread nD τ) (wdM m hO t) fullShare ((dats m hO 0 c).after 3 t)
    ∗ owns (c : Thread nD τ) (ysM m hO t) fullShare ((dats m hO 0 c).after 4 t))

set_option maxHeartbeats 6400000 in
theorem body_runs (hO : Fits m) (c : Dev nD) (t : Fin (pipe m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3]
  rw [show (dats m hO 0 c).owesAt () t.succ = (dats m hO 0 c).owesAt () t.castSucc from rfl,
    after_0, after_1, after_2, after_3, after_4]
  rw [show (dats m hO 0 c).Φ t.succ = Between m hO c (t.val + 1) from rfl,
    show (dats m hO 0 c).Φ t.castSucc = Between m hO c t.val from rfl]
  unfold Between
  rw [tables_held]
  by_cases h1 : Rowed c (grid0.coords t) (tables m 1)
  · have h3 : ¬ Rowless c (grid0.coords t) (tables m 1) := fun h => (rowless_iff _ _ _).mp h h1
    rw [show tileAt m hO c t = tileOut (block m hO c 0 t) (k0_pay11 (block m hO c 1 t)) (k0_pay12 (block m hO c 2 t)) (k0_pay13 (block m hO c 3 t)) from if_pos h1]
    by_cases h2 : Fresh c (grid0.coords t) (tables m 0)
    · iintro ⟨⟨⟨⟨%g, %u, %d, -, HS0, HS1, HS2⟩, Hg⟩, ⟨HT0, HT1⟩⟩, Ho, ⟨%d0, H0⟩, ⟨%d1, H1⟩, ⟨%d2, H2⟩, ⟨%d3, H3⟩, ⟨%d4, H4⟩⟩
      iapply (run_fresh c (grid0.coords t) _ _ _ _ _ _ _ _ _ _ _ _ _ _ _ _ (block m hO c 0 t) (block m hO c 1 t) (block m hO c 2 t) (block m hO c 3 t) (tables m 0) (tables m 1) h1 h3 h2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      isplitl [HS2]; · iexists _; iexact HS2
      isplitl [HT0]; · iexact HT0
      isplitl [HT1]; · iexact HT1
      iintro ⟨H0, H1, H2, H3, H4, HS0, HS1, HS2, HT0, HT1⟩
      isplitl [HS0 HS1 HS2 Hg HT0 HT1]
      · isplitl [HS0 HS1 HS2 Hg]
        · isplitl [HS0 HS1 HS2]
          · iexists _, _, _; isplitr; · ipureintro; exact kept_next m hO c t
            isplitl [HS0]; · iexact HS0
            isplitl [HS1]; · iexact HS1
            iexact HS2
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · iintro ⟨⟨⟨⟨%g, %u, %d, %hk, HS0, HS1, HS2⟩, Hg⟩, ⟨HT0, HT1⟩⟩, Ho, ⟨%d0, H0⟩, ⟨%d1, H1⟩, ⟨%d2, H2⟩, ⟨%d3, H3⟩, ⟨%d4, H4⟩⟩
      obtain ⟨rfl, rfl, rfl⟩ := kept_here m hO c t hk h1 h2
      iapply (run_kept c (grid0.coords t) _ _ _ _ _ _ _ _ _ _ _ _ _ _ _ _ (block m hO c 0 t) (block m hO c 1 t) (block m hO c 2 t) (block m hO c 3 t) (tables m 0) (tables m 1) _ _ _ h1 h3 h2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HT0]; · iexact HT0
      isplitl [HT1]; · iexact HT1
      iintro ⟨H0, H1, H2, H3, H4, HS0, HS1, HS2, HT0, HT1⟩
      isplitl [HS0 HS1 HS2 Hg HT0 HT1]
      · isplitl [HS0 HS1 HS2 Hg]
        · isplitl [HS0 HS1 HS2]
          · iexists _, _, _; isplitr; · ipureintro; exact kept_next m hO c t
            isplitl [HS0]; · iexact HS0
            isplitl [HS1]; · iexact HS1
            iexact HS2
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
  · have h3 : Rowless c (grid0.coords t) (tables m 1) := (rowless_iff _ _ _).mpr h1
    rw [show tileAt m hO c t = k0_pay10 from if_neg h1]
    iintro ⟨⟨⟨⟨%g, %u, %d, -, HS0, HS1, HS2⟩, Hg⟩, ⟨HT0, HT1⟩⟩, Ho, ⟨%d0, H0⟩, ⟨%d1, H1⟩, ⟨%d2, H2⟩, ⟨%d3, H3⟩, ⟨%d4, H4⟩⟩
    iapply (run_rowless c (grid0.coords t) _ _ _ _ _ _ _ _ _ _ _ _ _ _ _ _ (block m hO c 0 t) (block m hO c 1 t) (block m hO c 2 t) (block m hO c 3 t) (tables m 0) (tables m 1) h1 h3 Set.univ _)
    isplitl [H0]; · iexact H0
    isplitl [H1]; · iexact H1
    isplitl [H2]; · iexact H2
    isplitl [H3]; · iexact H3
    isplitl [H4]; · iexists _; iexact H4
    isplitl [HS0]; · iexists _; iexact HS0
    isplitl [HS1]; · iexists _; iexact HS1
    isplitl [HS2]; · iexists _; iexact HS2
    isplitl [HT0]; · iexact HT0
    isplitl [HT1]; · iexact HT1
    iintro ⟨H0, H1, H2, H3, H4, ⟨%g', HS0⟩, ⟨%u', HS1⟩, ⟨%d', HS2⟩, HT0, HT1⟩
    isplitl [HS0 HS1 HS2 Hg HT0 HT1]
    · isplitl [HS0 HS1 HS2 Hg]
      · isplitl [HS0 HS1 HS2]
        · iexists _, _, _; isplitr; · ipureintro; exact kept_none m hO c t h1 g' u' d'
          isplitl [HS0]; · iexact HS0
          isplitl [HS1]; · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4

theorem defs_row (hO : Fits m) (t : Fin (pipe m hO).N) :
    defs₀ (F := F) .tc (pipe m hO).body ((pipe m hO).bodyArgs t ((pipe m hO).slots t)) = bodyAt m hO t := by
  unfold defs₀; rw [Defs.onTc_tc]

end Cert.KernelIdeal.Experts

end
-- ==== Proof.Ideal.Whole.lean ====
/-
  The expert call: the whole run, from the launch to the result's array.
-/
module

public import proofs.«01_k».proof.Proof.Ideal.Points
public import Idealize.ShloMosaic.Lib.Claim

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
theorem body_obligation (hO : Fits m) (c : Dev nD) : BodyObligation (dats (F := F) m hO 0 c) (defs₀ (F := F)) Variants.none () Set.univ := fun t => by
  rw [bigSep_W0, bigSep_W0, defs_row m hO]
  have hf : ((pipe m hO).win (4 : Fin 5)).flush t = true := writes_back (fitting m hO) t
  rw [hf]
  generalize (pipe m hO).idle (4 : Fin 5) ((pipe m hO).grid.coords t) = b
  cases b
  · exact triple_restated (body_runs m hO c t) rfl .rfl fun _ => .rfl
  · exact triple_restated (body_runs m hO c t) rfl .rfl fun _ => .rfl

theorem enters (hO : Fits m) (c : Dev nD) : iprop(Pipeline.ΦA spec0 c ∗ Pipeline.ΦT pre0 (tables m) c) ⊢ (dats m hO 0 c).Φ 0 := by
  rw [show (dats m hO 0 c).Φ 0 = Between m hO c 0 from rfl, scratch_held]
  unfold Between
  iintro ⟨⟨⟨⟨%g, HS0⟩, ⟨%u, HS1⟩, ⟨%d, HS2⟩⟩, Hg⟩, HT⟩
  isplitl [HS0 HS1 HS2 Hg]
  · isplitl [HS0 HS1 HS2]
    · iexists g, u, d; isplitr; · ipureintro; exact fun t h => absurd h (Nat.succ_ne_zero _)
      isplitl [HS0]; · iexact HS0
      isplitl [HS1]; · iexact HS1
      iexact HS2
    iexact Hg
  iexact HT

theorem leaves (hO : Fits m) (c : Dev nD) : (dats m hO 0 c).Φ (Fin.last (pipe m hO).N) ⊢ Pipeline.ΦA spec0 c := by
  rw [show (dats m hO 0 c).Φ (Fin.last (pipe m hO).N) = Between m hO c (pipe m hO).N from rfl, scratch_held]
  unfold Between
  iintro ⟨⟨⟨%g, %u, %d, -, HS0, HS1, HS2⟩, Hg⟩, -⟩
  isplitl [HS0 HS1 HS2]
  · isplitl [HS0]; · iexists _; iexact HS0
    isplitl [HS1]; · iexists _; iexact HS1
    iexists _; iexact HS2
  iexact Hg

/-! ## The run -/

set_option backward.isDefEq.respectTransparency.types false in
/-- Every run ends, with the pipeline's arrays at what the points wrote and every counter at zero. -/
theorem runs (hO : Fits m) : θ_run defs (onTc (τ := τ) (main (F := F))) (s₀ m ρ) (fun r => Pipeline.FramePost (Pipeline.pin pcfgs fun _ => fitting m hO) (dats m hO) 0 (entry m) r ∧ r.2.sem = fun _ => 0) :=
  Pipeline.θ_run_frameP_track (Q' := _) pcfgs (fun _ => fitting m hO) (dats m hO) (0 : Fin 1) launch0 defs₀ Variants.none m ρ main
    (hbody := fun c => (body_obligation m hO c).loose) (hshare := fun c => (dats m hO 0 c).share_full fun _ => rfl)
    (howed := fun _ _ => rfl) (V := entry m) (hmain := main_entry m Variants.none) (hA := A_eq m hO) (hpf := entry_table m) (hin := enters m hO) (hout := leaves m hO)

/-- The arguments are left as they were, and every counter at zero; the result is what the points wrote. -/
theorem frame_value (hO : Fits m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc (Pipeline.arrRef spec0 4)) = (dats m hO 0 c).arrAt 4 (pipe m hO).N) ∧ r.2.sem = fun _ => 0) := by
  refine (θ_run defs _ _).mono (fun r h => ⟨fun c => ?_, h.2⟩) (runs m ρ hO)
  obtain ⟨hw, hr⟩ := h.1 c
  refine ⟨(hr main_arg0 (by decide : main_arg0 ∈ Pipeline.restRefs sig spec0)).trans (entry_arg0 m c), ?_, ?_, ?_, ?_, ?_, hw 4⟩
  · exact (hr main_arg1 (by decide : main_arg1 ∈ Pipeline.restRefs sig spec0)).trans (entry_arg1 m c)
  · exact (hw 0).trans (((dats m hO 0 c).arrAt_in 0 rfl _).trans ((A_eq m hO c 0).trans (entry_arg2 m c)))
  · exact (hw 1).trans (((dats m hO 0 c).arrAt_in 1 rfl _).trans ((A_eq m hO c 1).trans (entry_arg3 m c)))
  · exact (hw 2).trans (((dats m hO 0 c).arrAt_in 2 rfl _).trans ((A_eq m hO c 2).trans (entry_arg4 m c)))
  · exact (hw 3).trans (((dats m hO 0 c).arrAt_in 3 rfl _).trans ((A_eq m hO c 3).trans (entry_arg5 m c)))

end Cert.KernelIdeal.Experts

end
-- ==== Proof.Ideal.Tables.lean ====
/- The two tables the pipeline reads, and that the precondition makes every block they name exist. -/
module

public import proofs.«01_k».proof.Proof.Ideal.Whole
public import proofs.«01_k».proof.Proof.Decode

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.Sem
open Idealize.ShloMosaic.ValueIdx (ix1)

variable {F : FTy → Type} [FloatOps F]

variable (m : (ℓ : Loc nD τ sig) → Buf (Elt F) ℓ)

/-- The word a tile's expert is looked up at: the tile's number, at most the last tile that has rows. -/
def spot (a1 : IVec S1 32) : IVec S144 32 :=
  minsi (iotaInDim S144 32 0) (broadcastInDim S144 ![] bcast_S_S144 (subi (shapeCast S_ a1 shapeCasts_S1_S_) (constantI S_ 32 1#32)))

/-- The look-ups' places, as the host lines spell them. -/
def places (a1 : IVec S1 32) : IVec S144x1 32 :=
  broadcastInDim S144x1 ![0] bcast_S144_S144x1_0
    (select (cmpi .slt (spot a1) (broadcastInDim S144 ![] bcast_S_S144 (constantI S_ 32 0#32)))
      (addi (spot a1) (broadcastInDim S144 ![] bcast_S_S144 (constantI S_ 32 144#32))) (spot a1))

/-- The expert table as the host lines leave it. -/
def looked (a0 : IVec S144 32) (a1 : IVec S1 32) : IVec S144 32 :=
  Host.gather gather_S144_S144x1_S144_n_0_n_n_0_1_1 a0 (places a1)

set_option maxHeartbeats 1600000 in
theorem table_0 : tables m 0 = looked (m (((0 : Dev nD) : Thread nD τ).loc main_arg0)) (m (((0 : Dev nD) : Thread nD τ).loc main_arg1)) := by
  show StableHlo.after hostOps0 _ (Proc.devRef .tc main_v11) = _
  unfold looked places spot
  simp only [hostOps0]
  after_results_simp <;> rfl

theorem table_1 : tables m 1 = m (((0 : Dev nD) : Thread nD τ).loc main_arg1) := entry_arg1 m 0

theorem spot_val (a1 : IVec S1 32) (h1 : 1 ≤ (Cert.Routed.count a1).toNat) (h144 : (Cert.Routed.count a1).toNat < 2 ^ 31) (p : Fin 144) :
    (spot a1 (ix1 p)).toNat = min p.val ((Cert.Routed.count a1).toNat - 1) := by
  have hp := p.isLt
  show (IntOp.minsi (BitVec.ofNat 32 p.val) (a1 _ - 1#32)).toNat = _
  rw [Cert.Routed.at_zero a1]
  have hs : (Cert.Routed.count a1 - 1#32).toNat = (Cert.Routed.count a1).toNat - 1 := by
    rw [BitVec.toNat_sub_of_le (by rw [BitVec.le_def]; exact h1)]; rfl
  rw [WordArith.toNat_minsi_of_lt _ _ (by rw [BitVec.toNat_ofNat]; omega) (by omega), hs, BitVec.toNat_ofNat]
  omega

theorem looked_apply (a0 : IVec S144 32) (a1 : IVec S1 32) (h1 : 1 ≤ (Cert.Routed.count a1).toNat) (h144 : (Cert.Routed.count a1).toNat < 2 ^ 31)
    (p : Fin 144) : looked a0 a1 (ix1 p) = a0 (ix1 ⟨min p.val ((Cert.Routed.count a1).toNat - 1), by omega⟩) := by
  have hp := p.isLt
  have hv := spot_val a1 h1 h144 p
  have hi : (spot a1 (ix1 p)).toInt = (spot a1 (ix1 p)).toNat := StableHlo.Predicate.toInt_eq_toNat_of_lt (by omega)
  have hw : places a1 (StableHlo.Predicate.ixP p) = spot a1 (ix1 p) := by
    unfold places
    rw [StableHlo.Predicate.bcast_col1]
    show Scalar.select (IntOp.cmpi .slt (spot a1 (ix1 p)) 0#32) _ _ = _
    rw [show IntOp.cmpi .slt (spot a1 (ix1 p)) 0#32 = 0#1 from ValueIdx.eq_zero_of_ne_one fun h => by
      have := Cert.Routed.slt_iff.mp h
      rw [show (0#32 : BitVec 32).toInt = 0 from by decide] at this
      omega]
    rfl
  have e := StableHlo.Predicate.gather_take gather_S144_S144x1_S144_n_0_n_n_0_1_1 rfl rfl rfl rfl a0 (places a1) p (by decide)
  refine Eq.trans (congrArg (looked a0 a1) (a₂ := Shape.Idx.ofFin p) (funext fun a => ?_)) (e.trans (congrArg a0 (funext fun a => ?_)))
  · obtain rfl : a = 0 := Subsingleton.elim (α := Fin 1) _ _
    rfl
  obtain rfl : a = 0 := Subsingleton.elim (α := Fin 1) _ _
  refine Fin.ext ?_
  show min (places a1 (StableHlo.Predicate.ixP p)).toInt.toNat (144 - 1) = min p.val ((Cert.Routed.count a1).toNat - 1)
  rw [hw, hi, Int.toNat_natCast, hv]
  omega

/-! ## The blocks exist -/

abbrev arg0 : IVec S144 32 := m (((0 : Dev nD) : Thread nD τ).loc main_arg0)
abbrev arg1 : IVec S1 32 := m (((0 : Dev nD) : Thread nD τ).loc main_arg1)
/-- The number of tiles that have rows. -/
abbrev live : ℕ := (Cert.Routed.count (arg1 m)).toNat

theorem table_1_at (i : S1.Idx) : tables m 1 i = Cert.Routed.count (arg1 m) :=
  (congrFun (table_1 m) i).trans (Cert.Routed.at_zero (arg1 m) i)

theorem below (i : grid0.Coords) (k : ℕ) : min (i 0).val k < 144 := by
  have hi : (i 0).val < 144 := (i 0).isLt
  omega

theorem below_144 (i : S144.Idx) (k : ℕ) : min (i 0).val k < 144 := by
  have hi : (i 0).val < 144 := (i 0).isLt
  omega

theorem table_0_at (h1 : 1 ≤ live m) (h144 : live m < 2 ^ 31) (i : S144.Idx) :
    tables m 0 i = arg0 m (ix1 ⟨min (i 0).val (live m - 1), below_144 i _⟩) := by
  refine (congrFun (table_0 m) i).trans ?_
  rw [ValueIdx.eq_ix1 i]
  exact looked_apply (arg0 m) (arg1 m) h1 h144 (i 0)

theorem row_block (h1 : 1 ≤ live m) (h144 : live m < 2 ^ 31) (i : grid0.Coords) :
    cc0_transform_0 inb_S1_S1_0 numel1_S1 (tables m) i = ![min (i 0).val (live m - 1), 0] := by
  have hi : (i 0).val < 144 := (i 0).isLt
  refine (congrArg (fun w : BitVec 32 => ![(IntOp.minsi (BitVec.ofNat 32 (i 0).val) (w - 1#32)).toNat, 0]) (table_1_at m _)).trans ?_
  dsimp only
  have hs : (Cert.Routed.count (arg1 m) - 1#32).toNat = live m - 1 := by
    rw [BitVec.toNat_sub_of_le (by rw [BitVec.le_def]; exact h1)]; rfl
  rw [WordArith.toNat_minsi_of_lt _ _ (by rw [BitVec.toNat_ofNat]; omega) (by omega), hs, BitVec.toNat_ofNat, Nat.mod_eq_of_lt (by omega)]

theorem expert_block (h1 : 1 ≤ live m) (h144 : live m < 2 ^ 31) (i : grid0.Coords) :
    cc0_transform_1 k0_off1_inb numel1_S1 (tables m) i = ![0, (arg0 m (ix1 ⟨min (i 0).val (live m - 1), below i _⟩)).toNat, 0, 0] := by
  have hi : (i 0).val < 144 := (i 0).isLt
  refine (congrArg (fun w : BitVec 32 => ![0, w.toNat, 0, 0]) (table_0_at m h1 h144 _)).trans ?_
  refine congrArg (fun w => ![0, (arg0 m w).toNat, 0, 0]) (congrArg ix1 (Fin.ext (congrArg (fun k => min k (live m - 1)) ?_)))
  show (BitVec.ofNat 32 (i 0).val).toNat + 0 = (i 0).val
  rw [BitVec.toNat_ofNat]
  omega

/-- Every block that the tables name exists. -/
theorem fits (h1 : 1 ≤ live m) (h144 : live m < 2 ^ 31) (hte : ∀ t : Fin 144, t.val < live m → (arg0 m (ix1 t)).toNat < 16) : Fits m := by
  have hw : ∀ i : grid0.Coords, ∀ a, (cc0_transform_1 k0_off1_inb numel1_S1 (tables m) i a + 1) * S1x1x1024x1024.size a ≤ S4x16x1024x1024.size a := fun i a => by
    rw [expert_block m h1 h144]
    have hi : (i 0).val < 144 := (i 0).isLt
    have := hte ⟨min (i 0).val (live m - 1), below i _⟩ (by show min (i 0).val (live m - 1) < live m; omega)
    fin_cases a
    · show (0 + 1) * 1 ≤ 4; omega
    · show ((arg0 m (ix1 ⟨min (i 0).val (live m - 1), below i _⟩)).toNat + 1) * 1 ≤ 16; omega
    · show (0 + 1) * 1024 ≤ 1024; omega
    · show (0 + 1) * 1024 ≤ 1024; omega
  refine ⟨fun i => ⟨fun a => ?_, .inl rfl⟩, fun i => ⟨hw i, .inl rfl⟩, fun i => ⟨hw i, .inl rfl⟩, fun i => ⟨hw i, .inl rfl⟩⟩
  rw [row_block m h1 h144]
  have hi : (i 0).val < 144 := (i 0).isLt
  fin_cases a
  · show (min (i 0).val (live m - 1) + 1) * 4096 ≤ 589824; omega
  · show (0 + 1) * 128 ≤ 128; omega

end Cert.KernelIdeal.Experts

end
-- ==== Proof.Real.lean ====
/- Facts about extended reals: the gate's two spellings agree on real numbers, and sums of products of reals are real. -/
module

public import Idealize.ShloMosaic.PureOps.Ideal.Laws
public import Idealize.ShloMosaic.Lib.IdealHost
public import Mathlib.Analysis.SpecialFunctions.Trigonometric.DerivHyp

@[expose] public section

noncomputable section

namespace Cert.Reals

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sum {ι : Type} [Fintype ι] (f : ι → EReal) (h : ∀ i, IsReal (f i)) : IsReal (∑ i, f i) := by
  classical
  induction (Finset.univ : Finset ι) using Finset.induction_on with
  | empty => exact ⟨0, by simp⟩
  | insert a s ha ih => rw [Finset.sum_insert ha]; exact (h a).add ih

theorem ofBits_half : Ideal.ofBits .f32 0x3F000000#32 = ((1 / 2 : ℝ) : EReal) := by
  simp [Ideal.ofBits, Ideal.ieee, -EReal.coe_mul]; norm_num

theorem ofBits_inf : Ideal.ofBits .f32 0x7F800000#32 = (⊤ : EReal) := by
  simp [Ideal.ofBits, Ideal.ieee]

/-- An extended real of absolute value below infinity is real. -/
theorem real_of_abs_lt {x : EReal} (h : max x (-x) < ⊤) : IsReal x := by
  induction x using EReal.rec with
  | bot => simp at h
  | top => simp at h
  | coe r => exact ⟨r, rfl⟩

/-- Half of a number plus half of it times the hyperbolic tangent of the half is the number times its logistic. -/
theorem gate_real (r : ℝ) : (1 / 2 : ℝ) * r + (1 / 2 : ℝ) * r * Real.tanh ((1 / 2 : ℝ) * r) = r * (1 + Real.exp (-r))⁻¹ := by
  have h1 : Real.exp (-r) = Real.exp (-((1 / 2 : ℝ) * r)) * Real.exp (-((1 / 2 : ℝ) * r)) := by rw [← Real.exp_add]; congr 1; ring
  have h2 : Real.exp ((1 / 2 : ℝ) * r) = (Real.exp (-((1 / 2 : ℝ) * r)))⁻¹ := by rw [Real.exp_neg, inv_inv]
  have hp := Real.exp_pos (-((1 / 2 : ℝ) * r))
  rw [Real.tanh_eq_sinh_div_cosh, Real.sinh_eq, Real.cosh_eq, h1, h2]
  generalize Real.exp (-((1 / 2 : ℝ) * r)) = e at hp
  have : (1 + e * e) ≠ 0 := by positivity
  have : e⁻¹ + e ≠ 0 := by positivity
  field_simp
  ring

/-- The two spellings of the gate agree on real numbers. -/
theorem gate_eq {y : EReal} (hy : IsReal y) :
    Ideal.ofBits .f32 0x3F000000#32 * y + Ideal.ofBits .f32 0x3F000000#32 * y * Ideal.tanh (Ideal.ofBits .f32 0x3F000000#32 * y)
      = y * Ideal.div (Ideal.ofBits .f32 0x3F800000#32) (Ideal.ofBits .f32 0x3F800000#32 + Ideal.exp (-y)) := by
  obtain ⟨r, rfl⟩ := hy
  have hp := Real.exp_pos (-r)
  rw [ofBits_half, Ideal.ofBits_one_f32, ← EReal.coe_neg, Ideal.exp_coe, ← EReal.coe_mul, Ideal.tanh_coe, ← EReal.coe_mul, ← EReal.coe_add,
    ← EReal.coe_one, ← EReal.coe_add]
  unfold Ideal.div
  rw [if_neg (by rw [← EReal.coe_zero, EReal.coe_eq_coe_iff]; positivity), ← EReal.coe_inv, ← EReal.coe_mul, ← EReal.coe_mul, one_mul, gate_real]

end Cert.Reals

end
-- ==== Proof.Ideal.Pay.lean ====
/- What a tile's result is, entry by entry, on extended reals. -/
module

public import proofs.«01_k».proof.Proof.Ideal.Rows
public import proofs.«01_k».proof.Proof.Real
public import Idealize.ShloMosaic.PureOps.Ideal.Laws
public import Idealize.ShloMosaic.Lib.Pipeline.Value
public import Idealize.ShloMosaic.Lib.ValueIdx
public import Idealize.ShloMosaic.Lib.ValueLayout

@[expose] public section

set_option maxRecDepth 16384

noncomputable section

namespace Cert.KernelIdeal.Experts

open Cert.KernelIdeal Cert.KernelIdeal.Gen
open Idealize.ShloMosaic
open Idealize.ShloMosaic.ValueIdx (ix2 ix4)

/-- A product of a tile and a weight. -/
theorem product_apply (l : FVec Ideal S512x1024 .bf16) (w : FVec Ideal S1024x1024 .bf16) (r : Fin 512) (f : Fin 1024) :
    matmul dot_S512x1024_S1024x1024_S512x1024_1_0_0_1_n_n none l w (constant S512x1024 .f32 0x00000000#32) (ix2 r f)
      = ∑ k : Fin 1024, (l (ix2 r k) : EReal) * w (ix2 k f) := by
  simp only [matmul]
  rw [Ideal.matmul_constant_zero_apply]
  refine Fintype.sum_equiv (ValueIdx.contrEquiv1 dot_S512x1024_S1024x1024_S512x1024_1_0_0_1_n_n 1024 rfl rfl) _ _ fun k => ?_
  refine congrArg₂ (fun a b : EReal => a * b) (congrArg l (funext fun a => Fin.ext ?_)) (congrArg w (funext fun a => Fin.ext ?_))
  · fin_cases a <;> rfl
  · fin_cases a <;> rfl

/-- A weight block, rounded, at an index. -/
theorem pay11_apply (v : Vec Ideal S1x1x1024x1024 .f32) (k f : Fin 1024) : k0_pay11 v (ix2 k f) = v (ix4 0 0 k f) := by
  unfold k0_pay11
  rw [shapeCast_self]
  refine shapeCast_apply (s := S1x1x1024x1024) (t := S1024x1024) _ _ _ (ix4 0 0 k f) ?_
  rw [Shape.rowMajor_val_two, Shape.rowMajor_val_four]
  show ((0 * 1 + 0) * 1024 + k.val) * 1024 + f.val = k.val * 1024 + f.val
  omega
theorem pay12_apply (v : Vec Ideal S1x1x1024x1024 .f32) (k f : Fin 1024) : k0_pay12 v (ix2 k f) = v (ix4 0 0 k f) := pay11_apply v k f
theorem pay13_apply (v : Vec Ideal S1x1x1024x1024 .f32) (k f : Fin 1024) : k0_pay13 v (ix2 k f) = v (ix4 0 0 k f) := pay11_apply v k f

/-- An entry of a column group is an entry of the buffer. -/
theorem slab_apply (s : Nat) (inb) (x : Vec Ideal S4096x128 .f32) (r : Fin 512) (q : Fin 128) (hs : s < 8) :
    slab s inb x (ix2 r q) = x (ix2 ⟨r.val * 8 + s, by omega⟩ q) := by
  refine congrArg x (funext fun a => Fin.ext ?_)
  fin_cases a
  · show s + 8 * r.val = r.val * 8 + s
    omega
  · show 0 + 1 * q.val = q.val
    omega

/-- The eight column groups side by side. -/
abbrev joined (x : Vec Ideal S4096x128 .f32) : FVec Ideal S512x1024 .f32 :=
  concatenate S512x1024 1 [⟨S512x128, slab 0 inb_S4096x128_S512x128_0_0_s_8_1 x⟩, ⟨S512x128, slab 1 inb_S4096x128_S512x128_1_0_s_8_1 x⟩,
    ⟨S512x128, slab 2 inb_S4096x128_S512x128_2_0_s_8_1 x⟩, ⟨S512x128, slab 3 inb_S4096x128_S512x128_3_0_s_8_1 x⟩, ⟨S512x128, slab 4 inb_S4096x128_S512x128_4_0_s_8_1 x⟩,
    ⟨S512x128, slab 5 inb_S4096x128_S512x128_5_0_s_8_1 x⟩, ⟨S512x128, slab 6 inb_S4096x128_S512x128_6_0_s_8_1 x⟩, ⟨S512x128, slab 7 inb_S4096x128_S512x128_7_0_s_8_1 x⟩]
    concatenates_S512x128_S512x128_S512x128_S512x128_S512x128_S512x128_S512x128_S512x128_S512x1024_d1

theorem joined_apply (x : Vec Ideal S4096x128 .f32) (r : Fin 512) (k : Fin 1024) :
    joined x (ix2 r k) = x (ix2 ⟨r.val * 8 + k.val / 128, by omega⟩ ⟨k.val % 128, by omega⟩) := by
  have hk := k.isLt
  have key : ∀ (s : Nat) (inb) (hs : s < 8), k.val / 128 = s →
      slab s inb x (ix2 r ⟨k.val % 128, by omega⟩) = x (ix2 ⟨r.val * 8 + k.val / 128, by omega⟩ ⟨k.val % 128, by omega⟩) := fun s inb hs e => by
    rw [slab_apply s inb x r _ hs]; subst e; rfl
  have hoff : ∀ b : Fin 2, b.cast (rfl : (2 : ℕ) = 2) ≠ (1 : Fin 2) →
      ((ix2 r (⟨k.val % 128, by omega⟩ : Fin 128) : S512x128.Idx) b).val = ((ix2 r k : S512x1024.Idx) (b.cast rfl)).val := fun b hb => by
    fin_cases b
    · rfl
    · exact absurd rfl hb
  obtain ⟨s, hs⟩ : ∃ s, k.val / 128 = s := ⟨_, rfl⟩
  have hd : s < 8 := by omega
  interval_cases s
  · refine (concatenate_apply_piece 1 _ _ (ix2 r k) 0 (by exact (show 0 < 8 by decide)) S512x128 _ rfl rfl 0 rfl (ix2 r ⟨k.val % 128, by omega⟩) hoff (by show 0 + k.val % 128 = k.val; omega)).trans (key 0 _ (by decide) hs)
  · refine (concatenate_apply_piece 1 _ _ (ix2 r k) 1 (by exact (show 1 < 8 by decide)) S512x128 _ rfl rfl 128 rfl (ix2 r ⟨k.val % 128, by omega⟩) hoff (by show 128 + k.val % 128 = k.val; omega)).trans (key 1 _ (by decide) hs)
  · refine (concatenate_apply_piece 1 _ _ (ix2 r k) 2 (by exact (show 2 < 8 by decide)) S512x128 _ rfl rfl 256 rfl (ix2 r ⟨k.val % 128, by omega⟩) hoff (by show 256 + k.val % 128 = k.val; omega)).trans (key 2 _ (by decide) hs)
  · refine (concatenate_apply_piece 1 _ _ (ix2 r k) 3 (by exact (show 3 < 8 by decide)) S512x128 _ rfl rfl 384 rfl (ix2 r ⟨k.val % 128, by omega⟩) hoff (by show 384 + k.val % 128 = k.val; omega)).trans (key 3 _ (by decide) hs)
  · refine (concatenate_apply_piece 1 _ _ (ix2 r k) 4 (by exact (show 4 < 8 by decide)) S512x128 _ rfl rfl 512 rfl (ix2 r ⟨k.val % 128, by omega⟩) hoff (by show 512 + k.val % 128 = k.val; omega)).trans (key 4 _ (by decide) hs)
  · refine (concatenate_apply_piece 1 _ _ (ix2 r k) 5 (by exact (show 5 < 8 by decide)) S512x128 _ rfl rfl 640 rfl (ix2 r ⟨k.val % 128, by omega⟩) hoff (by show 640 + k.val % 128 = k.val; omega)).trans (key 5 _ (by decide) hs)
  · refine (concatenate_apply_piece 1 _ _ (ix2 r k) 6 (by exact (show 6 < 8 by decide)) S512x128 _ rfl rfl 768 rfl (ix2 r ⟨k.val % 128, by omega⟩) hoff (by show 768 + k.val % 128 = k.val; omega)).trans (key 6 _ (by decide) hs)
  · refine (concatenate_apply_piece 1 _ _ (ix2 r k) 7 (by exact (show 7 < 8 by decide)) S512x128 _ rfl rfl 896 rfl (ix2 r ⟨k.val % 128, by omega⟩) hoff (by show 896 + k.val % 128 = k.val; omega)).trans (key 7 _ (by decide) hs)

/-- A buffer's tile against a weight. -/
abbrev against (x : Vec Ideal S4096x128 .f32) (w : Vec Ideal S1024x1024 .bf16) (r : Fin 512) (f : Fin 1024) : EReal :=
  ∑ k : Fin 1024, (x (ix2 ⟨r.val * 8 + k.val / 128, by omega⟩ ⟨k.val % 128, by omega⟩) : EReal) * w (ix2 k f)

/-- The hidden value, with the gate in the kernel's spelling. -/
theorem hidden_apply (x : Vec Ideal S4096x128 .f32) (g u : Vec Ideal S1024x1024 .bf16) (r : Fin 512) (f : Fin 1024) :
    hidden x g u (ix2 r f) = (Ideal.ofBits .f32 0x3F000000#32 * against x g r f
        + Ideal.ofBits .f32 0x3F000000#32 * against x g r f * Ideal.tanh (Ideal.ofBits .f32 0x3F000000#32 * against x g r f)) * against x u r f := by
  have hp : ∀ w : Vec Ideal S1024x1024 .bf16, matmul dot_S512x1024_S1024x1024_S512x1024_1_0_0_1_n_n none (truncf .bf16 (joined x) bitsLt_bf16_f32) w (constant S512x1024 .f32 0x00000000#32) (ix2 r f)
      = against x w r f := fun w => by
    rw [product_apply]
    refine Finset.sum_congr rfl fun k _ => congrArg (fun a : EReal => a * w (ix2 k f)) (joined_apply x r k)
  rw [← hp g, ← hp u]
  rfl

/-- A tile's result at an entry of the buffer. -/
theorem tileOut_apply (x : Vec Ideal S4096x128 .f32) (g u d : Vec Ideal S1024x1024 .bf16) (y : S4096x128.Idx) (r : Fin 512) (e : Fin 1024)
    (hr : r.val = (y 0).val / 8) (he : e.val = (y 0).val % 8 * 128 + (y 1).val) :
    tileOut x g u d y = ∑ f : Fin 1024, (hidden x g u (ix2 r f) : EReal) * d (ix2 f e) := by
  refine Eq.trans ?_ (product_apply (hidden x g u) d r e)
  refine congrArg (k0_pay1 (hidden x g u) d) (funext fun a => Fin.ext ?_)
  fin_cases a
  · exact hr.symm
  · exact he.symm

end Cert.KernelIdeal.Experts

end
-- ==== Proof.Ref.lean ====
/- The reference's result, read at an index. -/
module

public import proofs.«01_k».proof.Proof.Gen.ReferenceIdeal.Run
public import proofs.«01_k».proof.Proof.Decode
public import proofs.«01_k».proof.Proof.Real
public import Idealize.ShloMosaic.Lib.ValueIdx
public import Idealize.ShloMosaic.Lib.ValueLayout

@[expose] public section

set_option maxRecDepth 16384

noncomputable section

namespace Cert.ReferenceIdeal.Experts

open Cert.ReferenceIdeal Cert.ReferenceIdeal.Gen
open Idealize.ShloMosaic
open Idealize.ShloMosaic.ValueIdx (ix1 ix2 ix3 ix4)

/-- The experts' numbers, as the reference spells its look-ups' places. -/
def places (a0 : IVec S144 32) : IVec S144x1 32 :=
  broadcastInDim S144x1 ![0] bcast_S144_S144x1_0 (select (cmpi .slt a0 (broadcastInDim S144 ![] bcast_S_S144 (constantI S_ 32 0#32)))
    (addi a0 (broadcastInDim S144 ![] bcast_S_S144 (constantI S_ 32 16#32))) a0)

/-- The layer's weights of every tile's expert. -/
def picked (a0 : IVec S144 32) (w : FVec Ideal S4x16x1024x1024 .f32) : FVec Ideal S144x1024x1024 .f32 :=
  Host.gather gather_S16x1024x1024_S144x1_S144x1024x1024_12_0_n_n_0_1_110241024
    (shapeCast S16x1024x1024 (extractStridedSlice S1x16x1024x1024 ![0, 0, 0, 0] w slices_S4x16x1024x1024_S1x16x1024x1024_0_0_0_0) shapeCasts_S1x16x1024x1024_S16x1024x1024)
    (places a0)

/-- The rows of every tile. -/
def rows (a2 : FVec Ideal S589824x128 .f32) : FVec Ideal S144x512x1024 .f32 := shapeCast S144x512x1024 a2 shapeCasts_S589824x128_S144x512x1024

/-- Every tile's product. -/
abbrev prod (l : FVec Ideal S144x512x1024 .f32) (r : FVec Ideal S144x1024x1024 .f32) : FVec Ideal S144x512x1024 .f32 :=
  Host.dotGeneral dot_S144x512x1024_S144x1024x1024_S144x512x1024_2_1_1_2_0_0 none l r

/-- The gate of a product. -/
def gated (v : FVec Ideal S144x512x1024 .f32) : FVec Ideal S144x512x1024 .f32 :=
  mulf v (Host.divf (broadcastInDim S144x512x1024 ![] bcast_S_S144x512x1024 (constant S_ .f32 0x3F800000#32))
    (addf (broadcastInDim S144x512x1024 ![] bcast_S_S144x512x1024 (constant S_ .f32 0x3F800000#32)) (Host.exp (Host.negf v))))

/-- Which tiles have rows. -/
def shown (a1 : IVec S1 32) : IVec S144x512x1024 1 :=
  broadcastInDim S144x512x1024 ![0, 1, 2] bcast_S144x1x1_S144x512x1024_0_1_2 (broadcastInDim S144x1x1 ![0] bcast_S144_S144x1x1_0
      (cmpi .slt (iotaInDim S144 32 0) (broadcastInDim S144 ![] bcast_S_S144 (shapeCast S_ a1 shapeCasts_S1_S_))))

/-- The whole reference. -/
def result (a0 : IVec S144 32) (a1 : IVec S1 32) (a2 : FVec Ideal S589824x128 .f32) (a3 a4 a5 : FVec Ideal S4x16x1024x1024 .f32) : FVec Ideal S589824x128 .f32 :=
  shapeCast S589824x128 (select (shown a1)
    (prod (mulf (gated (prod (rows a2) (picked a0 a3))) (prod (rows a2) (picked a0 a4))) (picked a0 a5))
    (broadcastInDim S144x512x1024 ![] bcast_S_S144x512x1024 (id (constant S_ .f32 0x00000000#32)))) shapeCasts_S144x512x1024_S589824x128

/-- The expert of a tile; a tile without one that exists gets the last. -/
abbrev ex (a0 : IVec S144 32) (t : Fin 144) : Fin 16 := ⟨min (a0 (ix1 t)).toNat 15, by omega⟩

theorem places_apply (a0 : IVec S144 32) (t : Fin 144) (hte : (a0 (ix1 t)).toNat < 16) (q : Fin 1) : places a0 (ix2 t q) = a0 (ix1 t) := by
  have h := hte
  have e : places a0 (ix2 t q) = Scalar.select (IntOp.cmpi .slt (a0 (ix1 t)) 0#32) (IntOp.addi (a0 (ix1 t)) 16#32) (a0 (ix1 t)) := by
    refine congrArg (select (cmpi .slt a0 (broadcastInDim S144 ![] bcast_S_S144 (constantI S_ 32 0#32)))
      (addi a0 (broadcastInDim S144 ![] bcast_S_S144 (constantI S_ 32 16#32))) a0) (a₂ := ix1 t) (funext fun a => ?_)
    obtain rfl : a = 0 := Subsingleton.elim (α := Fin 1) _ _
    rfl
  rw [e, show IntOp.cmpi .slt (a0 (ix1 t)) 0#32 = 0#1 from ValueIdx.eq_zero_of_ne_one fun h' => by
      have := Cert.Routed.slt_iff.mp h'
      rw [show (0#32 : BitVec 32).toInt = 0 from by decide, StableHlo.Predicate.toInt_eq_toNat_of_lt (by omega)] at this
      omega]
  rfl

theorem picked_apply (a0 : IVec S144 32) (w : FVec Ideal S4x16x1024x1024 .f32) (t : Fin 144) (hte : (a0 (ix1 t)).toNat < 16) (k f : Fin 1024) :
    picked a0 w (ix3 t k f) = w (ix4 0 (ex a0 t) k f) := by
  have h := hte
  unfold picked
  refine Eq.trans (b := shapeCast S16x1024x1024 (extractStridedSlice S1x16x1024x1024 ![0, 0, 0, 0] w slices_S4x16x1024x1024_S1x16x1024x1024_0_0_0_0)
    shapeCasts_S1x16x1024x1024_S16x1024x1024 (ix3 (ex a0 t) k f)) ?_ ?_
  · unfold Host.gather
    refine congrArg _ (funext fun a => Fin.ext ?_)
    generalize hd : gather_S16x1024x1024_S144x1_S144x1024x1024_12_0_n_n_0_1_110241024 = d
    show d.start (ix3 t k f) (places a0) a + d.batchCoord (ix3 t k f) a + d.offCoord (ix3 t k f) a = _
    rw [GatherDims.batchCoord_eq_zero _ _ _ (by subst hd; exact List.not_mem_nil), Nat.add_zero]
    subst hd
    fin_cases a
    · rw [GatherDims.offCoord_eq_zero _ _ _ (fun h => ((GatherDims.mem_sKept _ _).mp h).1 (List.mem_singleton.mpr rfl)), Nat.add_zero]
      unfold GatherDims.start
      refine (dif_pos (show (0 : Fin 3) ∈ gather_S16x1024x1024_S144x1_S144x1024x1024_12_0_n_n_0_1_110241024.startIndexMap from List.mem_singleton.mpr rfl)).trans ?_
      have hsi : gather_S16x1024x1024_S144x1_S144x1024x1024_12_0_n_n_0_1_110241024.siIdx (ix3 t k f)
          ⟨List.idxOf (0 : Fin 3) gather_S16x1024x1024_S144x1_S144x1024x1024_12_0_n_n_0_1_110241024.startIndexMap, List.idxOf_lt_length_iff.2 (List.mem_singleton.mpr rfl)⟩ = ix2 t 0 := by
        funext b; refine Fin.ext ?_
        match b with
        | ⟨0, _⟩ => rfl
        | ⟨1, _⟩ => rfl
      refine Eq.trans (congrArg (fun j => min (places a0 j).toInt.toNat (16 - 1)) hsi) ?_
      dsimp only
      rw [places_apply a0 t hte, StableHlo.Predicate.toInt_eq_toNat_of_lt (by omega), Int.toNat_natCast]
    · unfold GatherDims.start
      rw [dif_neg (by decide)]
      exact Nat.zero_add _
    · unfold GatherDims.start
      rw [dif_neg (by decide)]
      exact Nat.zero_add _
  · rw [ValueIdx.shapeCast_1abc_abc_apply]
    refine congrArg w (funext fun a => Fin.ext ?_)
    fin_cases a
    · rfl
    · exact Nat.zero_add _
    · exact Nat.zero_add _
    · exact Nat.zero_add _

theorem rows_apply (a2 : FVec Ideal S589824x128 .f32) (t : Fin 144) (r : Fin 512) (k : Fin 1024) :
    rows a2 (ix3 t r k) = a2 (ix2 ⟨(t.val * 512 + r.val) * 8 + k.val / 128, by omega⟩ ⟨k.val % 128, by omega⟩) := by
  refine shapeCast_apply _ _ _ _ ?_
  rw [Shape.rowMajor_val_two, Shape.rowMajor_val_three]
  show ((t.val * 512 + r.val) * 8 + k.val / 128) * 128 + k.val % 128 = (t.val * 512 + r.val) * 1024 + k.val
  omega

theorem prod_apply (l : FVec Ideal S144x512x1024 .f32) (r : FVec Ideal S144x1024x1024 .f32) (t : Fin 144) (i : Fin 512) (f : Fin 1024) :
    prod l r (ix3 t i f) = ∑ k : Fin 1024, l (ix3 t i k) * r (ix3 t k f) := by
  simp only [prod, Host.dotGeneral]
  rw [Ideal.dotGeneral_apply]
  refine Fintype.sum_equiv (ValueIdx.contrEquiv1 dot_S144x512x1024_S144x1024x1024_S144x512x1024_2_1_1_2_0_0 1024 rfl rfl) _ _ fun k => ?_
  refine congrArg₂ (· * ·) (congrArg l (funext fun a => Fin.ext ?_)) (congrArg r (funext fun a => Fin.ext ?_))
  · fin_cases a <;> rfl
  · fin_cases a <;> rfl

/-- A tile's hidden value. -/
def hid (a0 : IVec S144 32) (a2 : FVec Ideal S589824x128 .f32) (a3 a4 : FVec Ideal S4x16x1024x1024 .f32) (t : Fin 144) (r : Fin 512) (f : Fin 1024) : EReal :=
  (∑ k : Fin 1024, rows a2 (ix3 t r k) * a3 (ix4 0 (ex a0 t) k f))
    * Ideal.div (Ideal.ofBits .f32 0x3F800000#32) (Ideal.ofBits .f32 0x3F800000#32
      + Ideal.exp (-(∑ k : Fin 1024, rows a2 (ix3 t r k) * a3 (ix4 0 (ex a0 t) k f))))
    * (∑ k : Fin 1024, rows a2 (ix3 t r k) * a4 (ix4 0 (ex a0 t) k f))

theorem result_apply (a0 : IVec S144 32) (a1 : IVec S1 32) (a2 : FVec Ideal S589824x128 .f32) (a3 a4 a5 : FVec Ideal S4x16x1024x1024 .f32)
    (hte : ∀ t : Fin 144, t.val < (Cert.Routed.count a1).toNat → (a0 (ix1 t)).toNat < 16) (h144 : (Cert.Routed.count a1).toNat < 2 ^ 31) (t : Fin 144) (r : Fin 512) (d : Fin 1024) (i : S589824x128.Idx)
    (hi : (i 0).val * 128 + (i 1).val = (t.val * 512 + r.val) * 1024 + d.val) :
    result a0 a1 a2 a3 a4 a5 i = if t.val < (Cert.Routed.count a1).toNat then
      ∑ f : Fin 1024, hid a0 a2 a3 a4 t r f * a5 (ix4 0 (ex a0 t) f d) else 0 := by
  have ht := t.isLt
  refine (shapeCast_apply _ _ _ (ix3 t r d) ?_).trans ?_
  · rw [Shape.rowMajor_val_two, Shape.rowMajor_val_three]
    exact hi.symm
  have hb : shown a1 (ix3 t r d)
      = IntOp.cmpi .slt (BitVec.ofNat 32 t.val) (Cert.Routed.count a1) := by
    exact congrArg (IntOp.cmpi .slt (BitVec.ofNat 32 t.val)) (Cert.Routed.at_zero a1 _)
  show Scalar.select (shown a1 (ix3 t r d)) (prod _ _ (ix3 t r d)) (Ideal.ofBits .f32 0x00000000#32) = _
  rw [hb, prod_apply, Ideal.ofBits_zero_f32]
  have hc : IntOp.cmpi .slt (BitVec.ofNat 32 t.val) (Cert.Routed.count a1) = 1#1 ↔ t.val < (Cert.Routed.count a1).toNat := by
    rw [Cert.Routed.slt_iff, StableHlo.Predicate.toInt_ofNat_small _ (by omega), StableHlo.Predicate.toInt_eq_toNat_of_lt (by omega)]
    omega
  by_cases hl : t.val < (Cert.Routed.count a1).toNat
  · rw [if_pos hl, hc.mpr hl, ValueIdx.select_one]
    refine Finset.sum_congr rfl fun f _ => ?_
    rw [picked_apply a0 a5 t (hte t hl)]
    refine congrArg (· * _) ?_
    show prod _ _ (ix3 t r f) * Ideal.div _ (_ + Ideal.exp (-(prod _ _ (ix3 t r f)))) * prod _ _ (ix3 t r f) = _
    rw [prod_apply, prod_apply]
    simp only [picked_apply _ _ t (hte t hl)]
    rfl
  · rw [if_neg hl, ValueIdx.eq_zero_of_ne_one (fun h => hl (hc.mp h))]
    rfl

end Cert.ReferenceIdeal.Experts

end
-- ==== Proof.Ideal.Value.lean ====
/- The result's array after the run is the reference's result. -/
module

public import proofs.«01_k».proof.Proof.Ideal.Tables
public import proofs.«01_k».proof.Proof.Ideal.Pay
public import proofs.«01_k».proof.Proof.Ref

@[expose] public section

set_option maxRecDepth 16384

noncomputable section

namespace Cert.KernelIdeal.Experts

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx (ix1 ix2 ix3 ix4)
open Cert.ReferenceIdeal.Experts (result result_apply rows rows_apply hid ex)

variable (m : (ℓ : Loc nD τ sig) → Buf (Elt Ideal) ℓ)

abbrev arg2 : FVec Ideal S589824x128 .f32 := m (((0 : Dev nD) : Thread nD τ).loc main_arg2)
abbrev arg3 : FVec Ideal S4x16x1024x1024 .f32 := m (((0 : Dev nD) : Thread nD τ).loc main_arg3)
abbrev arg4 : FVec Ideal S4x16x1024x1024 .f32 := m (((0 : Dev nD) : Thread nD τ).loc main_arg4)
abbrev arg5 : FVec Ideal S4x16x1024x1024 .f32 := m (((0 : Dev nD) : Thread nD τ).loc main_arg5)

/-- What the precondition says of the arguments. -/
abbrev Said : Prop := Cert.Routed.Says (arg0 m) (arg1 m) (arg2 m) (arg3 m)

theorem lt_tiles (hO : Fits m) (t : Fin (pipe m hO).N) : t.val < 144 := lt_of_lt_of_eq t.isLt (show (pipe m hO).N = 144 from N_0)

/-- The rows of a tile that has rows. -/
theorem block_rows (hs : Said m) (hO : Fits m) (t : Fin (pipe m hO).N) (ht : t.val < live m) (p : Fin 4096) (q : Fin 128) :
    block m hO 0 0 t (ix2 p q) = arg2 m (ix2 ⟨t.val * 4096 + p.val, by have := lt_tiles m hO t; omega⟩ q) := by
  have hv := coord_val m hO t
  have hx : ((pipe m hO).win 0).index t = ![t.val, 0] := by
    refine (row_block m hs.some_tile hs.tiles (grid0.coords t)).trans ?_
    rw [hv, min_eq_left (by omega)]
  refine (congrFun (entry_arg2 m 0) _).trans (congrArg (arg2 m) (funext fun a => Fin.ext ?_))
  refine (Window.rect_emb_val ((pipe m hO).win 0) t (ix2 p q) a (by rfl)).trans ?_
  rw [hx]
  fin_cases a
  · rfl
  · show 0 * 128 + q.val = q.val
    omega

theorem expert_at (hs : Said m) (hO : Fits m) (t : Fin (pipe m hO).N) (ht : t.val < live m) :
    cc0_transform_1 k0_off1_inb numel1_S1 (tables m) (grid0.coords t) = ![0, (arg0 m (ix1 ⟨t.val, lt_tiles m hO t⟩)).toNat, 0, 0] := by
  have hv := coord_val m hO t
  refine (expert_block m hs.some_tile hs.tiles (grid0.coords t)).trans ?_
  refine congrArg (fun w => ![0, (arg0 m w).toNat, 0, 0]) (congrArg ix1 (Fin.ext ?_))
  show min (grid0.coords t 0).val (live m - 1) = t.val
  rw [hv, min_eq_left (by omega)]

/-- The weights of a tile that has rows. -/
theorem block_gate (hs : Said m) (hO : Fits m) (t : Fin (pipe m hO).N) (ht : t.val < live m) (k f : Fin 1024) :
    block m hO 0 1 t (ix4 0 0 k f) = arg3 m (ix4 0 (ex (arg0 m) ⟨t.val, lt_tiles m hO t⟩) k f) := by
  refine (congrFun (entry_arg3 m 0) _).trans (congrArg (arg3 m) (funext fun a => Fin.ext ?_))
  refine (Window.rect_emb_val ((pipe m hO).win 1) t (ix4 0 0 k f) a (by rfl)).trans ?_
  rw [show ((pipe m hO).win 1).index t = _ from expert_at m hs hO t ht]
  fin_cases a
  · rfl
  · show (arg0 m (ix1 ⟨t.val, lt_tiles m hO t⟩)).toNat * 1 + 0 = min (arg0 m (ix1 ⟨t.val, lt_tiles m hO t⟩)).toNat 15
    have := hs.expert ⟨t.val, lt_tiles m hO t⟩ ht
    omega
  · show 0 * 1024 + k.val = k.val
    omega
  · show 0 * 1024 + f.val = f.val
    omega
theorem block_up (hs : Said m) (hO : Fits m) (t : Fin (pipe m hO).N) (ht : t.val < live m) (k f : Fin 1024) :
    block m hO 0 2 t (ix4 0 0 k f) = arg4 m (ix4 0 (ex (arg0 m) ⟨t.val, lt_tiles m hO t⟩) k f) := by
  refine (congrFun (entry_arg4 m 0) _).trans (congrArg (arg4 m) (funext fun a => Fin.ext ?_))
  refine (Window.rect_emb_val ((pipe m hO).win 2) t (ix4 0 0 k f) a (by rfl)).trans ?_
  rw [show ((pipe m hO).win 2).index t = _ from expert_at m hs hO t ht]
  fin_cases a
  · rfl
  · show (arg0 m (ix1 ⟨t.val, lt_tiles m hO t⟩)).toNat * 1 + 0 = min (arg0 m (ix1 ⟨t.val, lt_tiles m hO t⟩)).toNat 15
    have := hs.expert ⟨t.val, lt_tiles m hO t⟩ ht
    omega
  · show 0 * 1024 + k.val = k.val
    omega
  · show 0 * 1024 + f.val = f.val
    omega
theorem block_down (hs : Said m) (hO : Fits m) (t : Fin (pipe m hO).N) (ht : t.val < live m) (k f : Fin 1024) :
    block m hO 0 3 t (ix4 0 0 k f) = arg5 m (ix4 0 (ex (arg0 m) ⟨t.val, lt_tiles m hO t⟩) k f) := by
  refine (congrFun (entry_arg5 m 0) _).trans (congrArg (arg5 m) (funext fun a => Fin.ext ?_))
  refine (Window.rect_emb_val ((pipe m hO).win 3) t (ix4 0 0 k f) a (by rfl)).trans ?_
  rw [show ((pipe m hO).win 3).index t = _ from expert_at m hs hO t ht]
  fin_cases a
  · rfl
  · show (arg0 m (ix1 ⟨t.val, lt_tiles m hO t⟩)).toNat * 1 + 0 = min (arg0 m (ix1 ⟨t.val, lt_tiles m hO t⟩)).toNat 15
    have := hs.expert ⟨t.val, lt_tiles m hO t⟩ ht
    omega
  · show 0 * 1024 + k.val = k.val
    omega
  · show 0 * 1024 + f.val = f.val
    omega

theorem real_of_bit {x : EReal} (h : Ideal.cmp .olt (max x (-x)) (Ideal.ofBits .f32 0x7F800000#32) = 1#1) : Cert.Reals.IsReal x := by
  rw [Cert.Reals.ofBits_inf] at h
  replace h := (StableHlo.Predicate.ofBool_eq_one_iff _).mp h
  exact Cert.Reals.real_of_abs_lt (of_decide_eq_true h)

theorem real_at {s : Shape} (x : FVec Ideal s .f32) (i : s.Idx) (h : cmpf .olt (Host.absf x) (fun _ => Scalar.ofBits .f32 0x7F800000#32) i = 1#1) : Cert.Reals.IsReal (x i) :=
  real_of_bit h

/-- The rows of a tile that has rows are real. -/
theorem rows_real (hs : Said m) (t : Fin 144) (ht : t.val < live m) (r : Fin 512) (k : Fin 1024) : Cert.Reals.IsReal (rows (arg2 m) (ix3 t r k)) :=
  real_at (rows (arg2 m)) _ (hs.rows t r k ht)

/-- The gate weights of the layer are real. -/
theorem gate_real (hs : Said m) (e : Fin 16) (k f : Fin 1024) : Cert.Reals.IsReal (arg3 m (ix4 0 e k f)) := by
  have h := real_at _ _ (hs.gate (ix3 e k f))
  rw [ValueIdx.shapeCast_1abc_abc_apply] at h
  refine Eq.mp (congrArg (fun j => Cert.Reals.IsReal (arg3 m j)) (funext fun a => Fin.ext ?_)) h
  fin_cases a
  · rfl
  · exact Nat.zero_add _
  · exact Nat.zero_add _
  · exact Nat.zero_add _

/-- From a tile's rows and the weights of its expert the body leaves the reference's value. -/
theorem tile_of (hs : Said m) (t : Fin 144) (ht : t.val < live m) (x : Vec Ideal S4096x128 .f32) (wg wu wd : Vec Ideal S1x1x1024x1024 .f32)
    (hx : ∀ (p : Fin 4096) (q : Fin 128), x (ix2 p q) = arg2 m (ix2 ⟨t.val * 4096 + p.val, by omega⟩ q))
    (hg : ∀ k f : Fin 1024, wg (ix4 0 0 k f) = arg3 m (ix4 0 (ex (arg0 m) t) k f))
    (hu : ∀ k f : Fin 1024, wu (ix4 0 0 k f) = arg4 m (ix4 0 (ex (arg0 m) t) k f))
    (hd : ∀ k f : Fin 1024, wd (ix4 0 0 k f) = arg5 m (ix4 0 (ex (arg0 m) t) k f))
    (y : S4096x128.Idx) (r : Fin 512) (e : Fin 1024) (hr : r.val = (y 0).val / 8) (he : e.val = (y 0).val % 8 * 128 + (y 1).val) :
    tileOut x (k0_pay11 wg) (k0_pay12 wu) (k0_pay13 wd) y
      = ∑ f : Fin 1024, hid (arg0 m) (arg2 m) (arg3 m) (arg4 m) t r f * arg5 m (ix4 0 (ex (arg0 m) t) f e) := by
  rw [tileOut_apply _ _ _ _ y r e hr he]
  refine Finset.sum_congr rfl fun f _ => ?_
  rw [pay13_apply, hd]
  refine congrArg (fun a : EReal => a * arg5 m (ix4 0 (ex (arg0 m) t) f e)) ?_
  have hrow : ∀ k : Fin 1024, x (ix2 ⟨r.val * 8 + k.val / 128, by omega⟩ ⟨k.val % 128, by omega⟩) = rows (arg2 m) (ix3 t r k) := fun k => by
    rw [hx, rows_apply]
    refine congrArg (fun j : Fin 589824 => arg2 m (ix2 j _)) (Fin.ext ?_)
    show t.val * 4096 + (r.val * 8 + k.val / 128) = (t.val * 512 + r.val) * 8 + k.val / 128
    omega
  have eg : against x (k0_pay11 wg) r f = ∑ k : Fin 1024, rows (arg2 m) (ix3 t r k) * arg3 m (ix4 0 (ex (arg0 m) t) k f) :=
    Finset.sum_congr rfl fun k _ => by rw [pay11_apply, hg, hrow]
  have eu : against x (k0_pay12 wu) r f = ∑ k : Fin 1024, rows (arg2 m) (ix3 t r k) * arg4 m (ix4 0 (ex (arg0 m) t) k f) :=
    Finset.sum_congr rfl fun k _ => by rw [pay12_apply, hu, hrow]
  rw [hidden_apply, eg, eu, Cert.Reals.gate_eq]
  · rfl
  · refine Cert.Reals.IsReal.sum _ fun k => Cert.Reals.IsReal.mul (rows_real m hs t ht r k) (gate_real m hs _ _ _)

/-- A tile with rows leaves the reference's value. -/
theorem tile_live (hs : Said m) (hO : Fits m) (t : Fin (pipe m hO).N) (ht : t.val < live m) (y : S4096x128.Idx) (r : Fin 512) (e : Fin 1024)
    (hr : r.val = (y 0).val / 8) (he : e.val = (y 0).val % 8 * 128 + (y 1).val) :
    tileOut (block m hO 0 0 t) (k0_pay11 (block m hO 0 1 t)) (k0_pay12 (block m hO 0 2 t)) (k0_pay13 (block m hO 0 3 t)) y
      = ∑ f : Fin 1024, hid (arg0 m) (arg2 m) (arg3 m) (arg4 m) ⟨t.val, lt_tiles m hO t⟩ r f
          * arg5 m (ix4 0 (ex (arg0 m) ⟨t.val, lt_tiles m hO t⟩) f e) :=
  tile_of m hs ⟨t.val, lt_tiles m hO t⟩ ht (block m hO 0 0 t) (block m hO 0 1 t) (block m hO 0 2 t) (block m hO 0 3 t)
    (block_rows m hs hO t ht) (block_gate m hs hO t ht) (block_up m hs hO t ht) (block_down m hs hO t ht) y r e hr he

/-- Whether a tile has rows. -/
theorem rowed_live (hs : Said m) (hO : Fits m) (t : Fin (pipe m hO).N) : Rowed 0 (grid0.coords t) (tables m 1) ↔ t.val < live m := by
  refine (rowed_iff (F := Ideal) _ _ _).trans ?_
  rw [coord_val m hO t]
  have h := hs.tiles
  have e : (ntWord (0 : Dev nD) (tables m 1)).toInt = (live m : ℤ) := by
    refine (congrArg BitVec.toInt (table_1_at m _)).trans ?_
    exact StableHlo.Predicate.toInt_eq_toNat_of_lt (by omega)
  rw [e]
  exact Int.ofNat_lt

/-- What every tile leaves is the reference's value there. -/
theorem tile_value (hs : Said m) (hO : Fits m) (t : Fin (pipe m hO).N) (y : S4096x128.Idx) (i : S589824x128.Idx)
    (h0 : (i 0).val = t.val * 4096 + (y 0).val) (h1 : (i 1).val = (y 1).val) :
    tileAt m hO 0 t y = result (arg0 m) (arg1 m) (arg2 m) (arg3 m) (arg4 m) (arg5 m) i := by
  have hy0 : (y 0).val < 4096 := (y 0).isLt
  have hy1 : (y 1).val < 128 := (y 1).isLt
  rw [result_apply (arg0 m) (arg1 m) (arg2 m) (arg3 m) (arg4 m) (arg5 m) hs.expert hs.tiles ⟨t.val, lt_tiles m hO t⟩ ⟨(y 0).val / 8, by omega⟩ ⟨(y 0).val % 8 * 128 + (y 1).val, by omega⟩ i
    (by rw [h0, h1]; show (t.val * 4096 + (y 0).val) * 128 + (y 1).val = (t.val * 512 + (y 0).val / 8) * 1024 + ((y 0).val % 8 * 128 + (y 1).val); omega)]
  unfold tileAt
  by_cases ht : t.val < live m
  · rw [if_pos ((rowed_live m hs hO t).mpr ht), if_pos ht]
    exact tile_live m hs hO t ht y _ _ rfl rfl
  · rw [if_neg (fun h => ht ((rowed_live m hs hO t).mp h)), if_neg ht]
    exact Ideal.ofBits_zero_f32

/-- A tile lies at its rows of the result. -/
theorem out_emb (hO : Fits m) (t : Fin (pipe m hO).N) (y : S4096x128.Idx) (a : Fin 2) :
    ((((pipe m hO).win 4).rect t).emb y a : Nat) = (![t.val * 4096 + (y 0).val, (y 1).val] : Fin 2 → Nat) a := by
  refine (Window.rect_emb_val ((pipe m hO).win 4) t y a (by rfl)).trans ?_
  have hx : ((pipe m hO).win 4).index t = ![t.val, 0] := by
    refine Eq.trans (b := ![(BitVec.ofNat 32 (grid0.coords t 0).val).toNat, 0]) rfl ?_
    have := lt_tiles m hO t
    rw [coord_val m hO t, BitVec.toNat_ofNat, Nat.mod_eq_of_lt (by omega)]
  rw [hx]
  fin_cases a
  · rfl
  · show 0 * 128 + (y 1).val = (y 1).val
    omega

/-- Every entry of the result lies in a tile. -/
theorem in_tile (hO : Fits m) (i : S589824x128.Idx) :
    ∃ t : Fin (pipe m hO).N, ((pipe m hO).win 4).flush t = true ∧ i ∈ (((pipe m hO).win 4).blk t).view.set := by
  have h0 : (i 0).val < 589824 := (i 0).isLt
  have h1 : (i 1).val < 128 := (i 1).isLt
  obtain ⟨t, ht⟩ : ∃ t : Fin (pipe m hO).N, t.val = (i 0).val / 4096 :=
    ⟨⟨(i 0).val / 4096, lt_of_lt_of_eq (show (i 0).val / 4096 < 144 by omega) (show (pipe m hO).N = 144 from N_0).symm⟩, rfl⟩
  refine ⟨t, writes_back (fitting m hO) t, ?_⟩
  have e : (((pipe m hO).win 4).blk t).view.emb (ix2 ⟨(i 0).val % 4096, by omega⟩ ⟨(i 1).val, h1⟩ : S4096x128.Idx) = i := by
    funext a
    refine Fin.ext ((out_emb m hO t _ a).trans ?_)
    match a with
    | ⟨0, _⟩ =>
      show t.val * 4096 + (i 0).val % 4096 = (i 0).val
      omega
    | ⟨1, _⟩ => rfl
  have h := (((pipe m hO).win 4).blk t).view.emb_mem_set (ix2 ⟨(i 0).val % 4096, by omega⟩ ⟨(i 1).val, h1⟩ : S4096x128.Idx)
  rw [e] at h
  exact h

/-- The result's array after the run. -/
theorem final (hs : Said m) (hO : Fits m) :
    (dats m hO 0 0).arrAt 4 (pipe m hO).N = result (arg0 m) (arg1 m) (arg2 m) (arg3 m) (arg4 m) (arg5 m) := by
  refine (dats m hO 0 0).arrAt_eq_of_cover 4 (result (arg0 m) (arg1 m) (arg2 m) (arg3 m) (arg4 m) (arg5 m)) (fun t _ => ?_) (in_tile m hO)
  show ((pipe m hO).win 4).cut (grid0.coords t) ((dats m hO 0 0).after 4 t) = _
  rw [after_4]
  funext y
  exact tile_value m hs hO t y _ (out_emb m hO t y 0) (out_emb m hO t y 1)

end Cert.KernelIdeal.Experts

end
-- ==== Proof.Proj.Spec.lean ====
/- The projections, the short convolution, the norms and the gates, entry by entry, on extended reals. -/
module

public import proofs.«01_k».proof.Proof.Real
public import Idealize.ShloMosaic.Lib.ValueIdx

@[expose] public section

noncomputable section

namespace Cert.Proj

open Idealize.ShloMosaic
open Idealize.ShloMosaic.ValueIdx (ix2 ix3)

abbrev Xs : Shape := ⟨3, ![8, 4096, 1024]⟩
abbrev Ws : Shape := ⟨3, ![4, 1024, 3088]⟩
abbrev Cs : Shape := ⟨3, ![4, 5, 1536]⟩
abbrev Gs : Shape := ⟨2, ![4, 4]⟩

/-- One entry of the projection. -/
def prj (x : FVec Ideal Xs .f32) (w : FVec Ideal Ws .f32) (b : Fin 8) (s : Fin 4096) (c : Fin 3088) : EReal :=
  ∑ k : Fin 1024, x (ix3 b s k) * w (ix3 (0 : Fin 4) k c)

/-- The projection's row `n - 2`, zero outside the sequence. -/
def prow (x : FVec Ideal Xs .f32) (w : FVec Ideal Ws .f32) (b : Fin 8) (n : ℕ) (c : Fin 3088) : EReal :=
  if h : 2 ≤ n ∧ n < 4098 then prj x w b ⟨n - 2, by omega⟩ c else 0

/-- A tap of the convolution. -/
def tap (cw : FVec Ideal Cs .f32) (j : Fin 5) (c : Fin 1536) : EReal := cw (ix3 (0 : Fin 4) j c)

/-- A column of q, k and v among the projection's columns. -/
abbrev col (c : Fin 1536) : Fin 3088 := ⟨c.val, by omega⟩

/-- The five products, summed from the left. -/
def five (f : ℕ → EReal) (t : Fin 5 → EReal) : EReal := f 0 * t 0 + f 1 * t 1 + f 2 * t 2 + f 3 * t 3 + f 4 * t 4

/-- The short convolution. -/
def conv (x : FVec Ideal Xs .f32) (w : FVec Ideal Ws .f32) (cw : FVec Ideal Cs .f32) (b : Fin 8) (s : Fin 4096) (c : Fin 1536) : EReal :=
  five (fun j => prow x w b (s.val + j) (col c)) fun j => tap cw j c

/-- The gate. -/
def silu (y : EReal) : EReal := y * Ideal.div (Ideal.ofBits .f32 0x3F800000#32) (Ideal.ofBits .f32 0x3F800000#32 + Ideal.exp (-y))

/-- The gated convolution. -/
def act (x : FVec Ideal Xs .f32) (w : FVec Ideal Ws .f32) (cw : FVec Ideal Cs .f32) (b : Fin 8) (s : Fin 4096) (c : Fin 1536) : EReal :=
  silu (conv x w cw b s c)

/-- The lane `l` of the head that holds the column `c`. -/
abbrev lane (c : Fin 1536) (l : Fin 128) : Fin 1536 := ⟨c.val / 128 * 128 + l.val, by omega⟩

/-- One entry divided by its head's length. -/
def unit (f : Fin 1536 → EReal) (c : Fin 1536) : EReal :=
  f c * Ideal.rsqrt ((∑ l : Fin 128, f (lane c l) * f (lane c l)) + Ideal.ofBits .f32 0x358637BD#32)

/-- q, k and v from the gated convolution of a row. -/
def normed (f : Fin 1536 → EReal) (c : Fin 1536) : EReal :=
  if c.val < 512 then unit f c * Ideal.ofBits .f32 0x3DB504F3#32 else if c.val < 1024 then unit f c else f c

/-- q, k and v. -/
def qkv (x : FVec Ideal Xs .f32) (w : FVec Ideal Ws .f32) (cw : FVec Ideal Cs .f32) (b : Fin 8) (s : Fin 4096) (c : Fin 1536) : EReal :=
  normed (act x w cw b s) c

/-- z, u and v of the mixer. -/
def zuv (x : FVec Ideal Xs .f32) (w : FVec Ideal Ws .f32) (b : Fin 8) (s : Fin 4096) (c : Fin 1536) : EReal :=
  prj x w b s ⟨if c.val < 512 then 1536 + c.val else 1552 + c.val, by split <;> omega⟩

/-- The columns of the gates. -/
def glo (x : FVec Ideal Xs .f32) (w : FVec Ideal Ws .f32) (b : Fin 8) (s : Fin 4096) (h : Fin 16) : EReal :=
  prj x w b s ⟨2048 + h.val, by omega⟩

/-- The logarithm of a decay. -/
def decay (a d p : EReal) : EReal :=
  -(Ideal.exp a) * (max (p + d) 0 + Ideal.log1p (Ideal.exp (-(max (p + d) (-(p + d))))))

/-- The row `p` of the chunk that holds the row `s`. -/
abbrev inChunk (s : Fin 4096) (p : Fin 64) : Fin 4096 := ⟨s.val / 64 * 64 + p.val, by omega⟩

/-- The sum along the chunk up to the row, -/
def upTo (f : Fin 4096 → EReal) (s : Fin 4096) : EReal := ∑ p : Fin 64, if p.val ≤ s.val % 64 then f (inChunk s p) else 0

/-- and from the row on. -/
def fromOn (f : Fin 4096 → EReal) (s : Fin 4096) : EReal := ∑ p : Fin 64, if s.val % 64 ≤ p.val then f (inChunk s p) else 0

/-- The gates. -/
def gates (x : FVec Ideal Xs .f32) (w : FVec Ideal Ws .f32) (af df ab db : FVec Ideal Gs .f32) (b : Fin 8) (s : Fin 4096) (h : Fin 16) : EReal :=
  if h1 : h.val < 4 then upTo (fun r => decay (af (ix2 (0 : Fin 4) ⟨h.val, h1⟩)) (df (ix2 (0 : Fin 4) ⟨h.val, h1⟩)) (glo x w b r h)) s
  else if h2 : h.val < 8 then
    fromOn (fun r => decay (ab (ix2 (0 : Fin 4) ⟨h.val - 4, by omega⟩)) (db (ix2 (0 : Fin 4) ⟨h.val - 4, by omega⟩)) (glo x w b r h)) s
  else Ideal.div (Ideal.ofBits .f32 0x3F800000#32) (Ideal.ofBits .f32 0x3F800000#32 + Ideal.exp (-(glo x w b s h)))

end Cert.Proj

end
-- ==== Proof.Proj.Ref.lean ====
/- The second reference's three results, read at an index. -/
module

public import proofs.«01_k».proof.Reference2Ideal
public import proofs.«01_k».proof.Proof.Gen.Reference2Ideal
public import proofs.«01_k».proof.Proof.Proj.Spec
public import Idealize.ShloMosaic.Lib.ValueIdx
public import Idealize.ShloMosaic.Lib.ValueLayout
public import Idealize.ShloMosaic.Lib.IdealHost
public import Idealize.ShloMosaic.Lib.Pipeline.Value
public import Idealize.ShloMosaic.Lib.KernelVsHost

@[expose] public section

set_option maxRecDepth 16384

noncomputable section

namespace Cert.Reference2Ideal.Proj

open Cert.Reference2Ideal Cert.Reference2Ideal.Gen
open Idealize.ShloMosaic
open Idealize.ShloMosaic.ValueIdx (ix0 ix1 ix2 ix3 ix4)
open Cert.Proj

abbrev zero0 : FVec Ideal S_ .f32 := constant S_ .f32 0x00000000#32
abbrev one0 : FVec Ideal S_ .f32 := constant S_ .f32 0x3F800000#32

/-- The whole projection. -/
def proj (x : FVec Ideal S8x4096x1024 .f32) (w : FVec Ideal S4x1024x3088 .f32) : FVec Ideal S8x4096x3088 .f32 :=
  Host.dotGeneral dot_S8x4096x1024_S1024x3088_S8x4096x3088_2_0_01_1_n_n none x
    (shapeCast S1024x3088 (extractStridedSlice S1x1024x3088 ![0, 0, 0] w slices_S4x1024x3088_S1x1024x3088_0_0_0) shapeCasts_S1x1024x3088_S1024x3088)

/-- Its columns of q, k and v, with two rows of zeros before and after. -/
def padded (P : FVec Ideal S8x4096x3088 .f32) : FVec Ideal S8x4100x1536 .f32 :=
  pad S8x4100x1536 ![0, 2, 0] ![0, 2, 0] ![0, 0, 0] (extractStridedSlice S8x4096x1536 ![0, 0, 0] P slices_S8x4096x3088_S8x4096x1536_0_0_0)
    (sitofp .f32 (constantI S_ 32 0#32)) pads_S8x4096x1536_S8x4100x1536_000_220_000 h_S_

/-- One tap over all rows. -/
def spread (v : FVec Ideal S1x1x1536 .f32) : FVec Ideal S8x4096x1536 .f32 :=
  broadcastInDim S8x4096x1536 ![0, 1, 2] bcast_S1x1x1536_S8x4096x1536_0_1_2
    (broadcastInDim S1x1x1536 ![2] bcast_S1536_S1x1x1536_2 (shapeCast S1536 v shapeCasts_S1x1x1536_S1536))

/-- The convolution. -/
def convd (q : FVec Ideal S8x4100x1536 .f32) (cw : FVec Ideal S4x5x1536 .f32) : FVec Ideal S8x4096x1536 .f32 :=
  addf (addf (addf (addf (addf (broadcastInDim S8x4096x1536 ![] bcast_S_S8x4096x1536 zero0)
    (mulf (extractStridedSlice S8x4096x1536 ![0, 0, 0] q slices_S8x4100x1536_S8x4096x1536_0_0_0)
      (spread (extractStridedSlice S1x1x1536 ![0, 0, 0] cw slices_S4x5x1536_S1x1x1536_0_0_0))))
    (mulf (extractStridedSlice S8x4096x1536 ![0, 1, 0] q slices_S8x4100x1536_S8x4096x1536_0_1_0)
      (spread (extractStridedSlice S1x1x1536 ![0, 1, 0] cw slices_S4x5x1536_S1x1x1536_0_1_0))))
    (mulf (extractStridedSlice S8x4096x1536 ![0, 2, 0] q slices_S8x4100x1536_S8x4096x1536_0_2_0)
      (spread (extractStridedSlice S1x1x1536 ![0, 2, 0] cw slices_S4x5x1536_S1x1x1536_0_2_0))))
    (mulf (extractStridedSlice S8x4096x1536 ![0, 3, 0] q slices_S8x4100x1536_S8x4096x1536_0_3_0)
      (spread (extractStridedSlice S1x1x1536 ![0, 3, 0] cw slices_S4x5x1536_S1x1x1536_0_3_0))))
    (mulf (extractStridedSlice S8x4096x1536 ![0, 4, 0] q slices_S8x4100x1536_S8x4096x1536_0_4_0)
      (spread (extractStridedSlice S1x1x1536 ![0, 4, 0] cw slices_S4x5x1536_S1x1x1536_0_4_0)))

/-- The gate. -/
def gated (v : FVec Ideal S8x4096x1536 .f32) : FVec Ideal S8x4096x1536 .f32 :=
  mulf v (Host.divf (broadcastInDim S8x4096x1536 ![] bcast_S_S8x4096x1536 one0)
    (addf (broadcastInDim S8x4096x1536 ![] bcast_S_S8x4096x1536 one0) (Host.exp (Host.negf v))))

/-- By heads. -/
def heads (v : FVec Ideal S8x4096x1536 .f32) : FVec Ideal S8x4096x12x128 .f32 := shapeCast S8x4096x12x128 v shapeCasts_S8x4096x1536_S8x4096x12x128

/-- The heads of q and k, divided by their lengths. -/
def units (v : FVec Ideal S8x4096x8x128 .f32) : FVec Ideal S8x4096x8x128 .f32 :=
  mulf v (broadcastInDim S8x4096x8x128 ![0, 1, 2, 3] bcast_S8x4096x8x1_S8x4096x8x128_0_1_2_3
    (Host.rsqrt (addf (broadcastInDim S8x4096x8x1 ![0, 1, 2] bcast_S8x4096x8_S8x4096x8x1_0_1_2
      (Host.reduceAdd (mulf v v) zero0 reducesTo_S8x4096x8x128_S8x4096x8_d3 h_S_))
      (broadcastInDim S8x4096x8x1 ![] bcast_S_S8x4096x8x1 (constant S_ .f32 0x358637BD#32)))))

/-- q, k and v by heads. -/
def joined (v : FVec Ideal S8x4096x12x128 .f32) : FVec Ideal S8x4096x12x128 .f32 :=
  concatenate S8x4096x12x128 2 [
    ⟨S8x4096x4x128, mulf (extractStridedSlice S8x4096x4x128 ![0, 0, 0, 0] (units (extractStridedSlice S8x4096x8x128 ![0, 0, 0, 0] v slices_S8x4096x12x128_S8x4096x8x128_0_0_0_0)) slices_S8x4096x8x128_S8x4096x4x128_0_0_0_0)
      (broadcastInDim S8x4096x4x128 ![] bcast_S_S8x4096x4x128 (constant S_ .f32 0x3DB504F3#32))⟩,
    ⟨S8x4096x4x128, extractStridedSlice S8x4096x4x128 ![0, 0, 4, 0] (units (extractStridedSlice S8x4096x8x128 ![0, 0, 0, 0] v slices_S8x4096x12x128_S8x4096x8x128_0_0_0_0)) slices_S8x4096x8x128_S8x4096x4x128_0_0_4_0⟩,
    ⟨S8x4096x4x128, extractStridedSlice S8x4096x4x128 ![0, 0, 8, 0] v slices_S8x4096x12x128_S8x4096x4x128_0_0_8_0⟩]
    concatenates_S8x4096x4x128_S8x4096x4x128_S8x4096x4x128_S8x4096x12x128_d2

/-- The first result. -/
def qkvR (x : FVec Ideal S8x4096x1024 .f32) (w : FVec Ideal S4x1024x3088 .f32) (cw : FVec Ideal S4x5x1536 .f32) : FVec Ideal S32768x1536 .bf16 :=
  shapeCast S32768x1536 (truncf .bf16 (joined (heads (gated (convd (padded (proj x w)) cw)))) bitsLt_bf16_f32) shapeCasts_S8x4096x12x128_S32768x1536

/-- The second result. -/
def zuvR (x : FVec Ideal S8x4096x1024 .f32) (w : FVec Ideal S4x1024x3088 .f32) : FVec Ideal S32768x1536 .bf16 :=
  shapeCast S32768x1536 (truncf .bf16 (concatenate S8x4096x1536 2 [
    ⟨S8x4096x512, extractStridedSlice S8x4096x512 ![0, 0, 1536] (proj x w) slices_S8x4096x3088_S8x4096x512_0_0_1536⟩,
    ⟨S8x4096x1024, extractStridedSlice S8x4096x1024 ![0, 0, 2064] (proj x w) slices_S8x4096x3088_S8x4096x1024_0_0_2064⟩]
    concatenates_S8x4096x512_S8x4096x1024_S8x4096x1536_d2) bitsLt_bf16_f32) shapeCasts_S8x4096x1536_S32768x1536

/-- The gates' columns. -/
def gcols (P : FVec Ideal S8x4096x3088 .f32) : FVec Ideal S8x4096x16 .f32 := extractStridedSlice S8x4096x16 ![0, 0, 2048] P slices_S8x4096x3088_S8x4096x16_0_0_2048

/-- A parameter of the layer over all rows. -/
def param (v : FVec Ideal S4 .f32) : FVec Ideal S8x4096x4 .f32 :=
  broadcastInDim S8x4096x4 ![0, 1, 2] bcast_S1x1x4_S8x4096x4_0_1_2 (broadcastInDim S1x1x4 ![2] bcast_S4_S1x1x4_2 v)

/-- A parameter of the layer. -/
def layer (a : FVec Ideal S4x4 .f32) : FVec Ideal S4 .f32 := shapeCast S4 (extractStridedSlice S1x4 ![0, 0] a slices_S4x4_S1x4_0_0) shapeCasts_S1x4_S4

abbrev zeros : FVec Ideal S8x4096x4 .f32 := broadcastInDim S8x4096x4 ![] bcast_S_S8x4096x4 zero0

/-- The logarithm of one plus the exponential. -/
def soft (v : FVec Ideal S8x4096x4 .f32) : FVec Ideal S8x4096x4 .f32 :=
  select (cmpf .une (subf v zeros) (subf v zeros)) (addf v zeros)
    (addf (maximumf v zeros) (Host.log1p (Host.exp (Host.negf (Host.absf (subf v zeros))))))

/-- The decays' logarithms by chunks. -/
def decays (a d : FVec Ideal S4x4 .f32) (p : FVec Ideal S8x4096x4 .f32) : FVec Ideal S8x64x64x4 .f32 :=
  shapeCast S8x64x64x4 (mulf (param (Host.negf (Host.exp (layer a)))) (soft (addf p (param (layer d))))) shapeCasts_S8x4096x4_S8x64x64x4

abbrev start0 : FVec Ideal S_ .f32 := broadcastInDim S_ ![] bcast_S_S_ zero0

/-- A beta. -/
def beta (v : FVec Ideal S8x4096x4 .f32) : FVec Ideal S8x4096x4 .f32 :=
  Host.divf (broadcastInDim S8x4096x4 ![] bcast_S_S8x4096x4 one0)
    (addf (broadcastInDim S8x4096x4 ![] bcast_S_S8x4096x4 one0) (Host.exp (Host.negf v)))

/-- The third result. -/
def gatesR (x : FVec Ideal S8x4096x1024 .f32) (w : FVec Ideal S4x1024x3088 .f32) (af df ab db : FVec Ideal S4x4 .f32) : FVec Ideal S32768x16 .f32 :=
  shapeCast S32768x16 (concatenate S8x4096x16 2 [
    ⟨S8x4096x4, shapeCast S8x4096x4 (Host.reduceWindowAdd ![1, 1, 64, 1] ![1, 1, 1, 1] ![0, 0, 63, 0] ![0, 0, 0, 0]
      (decays af df (extractStridedSlice S8x4096x4 ![0, 0, 0] (gcols (proj x w)) slices_S8x4096x16_S8x4096x4_0_0_0)) start0
      reduceWindows_S8x64x64x4_S8x64x64x4_w1s1p0_0_w1s1p0_0_w64s1p63_0_w1s1p0_0 h_S_) shapeCasts_S8x64x64x4_S8x4096x4⟩,
    ⟨S8x4096x4, shapeCast S8x4096x4 (Host.reduceWindowAdd ![1, 1, 64, 1] ![1, 1, 1, 1] ![0, 0, 0, 0] ![0, 0, 63, 0]
      (decays ab db (extractStridedSlice S8x4096x4 ![0, 0, 4] (gcols (proj x w)) slices_S8x4096x16_S8x4096x4_0_0_4)) start0
      reduceWindows_S8x64x64x4_S8x64x64x4_w1s1p0_0_w1s1p0_0_w64s1p0_63_w1s1p0_0 h_S_) shapeCasts_S8x64x64x4_S8x4096x4⟩,
    ⟨S8x4096x4, beta (extractStridedSlice S8x4096x4 ![0, 0, 8] (gcols (proj x w)) slices_S8x4096x16_S8x4096x4_0_0_8)⟩,
    ⟨S8x4096x4, beta (extractStridedSlice S8x4096x4 ![0, 0, 12] (gcols (proj x w)) slices_S8x4096x16_S8x4096x4_0_0_12)⟩]
    concatenates_S8x4096x4_S8x4096x4_S8x4096x4_S8x4096x4_S8x4096x16_d2) shapeCasts_S8x4096x16_S32768x16

theorem proj_apply (x : FVec Ideal S8x4096x1024 .f32) (w : FVec Ideal S4x1024x3088 .f32) (b : Fin 8) (s : Fin 4096) (c : Fin 3088) :
    proj x w (ix3 b s c) = prj x w b s c := by
  simp only [proj, Host.dotGeneral]
  rw [Ideal.dotGeneral_apply]
  refine Fintype.sum_equiv (ValueIdx.contrEquiv1 dot_S8x4096x1024_S1024x3088_S8x4096x3088_2_0_01_1_n_n 1024 rfl rfl) _ _ fun k => ?_
  refine congrArg₂ (· * ·) (congrArg x (funext fun a => Fin.ext ?_)) ?_
  · fin_cases a <;> rfl
  · refine (shapeCast_apply _ _ _ (ix3 (0 : Fin 1) (ValueIdx.contrEquiv1 dot_S8x4096x1024_S1024x3088_S8x4096x3088_2_0_01_1_n_n 1024 rfl rfl k) c) ?_).trans ?_
    · rw [Shape.rowMajor_val_two, Shape.rowMajor_val_three]
      show (0 * 1024 + _) * 3088 + c.val = _ * 3088 + c.val
      rw [Nat.zero_mul, Nat.zero_add]
      rfl
    · refine congrArg w (funext fun a => Fin.ext ?_)
      fin_cases a
      · rfl
      · exact Nat.zero_add _
      · exact Nat.zero_add _

theorem padded_apply (x : FVec Ideal S8x4096x1024 .f32) (w : FVec Ideal S4x1024x3088 .f32) (b : Fin 8) (n : Fin 4100) (c : Fin 1536) :
    padded (proj x w) (ix3 b n c) = prow x w b n.val (col c) := by
  unfold padded prow
  by_cases h : 2 ≤ n.val ∧ n.val < 4098
  · rw [dif_pos h]
    refine (pad_apply_of_inside _ _ _ _ _ _ _ _ (ix3 b (⟨n.val - 2, by omega⟩ : Fin 4096) c) fun a => ?_).trans ?_
    · fin_cases a
      · show b.val = 0 + b.val * (0 + 1); omega
      · show n.val = 2 + (n.val - 2) * (0 + 1); omega
      · show c.val = 0 + c.val * (0 + 1); omega
    · refine Eq.trans (congrArg (proj x w) (funext fun a => Fin.ext ?_)) (proj_apply x w b ⟨n.val - 2, by omega⟩ (col c))
      fin_cases a
      · exact Nat.zero_add _
      · exact Nat.zero_add _
      · exact Nat.zero_add _
  · rw [dif_neg h]
    refine (pad_apply_of_not_inside _ _ _ _ _ _ _ _ (1 : Fin 3) ?_).trans ?_
    · intro hh
      have h1 : 2 ≤ n.val := hh.1
      have h2 : (n.val - 2) / (0 + 1) < 4096 := hh.2.2
      omega
    · show (((0#32 : BitVec 32).toInt : ℝ) : EReal) = 0
      simp

theorem spread_apply (v : FVec Ideal S1x1x1536 .f32) (b : Fin 8) (s : Fin 4096) (c : Fin 1536) : spread v (ix3 b s c) = v (ix3 (0 : Fin 1) (0 : Fin 1) c) := by
  unfold spread
  refine (broadcastInDim_apply _ _ _ _ (ix3 (0 : Fin 1) (0 : Fin 1) c) fun a => ?_).trans ?_
  · fin_cases a <;> rfl
  refine (broadcastInDim_apply _ _ _ _ (ix1 c) fun a => ?_).trans ?_
  · fin_cases a; rfl
  · refine shapeCast_apply _ _ _ _ ?_
    rw [Shape.rowMajor_val_three]
    show (0 * 1 + 0) * 1536 + c.val = _
    rw [Shape.rowMajor_val_one]
    show (0 * 1 + 0) * 1536 + c.val = c.val
    omega

theorem convd_apply (x : FVec Ideal S8x4096x1024 .f32) (w : FVec Ideal S4x1024x3088 .f32) (cw : FVec Ideal S4x5x1536 .f32) (b : Fin 8) (s : Fin 4096) (c : Fin 1536) :
    convd (padded (proj x w)) cw (ix3 b s c) = conv x w cw b s c := by
  have hq : ∀ (j : ℕ) (h : S8x4100x1536.Slices ![0, j, 0] S8x4096x1536) (hj : j < 5),
      extractStridedSlice S8x4096x1536 ![0, j, 0] (padded (proj x w)) h (ix3 b s c) = prow x w b (s.val + j) (col c) := fun j h hj => by
    refine Eq.trans (congrArg (padded (proj x w)) (funext fun a => Fin.ext ?_)) (padded_apply x w b ⟨s.val + j, by omega⟩ c)
    fin_cases a
    · exact Nat.zero_add _
    · exact Nat.add_comm _ _
    · exact Nat.zero_add _
  have ht : ∀ (j : ℕ) (h : S4x5x1536.Slices ![0, j, 0] S1x1x1536) (hj : j < 5),
      spread (extractStridedSlice S1x1x1536 ![0, j, 0] cw h) (ix3 b s c) = tap cw ⟨j, hj⟩ c := fun j h hj => by
    rw [spread_apply]
    refine congrArg cw (funext fun a => Fin.ext ?_)
    fin_cases a
    · rfl
    · exact Nat.add_zero _
    · exact Nat.zero_add _
  unfold convd
  simp only [ValueIdx.addf_apply, ValueIdx.mulf_apply]
  rw [hq 0 _ (by omega), hq 1 _ (by omega), hq 2 _ (by omega), hq 3 _ (by omega), hq 4 _ (by omega),
    ht 0 _ (by omega), ht 1 _ (by omega), ht 2 _ (by omega), ht 3 _ (by omega), ht 4 _ (by omega)]
  rw [show broadcastInDim S8x4096x1536 ![] bcast_S_S8x4096x1536 zero0 (ix3 b s c) = 0 from Ideal.ofBits_zero_f32, zero_add]
  rfl

theorem gated_apply (x : FVec Ideal S8x4096x1024 .f32) (w : FVec Ideal S4x1024x3088 .f32) (cw : FVec Ideal S4x5x1536 .f32) (b : Fin 8) (s : Fin 4096) (c : Fin 1536) :
    gated (convd (padded (proj x w)) cw) (ix3 b s c) = act x w cw b s c := by
  unfold act
  rw [← convd_apply]
  rfl

theorem heads_apply (v : FVec Ideal S8x4096x1536 .f32) (b : Fin 8) (s : Fin 4096) (h : Fin 12) (l : Fin 128) :
    heads v (ix4 b s h l) = v (ix3 b s ⟨h.val * 128 + l.val, by omega⟩) := by
  refine shapeCast_apply _ _ _ _ ?_
  rw [Shape.rowMajor_val_three, Shape.rowMajor_val_four]
  show (b.val * 4096 + s.val) * 1536 + (h.val * 128 + l.val) = ((b.val * 4096 + s.val) * 12 + h.val) * 128 + l.val
  omega

theorem units_apply (v : FVec Ideal S8x4096x8x128 .f32) (b : Fin 8) (s : Fin 4096) (h : Fin 8) (l : Fin 128) :
    units v (ix4 b s h l) = v (ix4 b s h l) * Ideal.rsqrt ((∑ k : Fin 128, v (ix4 b s h k) * v (ix4 b s h k)) + Ideal.ofBits .f32 0x358637BD#32) := by
  unfold units
  rw [ValueIdx.mulf_apply]
  refine congrArg (v (ix4 b s h l) * ·) ?_
  refine (broadcastInDim_apply _ _ _ _ (ix4 b s h (0 : Fin 1)) fun a => ?_).trans ?_
  · fin_cases a <;> rfl
  show Ideal.rsqrt (_ + Ideal.ofBits .f32 0x358637BD#32) = _
  refine congrArg (fun t => Ideal.rsqrt (t + Ideal.ofBits .f32 0x358637BD#32)) ?_
  refine (broadcastInDim_apply _ _ _ _ (ix3 b s h) fun a => ?_).trans ?_
  · fin_cases a <;> rfl
  refine (Ideal.hostReduceAdd_single reducesTo_S8x4096x8x128_S8x4096x8_d3 (by decide : Shape.Reduces S8x4096x8x128 [3] S8x4096x8) _ _ _).trans ?_
  rw [show zero0 (Shape.Idx.first h_S_) = (0 : EReal) from Ideal.ofBits_zero_f32, zero_add]
  refine Finset.sum_congr rfl fun k _ => ?_
  refine congrArg (fun i => v i * v i) (funext fun a => Fin.ext ?_)
  rw [Shape.Reduces.lift_val]
  fin_cases a <;> rfl

end Cert.Reference2Ideal.Proj

end
-- ==== Proof.Proj.RefRun.lean ====
/- The second reference as a line of host operations, in stages, and what it leaves in its results. -/
module

public import proofs.«01_k».proof.Proof.Proj.Ref
public import Idealize.ShloMosaic.Lib.StableHlo.Run
public import Idealize.ShloMosaic.Lib.StableHlo.RunRead

@[expose] public section

set_option maxRecDepth 16384

noncomputable section

namespace Cert.Reference2Ideal.Proj

open Cert.Reference2Ideal Cert.Reference2Ideal.Gen
open Idealize.ShloMosaic Idealize.ShloMosaic.TcCoe Idealize.ShloMosaic.StableHlo
open Idealize.SL Idealize.SL.Sem

variable {F : FTy → Type} [FloatOps F]

/-- The three pieces of q, k and v side by side, -/
def put_v57 (a b c : FVec F S8x4096x4x128 .f32) : FVec F S8x4096x12x128 .f32 :=
  concatenate S8x4096x12x128 2 [⟨S8x4096x4x128, a⟩, ⟨S8x4096x4x128, b⟩, ⟨S8x4096x4x128, c⟩] concatenates_S8x4096x4x128_S8x4096x4x128_S8x4096x4x128_S8x4096x12x128_d2

/-- the two of the mixer, -/
def put_v60 (a : FVec F S8x4096x512 .f32) (b : FVec F S8x4096x1024 .f32) : FVec F S8x4096x1536 .f32 :=
  concatenate S8x4096x1536 2 [⟨S8x4096x512, a⟩, ⟨S8x4096x1024, b⟩] concatenates_S8x4096x512_S8x4096x1024_S8x4096x1536_d2

/-- and the four of the gates. -/
def put_v110 (a b c d : FVec F S8x4096x4 .f32) : FVec F S8x4096x16 .f32 :=
  concatenate S8x4096x16 2 [⟨S8x4096x4, a⟩, ⟨S8x4096x4, b⟩, ⟨S8x4096x4, c⟩, ⟨S8x4096x4, d⟩] concatenates_S8x4096x4_S8x4096x4_S8x4096x4_S8x4096x4_S8x4096x16_d2

/-- Stage A, -/
abbrev stageA : List (HloOp τ sig (Elt F)) :=
  [ unary main_arg1 main_v0 ((extractStridedSlice S1x1024x3088 ![0, 0, 0] · slices_S4x1024x3088_S1x1024x3088_0_0_0) : (⟨S4x1024x3088, .f32⟩ : BufTy).Contents (Elt F) → (⟨S1x1024x3088, .f32⟩ : BufTy).Contents (Elt F)),
    reshape main_v0 main_v1 (rfl : (.f32 : EltTy) = .f32) shapeCasts_S1x1024x3088_S1024x3088,
    binary main_arg0 main_v1 main_v2 ((fun l r => Host.dotGeneral dot_S8x4096x1024_S1024x3088_S8x4096x3088_2_0_01_1_n_n none l r) : (⟨S8x4096x1024, .f32⟩ : BufTy).Contents (Elt F) → (⟨S1024x3088, .f32⟩ : BufTy).Contents (Elt F) → (⟨S8x4096x3088, .f32⟩ : BufTy).Contents (Elt F)) ]

/-- and what it writes. -/
abbrev wrA : List (Ref sig .tc) := [main_v0, main_v1, main_v2]

theorem keepA (V : Valuation τ sig (Elt F)) (r : Ref sig .tc) (h : r ∉ wrA) : after stageA V (Proc.devRef .tc r) = V (Proc.devRef .tc r) :=
  after_unwritten wrA rfl h V

/-- Stage B, -/
abbrev stageB : List (HloOp τ sig (Elt F)) :=
  [ unary main_v2 main_v3 ((extractStridedSlice S8x4096x1536 ![0, 0, 0] · slices_S8x4096x3088_S8x4096x1536_0_0_0) : (⟨S8x4096x3088, .f32⟩ : BufTy).Contents (Elt F) → (⟨S8x4096x1536, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S8x4096x1536, .f32⟩) main_v3) (TRef.of (T := ⟨S_, .f32⟩) main_call0_v0) (TRef.of (T := ⟨S8x4100x1536, .f32⟩) main_v4) (fun x v => pad S8x4100x1536 ![0, 2, 0] ![0, 2, 0] ![0, 0, 0] x v pads_S8x4096x1536_S8x4100x1536_000_220_000 h_S_) ]

/-- and what it writes. -/
abbrev wrB : List (Ref sig .tc) := [main_v3, main_c, main_call0_v0, main_v4]

theorem keepB (V : Valuation τ sig (Elt F)) (r : Ref sig .tc) (h : r ∉ wrB) : after stageB V (Proc.devRef .tc r) = V (Proc.devRef .tc r) :=
  after_unwritten wrB rfl h V

/-- Stage C, -/
abbrev stageC : List (HloOp τ sig (Elt F)) :=
  [ unary main_v4 main_v5 ((extractStridedSlice S8x4096x1536 ![0, 0, 0] · slices_S8x4100x1536_S8x4096x1536_0_0_0) : (⟨S8x4100x1536, .f32⟩ : BufTy).Contents (Elt F) → (⟨S8x4096x1536, .f32⟩ : BufTy).Contents (Elt F)),
    unary main_arg2 main_v6 ((extractStridedSlice S1x1x1536 ![0, 0, 0] · slices_S4x5x1536_S1x1x1536_0_0_0) : (⟨S4x5x1536, .f32⟩ : BufTy).Contents (Elt F) → (⟨S1x1x1536, .f32⟩ : BufTy).Contents (Elt F)),
    reshape main_v6 main_v7 (rfl : (.f32 : EltTy) = .f32) shapeCasts_S1x1x1536_S1536,
    unary main_v7 main_v8 (broadcastInDim S1x1x1536 ![2] bcast_S1536_S1x1x1536_2 : (⟨S1536, .f32⟩ : BufTy).Contents (Elt F) → (⟨S1x1x1536, .f32⟩ : BufTy).Contents (Elt F)),
    unary main_v8 main_v9 (broadcastInDim S8x4096x1536 ![0, 1, 2] bcast_S1x1x1536_S8x4096x1536_0_1_2 : (⟨S1x1x1536, .f32⟩ : BufTy).Contents (Elt F) → (⟨S8x4096x1536, .f32⟩ : BufTy).Contents (Elt F)),
    binary main_v5 main_v9 main_v10 (mulf : (⟨S8x4096x1536, .f32⟩ : BufTy).Contents (Elt F) → (⟨S8x4096x1536, .f32⟩ : BufTy).Contents (Elt F) → (⟨S8x4096x1536, .f32⟩ : BufTy).Contents (Elt F)),
    nullary main_cst (constant S_ .f32 0x00000000#32),
    unary main_cst main_v11 (broadcastInDim S8x4096x1536 ![] bcast_S_S8x4096x1536 : (⟨S_, .f32⟩ : BufTy).Contents (Elt F) → (⟨S8x4096x1536, .f32⟩ : BufTy).Contents (Elt F)),
    binary main_v11 main_v10 main_v12 (addf : (⟨S8x4096x1536, .f32⟩ : BufTy).Contents (Elt F) → (⟨S8x4096x1536, .f32⟩ : BufTy).Contents (Elt F) → (⟨S8x4096x1536, .f32⟩ : BufTy).Contents (Elt F)),
    unary main_v4 main_v13 ((extractStridedSlice S8x4096x1536 ![0, 1, 0] · slices_S8x4100x1536_S8x4096x1536_0_1_0) : (⟨S8x4100x1536, .f32⟩ : BufTy).Contents (Elt F) → (⟨S8x4096x1536, .f32⟩ : BufTy).Contents (Elt F)),
    unary main_arg2 main_v14 ((extractStridedSlice S1x1x1536 ![0, 1, 0] · slices_S4x5x1536_S1x1x1536_0_1_0) : (⟨S4x5x1536, .f32⟩ : BufTy).Contents (Elt F) → (⟨S1x1x1536, .f32⟩ : BufTy).Contents (Elt F)),
    reshape main_v14 main_v15 (rfl : (.f32 : EltTy) = .f32) shapeCasts_S1x1x1536_S1536,
    unary main_v15 main_v16 (broadcastInDim S1x1x1536 ![2] bcast_S1536_S1x1x1536_2 : (⟨S1536, .f32⟩ : BufTy).Contents (Elt F) → (⟨S1x1x1536, .f32⟩ : BufTy).Contents (Elt F)),
    unary main_v16 main_v17 (broadcastInDim S8x4096x1536 ![0, 1, 2] bcast_S1x1x1536_S8x4096x1536_0_1_2 : (⟨S1x1x1536, .f32⟩ : BufTy).Contents (Elt F) → (⟨S8x4096x1536, .f32⟩ : BufTy).Contents (Elt F)),
    binary main_v13 main_v17 main_v18 (mulf : (⟨S8x4096x1536, .f32⟩ : BufTy).Contents (Elt F) → (⟨S8x4096x1536, .f32⟩ : BufTy).Contents (Elt F) → (⟨S8x4096x1536, .f32⟩ : BufTy).Contents (Elt F)),
    binary main_v12 main_v18 main_v19 (addf : (⟨S8x4096x1536, .f32⟩ : BufTy).Contents (Elt F) → (⟨S8x4096x1536, .f32⟩ : BufTy).Contents (Elt F) → (⟨S8x4096x1536, .f32⟩ : BufTy).Contents (Elt F)),
    unary main_v4 main_v20 ((extractStridedSlice S8x4096x1536 ![0, 2, 0] · slices_S8x4100x1536_S8x4096x1536_0_2_0) : (⟨S8x4100x1536, .f32⟩ : BufTy).Contents (Elt F) → (⟨S8x4096x1536, .f32⟩ : BufTy).Contents (Elt F)),
    unary main_arg2 main_v21 ((extractStridedSlice S1x1x1536 ![0, 2, 0] · slices_S4x5x1536_S1x1x1536_0_2_0) : (⟨S4x5x1536, .f32⟩ : BufTy).Contents (Elt F) → (⟨S1x1x1536, .f32⟩ : BufTy).Contents (Elt F)),
    reshape main_v21 main_v22 (rfl : (.f32 : EltTy) = .f32) shapeCasts_S1x1x1536_S1536,
    unary main_v22 main_v23 (broadcastInDim S1x1x1536 ![2] bcast_S1536_S1x1x1536_2 : (⟨S1536, .f32⟩ : BufTy).Contents (Elt F) → (⟨S1x1x1536, .f32⟩ : BufTy).Contents (Elt F)),
    unary main_v23 main_v24 (broadcastInDim S8x4096x1536 ![0, 1, 2] bcast_S1x1x1536_S8x4096x1536_0_1_2 : (⟨S1x1x1536, .f32⟩ : BufTy).Contents (Elt F) → (⟨S8x4096x1536, .f32⟩ : BufTy).Contents (Elt F)),
    binary main_v20 main_v24 main_v25 (mulf : (⟨S8x4096x1536, .f32⟩ : BufTy).Contents (Elt F) → (⟨S8x4096x1536, .f32⟩ : BufTy).Contents (Elt F) → (⟨S8x4096x1536, .f32⟩ : BufTy).Contents (Elt F)),
    binary main_v19 main_v25 main_v26 (addf : (⟨S8x4096x1536, .f32⟩ : BufTy).Contents (Elt F) → (⟨S8x4096x1536, .f32⟩ : BufTy).Contents (Elt F) → (⟨S8x4096x1536, .f32⟩ : BufTy).Contents (Elt F)),
    unary main_v4 main_v27 ((extractStridedSlice S8x4096x1536 ![0, 3, 0] · slices_S8x4100x1536_S8x4096x1536_0_3_0) : (⟨S8x4100x1536, .f32⟩ : BufTy).Contents (Elt F) → (⟨S8x4096x1536, .f32⟩ : BufTy).Contents (Elt F)),
    unary main_arg2 main_v28 ((extractStridedSlice S1x1x1536 ![0, 3, 0] · slices_S4x5x1536_S1x1x1536_0_3_0) : (⟨S4x5x1536, .f32⟩ : BufTy).Contents (Elt F) → (⟨S1x1x1536, .f32⟩ : BufTy).Contents (Elt F)),
    reshape main_v28 main_v29 (rfl : (.f32 : EltTy) = .f32) shapeCasts_S1x1x1536_S1536,
    unary main_v29 main_v30 (broadcastInDim S1x1x1536 ![2] bcast_S1536_S1x1x1536_2 : (⟨S1536, .f32⟩ : BufTy).Contents (Elt F) → (⟨S1x1x1536, .f32⟩ : BufTy).Contents (Elt F)),
    unary main_v30 main_v31 (broadcastInDim S8x4096x1536 ![0, 1, 2] bcast_S1x1x1536_S8x4096x1536_0_1_2 : (⟨S1x1x1536, .f32⟩ : BufTy).Contents (Elt F) → (⟨S8x4096x1536, .f32⟩ : BufTy).Contents (Elt F)),
    binary main_v27 main_v31 main_v32 (mulf : (⟨S8x4096x1536, .f32⟩ : BufTy).Contents (Elt F) → (⟨S8x4096x1536, .f32⟩ : BufTy).Contents (Elt F) → (⟨S8x4096x1536, .f32⟩ : BufTy).Contents (Elt F)),
    binary main_v26 main_v32 main_v33 (addf : (⟨S8x4096x1536, .f32⟩ : BufTy).Contents (Elt F) → (⟨S8x4096x1536, .f32⟩ : BufTy).Contents (Elt F) → (⟨S8x4096x1536, .f32⟩ : BufTy).Contents (Elt F)),
    unary main_v4 main_v34 ((extractStridedSlice S8x4096x1536 ![0, 4, 0] · slices_S8x4100x1536_S8x4096x1536_0_4_0) : (⟨S8x4100x1536, .f32⟩ : BufTy).Contents (Elt F) → (⟨S8x4096x1536, .f32⟩ : BufTy).Contents (Elt F)),
    unary main_arg2 main_v35 ((extractStridedSlice S1x1x1536 ![0, 4, 0] · slices_S4x5x1536_S1x1x1536_0_4_0) : (⟨S4x5x1536, .f32⟩ : BufTy).Contents (Elt F) → (⟨S1x1x1536, .f32⟩ : BufTy).Contents (Elt F)),
    reshape main_v35 main_v36 (rfl : (.f32 : EltTy) = .f32) shapeCasts_S1x1x1536_S1536,
    unary main_v36 main_v37 (broadcastInDim S1x1x1536 ![2] bcast_S1536_S1x1x1536_2 : (⟨S1536, .f32⟩ : BufTy).Contents (Elt F) → (⟨S1x1x1536, .f32⟩ : BufTy).Contents (Elt F)),
    unary main_v37 main_v38 (broadcastInDim S8x4096x1536 ![0, 1, 2] bcast_S1x1x1536_S8x4096x1536_0_1_2 : (⟨S1x1x1536, .f32⟩ : BufTy).Contents (Elt F) → (⟨S8x4096x1536, .f32⟩ : BufTy).Contents (Elt F)),
    binary main_v34 main_v38 main_v39 (mulf : (⟨S8x4096x1536, .f32⟩ : BufTy).Contents (Elt F) → (⟨S8x4096x1536, .f32⟩ : BufTy).Contents (Elt F) → (⟨S8x4096x1536, .f32⟩ : BufTy).Contents (Elt F)),
    binary main_v33 main_v39 main_v40 (addf : (⟨S8x4096x1536, .f32⟩ : BufTy).Contents (Elt F) → (⟨S8x4096x1536, .f32⟩ : BufTy).Contents (Elt F) → (⟨S8x4096x1536, .f32⟩ : BufTy).Contents (Elt F)) ]

/-- and what it writes. -/
abbrev wrC : List (Ref sig .tc) := [main_v5, main_v6, main_v7, main_v8, main_v9, main_v10, main_cst, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40]

theorem keepC (V : Valuation τ sig (Elt F)) (r : Ref sig .tc) (h : r ∉ wrC) : after stageC V (Proc.devRef .tc r) = V (Proc.devRef .tc r) :=
  after_unwritten wrC rfl h V

/-- Stage D, -/
abbrev stageD : List (HloOp τ sig (Elt F)) :=
  [ TRef.unary (TRef.of (T := ⟨S8x4096x1536, .f32⟩) main_v40) (TRef.of (T := ⟨S8x4096x1536, .f32⟩) main_call1_v0) Host.negf,
    TRef.unary (TRef.of (T := ⟨S8x4096x1536, .f32⟩) main_call1_v0) (TRef.of (T := ⟨S8x4096x1536, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S8x4096x1536, .f32⟩) main_call1_v2) (broadcastInDim S8x4096x1536 ![] bcast_S_S8x4096x1536),
    TRef.binary (TRef.of (T := ⟨S8x4096x1536, .f32⟩) main_call1_v2) (TRef.of (T := ⟨S8x4096x1536, .f32⟩) main_call1_v1) (TRef.of (T := ⟨S8x4096x1536, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S8x4096x1536, .f32⟩) main_call1_v4) (broadcastInDim S8x4096x1536 ![] bcast_S_S8x4096x1536),
    TRef.binary (TRef.of (T := ⟨S8x4096x1536, .f32⟩) main_call1_v4) (TRef.of (T := ⟨S8x4096x1536, .f32⟩) main_call1_v3) (TRef.of (T := ⟨S8x4096x1536, .f32⟩) main_call1_v5) Host.divf,
    TRef.binary (TRef.of (T := ⟨S8x4096x1536, .f32⟩) main_v40) (TRef.of (T := ⟨S8x4096x1536, .f32⟩) main_call1_v5) (TRef.of (T := ⟨S8x4096x1536, .f32⟩) main_v41) mulf ]

/-- and what it writes. -/
abbrev wrD : List (Ref sig .tc) := [main_call1_v0, main_call1_v1, main_call1_cst, main_call1_v2, main_call1_v3, main_call1_cst_0, main_call1_v4, main_call1_v5, main_v41]

theorem keepD (V : Valuation τ sig (Elt F)) (r : Ref sig .tc) (h : r ∉ wrD) : after stageD V (Proc.devRef .tc r) = V (Proc.devRef .tc r) :=
  after_unwritten wrD rfl h V

/-- Stage E, -/
abbrev stageE : List (HloOp τ sig (Elt F)) :=
  [ reshape main_v41 main_v42 (rfl : (.f32 : EltTy) = .f32) shapeCasts_S8x4096x1536_S8x4096x12x128,
    unary main_v42 main_v43 ((extractStridedSlice S8x4096x8x128 ![0, 0, 0, 0] · slices_S8x4096x12x128_S8x4096x8x128_0_0_0_0) : (⟨S8x4096x12x128, .f32⟩ : BufTy).Contents (Elt F) → (⟨S8x4096x8x128, .f32⟩ : BufTy).Contents (Elt F)),
    unary main_v42 main_v44 ((extractStridedSlice S8x4096x4x128 ![0, 0, 8, 0] · slices_S8x4096x12x128_S8x4096x4x128_0_0_8_0) : (⟨S8x4096x12x128, .f32⟩ : BufTy).Contents (Elt F) → (⟨S8x4096x4x128, .f32⟩ : BufTy).Contents (Elt F)),
    binary main_v43 main_v43 main_v45 (mulf : (⟨S8x4096x8x128, .f32⟩ : BufTy).Contents (Elt F) → (⟨S8x4096x8x128, .f32⟩ : BufTy).Contents (Elt F) → (⟨S8x4096x8x128, .f32⟩ : BufTy).Contents (Elt F)),
    nullary main_cst_0 (constant S_ .f32 0x00000000#32),
    binary main_v45 main_cst_0 main_v46 ((fun x v => Host.reduceAdd x v reducesTo_S8x4096x8x128_S8x4096x8_d3 h_S_) : (⟨S8x4096x8x128, .f32⟩ : BufTy).Contents (Elt F) → (⟨S_, .f32⟩ : BufTy).Contents (Elt F) → (⟨S8x4096x8, .f32⟩ : BufTy).Contents (Elt F)),
    unary main_v46 main_v47 (broadcastInDim S8x4096x8x1 ![0, 1, 2] bcast_S8x4096x8_S8x4096x8x1_0_1_2 : (⟨S8x4096x8, .f32⟩ : BufTy).Contents (Elt F) → (⟨S8x4096x8x1, .f32⟩ : BufTy).Contents (Elt F)),
    nullary main_cst_1 (constant S_ .f32 0x358637BD#32),
    unary main_cst_1 main_v48 (broadcastInDim S8x4096x8x1 ![] bcast_S_S8x4096x8x1 : (⟨S_, .f32⟩ : BufTy).Contents (Elt F) → (⟨S8x4096x8x1, .f32⟩ : BufTy).Contents (Elt F)),
    binary main_v47 main_v48 main_v49 (addf : (⟨S8x4096x8x1, .f32⟩ : BufTy).Contents (Elt F) → (⟨S8x4096x8x1, .f32⟩ : BufTy).Contents (Elt F) → (⟨S8x4096x8x1, .f32⟩ : BufTy).Contents (Elt F)),
    unary main_v49 main_v50 (Host.rsqrt : (⟨S8x4096x8x1, .f32⟩ : BufTy).Contents (Elt F) → (⟨S8x4096x8x1, .f32⟩ : BufTy).Contents (Elt F)),
    unary main_v50 main_v51 (broadcastInDim S8x4096x8x128 ![0, 1, 2, 3] bcast_S8x4096x8x1_S8x4096x8x128_0_1_2_3 : (⟨S8x4096x8x1, .f32⟩ : BufTy).Contents (Elt F) → (⟨S8x4096x8x128, .f32⟩ : BufTy).Contents (Elt F)),
    binary main_v43 main_v51 main_v52 (mulf : (⟨S8x4096x8x128, .f32⟩ : BufTy).Contents (Elt F) → (⟨S8x4096x8x128, .f32⟩ : BufTy).Contents (Elt F) → (⟨S8x4096x8x128, .f32⟩ : BufTy).Contents (Elt F)),
    unary main_v52 main_v53 ((extractStridedSlice S8x4096x4x128 ![0, 0, 0, 0] · slices_S8x4096x8x128_S8x4096x4x128_0_0_0_0) : (⟨S8x4096x8x128, .f32⟩ : BufTy).Contents (Elt F) → (⟨S8x4096x4x128, .f32⟩ : BufTy).Contents (Elt F)),
    nullary main_cst_2 (constant S_ .f32 0x3DB504F3#32),
    unary main_cst_2 main_v54 (broadcastInDim S8x4096x4x128 ![] bcast_S_S8x4096x4x128 : (⟨S_, .f32⟩ : BufTy).Contents (Elt F) → (⟨S8x4096x4x128, .f32⟩ : BufTy).Contents (Elt F)),
    binary main_v53 main_v54 main_v55 (mulf : (⟨S8x4096x4x128, .f32⟩ : BufTy).Contents (Elt F) → (⟨S8x4096x4x128, .f32⟩ : BufTy).Contents (Elt F) → (⟨S8x4096x4x128, .f32⟩ : BufTy).Contents (Elt F)),
    unary main_v52 main_v56 ((extractStridedSlice S8x4096x4x128 ![0, 0, 4, 0] · slices_S8x4096x8x128_S8x4096x4x128_0_0_4_0) : (⟨S8x4096x8x128, .f32⟩ : BufTy).Contents (Elt F) → (⟨S8x4096x4x128, .f32⟩ : BufTy).Contents (Elt F)),
    nary ![main_v55, main_v56, main_v44] main_v57 (fun u => put_v57 (F := F) (u 0) (u 1) (u 2)) ]

/-- and what it writes. -/
abbrev wrE : List (Ref sig .tc) := [main_v42, main_v43, main_v44, main_v45, main_cst_0, main_v46, main_v47, main_cst_1, main_v48, main_v49, main_v50, main_v51, main_v52, main_v53, main_cst_2, main_v54, main_v55, main_v56, main_v57]

theorem keepE (V : Valuation τ sig (Elt F)) (r : Ref sig .tc) (h : r ∉ wrE) : after stageE V (Proc.devRef .tc r) = V (Proc.devRef .tc r) :=
  after_unwritten wrE rfl h V

/-- Stage F, -/
abbrev stageF : List (HloOp τ sig (Elt F)) :=
  [ unary main_v2 main_v58 ((extractStridedSlice S8x4096x512 ![0, 0, 1536] · slices_S8x4096x3088_S8x4096x512_0_0_1536) : (⟨S8x4096x3088, .f32⟩ : BufTy).Contents (Elt F) → (⟨S8x4096x512, .f32⟩ : BufTy).Contents (Elt F)),
    unary main_v2 main_v59 ((extractStridedSlice S8x4096x1024 ![0, 0, 2064] · slices_S8x4096x3088_S8x4096x1024_0_0_2064) : (⟨S8x4096x3088, .f32⟩ : BufTy).Contents (Elt F) → (⟨S8x4096x1024, .f32⟩ : BufTy).Contents (Elt F)),
    binary main_v58 main_v59 main_v60 (put_v60 (F := F)) ]

/-- and what it writes. -/
abbrev wrF : List (Ref sig .tc) := [main_v58, main_v59, main_v60]

theorem keepF (V : Valuation τ sig (Elt F)) (r : Ref sig .tc) (h : r ∉ wrF) : after stageF V (Proc.devRef .tc r) = V (Proc.devRef .tc r) :=
  after_unwritten wrF rfl h V

/-- Stage G, -/
abbrev stageG : List (HloOp τ sig (Elt F)) :=
  [ unary main_v2 main_v61 ((extractStridedSlice S8x4096x16 ![0, 0, 2048] · slices_S8x4096x3088_S8x4096x16_0_0_2048) : (⟨S8x4096x3088, .f32⟩ : BufTy).Contents (Elt F) → (⟨S8x4096x16, .f32⟩ : BufTy).Contents (Elt F)),
    unary main_v61 main_v62 ((extractStridedSlice S8x4096x4 ![0, 0, 0] · slices_S8x4096x16_S8x4096x4_0_0_0) : (⟨S8x4096x16, .f32⟩ : BufTy).Contents (Elt F) → (⟨S8x4096x4, .f32⟩ : BufTy).Contents (Elt F)),
    unary main_v61 main_v63 ((extractStridedSlice S8x4096x4 ![0, 0, 4] · slices_S8x4096x16_S8x4096x4_0_0_4) : (⟨S8x4096x16, .f32⟩ : BufTy).Contents (Elt F) → (⟨S8x4096x4, .f32⟩ : BufTy).Contents (Elt F)),
    unary main_v61 main_v64 ((extractStridedSlice S8x4096x4 ![0, 0, 8] · slices_S8x4096x16_S8x4096x4_0_0_8) : (⟨S8x4096x16, .f32⟩ : BufTy).Contents (Elt F) → (⟨S8x4096x4, .f32⟩ : BufTy).Contents (Elt F)),
    unary main_v61 main_v65 ((extractStridedSlice S8x4096x4 ![0, 0, 12] · slices_S8x4096x16_S8x4096x4_0_0_12) : (⟨S8x4096x16, .f32⟩ : BufTy).Contents (Elt F) → (⟨S8x4096x4, .f32⟩ : BufTy).Contents (Elt F)) ]

/-- and what it writes. -/
abbrev wrG : List (Ref sig .tc) := [main_v61, main_v62, main_v63, main_v64, main_v65]

theorem keepG (V : Valuation τ sig (Elt F)) (r : Ref sig .tc) (h : r ∉ wrG) : after stageG V (Proc.devRef .tc r) = V (Proc.devRef .tc r) :=
  after_unwritten wrG rfl h V

/-- Stage H, -/
abbrev stageH : List (HloOp τ sig (Elt F)) :=
  [ unary main_arg3 main_v66 ((extractStridedSlice S1x4 ![0, 0] · slices_S4x4_S1x4_0_0) : (⟨S4x4, .f32⟩ : BufTy).Contents (Elt F) → (⟨S1x4, .f32⟩ : BufTy).Contents (Elt F)),
    reshape main_v66 main_v67 (rfl : (.f32 : EltTy) = .f32) shapeCasts_S1x4_S4,
    unary main_v67 main_v68 (Host.exp : (⟨S4, .f32⟩ : BufTy).Contents (Elt F) → (⟨S4, .f32⟩ : BufTy).Contents (Elt F)),
    unary main_v68 main_v69 (Host.negf : (⟨S4, .f32⟩ : BufTy).Contents (Elt F) → (⟨S4, .f32⟩ : BufTy).Contents (Elt F)),
    unary main_arg4 main_v70 ((extractStridedSlice S1x4 ![0, 0] · slices_S4x4_S1x4_0_0) : (⟨S4x4, .f32⟩ : BufTy).Contents (Elt F) → (⟨S1x4, .f32⟩ : BufTy).Contents (Elt F)),
    reshape main_v70 main_v71 (rfl : (.f32 : EltTy) = .f32) shapeCasts_S1x4_S4,
    unary main_v71 main_v72 (broadcastInDim S1x1x4 ![2] bcast_S4_S1x1x4_2 : (⟨S4, .f32⟩ : BufTy).Contents (Elt F) → (⟨S1x1x4, .f32⟩ : BufTy).Contents (Elt F)),
    unary main_v72 main_v73 (broadcastInDim S8x4096x4 ![0, 1, 2] bcast_S1x1x4_S8x4096x4_0_1_2 : (⟨S1x1x4, .f32⟩ : BufTy).Contents (Elt F) → (⟨S8x4096x4, .f32⟩ : BufTy).Contents (Elt F)),
    binary main_v62 main_v73 main_v74 (addf : (⟨S8x4096x4, .f32⟩ : BufTy).Contents (Elt F) → (⟨S8x4096x4, .f32⟩ : BufTy).Contents (Elt F) → (⟨S8x4096x4, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8x4096x4, .f32⟩) main_call2_v0) (broadcastInDim S8x4096x4 ![] bcast_S_S8x4096x4),
    TRef.binary (TRef.of (T := ⟨S8x4096x4, .f32⟩) main_v74) (TRef.of (T := ⟨S8x4096x4, .f32⟩) main_call2_v0) (TRef.of (T := ⟨S8x4096x4, .f32⟩) main_call2_v1) maximumf,
    TRef.unary (TRef.of (T := ⟨S_, .f32⟩) main_call2_cst) (TRef.of (T := ⟨S8x4096x4, .f32⟩) main_call2_v2) (broadcastInDim S8x4096x4 ![] bcast_S_S8x4096x4),
    TRef.binary (TRef.of (T := ⟨S8x4096x4, .f32⟩) main_v74) (TRef.of (T := ⟨S8x4096x4, .f32⟩) main_call2_v2) (TRef.of (T := ⟨S8x4096x4, .f32⟩) main_call2_v3) subf,
    TRef.binary (TRef.of (T := ⟨S8x4096x4, .f32⟩) main_call2_v3) (TRef.of (T := ⟨S8x4096x4, .f32⟩) main_call2_v3) (TRef.of (T := ⟨S8x4096x4, .i1⟩) main_call2_v4) (cmpf .une),
    TRef.unary (TRef.of (T := ⟨S_, .f32⟩) main_call2_cst) (TRef.of (T := ⟨S8x4096x4, .f32⟩) main_call2_v5) (broadcastInDim S8x4096x4 ![] bcast_S_S8x4096x4),
    TRef.binary (TRef.of (T := ⟨S8x4096x4, .f32⟩) main_v74) (TRef.of (T := ⟨S8x4096x4, .f32⟩) main_call2_v5) (TRef.of (T := ⟨S8x4096x4, .f32⟩) main_call2_v6) addf,
    TRef.unary (TRef.of (T := ⟨S8x4096x4, .f32⟩) main_call2_v3) (TRef.of (T := ⟨S8x4096x4, .f32⟩) main_call2_v7) Host.absf,
    TRef.unary (TRef.of (T := ⟨S8x4096x4, .f32⟩) main_call2_v7) (TRef.of (T := ⟨S8x4096x4, .f32⟩) main_call2_v8) Host.negf,
    TRef.unary (TRef.of (T := ⟨S8x4096x4, .f32⟩) main_call2_v8) (TRef.of (T := ⟨S8x4096x4, .f32⟩) main_call2_v9) Host.exp,
    TRef.unary (TRef.of (T := ⟨S8x4096x4, .f32⟩) main_call2_v9) (TRef.of (T := ⟨S8x4096x4, .f32⟩) main_call2_v10) Host.log1p,
    TRef.binary (TRef.of (T := ⟨S8x4096x4, .f32⟩) main_call2_v1) (TRef.of (T := ⟨S8x4096x4, .f32⟩) main_call2_v10) (TRef.of (T := ⟨S8x4096x4, .f32⟩) main_call2_v11) addf,
    TRef.ternary (TRef.of (T := ⟨S8x4096x4, .i1⟩) main_call2_v4) (TRef.of (T := ⟨S8x4096x4, .f32⟩) main_call2_v6) (TRef.of (T := ⟨S8x4096x4, .f32⟩) main_call2_v11) (TRef.of (T := ⟨S8x4096x4, .f32⟩) main_v75) select,
    unary main_v69 main_v76 (broadcastInDim S1x1x4 ![2] bcast_S4_S1x1x4_2 : (⟨S4, .f32⟩ : BufTy).Contents (Elt F) → (⟨S1x1x4, .f32⟩ : BufTy).Contents (Elt F)),
    unary main_v76 main_v77 (broadcastInDim S8x4096x4 ![0, 1, 2] bcast_S1x1x4_S8x4096x4_0_1_2 : (⟨S1x1x4, .f32⟩ : BufTy).Contents (Elt F) → (⟨S8x4096x4, .f32⟩ : BufTy).Contents (Elt F)),
    binary main_v77 main_v75 main_v78 (mulf : (⟨S8x4096x4, .f32⟩ : BufTy).Contents (Elt F) → (⟨S8x4096x4, .f32⟩ : BufTy).Contents (Elt F) → (⟨S8x4096x4, .f32⟩ : BufTy).Contents (Elt F)) ]

/-- and what it writes. -/
abbrev wrH : List (Ref sig .tc) := [main_v66, main_v67, main_v68, main_v69, main_v70, main_v71, main_v72, main_v73, main_v74, main_call2_cst, main_call2_v0, main_call2_v1, main_call2_v2, main_call2_v3, main_call2_v4, main_call2_v5, main_call2_v6, main_call2_v7, main_call2_v8, main_call2_v9, main_call2_v10, main_call2_v11, main_v75, main_v76, main_v77, main_v78]

theorem keepH (V : Valuation τ sig (Elt F)) (r : Ref sig .tc) (h : r ∉ wrH) : after stageH V (Proc.devRef .tc r) = V (Proc.devRef .tc r) :=
  after_unwritten wrH rfl h V

/-- Stage I, -/
abbrev stageI : List (HloOp τ sig (Elt F)) :=
  [ unary main_arg5 main_v79 ((extractStridedSlice S1x4 ![0, 0] · slices_S4x4_S1x4_0_0) : (⟨S4x4, .f32⟩ : BufTy).Contents (Elt F) → (⟨S1x4, .f32⟩ : BufTy).Contents (Elt F)),
    reshape main_v79 main_v80 (rfl : (.f32 : EltTy) = .f32) shapeCasts_S1x4_S4,
    unary main_v80 main_v81 (Host.exp : (⟨S4, .f32⟩ : BufTy).Contents (Elt F) → (⟨S4, .f32⟩ : BufTy).Contents (Elt F)),
    unary main_v81 main_v82 (Host.negf : (⟨S4, .f32⟩ : BufTy).Contents (Elt F) → (⟨S4, .f32⟩ : BufTy).Contents (Elt F)),
    unary main_arg6 main_v83 ((extractStridedSlice S1x4 ![0, 0] · slices_S4x4_S1x4_0_0) : (⟨S4x4, .f32⟩ : BufTy).Contents (Elt F) → (⟨S1x4, .f32⟩ : BufTy).Contents (Elt F)),
    reshape main_v83 main_v84 (rfl : (.f32 : EltTy) = .f32) shapeCasts_S1x4_S4,
    unary main_v84 main_v85 (broadcastInDim S1x1x4 ![2] bcast_S4_S1x1x4_2 : (⟨S4, .f32⟩ : BufTy).Contents (Elt F) → (⟨S1x1x4, .f32⟩ : BufTy).Contents (Elt F)),
    unary main_v85 main_v86 (broadcastInDim S8x4096x4 ![0, 1, 2] bcast_S1x1x4_S8x4096x4_0_1_2 : (⟨S1x1x4, .f32⟩ : BufTy).Contents (Elt F) → (⟨S8x4096x4, .f32⟩ : BufTy).Contents (Elt F)),
    binary main_v63 main_v86 main_v87 (addf : (⟨S8x4096x4, .f32⟩ : BufTy).Contents (Elt F) → (⟨S8x4096x4, .f32⟩ : BufTy).Contents (Elt F) → (⟨S8x4096x4, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8x4096x4, .f32⟩) main_call3_v0) (broadcastInDim S8x4096x4 ![] bcast_S_S8x4096x4),
    TRef.binary (TRef.of (T := ⟨S8x4096x4, .f32⟩) main_v87) (TRef.of (T := ⟨S8x4096x4, .f32⟩) main_call3_v0) (TRef.of (T := ⟨S8x4096x4, .f32⟩) main_call3_v1) maximumf,
    TRef.unary (TRef.of (T := ⟨S_, .f32⟩) main_call3_cst) (TRef.of (T := ⟨S8x4096x4, .f32⟩) main_call3_v2) (broadcastInDim S8x4096x4 ![] bcast_S_S8x4096x4),
    TRef.binary (TRef.of (T := ⟨S8x4096x4, .f32⟩) main_v87) (TRef.of (T := ⟨S8x4096x4, .f32⟩) main_call3_v2) (TRef.of (T := ⟨S8x4096x4, .f32⟩) main_call3_v3) subf,
    TRef.binary (TRef.of (T := ⟨S8x4096x4, .f32⟩) main_call3_v3) (TRef.of (T := ⟨S8x4096x4, .f32⟩) main_call3_v3) (TRef.of (T := ⟨S8x4096x4, .i1⟩) main_call3_v4) (cmpf .une),
    TRef.unary (TRef.of (T := ⟨S_, .f32⟩) main_call3_cst) (TRef.of (T := ⟨S8x4096x4, .f32⟩) main_call3_v5) (broadcastInDim S8x4096x4 ![] bcast_S_S8x4096x4),
    TRef.binary (TRef.of (T := ⟨S8x4096x4, .f32⟩) main_v87) (TRef.of (T := ⟨S8x4096x4, .f32⟩) main_call3_v5) (TRef.of (T := ⟨S8x4096x4, .f32⟩) main_call3_v6) addf,
    TRef.unary (TRef.of (T := ⟨S8x4096x4, .f32⟩) main_call3_v3) (TRef.of (T := ⟨S8x4096x4, .f32⟩) main_call3_v7) Host.absf,
    TRef.unary (TRef.of (T := ⟨S8x4096x4, .f32⟩) main_call3_v7) (TRef.of (T := ⟨S8x4096x4, .f32⟩) main_call3_v8) Host.negf,
    TRef.unary (TRef.of (T := ⟨S8x4096x4, .f32⟩) main_call3_v8) (TRef.of (T := ⟨S8x4096x4, .f32⟩) main_call3_v9) Host.exp,
    TRef.unary (TRef.of (T := ⟨S8x4096x4, .f32⟩) main_call3_v9) (TRef.of (T := ⟨S8x4096x4, .f32⟩) main_call3_v10) Host.log1p,
    TRef.binary (TRef.of (T := ⟨S8x4096x4, .f32⟩) main_call3_v1) (TRef.of (T := ⟨S8x4096x4, .f32⟩) main_call3_v10) (TRef.of (T := ⟨S8x4096x4, .f32⟩) main_call3_v11) addf,
    TRef.ternary (TRef.of (T := ⟨S8x4096x4, .i1⟩) main_call3_v4) (TRef.of (T := ⟨S8x4096x4, .f32⟩) main_call3_v6) (TRef.of (T := ⟨S8x4096x4, .f32⟩) main_call3_v11) (TRef.of (T := ⟨S8x4096x4, .f32⟩) main_v88) select,
    unary main_v82 main_v89 (broadcastInDim S1x1x4 ![2] bcast_S4_S1x1x4_2 : (⟨S4, .f32⟩ : BufTy).Contents (Elt F) → (⟨S1x1x4, .f32⟩ : BufTy).Contents (Elt F)),
    unary main_v89 main_v90 (broadcastInDim S8x4096x4 ![0, 1, 2] bcast_S1x1x4_S8x4096x4_0_1_2 : (⟨S1x1x4, .f32⟩ : BufTy).Contents (Elt F) → (⟨S8x4096x4, .f32⟩ : BufTy).Contents (Elt F)),
    binary main_v90 main_v88 main_v91 (mulf : (⟨S8x4096x4, .f32⟩ : BufTy).Contents (Elt F) → (⟨S8x4096x4, .f32⟩ : BufTy).Contents (Elt F) → (⟨S8x4096x4, .f32⟩ : BufTy).Contents (Elt F)) ]

/-- and what it writes. -/
abbrev wrI : List (Ref sig .tc) := [main_v79, main_v80, main_v81, main_v82, main_v83, main_v84, main_v85, main_v86, main_v87, main_call3_cst, main_call3_v0, main_call3_v1, main_call3_v2, main_call3_v3, main_call3_v4, main_call3_v5, main_call3_v6, main_call3_v7, main_call3_v8, main_call3_v9, main_call3_v10, main_call3_v11, main_v88, main_v89, main_v90, main_v91]

theorem keepI (V : Valuation τ sig (Elt F)) (r : Ref sig .tc) (h : r ∉ wrI) : after stageI V (Proc.devRef .tc r) = V (Proc.devRef .tc r) :=
  after_unwritten wrI rfl h V

/-- Stage J, -/
abbrev stageJ : List (HloOp τ sig (Elt F)) :=
  [ reshape main_v78 main_v92 (rfl : (.f32 : EltTy) = .f32) shapeCasts_S8x4096x4_S8x64x64x4,
    TRef.nullary (TRef.of (T := ⟨S_, .f32⟩) main_call4_call0_cst) (constant S_ .f32 0x00000000#32),
    TRef.unary (TRef.of (T := ⟨S_, .f32⟩) main_call4_call0_cst) (TRef.of (T := ⟨S_, .f32⟩) main_call4_call0_v0) (broadcastInDim S_ ![] bcast_S_S_),
    TRef.binary (TRef.of (T := ⟨S8x64x64x4, .f32⟩) main_v92) (TRef.of (T := ⟨S_, .f32⟩) main_call4_call0_v0) (TRef.of (T := ⟨S8x64x64x4, .f32⟩) main_v93) (fun x v => Host.reduceWindowAdd ![1, 1, 64, 1] ![1, 1, 1, 1] ![0, 0, 63, 0] ![0, 0, 0, 0] x v reduceWindows_S8x64x64x4_S8x64x64x4_w1s1p0_0_w1s1p0_0_w64s1p63_0_w1s1p0_0 h_S_),
    reshape main_v93 main_v94 (rfl : (.f32 : EltTy) = .f32) shapeCasts_S8x64x64x4_S8x4096x4 ]

/-- and what it writes. -/
abbrev wrJ : List (Ref sig .tc) := [main_v92, main_call4_call0_cst, main_call4_call0_v0, main_v93, main_v94]

theorem keepJ (V : Valuation τ sig (Elt F)) (r : Ref sig .tc) (h : r ∉ wrJ) : after stageJ V (Proc.devRef .tc r) = V (Proc.devRef .tc r) :=
  after_unwritten wrJ rfl h V

/-- Stage K, -/
abbrev stageK : List (HloOp τ sig (Elt F)) :=
  [ reshape main_v91 main_v95 (rfl : (.f32 : EltTy) = .f32) shapeCasts_S8x4096x4_S8x64x64x4,
    TRef.nullary (TRef.of (T := ⟨S_, .f32⟩) main_call5_cst) (constant S_ .f32 0x00000000#32),
    TRef.unary (TRef.of (T := ⟨S_, .f32⟩) main_call5_cst) (TRef.of (T := ⟨S_, .f32⟩) main_call5_v0) (broadcastInDim S_ ![] bcast_S_S_),
    TRef.binary (TRef.of (T := ⟨S8x64x64x4, .f32⟩) main_v95) (TRef.of (T := ⟨S_, .f32⟩) main_call5_v0) (TRef.of (T := ⟨S8x64x64x4, .f32⟩) main_v96) (fun x v => Host.reduceWindowAdd ![1, 1, 64, 1] ![1, 1, 1, 1] ![0, 0, 0, 0] ![0, 0, 63, 0] x v reduceWindows_S8x64x64x4_S8x64x64x4_w1s1p0_0_w1s1p0_0_w64s1p0_63_w1s1p0_0 h_S_),
    reshape main_v96 main_v97 (rfl : (.f32 : EltTy) = .f32) shapeCasts_S8x64x64x4_S8x4096x4 ]

/-- and what it writes. -/
abbrev wrK : List (Ref sig .tc) := [main_v95, main_call5_cst, main_call5_v0, main_v96, main_v97]

theorem keepK (V : Valuation τ sig (Elt F)) (r : Ref sig .tc) (h : r ∉ wrK) : after stageK V (Proc.devRef .tc r) = V (Proc.devRef .tc r) :=
  after_unwritten wrK rfl h V

/-- Stage L, -/
abbrev stageL : List (HloOp τ sig (Elt F)) :=
  [ unary main_v64 main_v98 (Host.negf : (⟨S8x4096x4, .f32⟩ : BufTy).Contents (Elt F) → (⟨S8x4096x4, .f32⟩ : BufTy).Contents (Elt F)),
    unary main_v98 main_v99 (Host.exp : (⟨S8x4096x4, .f32⟩ : BufTy).Contents (Elt F) → (⟨S8x4096x4, .f32⟩ : BufTy).Contents (Elt F)),
    nullary main_cst_3 (constant S_ .f32 0x3F800000#32),
    unary main_cst_3 main_v100 (broadcastInDim S8x4096x4 ![] bcast_S_S8x4096x4 : (⟨S_, .f32⟩ : BufTy).Contents (Elt F) → (⟨S8x4096x4, .f32⟩ : BufTy).Contents (Elt F)),
    binary main_v100 main_v99 main_v101 (addf : (⟨S8x4096x4, .f32⟩ : BufTy).Contents (Elt F) → (⟨S8x4096x4, .f32⟩ : BufTy).Contents (Elt F) → (⟨S8x4096x4, .f32⟩ : BufTy).Contents (Elt F)),
    nullary main_cst_4 (constant S_ .f32 0x3F800000#32),
    unary main_cst_4 main_v102 (broadcastInDim S8x4096x4 ![] bcast_S_S8x4096x4 : (⟨S_, .f32⟩ : BufTy).Contents (Elt F) → (⟨S8x4096x4, .f32⟩ : BufTy).Contents (Elt F)),
    binary main_v102 main_v101 main_v103 (Host.divf : (⟨S8x4096x4, .f32⟩ : BufTy).Contents (Elt F) → (⟨S8x4096x4, .f32⟩ : BufTy).Contents (Elt F) → (⟨S8x4096x4, .f32⟩ : BufTy).Contents (Elt F)) ]

/-- and what it writes. -/
abbrev wrL : List (Ref sig .tc) := [main_v98, main_v99, main_cst_3, main_v100, main_v101, main_cst_4, main_v102, main_v103]

theorem keepL (V : Valuation τ sig (Elt F)) (r : Ref sig .tc) (h : r ∉ wrL) : after stageL V (Proc.devRef .tc r) = V (Proc.devRef .tc r) :=
  after_unwritten wrL rfl h V

/-- Stage M, -/
abbrev stageM : List (HloOp τ sig (Elt F)) :=
  [ unary main_v65 main_v104 (Host.negf : (⟨S8x4096x4, .f32⟩ : BufTy).Contents (Elt F) → (⟨S8x4096x4, .f32⟩ : BufTy).Contents (Elt F)),
    unary main_v104 main_v105 (Host.exp : (⟨S8x4096x4, .f32⟩ : BufTy).Contents (Elt F) → (⟨S8x4096x4, .f32⟩ : BufTy).Contents (Elt F)),
    nullary main_cst_5 (constant S_ .f32 0x3F800000#32),
    unary main_cst_5 main_v106 (broadcastInDim S8x4096x4 ![] bcast_S_S8x4096x4 : (⟨S_, .f32⟩ : BufTy).Contents (Elt F) → (⟨S8x4096x4, .f32⟩ : BufTy).Contents (Elt F)),
    binary main_v106 main_v105 main_v107 (addf : (⟨S8x4096x4, .f32⟩ : BufTy).Contents (Elt F) → (⟨S8x4096x4, .f32⟩ : BufTy).Contents (Elt F) → (⟨S8x4096x4, .f32⟩ : BufTy).Contents (Elt F)),
    nullary main_cst_6 (constant S_ .f32 0x3F800000#32),
    unary main_cst_6 main_v108 (broadcastInDim S8x4096x4 ![] bcast_S_S8x4096x4 : (⟨S_, .f32⟩ : BufTy).Contents (Elt F) → (⟨S8x4096x4, .f32⟩ : BufTy).Contents (Elt F)),
    binary main_v108 main_v107 main_v109 (Host.divf : (⟨S8x4096x4, .f32⟩ : BufTy).Contents (Elt F) → (⟨S8x4096x4, .f32⟩ : BufTy).Contents (Elt F) → (⟨S8x4096x4, .f32⟩ : BufTy).Contents (Elt F)) ]

/-- and what it writes. -/
abbrev wrM : List (Ref sig .tc) := [main_v104, main_v105, main_cst_5, main_v106, main_v107, main_cst_6, main_v108, main_v109]

theorem keepM (V : Valuation τ sig (Elt F)) (r : Ref sig .tc) (h : r ∉ wrM) : after stageM V (Proc.devRef .tc r) = V (Proc.devRef .tc r) :=
  after_unwritten wrM rfl h V

/-- Stage N, -/
abbrev stageN : List (HloOp τ sig (Elt F)) :=
  [ nary ![main_v94, main_v97, main_v103, main_v109] main_v110 (fun u => put_v110 (F := F) (u 0) (u 1) (u 2) (u 3)),
    unary main_v57 main_v111 ((truncf .bf16 · bitsLt_bf16_f32) : (⟨S8x4096x12x128, .f32⟩ : BufTy).Contents (Elt F) → (⟨S8x4096x12x128, .bf16⟩ : BufTy).Contents (Elt F)),
    reshape main_v111 main_v112 (rfl : (.bf16 : EltTy) = .bf16) shapeCasts_S8x4096x12x128_S32768x1536,
    unary main_v60 main_v113 ((truncf .bf16 · bitsLt_bf16_f32) : (⟨S8x4096x1536, .f32⟩ : BufTy).Contents (Elt F) → (⟨S8x4096x1536, .bf16⟩ : BufTy).Contents (Elt F)),
    reshape main_v113 main_v114 (rfl : (.bf16 : EltTy) = .bf16) shapeCasts_S8x4096x1536_S32768x1536,
    reshape main_v110 main_v115 (rfl : (.f32 : EltTy) = .f32) shapeCasts_S8x4096x16_S32768x16 ]

/-- and what it writes. -/
abbrev wrN : List (Ref sig .tc) := [main_v110, main_v111, main_v112, main_v113, main_v114, main_v115]

theorem keepN (V : Valuation τ sig (Elt F)) (r : Ref sig .tc) (h : r ∉ wrN) : after stageN V (Proc.devRef .tc r) = V (Proc.devRef .tc r) :=
  after_unwritten wrN rfl h V

theorem readA (V : Valuation τ sig (Elt Ideal)) : after (stageA (F := Ideal)) V (Proc.devRef .tc main_v2) = proj (V (Proc.devRef .tc main_arg0)) (V (Proc.devRef .tc main_arg1)) := by
  simp only [stageA, TRef.binary, TRef.nullary, TRef.ternary, TRef.unary, TRef.toBuf, TRef.ofBuf, cast_eq]; after_results_simp <;> (try dsimp only [Matrix.cons_val]) <;> (try after_results_simp) <;> rfl

theorem readB (V : Valuation τ sig (Elt Ideal)) : after (stageB (F := Ideal)) V (Proc.devRef .tc main_v4) = padded (V (Proc.devRef .tc main_v2)) := by
  simp only [stageB, TRef.binary, TRef.nullary, TRef.ternary, TRef.unary, TRef.toBuf, TRef.ofBuf, cast_eq]; after_results_simp <;> (try dsimp only [Matrix.cons_val]) <;> (try after_results_simp) <;> rfl

theorem readC (V : Valuation τ sig (Elt Ideal)) : after (stageC (F := Ideal)) V (Proc.devRef .tc main_v40) = convd (V (Proc.devRef .tc main_v4)) (V (Proc.devRef .tc main_arg2)) := by
  simp only [stageC, TRef.binary, TRef.nullary, TRef.ternary, TRef.unary, TRef.toBuf, TRef.ofBuf, cast_eq]; after_results_simp <;> (try dsimp only [Matrix.cons_val]) <;> (try after_results_simp) <;> rfl

theorem readD (V : Valuation τ sig (Elt Ideal)) : after (stageD (F := Ideal)) V (Proc.devRef .tc main_v41) = gated (V (Proc.devRef .tc main_v40)) := by
  simp only [stageD, TRef.binary, TRef.nullary, TRef.ternary, TRef.unary, TRef.toBuf, TRef.ofBuf, cast_eq]; after_results_simp <;> (try dsimp only [Matrix.cons_val]) <;> (try after_results_simp) <;> rfl

theorem readE (V : Valuation τ sig (Elt Ideal)) : after (stageE (F := Ideal)) V (Proc.devRef .tc main_v57) = joined (heads (V (Proc.devRef .tc main_v41))) := by
  simp only [stageE, TRef.binary, TRef.nullary, TRef.ternary, TRef.unary, TRef.toBuf, TRef.ofBuf, cast_eq]; after_results_simp <;> (try dsimp only [Matrix.cons_val]) <;> (try after_results_simp) <;> rfl

/-- The mixer's columns of a projection. -/
def zcols (P : FVec Ideal S8x4096x3088 .f32) : FVec Ideal S8x4096x1536 .f32 :=
  put_v60 (extractStridedSlice S8x4096x512 ![0, 0, 1536] P slices_S8x4096x3088_S8x4096x512_0_0_1536) (extractStridedSlice S8x4096x1024 ![0, 0, 2064] P slices_S8x4096x3088_S8x4096x1024_0_0_2064)

/-- The decays' logarithms, by rows. -/
def flatDecays (a d : FVec Ideal S4x4 .f32) (p : FVec Ideal S8x4096x4 .f32) : FVec Ideal S8x4096x4 .f32 :=
  mulf (param (Host.negf (Host.exp (layer a)))) (soft (addf p (param (layer d))))

/-- The sums up to a row, -/
def sumsTo (y : FVec Ideal S8x4096x4 .f32) : FVec Ideal S8x4096x4 .f32 :=
  shapeCast S8x4096x4 (Host.reduceWindowAdd ![1, 1, 64, 1] ![1, 1, 1, 1] ![0, 0, 63, 0] ![0, 0, 0, 0] (shapeCast S8x64x64x4 y shapeCasts_S8x4096x4_S8x64x64x4) start0
    reduceWindows_S8x64x64x4_S8x64x64x4_w1s1p0_0_w1s1p0_0_w64s1p63_0_w1s1p0_0 h_S_) shapeCasts_S8x64x64x4_S8x4096x4

/-- and from a row on. -/
def sumsFrom (y : FVec Ideal S8x4096x4 .f32) : FVec Ideal S8x4096x4 .f32 :=
  shapeCast S8x4096x4 (Host.reduceWindowAdd ![1, 1, 64, 1] ![1, 1, 1, 1] ![0, 0, 0, 0] ![0, 0, 63, 0] (shapeCast S8x64x64x4 y shapeCasts_S8x4096x4_S8x64x64x4) start0
    reduceWindows_S8x64x64x4_S8x64x64x4_w1s1p0_0_w1s1p0_0_w64s1p0_63_w1s1p0_0 h_S_) shapeCasts_S8x64x64x4_S8x4096x4

/-- The results' last steps. -/
def flatQ (v : FVec Ideal S8x4096x12x128 .f32) : FVec Ideal S32768x1536 .bf16 := shapeCast S32768x1536 (truncf .bf16 v bitsLt_bf16_f32) shapeCasts_S8x4096x12x128_S32768x1536

def flatZ (v : FVec Ideal S8x4096x1536 .f32) : FVec Ideal S32768x1536 .bf16 := shapeCast S32768x1536 (truncf .bf16 v bitsLt_bf16_f32) shapeCasts_S8x4096x1536_S32768x1536

def flatG (a b c d : FVec Ideal S8x4096x4 .f32) : FVec Ideal S32768x16 .f32 := shapeCast S32768x16 (put_v110 a b c d) shapeCasts_S8x4096x16_S32768x16

theorem readF (V : Valuation τ sig (Elt Ideal)) : after (stageF (F := Ideal)) V (Proc.devRef .tc main_v60) = zcols (V (Proc.devRef .tc main_v2)) := by
  simp only [stageF, TRef.binary, TRef.nullary, TRef.ternary, TRef.unary, TRef.toBuf, TRef.ofBuf, cast_eq]; after_results_simp <;> (try dsimp only [Matrix.cons_val]) <;> (try after_results_simp) <;> rfl

theorem readG62 (V : Valuation τ sig (Elt Ideal)) : after (stageG (F := Ideal)) V (Proc.devRef .tc main_v62) = extractStridedSlice S8x4096x4 ![0, 0, 0] (gcols (V (Proc.devRef .tc main_v2))) slices_S8x4096x16_S8x4096x4_0_0_0 := by
  simp only [stageG, TRef.binary, TRef.nullary, TRef.ternary, TRef.unary, TRef.toBuf, TRef.ofBuf, cast_eq]; after_results_simp <;> (try dsimp only [Matrix.cons_val]) <;> (try after_results_simp) <;> rfl

theorem readG63 (V : Valuation τ sig (Elt Ideal)) : after (stageG (F := Ideal)) V (Proc.devRef .tc main_v63) = extractStridedSlice S8x4096x4 ![0, 0, 4] (gcols (V (Proc.devRef .tc main_v2))) slices_S8x4096x16_S8x4096x4_0_0_4 := by
  simp only [stageG, TRef.binary, TRef.nullary, TRef.ternary, TRef.unary, TRef.toBuf, TRef.ofBuf, cast_eq]; after_results_simp <;> (try dsimp only [Matrix.cons_val]) <;> (try after_results_simp) <;> rfl

theorem readG64 (V : Valuation τ sig (Elt Ideal)) : after (stageG (F := Ideal)) V (Proc.devRef .tc main_v64) = extractStridedSlice S8x4096x4 ![0, 0, 8] (gcols (V (Proc.devRef .tc main_v2))) slices_S8x4096x16_S8x4096x4_0_0_8 := by
  simp only [stageG, TRef.binary, TRef.nullary, TRef.ternary, TRef.unary, TRef.toBuf, TRef.ofBuf, cast_eq]; after_results_simp <;> (try dsimp only [Matrix.cons_val]) <;> (try after_results_simp) <;> rfl

theorem readG65 (V : Valuation τ sig (Elt Ideal)) : after (stageG (F := Ideal)) V (Proc.devRef .tc main_v65) = extractStridedSlice S8x4096x4 ![0, 0, 12] (gcols (V (Proc.devRef .tc main_v2))) slices_S8x4096x16_S8x4096x4_0_0_12 := by
  simp only [stageG, TRef.binary, TRef.nullary, TRef.ternary, TRef.unary, TRef.toBuf, TRef.ofBuf, cast_eq]; after_results_simp <;> (try dsimp only [Matrix.cons_val]) <;> (try after_results_simp) <;> rfl

theorem readH (V : Valuation τ sig (Elt Ideal)) : after (stageH (F := Ideal)) V (Proc.devRef .tc main_v78) = flatDecays (V (Proc.devRef .tc main_arg3)) (V (Proc.devRef .tc main_arg4)) (V (Proc.devRef .tc main_v62)) := by
  simp only [stageH, TRef.binary, TRef.nullary, TRef.ternary, TRef.unary, TRef.toBuf, TRef.ofBuf, cast_eq]; after_results_simp <;> (try dsimp only [Matrix.cons_val]) <;> (try after_results_simp) <;> rfl

theorem readI (V : Valuation τ sig (Elt Ideal)) : after (stageI (F := Ideal)) V (Proc.devRef .tc main_v91) = flatDecays (V (Proc.devRef .tc main_arg5)) (V (Proc.devRef .tc main_arg6)) (V (Proc.devRef .tc main_v63)) := by
  simp only [stageI, TRef.binary, TRef.nullary, TRef.ternary, TRef.unary, TRef.toBuf, TRef.ofBuf, cast_eq]; after_results_simp <;> (try dsimp only [Matrix.cons_val]) <;> (try after_results_simp) <;> rfl

theorem readJ (V : Valuation τ sig (Elt Ideal)) : after (stageJ (F := Ideal)) V (Proc.devRef .tc main_v94) = sumsTo (V (Proc.devRef .tc main_v78)) := by
  simp only [stageJ, TRef.binary, TRef.nullary, TRef.ternary, TRef.unary, TRef.toBuf, TRef.ofBuf, cast_eq]; after_results_simp <;> (try dsimp only [Matrix.cons_val]) <;> (try after_results_simp) <;> rfl

theorem readK (V : Valuation τ sig (Elt Ideal)) : after (stageK (F := Ideal)) V (Proc.devRef .tc main_v97) = sumsFrom (V (Proc.devRef .tc main_v91)) := by
  simp only [stageK, TRef.binary, TRef.nullary, TRef.ternary, TRef.unary, TRef.toBuf, TRef.ofBuf, cast_eq]; after_results_simp <;> (try dsimp only [Matrix.cons_val]) <;> (try after_results_simp) <;> rfl

theorem readL (V : Valuation τ sig (Elt Ideal)) : after (stageL (F := Ideal)) V (Proc.devRef .tc main_v103) = beta (V (Proc.devRef .tc main_v64)) := by
  simp only [stageL, TRef.binary, TRef.nullary, TRef.ternary, TRef.unary, TRef.toBuf, TRef.ofBuf, cast_eq]; after_results_simp <;> (try dsimp only [Matrix.cons_val]) <;> (try after_results_simp) <;> rfl

theorem readM (V : Valuation τ sig (Elt Ideal)) : after (stageM (F := Ideal)) V (Proc.devRef .tc main_v109) = beta (V (Proc.devRef .tc main_v65)) := by
  simp only [stageM, TRef.binary, TRef.nullary, TRef.ternary, TRef.unary, TRef.toBuf, TRef.ofBuf, cast_eq]; after_results_simp <;> (try dsimp only [Matrix.cons_val]) <;> (try after_results_simp) <;> rfl

theorem readN0 (V : Valuation τ sig (Elt Ideal)) : after (stageN (F := Ideal)) V (Proc.devRef .tc main_v112) = flatQ (V (Proc.devRef .tc main_v57)) := by
  simp only [stageN, TRef.binary, TRef.nullary, TRef.ternary, TRef.unary, TRef.toBuf, TRef.ofBuf, cast_eq]; after_results_simp <;> (try dsimp only [Matrix.cons_val]) <;> (try after_results_simp) <;> rfl

theorem readN1 (V : Valuation τ sig (Elt Ideal)) : after (stageN (F := Ideal)) V (Proc.devRef .tc main_v114) = flatZ (V (Proc.devRef .tc main_v60)) := by
  simp only [stageN, TRef.binary, TRef.nullary, TRef.ternary, TRef.unary, TRef.toBuf, TRef.ofBuf, cast_eq]; after_results_simp <;> (try dsimp only [Matrix.cons_val]) <;> (try after_results_simp) <;> rfl

theorem readN2 (V : Valuation τ sig (Elt Ideal)) : after (stageN (F := Ideal)) V (Proc.devRef .tc main_v115) = flatG (V (Proc.devRef .tc main_v94)) (V (Proc.devRef .tc main_v97)) (V (Proc.devRef .tc main_v103)) (V (Proc.devRef .tc main_v109)) := by
  simp only [stageN, TRef.binary, TRef.nullary, TRef.ternary, TRef.unary, TRef.toBuf, TRef.ofBuf, cast_eq]; after_results_simp <;> (try dsimp only [Matrix.cons_val]) <;> (try after_results_simp) <;> rfl

theorem flatDecays_congr {a a' d d' : FVec Ideal S4x4 .f32} {p p' : FVec Ideal S8x4096x4 .f32} (h1 : a = a') (h2 : d = d') (h3 : p = p') :
    flatDecays a d p = flatDecays a' d' p' := by rw [h1, h2, h3]

theorem put_congr {a a' b b' c c' d d' : FVec Ideal S8x4096x4 .f32} (h1 : a = a') (h2 : b = b') (h3 : c = c') (h4 : d = d') :
    flatG a b c d = flatG a' b' c' d' := by rw [h1, h2, h3, h4]

/-- All stages. -/
abbrev last (V : Valuation τ sig (Elt Ideal)) : Valuation τ sig (Elt Ideal) := (after (stageN (F := Ideal)) (after (stageM (F := Ideal)) (after (stageL (F := Ideal)) (after (stageK (F := Ideal)) (after (stageJ (F := Ideal)) (after (stageI (F := Ideal)) (after (stageH (F := Ideal)) (after (stageG (F := Ideal)) (after (stageF (F := Ideal)) (after (stageE (F := Ideal)) (after (stageD (F := Ideal)) (after (stageC (F := Ideal)) (after (stageB (F := Ideal)) (after (stageA (F := Ideal)) V))))))))))))))

theorem out0 (V : Valuation τ sig (Elt Ideal)) : last V (Proc.devRef .tc main_v112) = qkvR (V (Proc.devRef .tc main_arg0)) (V (Proc.devRef .tc main_arg1)) (V (Proc.devRef .tc main_arg2)) :=
  (readN0 _).trans (congrArg flatQ (((keepM _ main_v57 (by decide)).trans ((keepL _ main_v57 (by decide)).trans ((keepK _ main_v57 (by decide)).trans ((keepJ _ main_v57 (by decide)).trans ((keepI _ main_v57 (by decide)).trans ((keepH _ main_v57 (by decide)).trans ((keepG _ main_v57 (by decide)).trans (keepF _ main_v57 (by decide))))))))).trans ((readE _).trans (congrArg (fun v => joined (heads v)) ((readD _).trans (congrArg gated ((readC _).trans (congrArg₂ convd ((readB _).trans (congrArg padded (readA _))) ((keepB _ main_arg2 (by decide)).trans (keepA _ main_arg2 (by decide)))))))))))

theorem out1 (V : Valuation τ sig (Elt Ideal)) : last V (Proc.devRef .tc main_v114) = zuvR (V (Proc.devRef .tc main_arg0)) (V (Proc.devRef .tc main_arg1)) :=
  (readN1 _).trans (congrArg flatZ (((keepM _ main_v60 (by decide)).trans ((keepL _ main_v60 (by decide)).trans ((keepK _ main_v60 (by decide)).trans ((keepJ _ main_v60 (by decide)).trans ((keepI _ main_v60 (by decide)).trans ((keepH _ main_v60 (by decide)).trans (keepG _ main_v60 (by decide)))))))).trans ((readF _).trans (congrArg zcols (((keepE _ main_v2 (by decide)).trans ((keepD _ main_v2 (by decide)).trans ((keepC _ main_v2 (by decide)).trans (keepB _ main_v2 (by decide))))).trans (readA _))))))

theorem out2 (V : Valuation τ sig (Elt Ideal)) :
    last V (Proc.devRef .tc main_v115) = gatesR (V (Proc.devRef .tc main_arg0)) (V (Proc.devRef .tc main_arg1)) (V (Proc.devRef .tc main_arg3)) (V (Proc.devRef .tc main_arg4)) (V (Proc.devRef .tc main_arg5)) (V (Proc.devRef .tc main_arg6)) :=
  (readN2 _).trans (put_congr (((keepM _ main_v94 (by decide)).trans ((keepL _ main_v94 (by decide)).trans (keepK _ main_v94 (by decide)))).trans ((readJ _).trans (congrArg sumsTo ((keepI _ main_v78 (by decide)).trans ((readH _).trans (flatDecays_congr ((keepG _ main_arg3 (by decide)).trans ((keepF _ main_arg3 (by decide)).trans ((keepE _ main_arg3 (by decide)).trans ((keepD _ main_arg3 (by decide)).trans ((keepC _ main_arg3 (by decide)).trans ((keepB _ main_arg3 (by decide)).trans (keepA _ main_arg3 (by decide)))))))) ((keepG _ main_arg4 (by decide)).trans ((keepF _ main_arg4 (by decide)).trans ((keepE _ main_arg4 (by decide)).trans ((keepD _ main_arg4 (by decide)).trans ((keepC _ main_arg4 (by decide)).trans ((keepB _ main_arg4 (by decide)).trans (keepA _ main_arg4 (by decide)))))))) ((readG62 _).trans (congrArg (fun v => extractStridedSlice S8x4096x4 ![0, 0, 0] (gcols v) slices_S8x4096x16_S8x4096x4_0_0_0) (((keepF _ main_v2 (by decide)).trans ((keepE _ main_v2 (by decide)).trans ((keepD _ main_v2 (by decide)).trans ((keepC _ main_v2 (by decide)).trans (keepB _ main_v2 (by decide)))))).trans (readA _)))))))))) (((keepM _ main_v97 (by decide)).trans (keepL _ main_v97 (by decide))).trans ((readK _).trans (congrArg sumsFrom ((keepJ _ main_v91 (by decide)).trans ((readI _).trans (flatDecays_congr ((keepH _ main_arg5 (by decide)).trans ((keepG _ main_arg5 (by decide)).trans ((keepF _ main_arg5 (by decide)).trans ((keepE _ main_arg5 (by decide)).trans ((keepD _ main_arg5 (by decide)).trans ((keepC _ main_arg5 (by decide)).trans ((keepB _ main_arg5 (by decide)).trans (keepA _ main_arg5 (by decide))))))))) ((keepH _ main_arg6 (by decide)).trans ((keepG _ main_arg6 (by decide)).trans ((keepF _ main_arg6 (by decide)).trans ((keepE _ main_arg6 (by decide)).trans ((keepD _ main_arg6 (by decide)).trans ((keepC _ main_arg6 (by decide)).trans ((keepB _ main_arg6 (by decide)).trans (keepA _ main_arg6 (by decide))))))))) ((keepH _ main_v63 (by decide)).trans ((readG63 _).trans (congrArg (fun v => extractStridedSlice S8x4096x4 ![0, 0, 4] (gcols v) slices_S8x4096x16_S8x4096x4_0_0_4) (((keepF _ main_v2 (by decide)).trans ((keepE _ main_v2 (by decide)).trans ((keepD _ main_v2 (by decide)).trans ((keepC _ main_v2 (by decide)).trans (keepB _ main_v2 (by decide)))))).trans (readA _))))))))))) ((keepM _ main_v103 (by decide)).trans ((readL _).trans (congrArg beta (((keepK _ main_v64 (by decide)).trans ((keepJ _ main_v64 (by decide)).trans ((keepI _ main_v64 (by decide)).trans (keepH _ main_v64 (by decide))))).trans ((readG64 _).trans (congrArg (fun v => extractStridedSlice S8x4096x4 ![0, 0, 8] (gcols v) slices_S8x4096x16_S8x4096x4_0_0_8) (((keepF _ main_v2 (by decide)).trans ((keepE _ main_v2 (by decide)).trans ((keepD _ main_v2 (by decide)).trans ((keepC _ main_v2 (by decide)).trans (keepB _ main_v2 (by decide)))))).trans (readA _)))))))) ((readM _).trans (congrArg beta (((keepL _ main_v65 (by decide)).trans ((keepK _ main_v65 (by decide)).trans ((keepJ _ main_v65 (by decide)).trans ((keepI _ main_v65 (by decide)).trans (keepH _ main_v65 (by decide)))))).trans ((readG65 _).trans (congrArg (fun v => extractStridedSlice S8x4096x4 ![0, 0, 12] (gcols v) slices_S8x4096x16_S8x4096x4_0_0_12) (((keepF _ main_v2 (by decide)).trans ((keepE _ main_v2 (by decide)).trans ((keepD _ main_v2 (by decide)).trans ((keepC _ main_v2 (by decide)).trans (keepB _ main_v2 (by decide)))))).trans (readA _))))))))

theorem same (V : Valuation τ sig (Elt Ideal)) (r : Ref sig .tc) (hA : r ∉ wrA) (hB : r ∉ wrB) (hC : r ∉ wrC) (hD : r ∉ wrD) (hE : r ∉ wrE) (hF : r ∉ wrF) (hG : r ∉ wrG) (hH : r ∉ wrH) (hI : r ∉ wrI) (hJ : r ∉ wrJ) (hK : r ∉ wrK) (hL : r ∉ wrL) (hM : r ∉ wrM) (hN : r ∉ wrN) : last V (Proc.devRef .tc r) = V (Proc.devRef .tc r) :=
  ((keepN _ r hN).trans ((keepM _ r hM).trans ((keepL _ r hL).trans ((keepK _ r hK).trans ((keepJ _ r hJ).trans ((keepI _ r hI).trans ((keepH _ r hH).trans ((keepG _ r hG).trans ((keepF _ r hF).trans ((keepE _ r hE).trans ((keepD _ r hD).trans ((keepC _ r hC).trans ((keepB _ r hB).trans (keepA _ r hA))))))))))))))

/-- The whole line. -/
abbrev ops : List (HloOp τ sig (Elt Ideal)) := stageA (F := Ideal) ++ (stageB (F := Ideal) ++ (stageC (F := Ideal) ++ (stageD (F := Ideal) ++ (stageE (F := Ideal) ++ (stageF (F := Ideal) ++ (stageG (F := Ideal) ++ (stageH (F := Ideal) ++ (stageI (F := Ideal) ++ (stageJ (F := Ideal) ++ (stageK (F := Ideal) ++ (stageL (F := Ideal) ++ (stageM (F := Ideal) ++ (stageN (F := Ideal))))))))))))))

theorem after_app (l₁ l₂ : List (HloOp τ sig (Elt Ideal))) (V : Valuation τ sig (Elt Ideal)) : after (l₁ ++ l₂) V = after l₂ (after l₁ V) := by
  induction l₁ generalizing V with
  | nil => rfl
  | cons a l ih => rw [List.cons_append, after_cons, ih, after_cons]

theorem after_ops (V : Valuation τ sig (Elt Ideal)) : after ops V = last V := by
  unfold ops last
  rw [after_app, after_app, after_app, after_app, after_app, after_app, after_app, after_app, after_app, after_app, after_app, after_app, after_app]

theorem scopedRefs_eq : (Finset.univ.filter fun b : Ref sig .tc => b.isScoped) = ∅ := by decide
theorem scopedSems_eq : (Finset.univ.filter fun sm : SemLoc sig => sm.isScoped .tc) = ∅ := by decide

theorem subA : (stageA (F := Ideal)).Forall fun op => op.bufs ⊆ tcRefs τ sig :=
  ⟨unary_bufs_sub .., reshape_bufs_sub .., binary_bufs_sub ..⟩

theorem subB : (stageB (F := Ideal)).Forall fun op => op.bufs ⊆ tcRefs τ sig :=
  ⟨unary_bufs_sub .., nullary_bufs_sub .., unary_bufs_sub .., binary_bufs_sub ..⟩

theorem subC : (stageC (F := Ideal)).Forall fun op => op.bufs ⊆ tcRefs τ sig :=
  ⟨unary_bufs_sub .., unary_bufs_sub .., reshape_bufs_sub .., unary_bufs_sub .., unary_bufs_sub .., binary_bufs_sub .., nullary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub ..⟩

theorem subD : (stageD (F := Ideal)).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub ..⟩

theorem subE : (stageE (F := Ideal)).Forall fun op => op.bufs ⊆ tcRefs τ sig :=
  ⟨reshape_bufs_sub .., unary_bufs_sub .., unary_bufs_sub .., binary_bufs_sub .., nullary_bufs_sub .., binary_bufs_sub .., unary_bufs_sub .., nullary_bufs_sub .., unary_bufs_sub .., binary_bufs_sub .., unary_bufs_sub .., unary_bufs_sub .., binary_bufs_sub .., unary_bufs_sub .., nullary_bufs_sub .., unary_bufs_sub .., binary_bufs_sub .., unary_bufs_sub .., nary_bufs_sub ..⟩

theorem subF : (stageF (F := Ideal)).Forall fun op => op.bufs ⊆ tcRefs τ sig :=
  ⟨unary_bufs_sub .., unary_bufs_sub .., binary_bufs_sub ..⟩

theorem subG : (stageG (F := Ideal)).Forall fun op => op.bufs ⊆ tcRefs τ sig :=
  ⟨unary_bufs_sub .., unary_bufs_sub .., unary_bufs_sub .., unary_bufs_sub .., unary_bufs_sub ..⟩

theorem subH : (stageH (F := Ideal)).Forall fun op => op.bufs ⊆ tcRefs τ sig :=
  ⟨unary_bufs_sub .., reshape_bufs_sub .., unary_bufs_sub .., unary_bufs_sub .., unary_bufs_sub .., reshape_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., binary_bufs_sub ..⟩

theorem subI : (stageI (F := Ideal)).Forall fun op => op.bufs ⊆ tcRefs τ sig :=
  ⟨unary_bufs_sub .., reshape_bufs_sub .., unary_bufs_sub .., unary_bufs_sub .., unary_bufs_sub .., reshape_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., binary_bufs_sub ..⟩

theorem subJ : (stageJ (F := Ideal)).Forall fun op => op.bufs ⊆ tcRefs τ sig :=
  ⟨reshape_bufs_sub .., nullary_bufs_sub .., unary_bufs_sub .., binary_bufs_sub .., reshape_bufs_sub ..⟩

theorem subK : (stageK (F := Ideal)).Forall fun op => op.bufs ⊆ tcRefs τ sig :=
  ⟨reshape_bufs_sub .., nullary_bufs_sub .., unary_bufs_sub .., binary_bufs_sub .., reshape_bufs_sub ..⟩

theorem subL : (stageL (F := Ideal)).Forall fun op => op.bufs ⊆ tcRefs τ sig :=
  ⟨unary_bufs_sub .., unary_bufs_sub .., nullary_bufs_sub .., unary_bufs_sub .., binary_bufs_sub .., nullary_bufs_sub .., unary_bufs_sub .., binary_bufs_sub ..⟩

theorem subM : (stageM (F := Ideal)).Forall fun op => op.bufs ⊆ tcRefs τ sig :=
  ⟨unary_bufs_sub .., unary_bufs_sub .., nullary_bufs_sub .., unary_bufs_sub .., binary_bufs_sub .., nullary_bufs_sub .., unary_bufs_sub .., binary_bufs_sub ..⟩

theorem subN : (stageN (F := Ideal)).Forall fun op => op.bufs ⊆ tcRefs τ sig :=
  ⟨nary_bufs_sub .., unary_bufs_sub .., reshape_bufs_sub .., unary_bufs_sub .., reshape_bufs_sub .., reshape_bufs_sub ..⟩

theorem ops_sub : ops.Forall fun op => op.bufs ⊆ tcRefs τ sig := (List.forall_append.mpr ⟨subA, (List.forall_append.mpr ⟨subB, (List.forall_append.mpr ⟨subC, (List.forall_append.mpr ⟨subD, (List.forall_append.mpr ⟨subE, (List.forall_append.mpr ⟨subF, (List.forall_append.mpr ⟨subG, (List.forall_append.mpr ⟨subH, (List.forall_append.mpr ⟨subI, (List.forall_append.mpr ⟨subJ, (List.forall_append.mpr ⟨subK, (List.forall_append.mpr ⟨subL, (List.forall_append.mpr ⟨subM, subN⟩)⟩)⟩)⟩)⟩)⟩)⟩)⟩)⟩)⟩)⟩)⟩)⟩)

set_option maxHeartbeats 4000000 in
theorem main_eq (c : Dev nD) : main (F := Ideal) c = seq ops := rfl

set_option maxHeartbeats 4000000 in
/-- What the second reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v112) = qkvR (m ((c.tc : Thread nD τ).loc main_arg0)) (m ((c.tc : Thread nD τ).loc main_arg1)) (m ((c.tc : Thread nD τ).loc main_arg2))
      ∧ r.2.mem ((c.tc : Thread nD τ).loc main_v114) = zuvR (m ((c.tc : Thread nD τ).loc main_arg0)) (m ((c.tc : Thread nD τ).loc main_arg1))
      ∧ r.2.mem ((c.tc : Thread nD τ).loc main_v115) = gatesR (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) :=
  (θ_run defs _ _).mono (fun _ h c => ⟨(h c main_v112).trans ((congrFun (after_ops _) _).trans (out0 _)), (h c main_v114).trans ((congrFun (after_ops _) _).trans (out1 _)),
      (h c main_v115).trans ((congrFun (after_ops _) _).trans (out2 _)), (h c main_arg0).trans ((congrFun (after_ops _) _).trans (same _ main_arg0 (by decide) (by decide) (by decide) (by decide) (by decide) (by decide) (by decide) (by decide) (by decide) (by decide) (by decide) (by decide) (by decide) (by decide))), (h c main_arg1).trans ((congrFun (after_ops _) _).trans (same _ main_arg1 (by decide) (by decide) (by decide) (by decide) (by decide) (by decide) (by decide) (by decide) (by decide) (by decide) (by decide) (by decide) (by decide) (by decide))), (h c main_arg2).trans ((congrFun (after_ops _) _).trans (same _ main_arg2 (by decide) (by decide) (by decide) (by decide) (by decide) (by decide) (by decide) (by decide) (by decide) (by decide) (by decide) (by decide) (by decide) (by decide))), (h c main_arg3).trans ((congrFun (after_ops _) _).trans (same _ main_arg3 (by decide) (by decide) (by decide) (by decide) (by decide) (by decide) (by decide) (by decide) (by decide) (by decide) (by decide) (by decide) (by decide) (by decide))), (h c main_arg4).trans ((congrFun (after_ops _) _).trans (same _ main_arg4 (by decide) (by decide) (by decide) (by decide) (by decide) (by decide) (by decide) (by decide) (by decide) (by decide) (by decide) (by decide) (by decide) (by decide))), (h c main_arg5).trans ((congrFun (after_ops _) _).trans (same _ main_arg5 (by decide) (by decide) (by decide) (by decide) (by decide) (by decide) (by decide) (by decide) (by decide) (by decide) (by decide) (by decide) (by decide) (by decide))), (h c main_arg6).trans ((congrFun (after_ops _) _).trans (same _ main_arg6 (by decide) (by decide) (by decide) (by decide) (by decide) (by decide) (by decide) (by decide) (by decide) (by decide) (by decide) (by decide) (by decide) (by decide)))⟩)
    (run_seq scopedRefs_eq scopedSems_eq defs main (fun _ => ops) main_eq (fun _ => ops_sub) m ρ)

end Cert.Reference2Ideal.Proj

end
-- ==== Proof.Proj.Pay.lean ====
/- What the projection kernel's stored values are, entry by entry, on any blocks. -/
module

public import proofs.«01_k».proof.Proof.Gen.Kernel2Ideal.Skeleton
public import proofs.«01_k».proof.Proof.Proj.Spec
public import Idealize.ShloMosaic.PureOps.Ideal
public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.Pipeline.Value
public import Idealize.ShloMosaic.Lib.KernelVsHost

@[expose] public section

set_option maxRecDepth 16384

noncomputable section

namespace Cert.Kernel2Ideal.Proj

open Cert.Kernel2Ideal Cert.Kernel2Ideal.Gen
open Idealize.ShloMosaic
open Idealize.ShloMosaic.ValueIdx (ix0 ix1 ix2 ix3 ix4)
open Cert.Proj

theorem mm_ext (x : FVec Ideal S1056x1024 .bf16) (w : FVec Ideal S1024x512 .bf16) (e : Fin 1056) (c : Fin 512) :
    matmul dot_S1056x1024_S1024x512_S1056x512_1_0_0_1_n_n none x w (constant S1056x512 .f32 0x00000000#32) (ix2 e c)
      = ∑ k : Fin 1024, (x (ix2 e k) : EReal) * w (ix2 k c) := by
  simp only [matmul]
  rw [Ideal.matmul_constant_zero_apply]
  refine Fintype.sum_equiv (ValueIdx.contrEquiv1 dot_S1056x1024_S1024x512_S1056x512_1_0_0_1_n_n 1024 rfl rfl) _ _ fun k => ?_
  refine congrArg₂ (fun a b : EReal => a * b) (congrArg x (funext fun a => Fin.ext ?_)) (congrArg w (funext fun a => Fin.ext ?_))
  · fin_cases a <;> rfl
  · fin_cases a <;> rfl

theorem mm_wide (x : FVec Ideal S1024x1024 .bf16) (w : FVec Ideal S1024x512 .bf16) (r : Fin 1024) (c : Fin 512) :
    matmul dot_S1024x1024_S1024x512_S1024x512_1_0_0_1_n_n none x w (constant S1024x512 .f32 0x00000000#32) (ix2 r c)
      = ∑ k : Fin 1024, (x (ix2 r k) : EReal) * w (ix2 k c) := by
  simp only [matmul]
  rw [Ideal.matmul_constant_zero_apply]
  refine Fintype.sum_equiv (ValueIdx.contrEquiv1 dot_S1024x1024_S1024x512_S1024x512_1_0_0_1_n_n 1024 rfl rfl) _ _ fun k => ?_
  refine congrArg₂ (fun a b : EReal => a * b) (congrArg x (funext fun a => Fin.ext ?_)) (congrArg w (funext fun a => Fin.ext ?_))
  · fin_cases a <;> rfl
  · fin_cases a <;> rfl

theorem mm_thin (x : FVec Ideal S1024x1024 .bf16) (w : FVec Ideal S1024x128 .bf16) (r : Fin 1024) (c : Fin 128) :
    matmul dot_S1024x1024_S1024x128_S1024x128_1_0_0_1_n_n none x w (constant S1024x128 .f32 0x00000000#32) (ix2 r c)
      = ∑ k : Fin 1024, (x (ix2 r k) : EReal) * w (ix2 k c) := by
  simp only [matmul]
  rw [Ideal.matmul_constant_zero_apply]
  refine Fintype.sum_equiv (ValueIdx.contrEquiv1 dot_S1024x1024_S1024x128_S1024x128_1_0_0_1_n_n 1024 rfl rfl) _ _ fun k => ?_
  refine congrArg₂ (fun a b : EReal => a * b) (congrArg x (funext fun a => Fin.ext ?_)) (congrArg w (funext fun a => Fin.ext ?_))
  · fin_cases a <;> rfl
  · fin_cases a <;> rfl

theorem mm_tri (x : FVec Ideal S128x64 .f32) (w : FVec Ideal S64x128 .f32) (r : Fin 128) (c : Fin 128) :
    matmul dot_S128x64_S64x128_S128x128_1_0_0_1_n_n (some .fp32) x w (constant S128x128 .f32 0x00000000#32) (ix2 r c)
      = ∑ k : Fin 64, (x (ix2 r k) : EReal) * w (ix2 k c) := by
  simp only [matmul]
  rw [Ideal.matmul_constant_zero_apply]
  refine Fintype.sum_equiv (ValueIdx.contrEquiv1 dot_S128x64_S64x128_S128x128_1_0_0_1_n_n 64 rfl rfl) _ _ fun k => ?_
  refine congrArg₂ (fun a b : EReal => a * b) (congrArg x (funext fun a => Fin.ext ?_)) (congrArg w (funext fun a => Fin.ext ?_))
  · fin_cases a <;> rfl
  · fin_cases a <;> rfl

theorem pay5_apply (x : Vec Ideal S1056x1024 .bf16) (w : Vec Ideal S1024x512 .bf16) (e : Fin 1056) (c : Fin 512) :
    k0_pay5 x w (ix2 e c) = ∑ k : Fin 1024, (x (ix2 e k) : EReal) * w (ix2 k c) := by
  unfold k0_pay5
  rw [shapeCast_self]
  exact mm_ext x w e c

theorem pay8_apply (x : Vec Ideal S1056x1024 .bf16) (w : Vec Ideal S1024x512 .bf16) (e : Fin 1056) (c : Fin 512) :
    k0_pay8 x w (ix2 e c) = ∑ k : Fin 1024, (x (ix2 e k) : EReal) * w (ix2 k c) := pay5_apply x w e c

theorem pay14_apply (x : Vec Ideal S1024x1024 .bf16) (w : Vec Ideal S1024x512 .bf16) (r : Fin 1024) (c : Fin 512) :
    k0_pay14 x w (ix2 r c) = ∑ k : Fin 1024, (x (ix2 r k) : EReal) * w (ix2 k c) := by
  unfold k0_pay14
  rw [shapeCast_self]
  exact mm_wide x w r c

theorem pay16_apply (x : Vec Ideal S1024x1024 .bf16) (w : Vec Ideal S1024x512 .bf16) (r : Fin 1024) (c : Fin 512) :
    k0_pay16 x w (ix2 r c) = ∑ k : Fin 1024, (x (ix2 r k) : EReal) * w (ix2 k c) := pay14_apply x w r c

theorem pay17_apply (x : Vec Ideal S1024x1024 .bf16) (w : Vec Ideal S1024x512 .bf16) (r : Fin 1024) (c : Fin 512) :
    k0_pay17 x w (ix2 r c) = ∑ k : Fin 1024, (x (ix2 r k) : EReal) * w (ix2 k c) := by
  unfold k0_pay17
  simp only [shapeCast_self]
  exact mm_wide x w r c

theorem pay18_apply (x : Vec Ideal S1024x1024 .bf16) (w : Vec Ideal S1024x128 .bf16) (r : Fin 1024) (c : Fin 128) :
    k0_pay18 x w (ix2 r c) = ∑ k : Fin 1024, (x (ix2 r k) : EReal) * w (ix2 k c) := by
  unfold k0_pay18
  simp only [shapeCast_self]
  exact mm_thin x w r c

/-- A row of the block after a turn. -/
theorem turn_apply (n : BitVec 32) (P : FVec Ideal S1056x512 .f32) (r : Fin 1024) (c : Fin 512) (e : Fin 1056)
    (he : e.val = (16 + r.val + 1056 - n.toNat % 1056) % 1056) :
    extractStridedSlice S1024x512 ![16, 0] (dynamicRotate 0 n none P rotates_S1056x512_d0) slices_S1056x512_o16_0_S1024x512 (ix2 r c) = P (ix2 e c) := by
  refine Eq.trans (b := dynamicRotate 0 n none P rotates_S1056x512_d0 (ix2 (⟨16 + r.val, by omega⟩ : Fin 1056) c)) ?_ ?_
  · refine congrArg (dynamicRotate 0 n none P rotates_S1056x512_d0) (funext fun a => Fin.ext ?_)
    fin_cases a
    · rfl
    · exact Nat.zero_add _
  · refine dynamicRotate_apply 0 n P _ _ (ix2 e c) fun b => ?_
    fin_cases b
    · exact he
    · rfl

theorem still_apply (P : FVec Ideal S1056x512 .f32) (r : Fin 1024) (c : Fin 512) :
    extractStridedSlice S1024x512 ![16, 0] P slices_S1056x512_o16_0_S1024x512 (ix2 r c) = P (ix2 (⟨16 + r.val, by omega⟩ : Fin 1056) c) := by
  refine congrArg P (funext fun a => Fin.ext ?_)
  fin_cases a
  · rfl
  · exact Nat.zero_add _

/-- A tap's row over all rows. -/
theorem tapRow_apply (o : ℕ) (cw : FVec Ideal S8x512 .f32) (h : S8x512.Slices ![o, 0] S1x512) (ho : o < 8) (r : Fin 1024) (c : Fin 512) :
    broadcastTo S1024x512 (extractStridedSlice S1x512 ![o, 0] cw h) broadcasts_S1x512_S1024x512 (ix2 r c) = cw (ix2 (⟨o, ho⟩ : Fin 8) c) := by
  refine (ValueIdx.broadcastTo_1b_ab_apply _ _ r c).trans ?_
  refine congrArg cw (funext fun a => Fin.ext ?_)
  fin_cases a
  · rfl
  · exact Nat.zero_add _

/-- The gate as the kernel spells it. -/
def kgate (y : EReal) : EReal :=
  Ideal.ofBits .f32 0x3F000000#32 * y + Ideal.ofBits .f32 0x3F000000#32 * y * Ideal.tanh (Ideal.ofBits .f32 0x3F000000#32 * y)

/-- The convolution on a block with its halo. -/
def kconv (P : FVec Ideal S1056x512 .f32) (cw : FVec Ideal S8x512 .f32) (r : Fin 1024) (c : Fin 512) : EReal :=
  five (fun j => P (ix2 (⟨(14 + r.val + j) % 1056, Nat.mod_lt _ (by decide)⟩ : Fin 1056) c)) fun j => cw (ix2 (⟨j.val, by omega⟩ : Fin 8) c)

theorem pay9_apply (P : FVec Ideal S1056x512 .f32) (cw : Vec Ideal S8x512 .f32) (r : Fin 1024) (c : Fin 512) :
    k0_pay9 P cw (ix2 r c) = kgate (kconv P cw r c) := by
  have key : ∀ y : EReal, y = kconv P cw r c → Ideal.ofBits .f32 0x3F000000#32 * y + Ideal.ofBits .f32 0x3F000000#32 * y * Ideal.tanh (Ideal.ofBits .f32 0x3F000000#32 * y)
      = kgate (kconv P cw r c) := fun y hy => by rw [hy]; rfl
  unfold k0_pay9
  rw [shapeCast_self]
  refine key _ ?_
  unfold kconv five
  refine congrArg₂ (fun a b : EReal => a + b) (congrArg₂ (fun a b : EReal => a + b) (congrArg₂ (fun a b : EReal => a + b) (congrArg₂ (fun a b : EReal => a + b)
    (congrArg₂ (fun a b : EReal => a * b) (turn_apply 2#32 P r c _ ?_) (tapRow_apply 0 cw _ (by decide) r c))
    (congrArg₂ (fun a b : EReal => a * b) (turn_apply 1#32 P r c _ ?_) (tapRow_apply 1 cw _ (by decide) r c)))
    (congrArg₂ (fun a b : EReal => a * b) ((still_apply P r c).trans (congrArg P (congrArg (fun e : Fin 1056 => ix2 e c) (Fin.ext ?_)))) (tapRow_apply 2 cw _ (by decide) r c)))
    (congrArg₂ (fun a b : EReal => a * b) (turn_apply 1055#32 P r c _ ?_) (tapRow_apply 3 cw _ (by decide) r c)))
    (congrArg₂ (fun a b : EReal => a * b) (turn_apply 1054#32 P r c _ ?_) (tapRow_apply 4 cw _ (by decide) r c))
  · show (14 + r.val + 0) % 1056 = (16 + r.val + 1056 - 2 % 1056) % 1056; omega
  · show (14 + r.val + 1) % 1056 = (16 + r.val + 1056 - 1 % 1056) % 1056; omega
  · show 16 + r.val = (14 + r.val + 2) % 1056; omega
  · show (14 + r.val + 3) % 1056 = (16 + r.val + 1056 - 1055 % 1056) % 1056; omega
  · show (14 + r.val + 4) % 1056 = (16 + r.val + 1056 - 1054 % 1056) % 1056; omega

theorem pay6_eq (x : Vec Ideal S1056x1024 .bf16) (w : Vec Ideal S1024x512 .bf16) (cw : Vec Ideal S8x512 .f32) : k0_pay6 x w cw = k0_pay9 (k0_pay5 x w) cw := rfl

/-- One head of a block. -/
abbrev seg (v : FVec Ideal S1024x512 .f32) (o : ℕ) (h : S1024x512.Slices ![0, o] S1024x128) : FVec Ideal S1024x128 .f32 := extractStridedSlice S1024x128 ![0, o] v h

/-- A head divided by its length. -/
abbrev unitv (u : FVec Ideal S1024x128 .f32) : FVec Ideal S1024x128 .f32 :=
  mulf u (broadcastTo S1024x128 (rsqrt (addf (shapeCast S1024x1 (multiReduction .add [1] S1024 (mulf u u) 0x00000000#32 reduces_S1024x128_S1024 (.inl rfl) rfl)
    shapeCasts_S1024_S1024x1) (broadcast S1024x1 (FloatOps.ofBits (F := Ideal) FTy.f32 0x358637BD#32)))) broadcasts_S1024x1_S1024x128)

theorem unitv_apply (u : FVec Ideal S1024x128 .f32) (r : Fin 1024) (l : Fin 128) :
    unitv u (ix2 r l) = (u (ix2 r l) : EReal) * Ideal.rsqrt ((∑ k : Fin 128, (u (ix2 r k) : EReal) * u (ix2 r k)) + Ideal.ofBits .f32 0x358637BD#32) := by
  refine congrArg₂ (fun a b : EReal => a * b) rfl ?_
  refine (broadcastTo_apply _ _ (ix2 r l) (ix2 r (0 : Fin 1)) fun a => by fin_cases a <;> rfl).trans ?_
  refine congrArg (fun y : EReal => Ideal.rsqrt (y + Ideal.ofBits .f32 0x358637BD#32)) ?_
  refine (ValueIdx.shapeCast_a_a1_apply _ _ r 0).trans ?_
  refine (Ideal.multiReduction_add_single _ _ _ _ _ (ix1 r)).trans ?_
  refine Finset.sum_congr rfl fun k _ => ?_
  have hk : (reduces_S1024x128_S1024).lift (ix1 r) k = ix2 r k := by
    funext a
    refine Fin.ext ?_
    rw [Shape.Reduces.lift_val]
    fin_cases a <;> rfl
  rw [hk]
  rfl

theorem seg_apply (v : FVec Ideal S1024x512 .f32) (o : ℕ) (h : S1024x512.Slices ![0, o] S1024x128) (r : Fin 1024) (l : Fin 128) (c : Fin 512) (hc : c.val = o + l.val) :
    seg v o h (ix2 r l) = v (ix2 r c) := by
  refine congrArg v (funext fun a => Fin.ext ?_)
  fin_cases a
  · exact Nat.zero_add _
  · exact hc.symm

/-- One entry divided by its head's length, on a block. -/
def kunit (f : Fin 512 → EReal) (c : Fin 512) : EReal :=
  f c * Ideal.rsqrt ((∑ l : Fin 128, f ⟨c.val / 128 * 128 + l.val, by omega⟩ * f ⟨c.val / 128 * 128 + l.val, by omega⟩) + Ideal.ofBits .f32 0x358637BD#32)

theorem unitv_seg (v : FVec Ideal S1024x512 .f32) (o : ℕ) (h : S1024x512.Slices ![0, o] S1024x128) (r : Fin 1024) (l : Fin 128) (c : Fin 512) (hc : c.val = o + l.val)
    (ho : o = c.val / 128 * 128) : unitv (seg v o h) (ix2 r l) = kunit (fun c => v (ix2 r c)) c := by
  refine (unitv_apply (seg v o h) r l).trans ?_
  unfold kunit
  rw [seg_apply v o h r l c hc]
  refine congrArg (fun y : EReal => (v (ix2 r c) : EReal) * Ideal.rsqrt (y + Ideal.ofBits .f32 0x358637BD#32)) (Finset.sum_congr rfl fun k _ => ?_)
  rw [seg_apply v o h r k ⟨c.val / 128 * 128 + k.val, by omega⟩ (by show c.val / 128 * 128 + k.val = o + k.val; omega)]

/-- Four heads side by side. -/
abbrev quad (a b c d : FVec Ideal S1024x128 .f32) : FVec Ideal S1024x512 .f32 :=
  concatenate S1024x512 1 [⟨S1024x128, a⟩, ⟨S1024x128, b⟩, ⟨S1024x128, c⟩, ⟨S1024x128, d⟩] concatenates_S1024x128_S1024x128_S1024x128_S1024x128_S1024x512_d1

theorem quad_apply (a b c d : FVec Ideal S1024x128 .f32) (r : Fin 1024) (j : Fin 512) (y : EReal)
    (h0 : j.val / 128 = 0 → a (ix2 r ⟨j.val % 128, by omega⟩) = y) (h1 : j.val / 128 = 1 → b (ix2 r ⟨j.val % 128, by omega⟩) = y)
    (h2 : j.val / 128 = 2 → c (ix2 r ⟨j.val % 128, by omega⟩) = y) (h3 : j.val / 128 = 3 → d (ix2 r ⟨j.val % 128, by omega⟩) = y) :
    quad a b c d (ix2 r j) = y := by
  have hj := j.isLt
  have hoff : ∀ b : Fin 2, b.cast (rfl : (2 : ℕ) = 2) ≠ (1 : Fin 2) →
      ((ix2 r (⟨j.val % 128, by omega⟩ : Fin 128) : S1024x128.Idx) b).val = ((ix2 r j : S1024x512.Idx) (b.cast rfl)).val := fun b hb => by
    fin_cases b
    · rfl
    · exact absurd rfl hb
  obtain ⟨s, hs⟩ : ∃ s, j.val / 128 = s := ⟨_, rfl⟩
  have hd : s < 4 := by omega
  interval_cases s
  · exact (concatenate_apply_piece 1 _ _ (ix2 r j) 0 (by exact (show 0 < 4 by decide)) S1024x128 _ rfl rfl 0 rfl (ix2 r ⟨j.val % 128, by omega⟩) hoff (by show 0 + j.val % 128 = j.val; omega)).trans (h0 hs)
  · exact (concatenate_apply_piece 1 _ _ (ix2 r j) 1 (by exact (show 1 < 4 by decide)) S1024x128 _ rfl rfl 128 rfl (ix2 r ⟨j.val % 128, by omega⟩) hoff (by show 128 + j.val % 128 = j.val; omega)).trans (h1 hs)
  · exact (concatenate_apply_piece 1 _ _ (ix2 r j) 2 (by exact (show 2 < 4 by decide)) S1024x128 _ rfl rfl 256 rfl (ix2 r ⟨j.val % 128, by omega⟩) hoff (by show 256 + j.val % 128 = j.val; omega)).trans (h2 hs)
  · exact (concatenate_apply_piece 1 _ _ (ix2 r j) 3 (by exact (show 3 < 4 by decide)) S1024x128 _ rfl rfl 384 rfl (ix2 r ⟨j.val % 128, by omega⟩) hoff (by show 384 + j.val % 128 = j.val; omega)).trans (h3 hs)

theorem pay7_apply (v : FVec Ideal S1024x512 .f32) (r : Fin 1024) (c : Fin 512) :
    k0_pay7 v (ix2 r c) = kunit (fun c => v (ix2 r c)) c * Ideal.ofBits .f32 0x3DB504F3#32 := by
  have e : ∀ (o : ℕ) (h : S1024x512.Slices ![0, o] S1024x128), o = c.val / 128 * 128 →
      mulf (unitv (seg v o h)) (broadcast S1024x128 (FloatOps.ofBits (F := Ideal) FTy.f32 0x3DB504F3#32)) (ix2 r ⟨c.val % 128, by omega⟩)
        = kunit (fun c => v (ix2 r c)) c * Ideal.ofBits .f32 0x3DB504F3#32 := fun o h ho => by
    refine congrArg (fun y : EReal => y * Ideal.ofBits .f32 0x3DB504F3#32) (unitv_seg v o h r _ c ?_ ho)
    show c.val = o + c.val % 128
    omega
  exact quad_apply _ _ _ _ r c _ (fun h => e 0 _ (by omega)) (fun h => e 128 _ (by omega)) (fun h => e 256 _ (by omega)) (fun h => e 384 _ (by omega))

theorem pay13_apply (P : FVec Ideal S1056x512 .f32) (cw : Vec Ideal S8x512 .f32) (r : Fin 1024) (c : Fin 512) :
    k0_pay13 (k0_pay9 P cw) (k0_pay10 P cw) (k0_pay11 P cw) k0_pay12 (ix2 r c) = kunit (fun c => k0_pay9 P cw (ix2 r c)) c := by
  have e : ∀ (o : ℕ) (h : S1024x512.Slices ![0, o] S1024x128), o = c.val / 128 * 128 →
      unitv (seg (k0_pay9 P cw) o h) (ix2 r ⟨c.val % 128, by omega⟩) = kunit (fun c => k0_pay9 P cw (ix2 r c)) c := fun o h ho => by
    refine unitv_seg _ o h r _ c ?_ ho
    show c.val = o + c.val % 128
    omega
  exact quad_apply _ _ _ _ r c _ (fun h => e 0 slices_S1024x512_o0_0_S1024x128 (by omega)) (fun h => e 128 slices_S1024x512_o0_128_S1024x128 (by omega)) (fun h => e 256 slices_S1024x512_o0_256_S1024x128 (by omega)) (fun h => e 384 slices_S1024x512_o0_384_S1024x128 (by omega))

theorem pay15_apply (P : FVec Ideal S1056x512 .f32) (cw : Vec Ideal S8x512 .f32) (r : Fin 1024) (c : Fin 512) :
    k0_pay15 P cw (ix2 r c) = k0_pay9 P cw (ix2 r c) := by
  have e : ∀ (o : ℕ) (h : S1024x512.Slices ![0, o] S1024x128), o = c.val / 128 * 128 →
      seg (k0_pay9 P cw) o h (ix2 r ⟨c.val % 128, by omega⟩) = k0_pay9 P cw (ix2 r c) := fun o h ho => by
    refine seg_apply _ o h r _ c ?_
    show c.val = o + c.val % 128
    omega
  exact quad_apply _ _ _ _ r c _ (fun h => e 0 slices_S1024x512_o0_0_S1024x128 (by omega)) (fun h => e 128 slices_S1024x512_o0_128_S1024x128 (by omega)) (fun h => e 256 slices_S1024x512_o0_256_S1024x128 (by omega)) (fun h => e 384 slices_S1024x512_o0_384_S1024x128 (by omega))

end Cert.Kernel2Ideal.Proj

end
-- ==== Proof.Proj.PayG.lean ====
/- What the projection kernel's gates are, entry by entry, on any blocks. -/
module

public import proofs.«01_k».proof.Proof.Proj.Pay

@[expose] public section

set_option maxRecDepth 16384

noncomputable section

namespace Cert.Kernel2Ideal.Proj

open Cert.Kernel2Ideal Cert.Kernel2Ideal.Gen
open Idealize.ShloMosaic
open Idealize.ShloMosaic.ValueIdx (ix0 ix1 ix2 ix3 ix4)
open Cert.Proj

theorem rowAll_apply (v : FVec Ideal S1x128 .f32) (r : Fin 1024) (c : Fin 128) :
    broadcastTo S1024x128 v broadcasts_S1x128_S1024x128 (ix2 r c) = v (ix2 (0 : Fin 1) c) := ValueIdx.broadcastTo_1b_ab_apply _ _ r c

theorem pay19_apply (x : Vec Ideal S1024x1024 .bf16) (w : Vec Ideal S1024x128 .bf16) (a d : Vec Ideal S1x128 .f32) (r : Fin 1024) (c : Fin 128) :
    k0_pay19 x w a d (ix2 r c) = decay (a (ix2 (0 : Fin 1) c)) (d (ix2 (0 : Fin 1) c)) (∑ k : Fin 1024, (x (ix2 r k) : EReal) * w (ix2 k c)) := by
  unfold k0_pay19
  simp only [shapeCast_self]
  unfold decay
  have z : Ideal.ofBits .f32 0x00000000#32 = 0 := Ideal.ofBits_zero_f32
  have t : ∀ p e : EReal, p = (∑ k : Fin 1024, (x (ix2 r k) : EReal) * w (ix2 k c)) → e = d (ix2 (0 : Fin 1) c) →
      max (p + e) (Ideal.ofBits .f32 0x00000000#32) + Ideal.log1p (Ideal.exp (Ideal.ofBits .f32 0x00000000#32 - max (p + e) (-(p + e))))
      = max ((∑ k : Fin 1024, (x (ix2 r k) : EReal) * w (ix2 k c)) + d (ix2 (0 : Fin 1) c)) 0
        + Ideal.log1p (Ideal.exp (-(max ((∑ k : Fin 1024, (x (ix2 r k) : EReal) * w (ix2 k c)) + d (ix2 (0 : Fin 1) c)) (-((∑ k : Fin 1024, (x (ix2 r k) : EReal) * w (ix2 k c)) + d (ix2 (0 : Fin 1) c)))))) := fun p e hp he => by
    rw [hp, he, z, zero_sub]
  refine congrArg₂ (fun a b : EReal => a * b) ((rowAll_apply _ r c).trans ?_) (t _ _ (pay18_apply x w r c) (rowAll_apply d r c))
  show Ideal.ofBits .f32 0x00000000#32 - Ideal.exp (a (ix2 (0 : Fin 1) c)) = -(Ideal.exp (a (ix2 (0 : Fin 1) c)))
  rw [z, zero_sub]

theorem pay20_apply (x : Vec Ideal S1024x1024 .bf16) (w : Vec Ideal S1024x128 .bf16) (r : Fin 1024) (c : Fin 128) :
    k0_pay20 x w (ix2 r c) = Ideal.logistic (∑ k : Fin 1024, (x (ix2 r k) : EReal) * w (ix2 k c)) :=
  congrArg Ideal.logistic (pay18_apply x w r c)

/-- The lanes of a chunk. -/
abbrev lanes : IVec S64x128 32 := iota .tc S64x128 32 [1] iota_S64x128_d1_w32

/-- The two triangles. -/
abbrev tri : FVec Ideal S128x64 .f32 :=
  k0_pay23 (F := Ideal) (iota .tc S128x64 32 [0] iota_S128x64_d0_w32) (iota .tc S128x64 32 [1] iota_S128x64_d1_w32) k0_pay21 k0_pay22

/-- One chunk of the gates. -/
def gp (o : ℕ) (h : S1024x128.Slices ![o, 0] S64x128) (g b : FVec Ideal S1024x128 .f32) : FVec Ideal S64x16 .f32 :=
  extractStridedSlice S64x16 ![0, 0]
    (select (cmpi .slt lanes (broadcast S64x128 4#32))
      (extractStridedSlice S64x128 ![0, 0] (matmul dot_S128x64_S64x128_S128x128_1_0_0_1_n_n (some .fp32) tri (extractStridedSlice S64x128 ![o, 0] g h) (constant S128x128 .f32 0x00000000#32))
        slices_S128x128_o0_0_S64x128)
      (select (cmpi .slt lanes (broadcast S64x128 8#32))
        (extractStridedSlice S64x128 ![64, 0] (matmul dot_S128x64_S64x128_S128x128_1_0_0_1_n_n (some .fp32) tri (extractStridedSlice S64x128 ![o, 0] g h) (constant S128x128 .f32 0x00000000#32))
          slices_S128x128_o64_0_S64x128)
        (extractStridedSlice S64x128 ![o, 0] b h)))
    slices_S64x128_o0_0_S64x16

theorem lt_word : ∀ c : Fin 16, (IntOp.cmpi .slt (BitVec.ofNat 32 c.val) 4#32 = 1 ↔ c.val < 4) ∧ (IntOp.cmpi .slt (BitVec.ofNat 32 c.val) 8#32 = 1 ↔ c.val < 8) := by decide

theorem row_word : ∀ p : Fin 64, IntOp.cmpi .slt (BitVec.ofNat 32 p.val) 64#32 = 1 ∧ ¬(IntOp.cmpi .slt (BitVec.ofNat 32 (64 + p.val)) 64#32 = 1) ∧
    BitVec.ofNat 32 (64 + p.val) - 64#32 = BitVec.ofNat 32 p.val := by decide

theorem le_word : ∀ p c : Fin 64, (IntOp.cmpi .sge (BitVec.ofNat 32 p.val) (BitVec.ofNat 32 c.val) = 1 ↔ c.val ≤ p.val) ∧
    (IntOp.cmpi .sle (BitVec.ofNat 32 p.val) (BitVec.ofNat 32 c.val) = 1 ↔ p.val ≤ c.val) := by
  intro p c
  have e : ∀ n : Fin 64, (BitVec.ofNat 32 n.val).toInt = n.val := fun n => by
    have h : (BitVec.ofNat 32 n.val).toNat = n.val := by rw [BitVec.toNat_ofNat]; omega
    rw [BitVec.toInt_eq_toNat_of_lt (by rw [h]; omega), h]
  have hb : ∀ b : Bool, BitVec.ofBool b = 1 ↔ b = true := by decide
  constructor
  · refine (hb _).trans ?_
    rw [show (BitVec.sle (BitVec.ofNat 32 c.val) (BitVec.ofNat 32 p.val)) = decide ((BitVec.ofNat 32 c.val).toInt ≤ (BitVec.ofNat 32 p.val).toInt) from rfl, e, e,
      decide_eq_true_iff]
    omega
  · refine (hb _).trans ?_
    rw [show (BitVec.sle (BitVec.ofNat 32 p.val) (BitVec.ofNat 32 c.val)) = decide ((BitVec.ofNat 32 p.val).toInt ≤ (BitVec.ofNat 32 c.val).toInt) from rfl, e, e,
      decide_eq_true_iff]
    omega

theorem iotaRow (p : Fin 128) (c : Fin 64) : iota .tc S128x64 32 [0] iota_S128x64_d0_w32 (ix2 p c) = BitVec.ofNat 32 p.val := congrArg (BitVec.ofNat 32) (Nat.zero_add _)
theorem iotaCol (p : Fin 128) (c : Fin 64) : iota .tc S128x64 32 [1] iota_S128x64_d1_w32 (ix2 p c) = BitVec.ofNat 32 c.val := congrArg (BitVec.ofNat 32) (Nat.zero_add _)
theorem iotaLane (p : Fin 64) (c : Fin 128) : lanes (ix2 p c) = BitVec.ofNat 32 c.val := congrArg (BitVec.ofNat 32) (Nat.zero_add _)

theorem tri_val (p : Fin 128) (c : Fin 64) : tri (ix2 p c) =
    (if IntOp.cmpi .slt (BitVec.ofNat 32 p.val) 64#32 = 1 then
      (if IntOp.cmpi .sge (BitVec.ofNat 32 p.val) (BitVec.ofNat 32 c.val) = 1 then Ideal.ofBits .f32 0x3F800000#32 else Ideal.ofBits .f32 0x00000000#32)
    else (if IntOp.cmpi .sle (BitVec.ofNat 32 p.val - 64#32) (BitVec.ofNat 32 c.val) = 1 then Ideal.ofBits .f32 0x3F800000#32 else Ideal.ofBits .f32 0x00000000#32)) := by
  rw [← iotaRow p c, ← iotaCol p c]
  rfl

theorem tri_lo (p c : Fin 64) : tri (ix2 (⟨p.val, by omega⟩ : Fin 128) c) = (if c.val ≤ p.val then (1 : EReal) else 0) := by
  refine (tri_val _ _).trans ?_
  refine (if_pos (row_word p).1).trans ?_
  rw [Ideal.ofBits_one_f32, Ideal.ofBits_zero_f32]
  exact if_congr (le_word p c).1 rfl rfl

theorem tri_hi (p c : Fin 64) : tri (ix2 (⟨64 + p.val, by omega⟩ : Fin 128) c) = (if p.val ≤ c.val then (1 : EReal) else 0) := by
  refine (tri_val _ _).trans ?_
  refine (if_neg (row_word p).2.1).trans ?_
  rw [Ideal.ofBits_one_f32, Ideal.ofBits_zero_f32]
  refine if_congr ?_ rfl rfl
  show IntOp.cmpi .sle (BitVec.ofNat 32 (64 + p.val) - 64#32) (BitVec.ofNat 32 c.val) = 1 ↔ _
  rw [(row_word p).2.2]
  exact (le_word p c).2

theorem chunk_apply (o : ℕ) (h : S1024x128.Slices ![o, 0] S64x128) (ho : o + 64 ≤ 1024) (g : FVec Ideal S1024x128 .f32) (p : Fin 64) (c : Fin 128) :
    extractStridedSlice S64x128 ![o, 0] g h (ix2 p c) = g (ix2 (⟨o + p.val, by omega⟩ : Fin 1024) c) := by
  refine congrArg g (funext fun a => Fin.ext ?_)
  fin_cases a
  · rfl
  · exact Nat.zero_add _

theorem half_apply (t : ℕ) (ht : t + 64 ≤ 128) (hs : S128x128.Slices ![t, 0] S64x128) (v : FVec Ideal S128x128 .f32) (p : Fin 64) (c : Fin 128) :
    extractStridedSlice S64x128 ![t, 0] v hs (ix2 p c) = v (ix2 (⟨t + p.val, by omega⟩ : Fin 128) c) := by
  refine congrArg v (funext fun a => Fin.ext ?_)
  fin_cases a
  · rfl
  · exact Nat.zero_add _

theorem sel_at {s : Shape} (c : BitVec 1) (a b : FVec Ideal s .f32) (x : s.Idx) : Scalar.select c a b x = if c = 1 then a x else b x := by
  unfold Scalar.select
  split <;> rfl

/-- The part of a product with the triangles that is kept. -/
theorem part_apply (o t : ℕ) (ht : t + 64 ≤ 128) (hs : S128x128.Slices ![t, 0] S64x128) (h : S1024x128.Slices ![o, 0] S64x128) (ho : o + 64 ≤ 1024)
    (g : FVec Ideal S1024x128 .f32) (p : Fin 64) (c : Fin 128) :
    extractStridedSlice S64x128 ![t, 0] (matmul dot_S128x64_S64x128_S128x128_1_0_0_1_n_n (some .fp32) tri (extractStridedSlice S64x128 ![o, 0] g h) (constant S128x128 .f32 0x00000000#32)) hs (ix2 p c)
      = ∑ k : Fin 64, (tri (ix2 (⟨t + p.val, by omega⟩ : Fin 128) k) : EReal) * g (ix2 (⟨o + k.val, by omega⟩ : Fin 1024) c) := by
  refine (half_apply t ht hs _ p c).trans ?_
  refine (mm_tri _ _ _ c).trans (Finset.sum_congr rfl fun k _ => ?_)
  exact congrArg (fun y : EReal => (tri (ix2 (⟨t + p.val, by omega⟩ : Fin 128) k) : EReal) * y) (chunk_apply o h ho g k c)

/-- What a chunk of the gates is. -/
def gpv (o : ℕ) (ho : o + 64 ≤ 1024) (g b : FVec Ideal S1024x128 .f32) (p : Fin 64) (c : Fin 16) : EReal :=
  if c.val < 4 then ∑ k : Fin 64, (if k.val ≤ p.val then (g (ix2 (⟨o + k.val, by omega⟩ : Fin 1024) (⟨c.val, by omega⟩ : Fin 128)) : EReal) else 0)
  else if c.val < 8 then ∑ k : Fin 64, (if p.val ≤ k.val then (g (ix2 (⟨o + k.val, by omega⟩ : Fin 1024) (⟨c.val, by omega⟩ : Fin 128)) : EReal) else 0)
  else b (ix2 (⟨o + p.val, by omega⟩ : Fin 1024) (⟨c.val, by omega⟩ : Fin 128))

theorem gp_apply (o : ℕ) (h : S1024x128.Slices ![o, 0] S64x128) (ho : o + 64 ≤ 1024) (g b : FVec Ideal S1024x128 .f32) (p : Fin 64) (c : Fin 16) :
    gp o h g b (ix2 p c) = gpv o ho g b p c := by
  have e : ∀ v : FVec Ideal S64x128 .f32, extractStridedSlice S64x16 ![0, 0] v slices_S64x128_o0_0_S64x16 (ix2 p c) = v (ix2 p (⟨c.val, by omega⟩ : Fin 128)) := fun v => by
    refine congrArg v (funext fun a => Fin.ext ?_)
    fin_cases a
    · exact Nat.zero_add _
    · exact Nat.zero_add _
  have m : ∀ (q : Prop) [Decidable q] (x : EReal), (if q then (1 : EReal) else 0) * x = if q then x else 0 := fun q _ x => by
    split
    · exact one_mul x
    · exact zero_mul x
  refine (e _).trans ?_
  unfold gpv
  have l4 : cmpi .slt lanes (broadcast S64x128 4#32) (ix2 p (⟨c.val, by omega⟩ : Fin 128)) = IntOp.cmpi .slt (BitVec.ofNat 32 c.val) 4#32 :=
    congrArg (fun w => IntOp.cmpi .slt w 4#32) (iotaLane p _)
  have l8 : cmpi .slt lanes (broadcast S64x128 8#32) (ix2 p (⟨c.val, by omega⟩ : Fin 128)) = IntOp.cmpi .slt (BitVec.ofNat 32 c.val) 8#32 :=
    congrArg (fun w => IntOp.cmpi .slt w 8#32) (iotaLane p _)
  refine (congrArg (fun w => Scalar.select w _ _) l4).trans ?_
  refine if_congr (lt_word c).1 ?_ ?_
  · refine (part_apply o 0 (by decide) _ h ho g p _).trans (Finset.sum_congr rfl fun k _ => ?_)
    refine Eq.trans ?_ (m _ _)
    refine congrArg (fun y : EReal => y * _) ((congrArg tri (congrArg (fun q : Fin 128 => ix2 q k) (Fin.ext ?_))).trans (tri_lo p k))
    exact Nat.zero_add _
  · refine (congrArg (fun w => Scalar.select w _ _) l8).trans ?_
    refine if_congr (lt_word c).2 ?_ ?_
    · refine (part_apply o 64 (by decide) _ h ho g p _).trans (Finset.sum_congr rfl fun k _ => ?_)
      refine Eq.trans ?_ (m _ _)
      exact congrArg (fun y : EReal => y * _) (tri_hi p k)
    · exact chunk_apply o h ho b p _

/-- The remainder of a block's number by four, as the kernel computes it. -/
abbrev rem4 (n : BitVec 32) : BitVec 32 :=
  Scalar.select (Scalar.andi (Scalar.xori (Scalar.cmpi .slt (Scalar.remsi n (Scalar.select (Scalar.cmpi .eq 4#32 0#32) 1#32 4#32)) 0#32)
      (Scalar.cmpi .slt (Scalar.select (Scalar.cmpi .eq 4#32 0#32) 1#32 4#32) 0#32))
      (Scalar.cmpi .ne (Scalar.remsi n (Scalar.select (Scalar.cmpi .eq 4#32 0#32) 1#32 4#32)) 0#32))
    (Scalar.addi (Scalar.remsi n (Scalar.select (Scalar.cmpi .eq 4#32 0#32) 1#32 4#32)) (Scalar.select (Scalar.cmpi .eq 4#32 0#32) 1#32 4#32))
    (Scalar.remsi n (Scalar.select (Scalar.cmpi .eq 4#32 0#32) 1#32 4#32))

theorem rem_word : ∀ n : Fin 32, (Scalar.cmpi .eq (rem4 (BitVec.ofNat 32 n.val)) 0#32 = 1 ↔ n.val % 4 = 0) ∧
    (Scalar.cmpi .eq (rem4 (BitVec.ofNat 32 n.val)) 3#32 = 1 ↔ n.val % 4 = 3) := by decide

theorem pay2_apply (i : grid0.Coords) (v : Vec Ideal S16x1024 .f32) (e : Fin 16) (k : Fin 1024) :
    k0_pay2 i v (ix2 e k) = if (i 0).val % 4 = 0 then (0 : EReal) else v (ix2 e k) := by
  unfold k0_pay2
  simp only [shapeCast_self]
  refine Eq.trans (b := if Scalar.cmpi .eq (rem4 (BitVec.ofNat 32 (i 0).val)) 0#32 = 1 then Ideal.ofBits .f32 0x00000000#32 else (v (ix2 e k) : EReal)) ?_ ?_
  · exact sel_at (Scalar.cmpi .eq (rem4 (BitVec.ofNat 32 (i 0).val)) 0#32) (broadcast S16x1024 (FloatOps.ofBits (F := Ideal) FTy.f32 0x00000000#32)) v (ix2 e k)
  · rw [Ideal.ofBits_zero_f32]
    exact if_congr (rem_word (i 0)).1 rfl rfl

theorem pay4_apply (i : grid0.Coords) (v : Vec Ideal S16x1024 .f32) (e : Fin 16) (k : Fin 1024) :
    k0_pay4 i v (ix2 e k) = if (i 0).val % 4 = 3 then (0 : EReal) else v (ix2 e k) := by
  unfold k0_pay4
  simp only [shapeCast_self]
  refine Eq.trans (b := if Scalar.cmpi .eq (rem4 (BitVec.ofNat 32 (i 0).val)) 3#32 = 1 then Ideal.ofBits .f32 0x00000000#32 else (v (ix2 e k) : EReal)) ?_ ?_
  · exact sel_at (Scalar.cmpi .eq (rem4 (BitVec.ofNat 32 (i 0).val)) 3#32) (broadcast S16x1024 (FloatOps.ofBits (F := Ideal) FTy.f32 0x00000000#32)) v (ix2 e k)
  · rw [Ideal.ofBits_zero_f32]
    exact if_congr (rem_word (i 0)).2 rfl rfl

theorem pay3_apply (v : Vec Ideal S1024x1024 .f32) (e : Fin 1024) (k : Fin 1024) : k0_pay3 v (ix2 e k) = (v (ix2 e k) : EReal) := by
  unfold k0_pay3
  simp only [shapeCast_self]
  rfl

end Cert.Kernel2Ideal.Proj

end
-- ==== Proof.Proj.Run.lean ====
/- What the projection kernel's run leaves in its output blocks, as a function of the blocks it reads. -/
module

public import proofs.«01_k».proof.Proof.Gen.Kernel2Ideal.Value
public import proofs.«01_k».proof.Proof.Proj.PayG
public import Idealize.ShloMosaic.Lib.Pipeline.ValueKit.Tiles

@[expose] public section

set_option maxRecDepth 16384

noncomputable section

namespace Cert.Kernel2Ideal.Proj

open Cert.Kernel2Ideal Cert.Kernel2Ideal.Gen
open Idealize.ShloMosaic Idealize.ShloMosaic.TcCoe
open Idealize.SL Idealize.SL.Sem
open Idealize.ShloMosaic.Pipeline (Dat Cfg Window)
open Idealize.ShloMosaic.ValueKit
open Idealize.ShloMosaic.ValueIdx (ix0 ix1 ix2 ix3 ix4)
open Cert.Proj

/-- The block of rows with sixteen rows on either side, zero outside the sequence. -/
def halo (q : ℕ) (x0 : Vec Ideal S1024x1024 .f32) (x1 x2 : Vec Ideal S16x1024 .f32) : Vec Ideal S1056x1024 .bf16 := fun y =>
  if h : (y 0).val < 16 then (if q % 4 = 0 then (0 : EReal) else x1 (ix2 (⟨(y 0).val, h⟩ : Fin 16) (y 1)))
  else if h2 : (y 0).val < 1040 then x0 (ix2 (⟨(y 0).val - 16, by omega⟩ : Fin 1024) (y 1))
  else (if q % 4 = 3 then (0 : EReal) else x2 (ix2 (⟨(y 0).val - 1040, by have : (y 0).val < 1056 := (y 0).isLt; omega⟩ : Fin 16) (y 1)))

/-- The gated convolution of a block's row. -/
def kact (xe : Vec Ideal S1056x1024 .bf16) (w : Vec Ideal S1024x1536 .bf16) (cw : Vec Ideal S8x1536 .f32) (r : Fin 1024) (c : Fin 1536) : EReal :=
  kgate (five (fun j => ∑ k : Fin 1024, (xe (ix2 (⟨(14 + r.val + j) % 1056, Nat.mod_lt _ (by decide)⟩ : Fin 1056) k) : EReal) * w (ix2 k c))
    fun j => cw (ix2 (⟨j.val, by omega⟩ : Fin 8) c))

theorem mem_unit {S : Shape} (off size : Fin S.rank → ℕ) (inb : ∀ a, off a + size a ≤ S.size a) (y : S.Idx) (h : ∀ a, off a ≤ (y a).val ∧ (y a).val < off a + size a) :
    y ∈ (Rect.unit off size inb).set :=
  (Rect.unit off size inb).mem_set.mpr fun a => ⟨(y a).val - off a, by have := h a; show _ < size a; omega, by have := h a; show (y a).val = off a + 1 * _; omega⟩

theorem readAt_at {S : Shape} {e : EltTy} {arg : Memref sig .tc .vmem S e} (harg : arg.IsWhole) (x : Vec Ideal S e) (B : LoadRect S) (j) :
    View.readAt (Elt Ideal) arg.view B (harg.unread x) j = x (B.idx j) := by
  exact congrFun (harg.read_unread x) (B.idx j)

theorem cols_at {a b n o : ℕ} {e : EltTy} {arg : Memref sig .tc .vmem ⟨2, ![a, b]⟩ e} (harg : arg.IsWhole) (x : Vec Ideal ⟨2, ![a, b]⟩ e)
    (inb : ∀ q, (![0, o] : Fin 2 → ℕ) q + (![a, n] : Fin 2 → ℕ) q ≤ (![a, b] : Fin 2 → ℕ) q) (k : Fin a) (c : Fin n) (d : Fin b) (hd : d.val = o + c.val) :
    View.readAt (Elt Ideal) arg.view (Rect.unit (s := ⟨2, ![a, b]⟩) ![0, o] ![a, n] inb).toLoadRect (harg.unread x) (ix2 k c) = x (ix2 k d) := by
  refine (readAt_at harg x _ _).trans (congrArg x (funext fun q => Fin.ext ?_))
  fin_cases q
  · show 0 + 1 * k.val = k.val; omega
  · show o + 1 * c.val = d.val; omega

theorem rows_at {a b n o : ℕ} {e : EltTy} {arg : Memref sig .tc .vmem ⟨2, ![a, b]⟩ e} (harg : arg.IsWhole) (x : Vec Ideal ⟨2, ![a, b]⟩ e)
    (inb : ∀ q, (![o, 0] : Fin 2 → ℕ) q + (![n, b] : Fin 2 → ℕ) q ≤ (![a, b] : Fin 2 → ℕ) q) (k : Fin n) (c : Fin b) (d : Fin a) (hd : d.val = o + k.val) :
    View.readAt (Elt Ideal) arg.view (Rect.unit (s := ⟨2, ![a, b]⟩) ![o, 0] ![n, b] inb).toLoadRect (harg.unread x) (ix2 k c) = x (ix2 d c) := by
  refine (readAt_at harg x _ _).trans (congrArg x (funext fun q => Fin.ext ?_))
  fin_cases q
  · show o + 1 * k.val = d.val; omega
  · show 0 + 1 * c.val = c.val; omega

theorem whole_at {a b : ℕ} {e : EltTy} {arg : Memref sig .tc .vmem ⟨2, ![a, b]⟩ e} (harg : arg.IsWhole) (x : Vec Ideal ⟨2, ![a, b]⟩ e)
    (inb : ∀ q, (![0, 0] : Fin 2 → ℕ) q + (![a, b] : Fin 2 → ℕ) q ≤ (![a, b] : Fin 2 → ℕ) q) (k : Fin a) (c : Fin b) :
    View.readAt (Elt Ideal) arg.view (Rect.unit (s := ⟨2, ![a, b]⟩) ![0, 0] ![a, b] inb).toLoadRect (harg.unread x) (ix2 k c) = x (ix2 k c) :=
  cols_at harg x inb k c c (Nat.zero_add _).symm

/-- An index from its coordinates. -/
theorem ix_of {a b : ℕ} (x : Shape.Idx ⟨2, ![a, b]⟩) (p : Fin a) (q : Fin b) (h0 : (x 0).val = p.val) (h1 : (x 1).val = q.val) : x = ix2 p q := by
  funext d
  refine Fin.ext ?_
  fin_cases d
  · exact h0
  · exact h1

theorem halo_canon (c : Dev nD) (i : grid0.Coords) (arg1 : Memref sig .tc .vmem S1024x1024 .f32) (harg1 : arg1.IsWhole) (arg2 : Memref sig .tc .vmem S16x1024 .f32) (harg2 : arg2.IsWhole)
    (arg3 : Memref sig .tc .vmem S16x1024 .f32) (harg3 : arg3.IsWhole) (x0 : Vec Ideal S1024x1024 .f32) (x1 x2 : Vec Ideal S16x1024 .f32) (e : Fin 1056) (k : Fin 1024) :
    View.canon (kernelRun0_A.sl.HS0_3 c i arg1 harg1 arg2 harg2 arg3 harg3 x0 x1 x2) (ix2 e k) = halo (i 0).val x0 x1 x2 (ix2 e k) := by
  have he := e.isLt
  have hk := k.isLt
  unfold kernelRun0_A.sl.HS0_3
  refine View.canon_eq_of_allAt _ _ _ ?_ ?_
  · rcases Nat.lt_or_ge e.val 16 with h | h
    · exact ⟨_, List.mem_cons_of_mem _ (List.mem_cons_of_mem _ List.mem_cons_self), mem_unit (S := S1056x1024) ![0, 0] S16x1024.size inb_S1056x1024_S16x1024_0_0 _ fun a => by
        fin_cases a
        · exact ⟨Nat.zero_le _, by show e.val < 0 + 16; omega⟩
        · exact ⟨Nat.zero_le _, by show k.val < 0 + 1024; omega⟩⟩
    · rcases Nat.lt_or_ge e.val 1040 with h' | h'
      · exact ⟨_, List.mem_cons_of_mem _ List.mem_cons_self, mem_unit (S := S1056x1024) ![16, 0] S1024x1024.size inb_S1056x1024_S1024x1024_16_0 _ fun a => by
          fin_cases a
          · exact ⟨h, by show e.val < 16 + 1024; omega⟩
          · exact ⟨Nat.zero_le _, by show k.val < 0 + 1024; omega⟩⟩
      · exact ⟨_, List.mem_cons_self, mem_unit (S := S1056x1024) ![1040, 0] S16x1024.size inb_S1056x1024_S16x1024_1040_0 _ fun a => by
          fin_cases a
          · exact ⟨h', by show e.val < 1040 + 16; omega⟩
          · exact ⟨Nat.zero_le _, by show k.val < 0 + 1024; omega⟩⟩
  · refine View.allAt_cons_unit _ _ _ _ _ (fun x hx => ?_) (View.allAt_cons_unit _ _ _ _ _ (fun x hx => ?_) (View.allAt_cons_unit _ _ _ _ _ (fun x hx => ?_) (View.allAt_nil _ _)))
    · have h0 : e.val = 1040 + (x 0).val := hx 0
      have h1 : k.val = 0 + (x 1).val := hx 1
      have hlt : (x 0).val < 16 := (x 0).isLt
      rw [ix_of x (⟨e.val - 1040, by omega⟩ : Fin 16) k (by show _ = e.val - 1040; omega) (by omega)]
      refine (pay4_apply i _ _ k).trans ?_
      refine Eq.trans ?_ ((dif_neg (show ¬e.val < 16 by omega)).trans (dif_neg (show ¬e.val < 1040 by omega))).symm
      exact if_congr Iff.rfl rfl (whole_at harg3 x2 _ _ k)
    · have h0 : e.val = 16 + (x 0).val := hx 0
      have h1 : k.val = 0 + (x 1).val := hx 1
      have hlt : (x 0).val < 1024 := (x 0).isLt
      rw [ix_of x (⟨e.val - 16, by omega⟩ : Fin 1024) k (by show _ = e.val - 16; omega) (by omega)]
      refine (pay3_apply _ _ k).trans ?_
      refine Eq.trans ?_ ((dif_neg (show ¬e.val < 16 by omega)).trans (dif_pos (show e.val < 1040 by omega))).symm
      exact whole_at harg1 x0 _ _ k
    · have h0 : e.val = 0 + (x 0).val := hx 0
      have h1 : k.val = 0 + (x 1).val := hx 1
      have hlt : (x 0).val < 16 := (x 0).isLt
      rw [ix_of x (⟨e.val, by omega⟩ : Fin 16) k (by show _ = e.val; omega) (by omega)]
      refine (pay2_apply i _ _ k).trans ?_
      refine Eq.trans ?_ (dif_pos (show e.val < 16 by omega)).symm
      exact if_congr Iff.rfl rfl (whole_at harg2 x1 _ _ k)

theorem all_halo (c : Dev nD) (i : grid0.Coords) (arg1 : Memref sig .tc .vmem S1024x1024 .f32) (harg1 : arg1.IsWhole) (arg2 : Memref sig .tc .vmem S16x1024 .f32) (harg2 : arg2.IsWhole)
    (arg3 : Memref sig .tc .vmem S16x1024 .f32) (harg3 : arg3.IsWhole) (arg12 : Memref sig .tc .vmem S1056x1024 .bf16) (x0 : Vec Ideal S1024x1024 .f32) (x1 x2 : Vec Ideal S16x1024 .f32) :
    kernelRun0_A.sl.v34 c i arg1 harg1 arg2 harg2 arg3 harg3 arg12 x0 x1 x2 = halo (i 0).val x0 x1 x2 := by
  unfold kernelRun0_A.sl.v34
  rw [View.readCov_eq_canon']
  funext j
  have hj : (j : S1056x1024.Idx) = ix2 (j 0) (j 1) := ix_of _ _ _ rfl rfl
  refine Eq.trans (congrArg (View.canon (kernelRun0_A.sl.HS0_3 c i arg1 harg1 arg2 harg2 arg3 harg3 x0 x1 x2)) (ix_of _ (j 0) (j 1) ?_ ?_)) ((halo_canon c i arg1 harg1 arg2 harg2 arg3 harg3 x0 x1 x2 (j 0) (j 1)).trans (congrArg _ hj.symm))
  · show 0 + 1 * (j 0).val = (j 0).val; omega
  · show 0 + 1 * (j 1).val = (j 1).val; omega

/-- The rows of the block itself. -/
theorem mid_halo (c : Dev nD) (i : grid0.Coords) (arg1 : Memref sig .tc .vmem S1024x1024 .f32) (harg1 : arg1.IsWhole) (arg2 : Memref sig .tc .vmem S16x1024 .f32) (harg2 : arg2.IsWhole)
    (arg3 : Memref sig .tc .vmem S16x1024 .f32) (harg3 : arg3.IsWhole) (arg12 : Memref sig .tc .vmem S1056x1024 .bf16) (x0 : Vec Ideal S1024x1024 .f32) (x1 x2 : Vec Ideal S16x1024 .f32) (inb) (r : Fin 1024) (k : Fin 1024) :
    arg12.view.readCov (kernelRun0_A.sl.HS0_3 c i arg1 harg1 arg2 harg2 arg3 harg3 x0 x1 x2) (Rect.unit (s := S1056x1024) ![16, 0] S1024x1024.size inb).toLoadRect (ix2 r k) = x0 (ix2 r k) := by
  rw [View.readCov_eq_canon']
  have hr := r.isLt
  refine Eq.trans (congrArg (View.canon (kernelRun0_A.sl.HS0_3 c i arg1 harg1 arg2 harg2 arg3 harg3 x0 x1 x2)) (ix_of _ (⟨16 + r.val, by omega⟩ : Fin 1056) k ?_ ?_)) ((halo_canon c i arg1 harg1 arg2 harg2 arg3 harg3 x0 x1 x2 _ k).trans ?_)
  · show 16 + 1 * r.val = 16 + r.val; omega
  · show 0 + 1 * k.val = k.val; omega
  · refine ((dif_neg (show ¬16 + r.val < 16 by omega)).trans (dif_pos (show 16 + r.val < 1040 by omega))).trans ?_
    exact congrArg x0 (ix_of _ r k (by show 16 + r.val - 16 = r.val; omega) rfl)

end Cert.Kernel2Ideal.Proj

end
-- ==== Proof.Proj.Out.lean ====
/- The projection kernel's three output blocks, entry by entry. -/
module

public import proofs.«01_k».proof.Proof.Proj.Run

@[expose] public section

set_option maxRecDepth 16384

noncomputable section

namespace Cert.Kernel2Ideal.Proj

open Cert.Kernel2Ideal Cert.Kernel2Ideal.Gen
open Idealize.ShloMosaic Idealize.ShloMosaic.TcCoe
open Idealize.SL Idealize.SL.Sem
open Idealize.ShloMosaic.Pipeline (Dat Cfg Window)
open Idealize.ShloMosaic.ValueIdx (ix0 ix1 ix2 ix3 ix4)
open Cert.Proj

theorem kact_of (o : ℕ) (xe : Vec Ideal S1056x1024 .bf16) (w : Vec Ideal S1024x1536 .bf16) (cw : Vec Ideal S8x1536 .f32) (W : Vec Ideal S1024x512 .bf16) (CW : Vec Ideal S8x512 .f32)
    (hW : ∀ (k : Fin 1024) (c : Fin 512) (d : Fin 1536), d.val = o + c.val → W (ix2 k c) = w (ix2 k d))
    (hC : ∀ (k : Fin 8) (c : Fin 512) (d : Fin 1536), d.val = o + c.val → CW (ix2 k c) = cw (ix2 k d)) (r : Fin 1024) (c : Fin 512) (d : Fin 1536) (hd : d.val = o + c.val) :
    k0_pay9 (k0_pay5 xe W) CW (ix2 r c) = kact xe w cw r d := by
  refine (pay9_apply _ _ r c).trans ?_
  unfold kact kconv
  refine congrArg kgate (congrArg₂ five (funext fun j => ?_) (funext fun j => hC _ c d hd))
  refine (pay5_apply xe W _ c).trans (Finset.sum_congr rfl fun k _ => ?_)
  exact congrArg (fun y : EReal => (xe (ix2 _ k) : EReal) * y) (hW k c d hd)

theorem unit_of (o : ℕ) (ho : o % 128 = 0) (f : Fin 512 → EReal) (g : Fin 1536 → EReal) (h : ∀ (c : Fin 512) (d : Fin 1536), d.val = o + c.val → f c = g d) (c : Fin 512) (d : Fin 1536)
    (hd : d.val = o + c.val) : kunit f c = unit g d := by
  unfold kunit unit
  rw [h c d hd]
  refine congrArg (fun y : EReal => g d * Ideal.rsqrt (y + Ideal.ofBits .f32 0x358637BD#32)) (Finset.sum_congr rfl fun l _ => ?_)
  rw [h ⟨c.val / 128 * 128 + l.val, by omega⟩ (lane d l) (by show d.val / 128 * 128 + l.val = o + (c.val / 128 * 128 + l.val); omega)]

theorem out8 (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S16x1024 .f32) (harg3 : arg3.IsWhole) (arg4 : Memref sig .tc .vmem S1024x1536 .bf16) (harg4 : arg4.IsWhole) (arg5 : Memref sig .tc .vmem S1024x1536 .bf16) (harg5 : arg5.IsWhole) (arg6 : Memref sig .tc .vmem S1024x128 .bf16) (harg6 : arg6.IsWhole) (arg7 : Memref sig .tc .vmem S8x1536 .f32) (harg7 : arg7.IsWhole) (arg8 : Memref sig .tc .vmem S8x128 .f32) (harg8 : arg8.IsWhole) (arg9 : Memref sig .tc .vmem S1024x1536 .bf16) (harg9 : arg9.IsWhole) (arg10 : Memref sig .tc .vmem S1024x1536 .bf16) (harg10 : arg10.IsWhole) (arg11 : Memref sig .tc .vmem S1024x16 .f32) (harg11 : arg11.IsWhole) (arg12 : Memref sig .tc .vmem S1056x1024 .bf16) (harg12 : arg12.IsWhole) (x0 : Vec Ideal S1024x1024 .f32) (x1 x2 : Vec Ideal S16x1024 .f32) (x3 x4 : Vec Ideal S1024x1536 .bf16) (x5 : Vec Ideal S1024x128 .bf16) (x6 : Vec Ideal S8x1536 .f32) (x7 : Vec Ideal S8x128 .f32)
    (r : Fin 1024) (q : Fin 1536) :
    out0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix2 r q) = normed (kact (halo (i 0).val x0 x1 x2) x3 x6 r) q := by
  have hr := r.isLt
  have hq := q.isLt
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 x7)]
  refine View.canon_eq_of_allAt _ _ _ (cover0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix2 r q)) ?_
  unfold kernelRun0_A
  dsimp only
  unfold kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
  rw [all_halo]
  refine View.allAt_cons_unit _ _ _ _ _ (fun x hx => ?_) (View.allAt_cons_unit _ _ _ _ _ (fun x hx => ?_) (View.allAt_cons_unit _ _ _ _ _ (fun x hx => ?_) (View.allAt_nil _ _)))
  · have h0 : r.val = 0 + (x 0).val := hx 0
    have h1 : q.val = 1024 + (x 1).val := hx 1
    have hlt : (x 1).val < 512 := (x 1).isLt
    rw [ix_of x r (⟨q.val - 1024, by omega⟩ : Fin 512) (by omega) (by show _ = q.val - 1024; omega)]
    have hA := fun (c' : Fin 512) (d : Fin 1536) (hd : d.val = 1024 + c'.val) => kact_of 1024 (halo (i 0).val x0 x1 x2) x3 x6 _ _
      (fun k c d hd => cols_at harg4 x3 inb_S1024x1536_S1024x512_0_1024 k c d hd) (fun k c d hd => cols_at harg7 x6 inb_S8x1536_S8x512_0_1024 k c d hd) r c' d hd
    unfold normed
    rw [if_neg (by omega), if_neg (by omega)]
    exact (pay15_apply _ _ r _).trans (hA _ q (by show q.val = 1024 + (q.val - 1024); omega))
  · have h0 : r.val = 0 + (x 0).val := hx 0
    have h1 : q.val = 512 + (x 1).val := hx 1
    have hlt : (x 1).val < 512 := (x 1).isLt
    rw [ix_of x r (⟨q.val - 512, by omega⟩ : Fin 512) (by omega) (by show _ = q.val - 512; omega)]
    have hA := fun (c' : Fin 512) (d : Fin 1536) (hd : d.val = 512 + c'.val) => kact_of 512 (halo (i 0).val x0 x1 x2) x3 x6 _ _
      (fun k c d hd => cols_at harg4 x3 inb_S1024x1536_S1024x512_0_512 k c d hd) (fun k c d hd => cols_at harg7 x6 inb_S8x1536_S8x512_0_512 k c d hd) r c' d hd
    unfold normed
    rw [if_neg (by omega), if_pos (by omega)]
    exact (pay13_apply _ _ r _).trans (unit_of 512 rfl _ _ hA _ q (by show q.val = 512 + (q.val - 512); omega))
  · have h0 : r.val = 0 + (x 0).val := hx 0
    have h1 : q.val = 0 + (x 1).val := hx 1
    have hlt : (x 1).val < 512 := (x 1).isLt
    rw [ix_of x r (⟨q.val - 0, by omega⟩ : Fin 512) (by omega) (by show _ = q.val - 0; omega)]
    have hA := fun (c' : Fin 512) (d : Fin 1536) (hd : d.val = 0 + c'.val) => kact_of 0 (halo (i 0).val x0 x1 x2) x3 x6 _ _
      (fun k c d hd => cols_at harg4 x3 inb_S1024x1536_S1024x512_0_0 k c d hd) (fun k c d hd => cols_at harg7 x6 inb_S8x1536_S8x512_0_0 k c d hd) r c' d hd
    unfold normed
    rw [if_pos (by omega)]
    exact (pay7_apply _ r _).trans (congrArg (fun y : EReal => y * Ideal.ofBits .f32 0x3DB504F3#32) (unit_of 0 rfl _ _ hA _ q (by show q.val = 0 + (q.val - 0); omega)))

theorem out9 (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S16x1024 .f32) (harg3 : arg3.IsWhole) (arg4 : Memref sig .tc .vmem S1024x1536 .bf16) (harg4 : arg4.IsWhole) (arg5 : Memref sig .tc .vmem S1024x1536 .bf16) (harg5 : arg5.IsWhole) (arg6 : Memref sig .tc .vmem S1024x128 .bf16) (harg6 : arg6.IsWhole) (arg7 : Memref sig .tc .vmem S8x1536 .f32) (harg7 : arg7.IsWhole) (arg8 : Memref sig .tc .vmem S8x128 .f32) (harg8 : arg8.IsWhole) (arg9 : Memref sig .tc .vmem S1024x1536 .bf16) (harg9 : arg9.IsWhole) (arg10 : Memref sig .tc .vmem S1024x1536 .bf16) (harg10 : arg10.IsWhole) (arg11 : Memref sig .tc .vmem S1024x16 .f32) (harg11 : arg11.IsWhole) (arg12 : Memref sig .tc .vmem S1056x1024 .bf16) (harg12 : arg12.IsWhole) (x0 : Vec Ideal S1024x1024 .f32) (x1 x2 : Vec Ideal S16x1024 .f32) (x3 x4 : Vec Ideal S1024x1536 .bf16) (x5 : Vec Ideal S1024x128 .bf16) (x6 : Vec Ideal S8x1536 .f32) (x7 : Vec Ideal S8x128 .f32)
    (r : Fin 1024) (q : Fin 1536) :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix2 r q) = ∑ k : Fin 1024, (x0 (ix2 r k) : EReal) * x4 (ix2 k q) := by
  have hr := r.isLt
  have hq := q.isLt
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7)]
  refine View.canon_eq_of_allAt _ _ _ (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix2 r q)) ?_
  unfold kernelRun0_A
  dsimp only
  unfold kernelRun0_A.sl.r_8
  refine View.allAt_cons_unit _ _ _ _ _ (fun x hx => ?_) (View.allAt_cons_unit _ _ _ _ _ (fun x hx => ?_) (View.allAt_cons_unit _ _ _ _ _ (fun x hx => ?_) (View.allAt_nil _ _)))
  · have h0 : r.val = 0 + (x 0).val := hx 0
    have h1 : q.val = 1024 + (x 1).val := hx 1
    have hlt : (x 1).val < 512 := (x 1).isLt
    rw [ix_of x r (⟨q.val - 1024, by omega⟩ : Fin 512) (by omega) (by show _ = q.val - 1024; omega)]
    refine (pay17_apply _ _ r _).trans (Finset.sum_congr rfl fun k _ => ?_)
    exact congrArg₂ (fun a b : EReal => a * b) (mid_halo c i arg1 harg1 arg2 harg2 arg3 harg3 arg12 x0 x1 x2 _ r k) (cols_at harg5 x4 inb_S1024x1536_S1024x512_0_1024 k _ q (by show q.val = 1024 + (q.val - 1024); omega))
  · have h0 : r.val = 0 + (x 0).val := hx 0
    have h1 : q.val = 512 + (x 1).val := hx 1
    have hlt : (x 1).val < 512 := (x 1).isLt
    rw [ix_of x r (⟨q.val - 512, by omega⟩ : Fin 512) (by omega) (by show _ = q.val - 512; omega)]
    refine (pay16_apply _ _ r _).trans (Finset.sum_congr rfl fun k _ => ?_)
    exact congrArg₂ (fun a b : EReal => a * b) (mid_halo c i arg1 harg1 arg2 harg2 arg3 harg3 arg12 x0 x1 x2 _ r k) (cols_at harg5 x4 inb_S1024x1536_S1024x512_0_512 k _ q (by show q.val = 512 + (q.val - 512); omega))
  · have h0 : r.val = 0 + (x 0).val := hx 0
    have h1 : q.val = 0 + (x 1).val := hx 1
    have hlt : (x 1).val < 512 := (x 1).isLt
    rw [ix_of x r (⟨q.val - 0, by omega⟩ : Fin 512) (by omega) (by show _ = q.val - 0; omega)]
    refine (pay14_apply _ _ r _).trans (Finset.sum_congr rfl fun k _ => ?_)
    exact congrArg₂ (fun a b : EReal => a * b) (mid_halo c i arg1 harg1 arg2 harg2 arg3 harg3 arg12 x0 x1 x2 _ r k) (cols_at harg5 x4 inb_S1024x1536_S1024x512_0_0 k _ q (by show q.val = 0 + (q.val - 0); omega))

/-- The gates of a block's row. -/
def kgates (g b : FVec Ideal S1024x128 .f32) (r : Fin 1024) (h : Fin 16) : EReal := gpv (r.val / 64 * 64) (by omega) g b ⟨r.val % 64, Nat.mod_lt _ (by decide)⟩ h

theorem kgates_of (o : ℕ) (ho : o + 64 ≤ 1024) (ho' : o % 64 = 0) (g b : FVec Ideal S1024x128 .f32) (p : Fin 64) (r : Fin 1024) (h : Fin 16) (hr : r.val = o + p.val) :
    gpv o ho g b p h = kgates g b r h := by
  have e : r.val / 64 * 64 = o := by omega
  have e' : (⟨r.val % 64, Nat.mod_lt _ (by decide)⟩ : Fin 64) = p := Fin.ext (by show r.val % 64 = p.val; omega)
  unfold kgates
  subst e
  rw [e']

theorem gp_0 (g b : FVec Ideal S1024x128 .f32) : k0_pay24 g b lanes (iota .tc S128x64 32 [0] iota_S128x64_d0_w32) (iota .tc S128x64 32 [1] iota_S128x64_d1_w32) k0_pay21 k0_pay22 = gp 0 slices_S1024x128_o0_0_S64x128 g b := rfl
theorem gp_64 (g b : FVec Ideal S1024x128 .f32) : k0_pay25 g b lanes (iota .tc S128x64 32 [0] iota_S128x64_d0_w32) (iota .tc S128x64 32 [1] iota_S128x64_d1_w32) k0_pay21 k0_pay22 = gp 64 slices_S1024x128_o64_0_S64x128 g b := rfl
theorem gp_128 (g b : FVec Ideal S1024x128 .f32) : k0_pay29 b lanes (k0_pay26 g (iota .tc S128x64 32 [0] iota_S128x64_d0_w32) (iota .tc S128x64 32 [1] iota_S128x64_d1_w32) k0_pay21 k0_pay22) (k0_pay27 lanes) (k0_pay28 g (iota .tc S128x64 32 [0] iota_S128x64_d0_w32) (iota .tc S128x64 32 [1] iota_S128x64_d1_w32) k0_pay21 k0_pay22) = gp 128 slices_S1024x128_o128_0_S64x128 g b := rfl
theorem gp_192 (g b : FVec Ideal S1024x128 .f32) : k0_pay30 g b lanes tri = gp 192 slices_S1024x128_o192_0_S64x128 g b := rfl
theorem gp_256 (g b : FVec Ideal S1024x128 .f32) : k0_pay31 g b lanes tri = gp 256 slices_S1024x128_o256_0_S64x128 g b := rfl
theorem gp_320 (g b : FVec Ideal S1024x128 .f32) : k0_pay36 b (k0_pay32 g tri) (k0_pay33 lanes) (k0_pay34 g tri) (k0_pay35 lanes) = gp 320 slices_S1024x128_o320_0_S64x128 g b := rfl
theorem gp_384 (g b : FVec Ideal S1024x128 .f32) : k0_pay37 g b lanes tri = gp 384 slices_S1024x128_o384_0_S64x128 g b := rfl
theorem gp_448 (g b : FVec Ideal S1024x128 .f32) : k0_pay38 g b lanes tri = gp 448 slices_S1024x128_o448_0_S64x128 g b := rfl
theorem gp_512 (g b : FVec Ideal S1024x128 .f32) : k0_pay43 (k0_pay40 lanes) (k0_pay41 g tri) (k0_pay42 g b lanes tri) = gp 512 slices_S1024x128_o512_0_S64x128 g b := rfl
theorem gp_576 (g b : FVec Ideal S1024x128 .f32) : k0_pay44 g b lanes tri = gp 576 slices_S1024x128_o576_0_S64x128 g b := rfl
theorem gp_640 (g b : FVec Ideal S1024x128 .f32) : k0_pay45 g b lanes tri = gp 640 slices_S1024x128_o640_0_S64x128 g b := rfl
theorem gp_704 (g b : FVec Ideal S1024x128 .f32) : k0_pay46 g b lanes tri = gp 704 slices_S1024x128_o704_0_S64x128 g b := rfl
theorem gp_768 (g b : FVec Ideal S1024x128 .f32) : k0_pay47 g b lanes tri = gp 768 slices_S1024x128_o768_0_S64x128 g b := rfl
theorem gp_832 (g b : FVec Ideal S1024x128 .f32) : k0_pay48 g b lanes tri = gp 832 slices_S1024x128_o832_0_S64x128 g b := rfl
theorem gp_896 (g b : FVec Ideal S1024x128 .f32) : k0_pay49 g b lanes tri = gp 896 slices_S1024x128_o896_0_S64x128 g b := rfl
theorem gp_960 (g b : FVec Ideal S1024x128 .f32) : k0_pay1 g b lanes tri = gp 960 slices_S1024x128_o960_0_S64x128 g b := rfl

theorem gp_at (o : ℕ) (hs : S1024x128.Slices ![o, 0] S64x128) (ho : o + 64 ≤ 1024) (ho' : o % 64 = 0) (g b : FVec Ideal S1024x128 .f32) (x : S64x16.Idx) (r : Fin 1024) (h : Fin 16)
    (h0 : r.val = o + (x 0).val) (h1 : h.val = 0 + (x 1).val) (w : FVec Ideal S64x16 .f32) (hw : w = gp o hs g b) : w x = kgates g b r h := by
  have hlt : (x 0).val < 64 := (x 0).isLt
  rw [hw, ix_of x (⟨r.val - o, by omega⟩ : Fin 64) h (by show _ = r.val - o; omega) (by omega)]
  exact (gp_apply o hs ho g b _ h).trans (kgates_of o ho ho' g b _ r h (by show r.val = o + (r.val - o); omega))

theorem out10 (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S16x1024 .f32) (harg3 : arg3.IsWhole) (arg4 : Memref sig .tc .vmem S1024x1536 .bf16) (harg4 : arg4.IsWhole) (arg5 : Memref sig .tc .vmem S1024x1536 .bf16) (harg5 : arg5.IsWhole) (arg6 : Memref sig .tc .vmem S1024x128 .bf16) (harg6 : arg6.IsWhole) (arg7 : Memref sig .tc .vmem S8x1536 .f32) (harg7 : arg7.IsWhole) (arg8 : Memref sig .tc .vmem S8x128 .f32) (harg8 : arg8.IsWhole) (arg9 : Memref sig .tc .vmem S1024x1536 .bf16) (harg9 : arg9.IsWhole) (arg10 : Memref sig .tc .vmem S1024x1536 .bf16) (harg10 : arg10.IsWhole) (arg11 : Memref sig .tc .vmem S1024x16 .f32) (harg11 : arg11.IsWhole) (arg12 : Memref sig .tc .vmem S1056x1024 .bf16) (harg12 : arg12.IsWhole) (x0 : Vec Ideal S1024x1024 .f32) (x1 x2 : Vec Ideal S16x1024 .f32) (x3 x4 : Vec Ideal S1024x1536 .bf16) (x5 : Vec Ideal S1024x128 .bf16) (x6 : Vec Ideal S8x1536 .f32) (x7 : Vec Ideal S8x128 .f32)
    (r : Fin 1024) (h : Fin 16) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix2 r h) =
      kgates (kernelRun0_A.sl.r_9 c i arg1 harg1 arg2 harg2 arg3 harg3 arg6 harg6 arg8 harg8 arg12 x0 x1 x2 x5 x7) (kernelRun0_A.sl.r_10 c i arg1 harg1 arg2 harg2 arg3 harg3 arg6 harg6 arg12 x0 x1 x2 x5) r h := by
  have hr := r.isLt
  have hq := h.isLt
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7)]
  refine View.canon_eq_of_allAt _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix2 r h)) ?_
  unfold kernelRun0_A
  dsimp only
  generalize hg : kernelRun0_A.sl.r_9 c i arg1 harg1 arg2 harg2 arg3 harg3 arg6 harg6 arg8 harg8 arg12 x0 x1 x2 x5 x7 = g
  generalize hb : kernelRun0_A.sl.r_10 c i arg1 harg1 arg2 harg2 arg3 harg3 arg6 harg6 arg12 x0 x1 x2 x5 = b
  unfold kernelRun0_A.sl.r_17 kernelRun0_A.sl.r_16 kernelRun0_A.sl.r_15 kernelRun0_A.sl.r_14 kernelRun0_A.sl.r_13 kernelRun0_A.sl.r_12 kernelRun0_A.sl.r_11
  rw [hg]
  try rw [hb]
  refine View.allAt_cons_unit _ _ _ _ _ (fun x hx => gp_at 960 slices_S1024x128_o960_0_S64x128 (by decide) rfl g b x r h (hx 0) (hx 1) _ (gp_960 g b)) ?_
  refine View.allAt_cons_unit _ _ _ _ _ (fun x hx => gp_at 896 slices_S1024x128_o896_0_S64x128 (by decide) rfl g b x r h (hx 0) (hx 1) _ (gp_896 g b)) ?_
  refine View.allAt_cons_unit _ _ _ _ _ (fun x hx => gp_at 832 slices_S1024x128_o832_0_S64x128 (by decide) rfl g b x r h (hx 0) (hx 1) _ (gp_832 g b)) ?_
  refine View.allAt_cons_unit _ _ _ _ _ (fun x hx => gp_at 768 slices_S1024x128_o768_0_S64x128 (by decide) rfl g b x r h (hx 0) (hx 1) _ (gp_768 g b)) ?_
  refine View.allAt_cons_unit _ _ _ _ _ (fun x hx => gp_at 704 slices_S1024x128_o704_0_S64x128 (by decide) rfl g b x r h (hx 0) (hx 1) _ (gp_704 g b)) ?_
  refine View.allAt_cons_unit _ _ _ _ _ (fun x hx => gp_at 640 slices_S1024x128_o640_0_S64x128 (by decide) rfl g b x r h (hx 0) (hx 1) _ (gp_640 g b)) ?_
  refine View.allAt_cons_unit _ _ _ _ _ (fun x hx => gp_at 576 slices_S1024x128_o576_0_S64x128 (by decide) rfl g b x r h (hx 0) (hx 1) _ (gp_576 g b)) ?_
  refine View.allAt_cons_unit _ _ _ _ _ (fun x hx => gp_at 512 slices_S1024x128_o512_0_S64x128 (by decide) rfl g b x r h (hx 0) (hx 1) _ (gp_512 g b)) ?_
  refine View.allAt_cons_unit _ _ _ _ _ (fun x hx => gp_at 448 slices_S1024x128_o448_0_S64x128 (by decide) rfl g b x r h (hx 0) (hx 1) _ (gp_448 g b)) ?_
  refine View.allAt_cons_unit _ _ _ _ _ (fun x hx => gp_at 384 slices_S1024x128_o384_0_S64x128 (by decide) rfl g b x r h (hx 0) (hx 1) _ (gp_384 g b)) ?_
  refine View.allAt_cons_unit _ _ _ _ _ (fun x hx => gp_at 320 slices_S1024x128_o320_0_S64x128 (by decide) rfl g b x r h (hx 0) (hx 1) _ (gp_320 g b)) ?_
  refine View.allAt_cons_unit _ _ _ _ _ (fun x hx => gp_at 256 slices_S1024x128_o256_0_S64x128 (by decide) rfl g b x r h (hx 0) (hx 1) _ (gp_256 g b)) ?_
  refine View.allAt_cons_unit _ _ _ _ _ (fun x hx => gp_at 192 slices_S1024x128_o192_0_S64x128 (by decide) rfl g b x r h (hx 0) (hx 1) _ (gp_192 g b)) ?_
  refine View.allAt_cons_unit _ _ _ _ _ (fun x hx => gp_at 128 slices_S1024x128_o128_0_S64x128 (by decide) rfl g b x r h (hx 0) (hx 1) _ (gp_128 g b)) ?_
  refine View.allAt_cons_unit _ _ _ _ _ (fun x hx => gp_at 64 slices_S1024x128_o64_0_S64x128 (by decide) rfl g b x r h (hx 0) (hx 1) _ (gp_64 g b)) ?_
  refine View.allAt_cons_unit _ _ _ _ _ (fun x hx => gp_at 0 slices_S1024x128_o0_0_S64x128 (by decide) rfl g b x r h (hx 0) (hx 1) _ (gp_0 g b)) ?_
  exact View.allAt_nil _ _

theorem decay_at (c : Dev nD) (i : grid0.Coords) (arg1 : Memref sig .tc .vmem S1024x1024 .f32) (harg1 : arg1.IsWhole) (arg2 : Memref sig .tc .vmem S16x1024 .f32) (harg2 : arg2.IsWhole)
    (arg3 : Memref sig .tc .vmem S16x1024 .f32) (harg3 : arg3.IsWhole) (arg6 : Memref sig .tc .vmem S1024x128 .bf16) (harg6 : arg6.IsWhole) (arg8 : Memref sig .tc .vmem S8x128 .f32) (harg8 : arg8.IsWhole)
    (arg12 : Memref sig .tc .vmem S1056x1024 .bf16) (x0 : Vec Ideal S1024x1024 .f32) (x1 x2 : Vec Ideal S16x1024 .f32) (x5 : Vec Ideal S1024x128 .bf16) (x7 : Vec Ideal S8x128 .f32) (r : Fin 1024) (h : Fin 128) :
    kernelRun0_A.sl.r_9 c i arg1 harg1 arg2 harg2 arg3 harg3 arg6 harg6 arg8 harg8 arg12 x0 x1 x2 x5 x7 (ix2 r h)
      = decay (x7 (ix2 (0 : Fin 8) h)) (x7 (ix2 (1 : Fin 8) h)) (∑ k : Fin 1024, (x0 (ix2 r k) : EReal) * x5 (ix2 k h)) := by
  unfold kernelRun0_A.sl.r_9 kernelRun0_A.sl.v202
  refine (pay19_apply _ _ _ _ r h).trans ?_
  congr 1
  · exact rows_at harg8 x7 _ 0 h 0 rfl
  · exact rows_at harg8 x7 _ 0 h 1 rfl
  · refine Finset.sum_congr rfl fun k _ => ?_
    exact congrArg₂ (fun a b : EReal => a * b) (mid_halo c i arg1 harg1 arg2 harg2 arg3 harg3 arg12 x0 x1 x2 _ r k) (whole_at harg6 x5 _ k h)

theorem beta_at (c : Dev nD) (i : grid0.Coords) (arg1 : Memref sig .tc .vmem S1024x1024 .f32) (harg1 : arg1.IsWhole) (arg2 : Memref sig .tc .vmem S16x1024 .f32) (harg2 : arg2.IsWhole)
    (arg3 : Memref sig .tc .vmem S16x1024 .f32) (harg3 : arg3.IsWhole) (arg6 : Memref sig .tc .vmem S1024x128 .bf16) (harg6 : arg6.IsWhole)
    (arg12 : Memref sig .tc .vmem S1056x1024 .bf16) (x0 : Vec Ideal S1024x1024 .f32) (x1 x2 : Vec Ideal S16x1024 .f32) (x5 : Vec Ideal S1024x128 .bf16) (r : Fin 1024) (h : Fin 128) :
    kernelRun0_A.sl.r_10 c i arg1 harg1 arg2 harg2 arg3 harg3 arg6 harg6 arg12 x0 x1 x2 x5 (ix2 r h)
      = Ideal.logistic (∑ k : Fin 1024, (x0 (ix2 r k) : EReal) * x5 (ix2 k h)) := by
  unfold kernelRun0_A.sl.r_10 kernelRun0_A.sl.v202
  refine (pay20_apply _ _ r h).trans (congrArg Ideal.logistic (Finset.sum_congr rfl fun k _ => ?_))
  exact congrArg₂ (fun a b : EReal => a * b) (mid_halo c i arg1 harg1 arg2 harg2 arg3 harg3 arg12 x0 x1 x2 _ r k) (whole_at harg6 x5 _ k h)

end Cert.Kernel2Ideal.Proj

end
-- ==== Proof.Proj.Host.lean ====
/- What the host operations before the projection kernel leave in the buffers it reads. -/
module

public import proofs.«01_k».proof.Proof.Gen.Kernel2Ideal.Value
public import proofs.«01_k».proof.Proof.Proj.Spec
public import Idealize.ShloMosaic.PureOps.Ideal
public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.Pipeline.Value
public import Idealize.ShloMosaic.Lib.KernelVsHost

@[expose] public section

set_option maxRecDepth 16384

noncomputable section

namespace Cert.Kernel2Ideal.Proj

open Cert.Kernel2Ideal Cert.Kernel2Ideal.Gen
open Idealize.ShloMosaic Idealize.ShloMosaic.TcCoe
open Idealize.SL Idealize.SL.Sem
open Idealize.ShloMosaic.ValueIdx (ix0 ix1 ix2 ix3 ix4)

variable {F : FTy → Type} [FloatOps F]

/-- The rows. -/
def hrows (x : FVec F S8x4096x1024 .f32) : FVec F S32768x1024 .f32 := shapeCast S32768x1024 x shapeCasts_S8x4096x1024_S32768x1024
/-- The weights of q, k and v, -/
def hqkv (w : FVec F S4x1024x3088 .f32) : FVec F S1024x1536 .bf16 :=
  shapeCast S1024x1536 (extractStridedSlice S1x1024x1536 ![0, 0, 0] (truncf .bf16 (extractStridedSlice S4x1024x1536 ![0, 0, 0] w slices_S4x1024x3088_S4x1024x1536_0_0_0) bitsLt_bf16_f32)
    slices_S4x1024x1536_S1x1024x1536_0_0_0) shapeCasts_S1x1024x1536_S1024x1536
/-- of z, u and v, -/
def hzuv (w : FVec F S4x1024x3088 .f32) : FVec F S1024x1536 .bf16 :=
  shapeCast S1024x1536 (extractStridedSlice S1x1024x1536 ![0, 0, 0] (truncf .bf16
    (concatenate S4x1024x1536 2 [⟨S4x1024x512, extractStridedSlice S4x1024x512 ![0, 0, 1536] w slices_S4x1024x3088_S4x1024x512_0_0_1536⟩,
      ⟨S4x1024x1024, extractStridedSlice S4x1024x1024 ![0, 0, 2064] w slices_S4x1024x3088_S4x1024x1024_0_0_2064⟩] concatenates_S4x1024x512_S4x1024x1024_S4x1024x1536_d2) bitsLt_bf16_f32)
    slices_S4x1024x1536_S1x1024x1536_0_0_0) shapeCasts_S1x1024x1536_S1024x1536
/-- and of the gates. -/
def hgate (w : FVec F S4x1024x3088 .f32) : FVec F S1024x128 .bf16 :=
  shapeCast S1024x128 (extractStridedSlice S1x1024x128 ![0, 0, 0] (truncf .bf16
    (pad S4x1024x128 ![0, 0, 0] ![0, 0, 112] ![0, 0, 0] (extractStridedSlice S4x1024x16 ![0, 0, 2048] w slices_S4x1024x3088_S4x1024x16_0_0_2048) (sitofp .f32 (constantI S_ 32 0#32))
      pads_S4x1024x16_S4x1024x128_000_000_01120 h_S_) bitsLt_bf16_f32)
    slices_S4x1024x128_S1x1024x128_0_0_0) shapeCasts_S1x1024x128_S1024x128
/-- The taps. -/
def htaps (cw : FVec F S4x5x1536 .f32) : FVec F S8x1536 .f32 :=
  shapeCast S8x1536 (extractStridedSlice S1x8x1536 ![0, 0, 0] (pad S4x8x1536 ![0, 0, 0] ![0, 3, 0] ![0, 0, 0] cw (sitofp .f32 (constantI S_ 32 0#32))
      pads_S4x5x1536_S4x8x1536_000_030_000 h_S_) slices_S4x8x1536_S1x8x1536_0_0_0) shapeCasts_S1x8x1536_S8x1536
/-- Two parameters of the gates side by side, -/
def hpair (a b : FVec F S4x4 .f32) : FVec F S4x1x128 .f32 :=
  broadcastInDim S4x1x128 ![0, 2] bcast_S4x128_S4x1x128_0_2 (pad S4x128 ![0, 0] ![0, 120] ![0, 0] (concatenate S4x8 1 [⟨S4x4, a⟩, ⟨S4x4, b⟩] concatenates_S4x4_S4x4_S4x8_d1)
    (sitofp .f32 (constantI S_ 32 0#32)) pads_S4x8_S4x128_000_01200 h_S_)
/-- and the two rows of them. -/
def hpars (af df ab db : FVec F S4x4 .f32) : FVec F S8x128 .f32 :=
  shapeCast S8x128 (extractStridedSlice S1x8x128 ![0, 0, 0] (pad S4x8x128 ![0, 0, 0] ![0, 6, 0] ![0, 0, 0]
    (concatenate S4x2x128 1 [⟨S4x1x128, hpair af ab⟩, ⟨S4x1x128, hpair df db⟩] concatenates_S4x1x128_S4x1x128_S4x2x128_d1) (sitofp .f32 (constantI S_ 32 0#32))
      pads_S4x2x128_S4x8x128_000_060_000 h_S_) slices_S4x8x128_S1x8x128_0_0_0) shapeCasts_S1x8x128_S8x128

variable (m : (ℓ : Loc nD τ sig) → Buf (Elt Ideal) ℓ)

theorem at_v0 (c : Dev nD) : V m c main_v0 = hrows (F := Ideal) (m ((c : Thread nD τ).loc main_arg0)) := by
  show StableHlo.after (List.flatten [hostOps0, hostOps0_1, hostOps0_2, hostOps0_3, hostOps0_4, hostOps0_5, hostOps0_6, hostOps0_7, hostOps0_8, hostOps0_9, hostOps0_10]) _ (Proc.devRef .tc main_v0) = _
  unfold hrows
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl

theorem at_v20 (c : Dev nD) : V m c main_v20 = hqkv (F := Ideal) (m ((c : Thread nD τ).loc main_arg1)) := by
  show StableHlo.after (List.flatten [hostOps0, hostOps0_1, hostOps0_2, hostOps0_3, hostOps0_4, hostOps0_5, hostOps0_6, hostOps0_7, hostOps0_8, hostOps0_9, hostOps0_10]) _ (Proc.devRef .tc main_v20) = _
  unfold hqkv
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl

theorem at_v22 (c : Dev nD) : V m c main_v22 = hzuv (F := Ideal) (m ((c : Thread nD τ).loc main_arg1)) := by
  show StableHlo.after (List.flatten [hostOps0, hostOps0_1, hostOps0_2, hostOps0_3, hostOps0_4, hostOps0_5, hostOps0_6, hostOps0_7, hostOps0_8, hostOps0_9, hostOps0_10]) _ (Proc.devRef .tc main_v22) = _
  unfold hzuv
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl

theorem at_v24 (c : Dev nD) : V m c main_v24 = hgate (F := Ideal) (m ((c : Thread nD τ).loc main_arg1)) := by
  show StableHlo.after (List.flatten [hostOps0, hostOps0_1, hostOps0_2, hostOps0_3, hostOps0_4, hostOps0_5, hostOps0_6, hostOps0_7, hostOps0_8, hostOps0_9, hostOps0_10]) _ (Proc.devRef .tc main_v24) = _
  unfold hgate
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl

theorem at_v26 (c : Dev nD) : V m c main_v26 = htaps (F := Ideal) (m ((c : Thread nD τ).loc main_arg2)) := by
  show StableHlo.after (List.flatten [hostOps0, hostOps0_1, hostOps0_2, hostOps0_3, hostOps0_4, hostOps0_5, hostOps0_6, hostOps0_7, hostOps0_8, hostOps0_9, hostOps0_10]) _ (Proc.devRef .tc main_v26) = _
  unfold htaps
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl

theorem at_v28 (c : Dev nD) : V m c main_v28 = hpars (F := Ideal) (m ((c : Thread nD τ).loc main_arg3)) (m ((c : Thread nD τ).loc main_arg4)) (m ((c : Thread nD τ).loc main_arg5)) (m ((c : Thread nD τ).loc main_arg6)) := by
  show StableHlo.after (List.flatten [hostOps0, hostOps0_1, hostOps0_2, hostOps0_3, hostOps0_4, hostOps0_5, hostOps0_6, hostOps0_7, hostOps0_8, hostOps0_9, hostOps0_10]) _ (Proc.devRef .tc main_v28) = _
  unfold hpars hpair
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl

end Cert.Kernel2Ideal.Proj

end
-- ==== Proof.Proj.HostA.lean ====
/- The buffers the projection kernel reads, entry by entry. -/
module

public import proofs.«01_k».proof.Proof.Proj.Host

@[expose] public section

set_option maxRecDepth 16384

noncomputable section

namespace Cert.Kernel2Ideal.Proj

open Cert.Kernel2Ideal Cert.Kernel2Ideal.Gen
open Idealize.ShloMosaic
open Idealize.ShloMosaic.ValueIdx (ix0 ix1 ix2 ix3 ix4)
open Cert.Proj

theorem first_apply {a b : ℕ} {φ : FTy} (v : FVec Ideal ⟨3, ![4, a, b]⟩ φ) (h : Shape.Slices ⟨3, ![4, a, b]⟩ ![0, 0, 0] ⟨3, ![1, a, b]⟩) (k : Fin a) (c : Fin b) :
    extractStridedSlice ⟨3, ![1, a, b]⟩ ![0, 0, 0] v h (ix3 (0 : Fin 1) k c) = v (ix3 (0 : Fin 4) k c) := by
  refine congrArg v (funext fun q => Fin.ext ?_)
  fin_cases q
  · rfl
  · exact Nat.zero_add _
  · exact Nat.zero_add _

theorem colsOf_apply {n o : ℕ} (w : FVec Ideal S4x1024x3088 .f32) (h : Shape.Slices S4x1024x3088 ![0, 0, o] ⟨3, ![4, 1024, n]⟩) (k : Fin 1024) (c : Fin n) (d : Fin 3088)
    (hd : d.val = o + c.val) : extractStridedSlice ⟨3, ![4, 1024, n]⟩ ![0, 0, o] w h (ix3 (0 : Fin 4) k c) = w (ix3 (0 : Fin 4) k d) := by
  refine congrArg w (funext fun q => Fin.ext ?_)
  fin_cases q
  · rfl
  · exact Nat.zero_add _
  · exact hd.symm

theorem hrows_apply (x : FVec Ideal S8x4096x1024 .f32) (b : Fin 8) (s : Fin 4096) (k : Fin 1024) (R : Fin 32768) (hR : R.val = b.val * 4096 + s.val) :
    hrows x (ix2 R k) = x (ix3 b s k) := by
  unfold hrows
  refine shapeCast_apply _ _ _ (ix3 b s k) ?_
  rw [Shape.rowMajor_val_two, Shape.rowMajor_val_three]
  show (b.val * 4096 + s.val) * 1024 + k.val = R.val * 1024 + k.val
  rw [hR]

theorem hqkv_apply (w : FVec Ideal S4x1024x3088 .f32) (k : Fin 1024) (c : Fin 1536) : hqkv w (ix2 k c) = w (ix3 (0 : Fin 4) k (col c)) := by
  unfold hqkv
  refine (ValueIdx.shapeCast_1ab_ab_apply _ _ k c).trans ?_
  refine (first_apply _ _ k c).trans ?_
  rw [ValueIdx.truncf_apply]
  exact colsOf_apply w _ k c _ (Nat.zero_add _).symm

theorem hzuv_apply (w : FVec Ideal S4x1024x3088 .f32) (k : Fin 1024) (c : Fin 1536) :
    hzuv w (ix2 k c) = w (ix3 (0 : Fin 4) k ⟨if c.val < 512 then 1536 + c.val else 1552 + c.val, by split <;> omega⟩) := by
  have hc := c.isLt
  unfold hzuv
  refine (ValueIdx.shapeCast_1ab_ab_apply _ _ k c).trans ?_
  refine (first_apply _ _ k c).trans ?_
  rw [ValueIdx.truncf_apply]
  by_cases h : c.val < 512
  · refine (concatenate_apply_piece 2 _ _ (ix3 (0 : Fin 4) k c) 0 (by exact (show 0 < 2 by decide)) S4x1024x512 _ rfl rfl 0 rfl (ix3 (0 : Fin 4) k (⟨c.val, h⟩ : Fin 512)) (fun a ha => by
      fin_cases a <;> first | rfl | exact absurd rfl ha) (Nat.zero_add _)).trans ?_
    exact colsOf_apply w _ k _ _ (if_pos h)
  · refine (concatenate_apply_piece 2 _ _ (ix3 (0 : Fin 4) k c) 1 (by exact (show 1 < 2 by decide)) S4x1024x1024 _ rfl rfl 512 rfl (ix3 (0 : Fin 4) k (⟨c.val - 512, by omega⟩ : Fin 1024)) (fun a ha => by
      fin_cases a <;> first | rfl | exact absurd rfl ha) (by show 512 + (c.val - 512) = c.val; omega)).trans ?_
    exact colsOf_apply w _ k _ _ ((if_neg h).trans (by show 1552 + c.val = 2064 + (c.val - 512); omega))

theorem hgate_apply (w : FVec Ideal S4x1024x3088 .f32) (k : Fin 1024) (h : Fin 16) : hgate w (ix2 k (⟨h.val, by omega⟩ : Fin 128)) = w (ix3 (0 : Fin 4) k ⟨2048 + h.val, by omega⟩) := by
  unfold hgate
  refine (ValueIdx.shapeCast_1ab_ab_apply _ _ k _).trans ?_
  refine (first_apply _ _ k _).trans ?_
  rw [ValueIdx.truncf_apply]
  refine (pad_apply_of_inside _ _ _ _ _ _ _ _ (ix3 (0 : Fin 4) k h) fun a => ?_).trans ?_
  · fin_cases a
    · rfl
    · show k.val = 0 + k.val * (0 + 1); omega
    · show h.val = 0 + h.val * (0 + 1); omega
  exact colsOf_apply w _ k h _ rfl

theorem htaps_apply (cw : FVec Ideal S4x5x1536 .f32) (j : Fin 5) (c : Fin 1536) : htaps cw (ix2 (⟨j.val, by omega⟩ : Fin 8) c) = cw (ix3 (0 : Fin 4) j c) := by
  unfold htaps
  refine (ValueIdx.shapeCast_1ab_ab_apply _ _ _ c).trans ?_
  refine (first_apply _ _ _ c).trans ?_
  refine pad_apply_of_inside _ _ _ _ _ _ _ _ (ix3 (0 : Fin 4) j c) fun a => ?_
  fin_cases a
  · rfl
  · show j.val = 0 + j.val * (0 + 1); omega
  · show c.val = 0 + c.val * (0 + 1); omega

theorem hpair_apply (a b : FVec Ideal S4x4 .f32) (h : Fin 128) :
    (∀ h1 : h.val < 4, hpair a b (ix3 (0 : Fin 4) (0 : Fin 1) h) = a (ix2 (0 : Fin 4) ⟨h.val, h1⟩)) ∧
    (∀ (h1 : 4 ≤ h.val) (h2 : h.val < 8), hpair a b (ix3 (0 : Fin 4) (0 : Fin 1) h) = b (ix2 (0 : Fin 4) ⟨h.val - 4, by omega⟩)) := by
  have e : ∀ h8 : h.val < 8, hpair a b (ix3 (0 : Fin 4) (0 : Fin 1) h)
      = concatenate S4x8 1 [⟨S4x4, a⟩, ⟨S4x4, b⟩] concatenates_S4x4_S4x4_S4x8_d1 (ix2 (0 : Fin 4) (⟨h.val, h8⟩ : Fin 8)) := fun h8 => by
    unfold hpair
    refine (broadcastInDim_apply _ _ _ _ (ix2 (0 : Fin 4) h) fun q => ?_).trans ?_
    · fin_cases q <;> rfl
    refine pad_apply_of_inside _ _ _ _ _ _ _ _ (ix2 (0 : Fin 4) (⟨h.val, h8⟩ : Fin 8)) fun q => ?_
    fin_cases q
    · rfl
    · show h.val = 0 + h.val * (0 + 1); omega
  constructor
  · intro h1
    refine (e (by omega)).trans ?_
    exact concatenate_apply_piece 1 _ _ (ix2 (0 : Fin 4) (⟨h.val, by omega⟩ : Fin 8)) 0 (by exact (show 0 < 2 by decide)) S4x4 _ rfl rfl 0 rfl (ix2 (0 : Fin 4) (⟨h.val, h1⟩ : Fin 4)) (fun a ha => by
      fin_cases a <;> first | rfl | exact absurd rfl ha) (Nat.zero_add _)
  · intro h1 h2
    refine (e h2).trans ?_
    exact concatenate_apply_piece 1 _ _ (ix2 (0 : Fin 4) (⟨h.val, by omega⟩ : Fin 8)) 1 (by exact (show 1 < 2 by decide)) S4x4 _ rfl rfl 4 rfl (ix2 (0 : Fin 4) (⟨h.val - 4, by omega⟩ : Fin 4)) (fun a ha => by
      fin_cases a <;> first | rfl | exact absurd rfl ha) (by show 4 + (h.val - 4) = h.val; omega)

theorem hpars_zero (af df ab db : FVec Ideal S4x4 .f32) (h : Fin 128) : hpars af df ab db (ix2 (0 : Fin 8) h) = hpair af ab (ix3 (0 : Fin 4) (0 : Fin 1) h) := by
  unfold hpars
  refine (ValueIdx.shapeCast_1ab_ab_apply _ _ _ h).trans ?_
  refine (first_apply _ _ _ h).trans ?_
  refine (pad_apply_of_inside _ _ _ _ _ _ _ _ (ix3 (0 : Fin 4) (0 : Fin 2) h) fun a => ?_).trans ?_
  · fin_cases a
    · rfl
    · rfl
    · show h.val = 0 + h.val * (0 + 1); omega
  exact concatenate_apply_piece 1 _ _ (ix3 (0 : Fin 4) (0 : Fin 2) h) 0 (by exact (show 0 < 2 by decide)) S4x1x128 _ rfl rfl 0 rfl (ix3 (0 : Fin 4) (0 : Fin 1) h) (fun a ha => by
    fin_cases a <;> first | rfl | exact absurd rfl ha) rfl

theorem hpars_one (af df ab db : FVec Ideal S4x4 .f32) (h : Fin 128) : hpars af df ab db (ix2 (1 : Fin 8) h) = hpair df db (ix3 (0 : Fin 4) (0 : Fin 1) h) := by
  unfold hpars
  refine (ValueIdx.shapeCast_1ab_ab_apply _ _ _ h).trans ?_
  refine (first_apply _ _ _ h).trans ?_
  refine (pad_apply_of_inside _ _ _ _ _ _ _ _ (ix3 (0 : Fin 4) (1 : Fin 2) h) fun a => ?_).trans ?_
  · fin_cases a
    · rfl
    · rfl
    · show h.val = 0 + h.val * (0 + 1); omega
  exact concatenate_apply_piece 1 _ _ (ix3 (0 : Fin 4) (1 : Fin 2) h) 1 (by exact (show 1 < 2 by decide)) S4x1x128 _ rfl rfl 1 rfl (ix3 (0 : Fin 4) (0 : Fin 1) h) (fun a ha => by
    fin_cases a <;> first | rfl | exact absurd rfl ha) rfl

end Cert.Kernel2Ideal.Proj

end
-- ==== Proof.Proj.ValueA.lean ====
/- A block of the projection kernel's results from a block of the layer's input: the halo is the rows around it, and the
   gates' sums stay within the block. -/
module

public import proofs.«01_k».proof.Proof.Proj.Out
public import proofs.«01_k».proof.Proof.Proj.HostA
public import proofs.«01_k».proof.Proof.Real

@[expose] public section

set_option maxRecDepth 16384

noncomputable section

namespace Cert.Kernel2Ideal.Proj

open Cert.Kernel2Ideal Cert.Kernel2Ideal.Gen
open Idealize.ShloMosaic
open Idealize.ShloMosaic.ValueIdx (ix0 ix1 ix2 ix3 ix4)
open Cert.Proj

/-- Row `r` of block `q` of a sequence. -/
abbrev rowOf (q : Fin 4) (r : Fin 1024) : Fin 4096 := ⟨q.val * 1024 + r.val, by omega⟩

variable (x : FVec Ideal Xs .f32) (w : FVec Ideal Ws .f32) (cw : FVec Ideal Cs .f32) (b : Fin 8) (q : Fin 4)
variable (x0 : Vec Ideal S1024x1024 .f32) (x1 x2 : Vec Ideal S16x1024 .f32)

/-- The projection of the block with its halo. -/
theorem halo_prow (Q : ℕ) (hQ : Q % 4 = q.val)
    (h0 : ∀ (r : Fin 1024) (k : Fin 1024), x0 (ix2 r k) = x (ix3 b (rowOf q r) k))
    (h1 : ∀ (e : Fin 16) (k : Fin 1024) (h : q.val ≠ 0), x1 (ix2 e k) = x (ix3 b (⟨q.val * 1024 + e.val - 16, by omega⟩ : Fin 4096) k))
    (h2 : ∀ (e : Fin 16) (k : Fin 1024) (h : q.val ≠ 3), x2 (ix2 e k) = x (ix3 b (⟨q.val * 1024 + 1024 + e.val, by omega⟩ : Fin 4096) k))
    (x3 : Vec Ideal S1024x1536 .bf16) (hw : ∀ (k : Fin 1024) (c : Fin 1536), x3 (ix2 k c) = w (ix3 (0 : Fin 4) k (col c)))
    (r : Fin 1024) (j : ℕ) (hj : j < 5) (c : Fin 1536) :
    (∑ k : Fin 1024, (halo Q x0 x1 x2 (ix2 (⟨(14 + r.val + j) % 1056, Nat.mod_lt _ (by decide)⟩ : Fin 1056) k) : EReal) * x3 (ix2 k c))
      = prow x w b ((rowOf q r).val + j) (col c) := by
  have hr := r.isLt
  have hq := q.isLt
  have em : (14 + r.val + j) % 1056 = 14 + r.val + j := Nat.mod_eq_of_lt (by omega)
  have zero : (∀ k : Fin 1024, (halo Q x0 x1 x2 (ix2 (⟨(14 + r.val + j) % 1056, Nat.mod_lt _ (by decide)⟩ : Fin 1056) k) : EReal) = 0) →
      ¬(2 ≤ (rowOf q r).val + j ∧ (rowOf q r).val + j < 4098) →
      (∑ k : Fin 1024, (halo Q x0 x1 x2 (ix2 (⟨(14 + r.val + j) % 1056, Nat.mod_lt _ (by decide)⟩ : Fin 1056) k) : EReal) * x3 (ix2 k c))
        = prow x w b ((rowOf q r).val + j) (col c) := fun hz hn => by
    rw [prow, dif_neg hn]
    exact Finset.sum_eq_zero fun k _ => by rw [hz k, zero_mul]
  have row : ∀ (hp : 2 ≤ (rowOf q r).val + j ∧ (rowOf q r).val + j < 4098),
      (∀ k : Fin 1024, (halo Q x0 x1 x2 (ix2 (⟨(14 + r.val + j) % 1056, Nat.mod_lt _ (by decide)⟩ : Fin 1056) k) : EReal) = x (ix3 b ⟨(rowOf q r).val + j - 2, by omega⟩ k)) →
      (∑ k : Fin 1024, (halo Q x0 x1 x2 (ix2 (⟨(14 + r.val + j) % 1056, Nat.mod_lt _ (by decide)⟩ : Fin 1056) k) : EReal) * x3 (ix2 k c))
        = prow x w b ((rowOf q r).val + j) (col c) := fun hp hz => by
    rw [prow, dif_pos hp, prj]
    exact Finset.sum_congr rfl fun k _ => congrArg₂ (· * ·) (hz k) (hw k c)
  have at3 : ∀ (s s' : Fin 4096) (k : Fin 1024), s.val = s'.val → x (ix3 b s k) = x (ix3 b s' k) := fun s s' k e => by rw [Fin.ext e]
  by_cases c1 : 14 + r.val + j < 16
  · have c1' : (14 + r.val + j) % 1056 < 16 := by omega
    by_cases c2 : q.val = 0
    · refine zero (fun k => ?_) (by show ¬(2 ≤ q.val * 1024 + r.val + j ∧ _); omega)
      exact (dif_pos c1').trans (if_pos (by omega))
    · refine row ⟨by show 2 ≤ q.val * 1024 + r.val + j; omega, by show q.val * 1024 + r.val + j < 4098; omega⟩ fun k => ?_
      refine (dif_pos c1').trans ((if_neg (by omega)).trans ((h1 _ k c2).trans (at3 _ _ k ?_)))
      show q.val * 1024 + (14 + r.val + j) % 1056 - 16 = q.val * 1024 + r.val + j - 2
      omega
  · have c1' : ¬(14 + r.val + j) % 1056 < 16 := by omega
    by_cases c2 : 14 + r.val + j < 1040
    · have c2' : (14 + r.val + j) % 1056 < 1040 := by omega
      refine row ⟨by show 2 ≤ q.val * 1024 + r.val + j; omega, by show q.val * 1024 + r.val + j < 4098; omega⟩ fun k => ?_
      refine (dif_neg c1').trans ((dif_pos c2').trans ((h0 _ k).trans (at3 _ _ k ?_)))
      show q.val * 1024 + ((14 + r.val + j) % 1056 - 16) = q.val * 1024 + r.val + j - 2
      omega
    · have c2' : ¬(14 + r.val + j) % 1056 < 1040 := by omega
      by_cases c3 : q.val = 3
      · refine zero (fun k => ?_) (by show ¬(2 ≤ q.val * 1024 + r.val + j ∧ q.val * 1024 + r.val + j < 4098); omega)
        exact ((dif_neg c1').trans (dif_neg c2')).trans (if_pos (by omega))
      · refine row ⟨by show 2 ≤ q.val * 1024 + r.val + j; omega, by show q.val * 1024 + r.val + j < 4098; omega⟩ fun k => ?_
        refine (dif_neg c1').trans ((dif_neg c2').trans ((if_neg (by omega)).trans ((h2 _ k c3).trans (at3 _ _ k ?_))))
        show q.val * 1024 + 1024 + ((14 + r.val + j) % 1056 - 1040) = q.val * 1024 + r.val + j - 2
        omega

open Cert.Reals in
/-- The convolution of finite values is finite. -/
theorem conv_real (hx : ∀ i, IsReal (x i)) (hw : ∀ (k : Fin 1024) (c : Fin 1536), IsReal (w (ix3 (0 : Fin 4) k (col c)))) (hc : ∀ (j : Fin 5) (c : Fin 1536), IsReal (cw (ix3 (0 : Fin 4) j c)))
    (s : Fin 4096) (c : Fin 1536) : IsReal (conv x w cw b s c) := by
  have hp : ∀ n, IsReal (prow x w b n (col c)) := fun n => by
    unfold prow
    by_cases h : 2 ≤ n ∧ n < 4098
    · rw [dif_pos h]; exact IsReal.sum _ fun k => (hx _).mul (hw k c)
    · rw [dif_neg h]; exact ⟨0, EReal.coe_zero.symm⟩
  exact (((((hp _).mul (hc _ c)).add ((hp _).mul (hc _ c))).add ((hp _).mul (hc _ c))).add ((hp _).mul (hc _ c))).add ((hp _).mul (hc _ c))

open Cert.Reals in
/-- The kernel's gated convolution is the reference's. -/
theorem kact_eq (hx : ∀ i, IsReal (x i)) (hwr : ∀ (k : Fin 1024) (c : Fin 1536), IsReal (w (ix3 (0 : Fin 4) k (col c)))) (hc : ∀ (j : Fin 5) (c : Fin 1536), IsReal (cw (ix3 (0 : Fin 4) j c)))
    (Q : ℕ) (hQ : Q % 4 = q.val)
    (h0 : ∀ (r : Fin 1024) (k : Fin 1024), x0 (ix2 r k) = x (ix3 b (rowOf q r) k))
    (h1 : ∀ (e : Fin 16) (k : Fin 1024) (h : q.val ≠ 0), x1 (ix2 e k) = x (ix3 b (⟨q.val * 1024 + e.val - 16, by omega⟩ : Fin 4096) k))
    (h2 : ∀ (e : Fin 16) (k : Fin 1024) (h : q.val ≠ 3), x2 (ix2 e k) = x (ix3 b (⟨q.val * 1024 + 1024 + e.val, by omega⟩ : Fin 4096) k))
    (x3 : Vec Ideal S1024x1536 .bf16) (hw : ∀ (k : Fin 1024) (c : Fin 1536), x3 (ix2 k c) = w (ix3 (0 : Fin 4) k (col c)))
    (x6 : Vec Ideal S8x1536 .f32) (ht : ∀ (j : Fin 5) (c : Fin 1536), x6 (ix2 (⟨j.val, by omega⟩ : Fin 8) c) = cw (ix3 (0 : Fin 4) j c))
    (r : Fin 1024) (c : Fin 1536) : kact (halo Q x0 x1 x2) x3 x6 r c = act x w cw b (rowOf q r) c := by
  have e : ∀ (j : ℕ) (hj : j < 5), (∑ k : Fin 1024, (halo Q x0 x1 x2 (ix2 (⟨(14 + r.val + j) % 1056, Nat.mod_lt _ (by decide)⟩ : Fin 1056) k) : EReal) * x3 (ix2 k c))
      = prow x w b ((rowOf q r).val + j) (col c) := fun j hj => halo_prow x w b q x0 x1 x2 Q hQ h0 h1 h2 x3 hw r j hj c
  have e5 : five (fun j => ∑ k : Fin 1024, (halo Q x0 x1 x2 (ix2 (⟨(14 + r.val + j) % 1056, Nat.mod_lt _ (by decide)⟩ : Fin 1056) k) : EReal) * x3 (ix2 k c))
      (fun j => x6 (ix2 (⟨j.val, by omega⟩ : Fin 8) c)) = conv x w cw b (rowOf q r) c := by
    unfold five conv five tap
    dsimp only
    rw [e 0 (by omega), e 1 (by omega), e 2 (by omega), e 3 (by omega), e 4 (by omega), ht 0 c, ht 1 c, ht 2 c, ht 3 c, ht 4 c]
  unfold kact
  rw [e5]
  exact gate_eq (conv_real x w cw b hx hwr hc _ _)

/-- The kernel's gates are the reference's. -/
theorem kgates_eq (af df ab db : FVec Ideal Gs .f32) (g β : FVec Ideal S1024x128 .f32) (x7 : Vec Ideal S8x128 .f32) (P : Fin 1024 → Fin 128 → EReal)
    (hP : ∀ (r : Fin 1024) (h : Fin 16), P r (⟨h.val, by omega⟩ : Fin 128) = glo x w b (rowOf q r) h)
    (hg : ∀ (r : Fin 1024) (h : Fin 128), g (ix2 r h) = decay (x7 (ix2 (0 : Fin 8) h)) (x7 (ix2 (1 : Fin 8) h)) (P r h))
    (hβ : ∀ (r : Fin 1024) (h : Fin 128), β (ix2 r h) = Ideal.logistic (P r h))
    (e7 : x7 = hpars af df ab db) (r : Fin 1024) (h : Fin 16) : kgates g β r h = gates x w af df ab db b (rowOf q r) h := by
  have hr := r.isLt
  have hq := q.isLt
  subst e7
  have hd : ∀ p : Fin 64, inChunk (rowOf q r) p = rowOf q (⟨r.val / 64 * 64 + p.val, by omega⟩ : Fin 1024) := fun p =>
    Fin.ext (by show (q.val * 1024 + r.val) / 64 * 64 + p.val = q.val * 1024 + (r.val / 64 * 64 + p.val); omega)
  have hm : (rowOf q r).val % 64 = r.val % 64 := by show (q.val * 1024 + r.val) % 64 = r.val % 64; omega
  unfold kgates gpv gates
  by_cases c1 : h.val < 4
  · rw [if_pos c1, dif_pos c1, upTo]
    refine Finset.sum_congr rfl fun p _ => ?_
    rw [hm]
    refine ite_congr rfl (fun _ => ?_) fun _ => rfl
    rw [hd p, hg, hP, hpars_zero, hpars_one, (hpair_apply af ab _).1 c1, (hpair_apply df db _).1 c1]
  · rw [if_neg c1, dif_neg c1]
    by_cases c2 : h.val < 8
    · rw [if_pos c2, dif_pos c2, fromOn]
      refine Finset.sum_congr rfl fun p _ => ?_
      rw [hm]
      refine ite_congr rfl (fun _ => ?_) fun _ => rfl
      rw [hd p, hg, hP, hpars_zero, hpars_one, (hpair_apply af ab _).2 (by show 4 ≤ h.val; omega) c2, (hpair_apply df db _).2 (by show 4 ≤ h.val; omega) c2]
    · rw [if_neg c2, dif_neg c2, hβ, hP, Ideal.ofBits_one_f32]
      have er : (⟨r.val / 64 * 64 + r.val % 64, by omega⟩ : Fin 1024) = r := Fin.ext (by show r.val / 64 * 64 + r.val % 64 = r.val; omega)
      rw [er]
      rfl

end Cert.Kernel2Ideal.Proj

end
-- ==== Proof.Proj.Blocks.lean ====
/- The blocks the projection kernel is given at each point, as entries of the arguments. -/
module

public import proofs.«01_k».proof.Proof.Proj.ValueA

@[expose] public section

set_option maxRecDepth 16384

noncomputable section

namespace Cert.Kernel2Ideal.Proj

open Cert.Kernel2Ideal Cert.Kernel2Ideal.Gen
open Idealize.ShloMosaic Idealize.ShloMosaic.TcCoe
open Idealize.SL Idealize.SL.Sem
open Idealize.ShloMosaic.Pipeline (Dat Cfg Window)
open Idealize.ShloMosaic.ValueIdx (ix0 ix1 ix2 ix3 ix4)
open Cert.Proj

variable (m : (ℓ : Loc nD τ sig) → Buf (Elt Ideal) ℓ) (c : Dev nD)

abbrev ax : FVec Ideal Xs .f32 := m ((c : Thread nD τ).loc main_arg0)
abbrev aw : FVec Ideal Ws .f32 := m ((c : Thread nD τ).loc main_arg1)
abbrev acw : FVec Ideal Cs .f32 := m ((c : Thread nD τ).loc main_arg2)
abbrev aaf : FVec Ideal Gs .f32 := m ((c : Thread nD τ).loc main_arg3)
abbrev adf : FVec Ideal Gs .f32 := m ((c : Thread nD τ).loc main_arg4)
abbrev aab : FVec Ideal Gs .f32 := m ((c : Thread nD τ).loc main_arg5)
abbrev adb : FVec Ideal Gs .f32 := m ((c : Thread nD τ).loc main_arg6)

theorem lt_points (t : Fin cfg0.N) : t.val < 32 := lt_of_lt_of_eq t.isLt (show cfg0.N = 32 from N_0)

theorem coord_eq (t : Fin cfg0.N) : (grid0.coords t 0).val = t.val := (by decide +kernel : ∀ t : Fin grid0.N, (grid0.coords t 0).val = t.val) t

theorem index0 (t : Fin cfg0.N) : (cfg0.win 0).index t = ![t.val, 0] := (by decide +kernel : ∀ t : Fin grid0.N, win0_0.index t = ![t.val, 0]) t
theorem index1 (t : Fin cfg0.N) : (cfg0.win 1).index t = ![64 * t.val - 1, 0] := (by decide +kernel : ∀ t : Fin grid0.N, win0_1.index t = ![64 * t.val - 1, 0]) t
theorem index2 (t : Fin cfg0.N) : (cfg0.win 2).index t = ![min (64 * (t.val + 1)) 2047, 0] := (by decide +kernel : ∀ t : Fin grid0.N, win0_2.index t = ![min (64 * (t.val + 1)) 2047, 0]) t
theorem index3 (t : Fin cfg0.N) : (cfg0.win 3).index t = ![0, 0] := rfl
theorem index4 (t : Fin cfg0.N) : (cfg0.win 4).index t = ![0, 0] := rfl
theorem index5 (t : Fin cfg0.N) : (cfg0.win 5).index t = ![0, 0] := rfl
theorem index6 (t : Fin cfg0.N) : (cfg0.win 6).index t = ![0, 0] := rfl
theorem index7 (t : Fin cfg0.N) : (cfg0.win 7).index t = ![0, 0] := rfl
theorem index8 (t : Fin cfg0.N) : (cfg0.win 8).index t = ![t.val, 0] := (by decide +kernel : ∀ t : Fin grid0.N, win0_8.index t = ![t.val, 0]) t
theorem index9 (t : Fin cfg0.N) : (cfg0.win 9).index t = ![t.val, 0] := (by decide +kernel : ∀ t : Fin grid0.N, win0_9.index t = ![t.val, 0]) t
theorem index10 (t : Fin cfg0.N) : (cfg0.win 10).index t = ![t.val, 0] := (by decide +kernel : ∀ t : Fin grid0.N, win0_10.index t = ![t.val, 0]) t

/-- The batch row of a point's block, -/
abbrev batch (t : Fin cfg0.N) : Fin 8 := ⟨t.val / 4, by have := lt_points t; omega⟩

/-- and the block's place in its sequence. -/
abbrev place (t : Fin cfg0.N) : Fin 4 := ⟨t.val % 4, Nat.mod_lt _ (by decide)⟩

theorem iblk0 (t : Fin cfg0.N) (r k : Fin 1024) : iblk m c 0 t (ix2 r k) = ax m c (ix3 (batch t) (rowOf (place t) r) k) := by
  have ht := lt_points t
  refine (congrFun (at_v0 m c) _).trans (Eq.trans (congrArg (hrows (ax m c)) (a₂ := ix2 (⟨t.val * 1024 + r.val, by omega⟩ : Fin 32768) k) (funext fun a => Fin.ext ?_)) (hrows_apply _ _ _ _ _ ?_))
  · refine (Window.rect_emb_val (cfg0.win 0) t (ix2 r k) a (by rfl)).trans ?_
    rw [index0]
    fin_cases a
    · rfl
    · show 0 * 1024 + k.val = k.val
      omega
  · show t.val * 1024 + r.val = t.val / 4 * 4096 + (t.val % 4 * 1024 + r.val)
    omega

theorem iblk1 (t : Fin cfg0.N) (e : Fin 16) (k : Fin 1024) (h : (place t).val ≠ 0) :
    iblk m c 1 t (ix2 e k) = ax m c (ix3 (batch t) (⟨(place t).val * 1024 + e.val - 16, by omega⟩ : Fin 4096) k) := by
  have ht := lt_points t
  have hp : t.val % 4 ≠ 0 := h
  refine (congrFun (at_v0 m c) _).trans (Eq.trans (congrArg (hrows (ax m c)) (a₂ := ix2 (⟨(64 * t.val - 1) * 16 + e.val, by omega⟩ : Fin 32768) k) (funext fun a => Fin.ext ?_)) (hrows_apply _ _ _ _ _ ?_))
  · refine (Window.rect_emb_val (cfg0.win 1) t (ix2 e k) a (by rfl)).trans ?_
    rw [index1]
    fin_cases a
    · rfl
    · show 0 * 1024 + k.val = k.val
      omega
  · show (64 * t.val - 1) * 16 + e.val = t.val / 4 * 4096 + (t.val % 4 * 1024 + e.val - 16)
    omega

theorem iblk2 (t : Fin cfg0.N) (e : Fin 16) (k : Fin 1024) (h : (place t).val ≠ 3) :
    iblk m c 2 t (ix2 e k) = ax m c (ix3 (batch t) (⟨(place t).val * 1024 + 1024 + e.val, by have := (place t).isLt; omega⟩ : Fin 4096) k) := by
  have ht := lt_points t
  have hp : t.val % 4 ≠ 3 := h
  refine (congrFun (at_v0 m c) _).trans (Eq.trans (congrArg (hrows (ax m c)) (a₂ := ix2 (⟨min (64 * (t.val + 1)) 2047 * 16 + e.val, by omega⟩ : Fin 32768) k) (funext fun a => Fin.ext ?_)) (hrows_apply _ _ _ _ _ ?_))
  · refine (Window.rect_emb_val (cfg0.win 2) t (ix2 e k) a (by rfl)).trans ?_
    rw [index2]
    fin_cases a
    · rfl
    · show 0 * 1024 + k.val = k.val
      omega
  · show min (64 * (t.val + 1)) 2047 * 16 + e.val = t.val / 4 * 4096 + (t.val % 4 * 1024 + 1024 + e.val)
    omega

theorem iblk3 (t : Fin cfg0.N) (k : Fin 1024) (d : Fin 1536) : iblk m c 3 t (ix2 k d) = hqkv (F := Ideal) (aw m c) (ix2 k d) := by
  refine (congrFun (at_v20 m c) _).trans (congrArg (hqkv (aw m c)) (funext fun a => Fin.ext ?_))
  refine (Window.rect_emb_val (cfg0.win 3) t (ix2 k d) a (by rfl)).trans ?_
  rw [index3]
  fin_cases a
  · show 0 * 1024 + k.val = k.val; omega
  · show 0 * 1536 + d.val = d.val; omega

theorem iblk4 (t : Fin cfg0.N) (k : Fin 1024) (d : Fin 1536) : iblk m c 4 t (ix2 k d) = hzuv (F := Ideal) (aw m c) (ix2 k d) := by
  refine (congrFun (at_v22 m c) _).trans (congrArg (hzuv (aw m c)) (funext fun a => Fin.ext ?_))
  refine (Window.rect_emb_val (cfg0.win 4) t (ix2 k d) a (by rfl)).trans ?_
  rw [index4]
  fin_cases a
  · show 0 * 1024 + k.val = k.val; omega
  · show 0 * 1536 + d.val = d.val; omega

theorem iblk5 (t : Fin cfg0.N) (k : Fin 1024) (d : Fin 128) : iblk m c 5 t (ix2 k d) = hgate (F := Ideal) (aw m c) (ix2 k d) := by
  refine (congrFun (at_v24 m c) _).trans (congrArg (hgate (aw m c)) (funext fun a => Fin.ext ?_))
  refine (Window.rect_emb_val (cfg0.win 5) t (ix2 k d) a (by rfl)).trans ?_
  rw [index5]
  fin_cases a
  · show 0 * 1024 + k.val = k.val; omega
  · show 0 * 128 + d.val = d.val; omega

theorem iblk6 (t : Fin cfg0.N) (k : Fin 8) (d : Fin 1536) : iblk m c 6 t (ix2 k d) = htaps (F := Ideal) (acw m c) (ix2 k d) := by
  refine (congrFun (at_v26 m c) _).trans (congrArg (htaps (acw m c)) (funext fun a => Fin.ext ?_))
  refine (Window.rect_emb_val (cfg0.win 6) t (ix2 k d) a (by rfl)).trans ?_
  rw [index6]
  fin_cases a
  · show 0 * 8 + k.val = k.val; omega
  · show 0 * 1536 + d.val = d.val; omega

theorem iblk7 (t : Fin cfg0.N) : iblk m c 7 t = hpars (F := Ideal) (aaf m c) (adf m c) (aab m c) (adb m c) := by
  funext y
  refine (congrFun (at_v28 m c) _).trans (congrArg (hpars (aaf m c) (adf m c) (aab m c) (adb m c)) (funext fun a => Fin.ext ?_))
  refine (Window.rect_emb_val (cfg0.win 7) t y a (by rfl)).trans ?_
  rw [index7]
  fin_cases a
  · show 0 * 8 + (y 0).val = (y 0).val; omega
  · show 0 * 128 + (y 1).val = (y 1).val; omega

end Cert.Kernel2Ideal.Proj

end
-- ==== Proof.Proj.RefB.lean ====
/- The second reference's three results, read at an index: the results themselves. -/
module

public import proofs.«01_k».proof.Proof.Proj.Ref

@[expose] public section

set_option maxRecDepth 16384

noncomputable section

namespace Cert.Reference2Ideal.Proj

open Cert.Reference2Ideal Cert.Reference2Ideal.Gen
open Idealize.ShloMosaic
open Idealize.ShloMosaic.ValueIdx (ix0 ix1 ix2 ix3 ix4)
open Cert.Proj

/-- A column of a head. -/
abbrev hcol (h : Fin 12) (l : Fin 128) : Fin 1536 := ⟨h.val * 128 + l.val, by omega⟩

theorem lane_hcol (h : Fin 12) (l k : Fin 128) : lane (hcol h l) k = hcol h k := by
  refine Fin.ext ?_
  show (h.val * 128 + l.val) / 128 * 128 + k.val = h.val * 128 + k.val
  omega

theorem joined_apply (v : FVec Ideal S8x4096x12x128 .f32) (f : Fin 1536 → EReal) (b : Fin 8) (s : Fin 4096)
    (hf : ∀ (h : Fin 12) (l : Fin 128), v (ix4 b s h l) = f (hcol h l)) (h : Fin 12) (l : Fin 128) :
    joined v (ix4 b s h l) = normed f (hcol h l) := by
  have hu : ∀ (h8 : Fin 8), units (extractStridedSlice S8x4096x8x128 ![0, 0, 0, 0] v slices_S8x4096x12x128_S8x4096x8x128_0_0_0_0) (ix4 b s h8 l)
      = Cert.Proj.unit f (hcol ⟨h8.val, by omega⟩ l) := fun h8 => by
    have hs : ∀ k : Fin 128, extractStridedSlice S8x4096x8x128 ![0, 0, 0, 0] v slices_S8x4096x12x128_S8x4096x8x128_0_0_0_0 (ix4 b s h8 k)
        = f (hcol ⟨h8.val, by omega⟩ k) := fun k => by
      refine Eq.trans (congrArg v (funext fun a => Fin.ext ?_)) (hf ⟨h8.val, by omega⟩ k)
      fin_cases a
      · exact Nat.zero_add _
      · exact Nat.zero_add _
      · exact Nat.zero_add _
      · exact Nat.zero_add _
    rw [units_apply]
    simp only [hs]
    unfold Cert.Proj.unit
    simp only [lane_hcol]
  unfold joined normed
  by_cases h1 : h.val < 4
  · rw [if_pos (show (hcol h l).val < 512 by show h.val * 128 + l.val < 512; omega)]
    refine (concatenate_apply_piece 2 _ _ (ix4 b s h l) 0 (by exact (show 0 < 3 by decide)) S8x4096x4x128 _ rfl rfl 0 rfl
      (ix4 b s (⟨h.val, h1⟩ : Fin 4) l) (fun a ha => by fin_cases a <;> first | rfl | exact absurd rfl ha) (by exact (Nat.zero_add _))).trans ?_
    rw [ValueIdx.mulf_apply]
    refine congrArg₂ (· * ·) ?_ rfl
    refine Eq.trans (congrArg (units _) (funext fun a => Fin.ext ?_)) (hu ⟨h.val, by omega⟩)
    fin_cases a
    · exact Nat.zero_add _
    · exact Nat.zero_add _
    · exact Nat.zero_add _
    · exact Nat.zero_add _
  · rw [if_neg (show ¬(hcol h l).val < 512 by show ¬h.val * 128 + l.val < 512; omega)]
    by_cases h2 : h.val < 8
    · rw [if_pos (show (hcol h l).val < 1024 by show h.val * 128 + l.val < 1024; omega)]
      refine (concatenate_apply_piece 2 _ _ (ix4 b s h l) 1 (by exact (show 1 < 3 by decide)) S8x4096x4x128 _ rfl rfl 4 rfl
        (ix4 b s (⟨h.val - 4, by omega⟩ : Fin 4) l) (fun a ha => by fin_cases a <;> first | rfl | exact absurd rfl ha)
        (by show 4 + (h.val - 4) = h.val; omega)).trans ?_
      refine Eq.trans (congrArg (units _) (funext fun a => Fin.ext ?_)) (hu ⟨h.val, by omega⟩)
      fin_cases a
      · exact Nat.zero_add _
      · exact Nat.zero_add _
      · show 4 + (h.val - 4) = h.val; omega
      · exact Nat.zero_add _
    · rw [if_neg (show ¬(hcol h l).val < 1024 by show ¬h.val * 128 + l.val < 1024; omega)]
      refine (concatenate_apply_piece 2 _ _ (ix4 b s h l) 2 (by exact (show 2 < 3 by decide)) S8x4096x4x128 _ rfl rfl 8 rfl
        (ix4 b s (⟨h.val - 8, by omega⟩ : Fin 4) l) (fun a ha => by fin_cases a <;> first | rfl | exact absurd rfl ha)
        (by show 8 + (h.val - 8) = h.val; omega)).trans ?_
      refine Eq.trans (congrArg v (funext fun a => Fin.ext ?_)) (hf h l)
      fin_cases a
      · exact Nat.zero_add _
      · exact Nat.zero_add _
      · show 8 + (h.val - 8) = h.val; omega
      · exact Nat.zero_add _

theorem qkvR_apply (x : FVec Ideal S8x4096x1024 .f32) (w : FVec Ideal S4x1024x3088 .f32) (cw : FVec Ideal S4x5x1536 .f32)
    (b : Fin 8) (s : Fin 4096) (c : Fin 1536) :
    qkvR x w cw (ix2 (⟨b.val * 4096 + s.val, by omega⟩ : Fin 32768) c) = qkv x w cw b s c := by
  unfold qkvR
  refine (shapeCast_apply _ _ _ (ix4 b s (⟨c.val / 128, by omega⟩ : Fin 12) (⟨c.val % 128, by omega⟩ : Fin 128)) ?_).trans ?_
  · rw [Shape.rowMajor_val_two, Shape.rowMajor_val_four]
    show ((b.val * 4096 + s.val) * 12 + c.val / 128) * 128 + c.val % 128 = (b.val * 4096 + s.val) * 1536 + c.val
    omega
  · rw [ValueIdx.truncf_apply, joined_apply _ (act x w cw b s) b s (fun h l => by rw [heads_apply, gated_apply])]
    unfold qkv
    exact congrArg _ (Fin.ext (show c.val / 128 * 128 + c.val % 128 = c.val by omega))

theorem zuvR_apply (x : FVec Ideal S8x4096x1024 .f32) (w : FVec Ideal S4x1024x3088 .f32) (b : Fin 8) (s : Fin 4096) (c : Fin 1536) :
    zuvR x w (ix2 (⟨b.val * 4096 + s.val, by omega⟩ : Fin 32768) c) = zuv x w b s c := by
  unfold zuvR zuv
  refine (shapeCast_apply _ _ _ (ix3 b s c) ?_).trans ?_
  · rw [Shape.rowMajor_val_two, Shape.rowMajor_val_three]
    rfl
  rw [ValueIdx.truncf_apply]
  by_cases h : c.val < 512
  · refine (concatenate_apply_piece 2 _ _ (ix3 b s c) 0 (by exact (show 0 < 2 by decide)) S8x4096x512 _ rfl rfl 0 rfl
      (ix3 b s (⟨c.val, h⟩ : Fin 512)) (fun a ha => by fin_cases a <;> first | rfl | exact absurd rfl ha) (by exact (Nat.zero_add _))).trans ?_
    refine Eq.trans (congrArg (proj x w) (funext fun a => Fin.ext ?_)) (proj_apply x w b s _)
    fin_cases a
    · exact Nat.zero_add _
    · exact Nat.zero_add _
    · show 1536 + c.val = if c.val < 512 then 1536 + c.val else 1552 + c.val
      rw [if_pos h]
  · refine (concatenate_apply_piece 2 _ _ (ix3 b s c) 1 (by exact (show 1 < 2 by decide)) S8x4096x1024 _ rfl rfl 512 rfl
      (ix3 b s (⟨c.val - 512, by omega⟩ : Fin 1024)) (fun a ha => by fin_cases a <;> first | rfl | exact absurd rfl ha)
      (by show 512 + (c.val - 512) = c.val; omega)).trans ?_
    refine Eq.trans (congrArg (proj x w) (funext fun a => Fin.ext ?_)) (proj_apply x w b s _)
    fin_cases a
    · exact Nat.zero_add _
    · exact Nat.zero_add _
    · show 2064 + (c.val - 512) = if c.val < 512 then 1536 + c.val else 1552 + c.val
      rw [if_neg h]
      omega

end Cert.Reference2Ideal.Proj

end
-- ==== Proof.Proj.RefC.lean ====
/- The second reference's sums along a chunk, and its third result, read at an index. -/
module

public import proofs.«01_k».proof.Proof.Proj.Ref

@[expose] public section

set_option maxRecDepth 16384

noncomputable section

namespace Cert.Reference2Ideal.Proj

open Cert.Reference2Ideal Cert.Reference2Ideal.Gen
open Idealize.ShloMosaic
open Idealize.ShloMosaic.ValueIdx (ix0 ix1 ix2 ix3 ix4)
open Cert.Proj

theorem foldl_add {β : Type} (l : List β) (f : β → EReal) (v : EReal) : l.foldl (fun a n => a + f n) v = v + (l.map f).sum := by
  induction l generalizing v with
  | nil => simp
  | cons a l ih => rw [List.foldl_cons, ih, List.map_cons, List.sum_cons, add_assoc]

/-- The window's positions. -/
abbrev Win : Shape := ⟨4, ![1, 1, 64, 1]⟩

/-- A position of the window is its third coordinate. -/
def winEquiv : Win.Idx ≃ Fin 64 where
  toFun q := q 2
  invFun p := ix4 (0 : Fin 1) (0 : Fin 1) p (0 : Fin 1)
  left_inv q := by
    funext a
    fin_cases a
    · exact Subsingleton.elim (α := Fin 1) _ _
    · exact Subsingleton.elim (α := Fin 1) _ _
    · rfl
    · exact Subsingleton.elim (α := Fin 1) _ _
  right_inv p := rfl

theorem win_zero (q : Win.Idx) : (q 0).val = 0 ∧ (q 1).val = 0 ∧ (q 3).val = 0 :=
  ⟨Nat.lt_one_iff.mp (q 0).isLt, Nat.lt_one_iff.mp (q 1).isLt, Nat.lt_one_iff.mp (q 3).isLt⟩

theorem sum_low (F : Fin 64 → EReal) (r : Fin 64) :
    (∑ q : Fin 64, if h : 63 ≤ r.val + q.val then F ⟨r.val + q.val - 63, by omega⟩ else 0) = ∑ p : Fin 64, if p.val ≤ r.val then F p else 0 := by
  refine Fintype.sum_equiv (Equiv.addLeft (⟨(r.val + 1) % 64, by omega⟩ : Fin 64)) _ _ fun q => ?_
  have hp : ((Equiv.addLeft (⟨(r.val + 1) % 64, by omega⟩ : Fin 64)) q).val = ((r.val + 1) % 64 + q.val) % 64 := rfl
  by_cases h : 63 ≤ r.val + q.val
  · rw [dif_pos h, if_pos (by rw [hp]; omega)]
    exact congrArg F (Fin.ext (by rw [hp]; show r.val + q.val - 63 = _; omega))
  · rw [dif_neg h, if_neg (by rw [hp]; omega)]

theorem sum_high (F : Fin 64 → EReal) (r : Fin 64) :
    (∑ q : Fin 64, if h : r.val + q.val < 64 then F ⟨r.val + q.val, h⟩ else 0) = ∑ p : Fin 64, if r.val ≤ p.val then F p else 0 := by
  refine Fintype.sum_equiv (Equiv.addLeft r) _ _ fun q => ?_
  have hp : ((Equiv.addLeft r) q).val = (r.val + q.val) % 64 := rfl
  by_cases h : r.val + q.val < 64
  · rw [dif_pos h, if_pos (by rw [hp]; omega)]
    exact congrArg F (Fin.ext (by rw [hp]; show r.val + q.val = _; omega))
  · rw [dif_neg h, if_neg (by rw [hp]; omega)]

theorem fwd_apply (y : FVec Ideal S8x64x64x4 .f32) (b : Fin 8) (n r : Fin 64) (h : Fin 4) :
    Host.reduceWindowAdd ![1, 1, 64, 1] ![1, 1, 1, 1] ![0, 0, 63, 0] ![0, 0, 0, 0] y start0
      reduceWindows_S8x64x64x4_S8x64x64x4_w1s1p0_0_w1s1p0_0_w64s1p63_0_w1s1p0_0 h_S_ (ix4 b n r h)
      = ∑ p : Fin 64, if p.val ≤ r.val then y (ix4 b n p h) else 0 := by
  unfold Host.reduceWindowAdd
  rw [Ideal.hostReduceWindowAdd_def]
  unfold Ideal.hostReduceWindowAdd Host.reduceWindow
  dsimp only
  rw [foldl_add, ← Fin.sum_univ_def, show start0 (Shape.Idx.first h_S_) = (0 : EReal) from Ideal.ofBits_zero_f32, zero_add, ← sum_low]
  refine Fintype.sum_equiv (Win.rowMajor.symm.trans winEquiv) _ _ fun k => ?_
  rw [Equiv.trans_apply]
  obtain ⟨q, hq⟩ : ∃ q : Win.Idx, Win.rowMajor.symm k = q := ⟨_, rfl⟩
  obtain ⟨q0, q1, q3⟩ := win_zero (Win.rowMajor.symm k)
  rw [hq] at q0 q1 q3
  have hq2 : (winEquiv (Win.rowMajor.symm k)).val = (q 2).val := by rw [hq]; rfl
  have hqa : ∀ a : Fin 4, ((Win.rowMajor.symm k) a).val = (q a).val := fun a => by rw [hq]
  have e0 := hqa 0
  have e1 := hqa 1
  have e2 := hqa 2
  have e3 := hqa 3
  have hl : (q 2).val < 64 := (q 2).isLt
  by_cases hc : 63 ≤ r.val + (winEquiv (Win.rowMajor.symm k)).val
  · refine (dif_pos (fun a => by
      fin_cases a
      · show 0 ≤ b.val * 1 + ((Win.rowMajor.symm k) 0).val ∧ b.val * 1 + ((Win.rowMajor.symm k) 0).val - 0 < 8; omega
      · show 0 ≤ n.val * 1 + ((Win.rowMajor.symm k) 1).val ∧ n.val * 1 + ((Win.rowMajor.symm k) 1).val - 0 < 64; omega
      · show 63 ≤ r.val * 1 + ((Win.rowMajor.symm k) 2).val ∧ r.val * 1 + ((Win.rowMajor.symm k) 2).val - 63 < 64; omega
      · show 0 ≤ h.val * 1 + ((Win.rowMajor.symm k) 3).val ∧ h.val * 1 + ((Win.rowMajor.symm k) 3).val - 0 < 4; omega)).trans (Eq.trans ?_ (dif_pos hc).symm)
    refine congrArg y (funext fun a => Fin.ext ?_)
    fin_cases a
    · show b.val * 1 + ((Win.rowMajor.symm k) 0).val - 0 = b.val; omega
    · show n.val * 1 + ((Win.rowMajor.symm k) 1).val - 0 = n.val; omega
    · show r.val * 1 + ((Win.rowMajor.symm k) 2).val - 63 = r.val + (winEquiv (Win.rowMajor.symm k)).val - 63; omega
    · show h.val * 1 + ((Win.rowMajor.symm k) 3).val - 0 = h.val; omega
  · rw [dif_neg hc]
    exact dif_neg (fun hin => hc (by
      have h2 : 63 ≤ r.val * 1 + ((Win.rowMajor.symm k) 2).val := (hin 2).1
      omega))

theorem bwd_apply (y : FVec Ideal S8x64x64x4 .f32) (b : Fin 8) (n r : Fin 64) (h : Fin 4) :
    Host.reduceWindowAdd ![1, 1, 64, 1] ![1, 1, 1, 1] ![0, 0, 0, 0] ![0, 0, 63, 0] y start0
      reduceWindows_S8x64x64x4_S8x64x64x4_w1s1p0_0_w1s1p0_0_w64s1p0_63_w1s1p0_0 h_S_ (ix4 b n r h)
      = ∑ p : Fin 64, if r.val ≤ p.val then y (ix4 b n p h) else 0 := by
  unfold Host.reduceWindowAdd
  rw [Ideal.hostReduceWindowAdd_def]
  unfold Ideal.hostReduceWindowAdd Host.reduceWindow
  dsimp only
  rw [foldl_add, ← Fin.sum_univ_def, show start0 (Shape.Idx.first h_S_) = (0 : EReal) from Ideal.ofBits_zero_f32, zero_add, ← sum_high]
  refine Fintype.sum_equiv (Win.rowMajor.symm.trans winEquiv) _ _ fun k => ?_
  rw [Equiv.trans_apply]
  obtain ⟨q, hq⟩ : ∃ q : Win.Idx, Win.rowMajor.symm k = q := ⟨_, rfl⟩
  obtain ⟨q0, q1, q3⟩ := win_zero (Win.rowMajor.symm k)
  rw [hq] at q0 q1 q3
  have hq2 : (winEquiv (Win.rowMajor.symm k)).val = (q 2).val := by rw [hq]; rfl
  have hqa : ∀ a : Fin 4, ((Win.rowMajor.symm k) a).val = (q a).val := fun a => by rw [hq]
  have e0 := hqa 0
  have e1 := hqa 1
  have e2 := hqa 2
  have e3 := hqa 3
  have hl : (q 2).val < 64 := (q 2).isLt
  by_cases hc : r.val + (winEquiv (Win.rowMajor.symm k)).val < 64
  · refine (dif_pos (fun a => by
      fin_cases a
      · show 0 ≤ b.val * 1 + ((Win.rowMajor.symm k) 0).val ∧ b.val * 1 + ((Win.rowMajor.symm k) 0).val - 0 < 8; omega
      · show 0 ≤ n.val * 1 + ((Win.rowMajor.symm k) 1).val ∧ n.val * 1 + ((Win.rowMajor.symm k) 1).val - 0 < 64; omega
      · show 0 ≤ r.val * 1 + ((Win.rowMajor.symm k) 2).val ∧ r.val * 1 + ((Win.rowMajor.symm k) 2).val - 0 < 64; omega
      · show 0 ≤ h.val * 1 + ((Win.rowMajor.symm k) 3).val ∧ h.val * 1 + ((Win.rowMajor.symm k) 3).val - 0 < 4; omega)).trans (Eq.trans ?_ (dif_pos hc).symm)
    refine congrArg y (funext fun a => Fin.ext ?_)
    fin_cases a
    · show b.val * 1 + ((Win.rowMajor.symm k) 0).val - 0 = b.val; omega
    · show n.val * 1 + ((Win.rowMajor.symm k) 1).val - 0 = n.val; omega
    · show r.val * 1 + ((Win.rowMajor.symm k) 2).val - 0 = r.val + (winEquiv (Win.rowMajor.symm k)).val; omega
    · show h.val * 1 + ((Win.rowMajor.symm k) 3).val - 0 = h.val; omega
  · rw [dif_neg hc]
    exact dif_neg (fun hin => hc (by
      have h2 : r.val * 1 + ((Win.rowMajor.symm k) 2).val - 0 < 64 := (hin 2).2
      omega))

theorem param_apply (v : FVec Ideal S4 .f32) (b : Fin 8) (s : Fin 4096) (h : Fin 4) : param v (ix3 b s h) = v (ix1 h) := by
  unfold param
  refine (broadcastInDim_apply _ _ _ _ (ix3 (0 : Fin 1) (0 : Fin 1) h) fun a => ?_).trans ?_
  · fin_cases a <;> rfl
  refine broadcastInDim_apply _ _ _ _ (ix1 h) fun a => ?_
  fin_cases a; rfl

theorem layer_apply (a : FVec Ideal S4x4 .f32) (h : Fin 4) : layer a (ix1 h) = a (ix2 (0 : Fin 4) h) := by
  unfold layer
  refine (shapeCast_apply _ _ _ (ix2 (0 : Fin 1) h) ?_).trans ?_
  · rw [Shape.rowMajor_val_one, Shape.rowMajor_val_two]
    show 0 * 4 + h.val = h.val
    omega
  · refine congrArg a (funext fun b => Fin.ext ?_)
    fin_cases b
    · rfl
    · exact Nat.zero_add _

theorem une_self (u : EReal) : Ideal.cmp .une u u = 0#1 := by simp [Ideal.cmp]

theorem soft_apply (v : FVec Ideal S8x4096x4 .f32) (i : S8x4096x4.Idx) :
    soft v i = max (v i) 0 + Ideal.log1p (Ideal.exp (-(max (v i) (-(v i))))) := by
  have hz : zeros i = (0 : EReal) := Ideal.ofBits_zero_f32
  show Scalar.select (Ideal.cmp .une (v i - zeros i) (v i - zeros i)) (v i + zeros i)
    (max (v i) (zeros i) + Ideal.log1p (Ideal.exp (-(max (v i - zeros i) (-(v i - zeros i)))))) = _
  rw [une_self, ValueIdx.select_zero, hz, sub_zero]

theorem decays_apply (a d : FVec Ideal S4x4 .f32) (p : FVec Ideal S8x4096x4 .f32) (b : Fin 8) (n r : Fin 64) (h : Fin 4) :
    decays a d p (ix4 b n r h) = decay (a (ix2 (0 : Fin 4) h)) (d (ix2 (0 : Fin 4) h)) (p (ix3 b ⟨n.val * 64 + r.val, by omega⟩ h)) := by
  unfold decays
  refine (shapeCast_apply _ _ _ (ix3 b (⟨n.val * 64 + r.val, by omega⟩ : Fin 4096) h) ?_).trans ?_
  · rw [Shape.rowMajor_val_three, Shape.rowMajor_val_four]
    show (b.val * 4096 + (n.val * 64 + r.val)) * 4 + h.val = ((b.val * 64 + n.val) * 64 + r.val) * 4 + h.val
    omega
  · rw [ValueIdx.mulf_apply, soft_apply, ValueIdx.addf_apply, param_apply, param_apply, layer_apply]
    rw [show Host.negf (Host.exp (layer a)) (ix1 h) = -(Ideal.exp (layer a (ix1 h))) from rfl, layer_apply]
    rfl

theorem gcols_apply (x : FVec Ideal S8x4096x1024 .f32) (w : FVec Ideal S4x1024x3088 .f32) (o : ℕ) (hh : S8x4096x16.Slices ![0, 0, o] S8x4096x4)
    (ho : o + 4 ≤ 16) (b : Fin 8) (s : Fin 4096) (h : Fin 4) :
    extractStridedSlice S8x4096x4 ![0, 0, o] (gcols (proj x w)) hh (ix3 b s h) = glo x w b s ⟨o + h.val, by omega⟩ := by
  unfold gcols glo
  refine Eq.trans (congrArg (proj x w) (funext fun a => Fin.ext ?_)) (proj_apply x w b s _)
  fin_cases a
  · show 0 + (0 + b.val) = b.val; omega
  · show 0 + (0 + s.val) = s.val; omega
  · rfl

theorem beta_apply (v : FVec Ideal S8x4096x4 .f32) (i : S8x4096x4.Idx) :
    beta v i = Ideal.div (Ideal.ofBits .f32 0x3F800000#32) (Ideal.ofBits .f32 0x3F800000#32 + Ideal.exp (-(v i))) := rfl

theorem gatesR_apply (x : FVec Ideal S8x4096x1024 .f32) (w : FVec Ideal S4x1024x3088 .f32) (af df ab db : FVec Ideal S4x4 .f32)
    (b : Fin 8) (s : Fin 4096) (h : Fin 16) :
    gatesR x w af df ab db (ix2 (⟨b.val * 4096 + s.val, by omega⟩ : Fin 32768) h) = gates x w af df ab db b s h := by
  unfold gatesR gates
  refine (shapeCast_apply _ _ _ (ix3 b s h) ?_).trans ?_
  · rw [Shape.rowMajor_val_two, Shape.rowMajor_val_three]
    rfl
  have hc : ∀ q : Fin 4, ∀ y : FVec Ideal S8x64x64x4 .f32, shapeCast S8x4096x4 y shapeCasts_S8x64x64x4_S8x4096x4 (ix3 b s q)
      = y (ix4 b (⟨s.val / 64, by omega⟩ : Fin 64) (⟨s.val % 64, by omega⟩ : Fin 64) q) := fun q y => by
    refine shapeCast_apply _ _ _ _ ?_
    rw [Shape.rowMajor_val_three, Shape.rowMajor_val_four]
    show ((b.val * 64 + s.val / 64) * 64 + s.val % 64) * 4 + q.val = (b.val * 4096 + s.val) * 4 + q.val
    omega
  by_cases h1 : h.val < 4
  · rw [dif_pos h1]
    refine (concatenate_apply_piece 2 _ _ (ix3 b s h) 0 (by exact (show 0 < 4 by decide)) S8x4096x4 _ rfl rfl 0 rfl
      (ix3 b s (⟨h.val, h1⟩ : Fin 4)) (fun a ha => by fin_cases a <;> first | rfl | exact absurd rfl ha) (by exact (Nat.zero_add _))).trans ?_
    rw [hc, fwd_apply]
    unfold upTo
    refine Finset.sum_congr rfl fun p _ => ?_
    refine if_congr Iff.rfl ?_ rfl
    rw [decays_apply, gcols_apply x w 0 _ (by omega)]
    exact congrArg _ (congrArg _ (Fin.ext (Nat.zero_add _)))
  rw [dif_neg h1]
  by_cases h2 : h.val < 8
  · rw [dif_pos h2]
    refine (concatenate_apply_piece 2 _ _ (ix3 b s h) 1 (by exact (show 1 < 4 by decide)) S8x4096x4 _ rfl rfl 4 rfl
      (ix3 b s (⟨h.val - 4, by omega⟩ : Fin 4)) (fun a ha => by fin_cases a <;> first | rfl | exact absurd rfl ha)
      (by show 4 + (h.val - 4) = h.val; omega)).trans ?_
    rw [hc, bwd_apply]
    unfold fromOn
    refine Finset.sum_congr rfl fun p _ => ?_
    refine if_congr Iff.rfl ?_ rfl
    rw [decays_apply, gcols_apply x w 4 _ (by omega)]
    exact congrArg _ (congrArg _ (Fin.ext (show 4 + (h.val - 4) = h.val by omega)))
  rw [dif_neg h2]
  by_cases h3 : h.val < 12
  · refine (concatenate_apply_piece 2 _ _ (ix3 b s h) 2 (by exact (show 2 < 4 by decide)) S8x4096x4 _ rfl rfl 8 rfl
      (ix3 b s (⟨h.val - 8, by omega⟩ : Fin 4)) (fun a ha => by fin_cases a <;> first | rfl | exact absurd rfl ha)
      (by show 8 + (h.val - 8) = h.val; omega)).trans ?_
    rw [beta_apply, gcols_apply x w 8 _ (by omega)]
    rw [show (⟨8 + (⟨h.val - 8, by omega⟩ : Fin 4).val, by show 8 + (h.val - 8) < 16; omega⟩ : Fin 16) = h from Fin.ext (show 8 + (h.val - 8) = h.val by omega)]
  · refine (concatenate_apply_piece 2 _ _ (ix3 b s h) 3 (by exact (show 3 < 4 by decide)) S8x4096x4 _ rfl rfl 12 rfl
      (ix3 b s (⟨h.val - 12, by omega⟩ : Fin 4)) (fun a ha => by fin_cases a <;> first | rfl | exact absurd rfl ha)
      (by show 12 + (h.val - 12) = h.val; omega)).trans ?_
    rw [beta_apply, gcols_apply x w 12 _ (by omega)]
    rw [show (⟨12 + (⟨h.val - 12, by omega⟩ : Fin 4).val, by show 12 + (h.val - 12) < 16; omega⟩ : Fin 16) = h from Fin.ext (show 12 + (h.val - 12) = h.val by omega)]

end Cert.Reference2Ideal.Proj

end
-- ==== Proof.Proj.Final.lean ====
/- The projection kernel's arrays after the run are the reference's results. -/
module

public import proofs.«01_k».proof.Proof.Proj.Blocks
public import proofs.«01_k».proof.Proof.Proj.RefB
public import proofs.«01_k».proof.Proof.Proj.RefC
public import proofs.«01_k».proof.Proof.Gen.Kernel2Ideal.Value
public import proofs.«01_k».proof.Proof.Gen.Pre_finite
public import proofs.«01_k».proof.Proof.Decode
public import proofs.«01_k».proof.Proof.Ideal.Value

@[expose] public section

set_option maxRecDepth 16384

noncomputable section

namespace Cert.Kernel2Ideal.Proj

open Cert.Kernel2Ideal Cert.Kernel2Ideal.Gen Cert.Kernel2Ideal.Value
open Idealize.ShloMosaic Idealize.ShloMosaic.TcCoe
open Idealize.SL Idealize.SL.Sem
open Idealize.ShloMosaic.Pipeline (Dat Cfg Window)
open Idealize.ShloMosaic.ValueIdx (ix0 ix1 ix2 ix3 ix4)
open Cert.Proj
open Cert.Reference2Ideal.Proj (qkvR zuvR gatesR qkvR_apply zuvR_apply gatesR_apply)

/-- What the precondition says: the layer's input, the projection's first columns and the taps are finite. -/
structure Finite (x : FVec Ideal Xs .f32) (w : FVec Ideal Ws .f32) (cw : FVec Ideal Cs .f32) : Prop where
  input : ∀ i, Cert.Reals.IsReal (x i)
  weight : ∀ (k : Fin 1024) (c : Fin 1536), Cert.Reals.IsReal (w (ix3 (0 : Fin 4) k (col c)))
  taps : ∀ (j : Fin 5) (c : Fin 1536), Cert.Reals.IsReal (cw (ix3 (0 : Fin 4) j c))

theorem front_apply {α : Type} {A B C : ℕ} (v : (⟨3, ![4, A, C]⟩ : Shape).Idx → α) (h : Shape.Slices ⟨3, ![4, A, C]⟩ ![0, 0, 0] ⟨3, ![1, A, B]⟩) (k : Fin A) (c : Fin B) (d : Fin C) (hd : d.val = c.val) :
    extractStridedSlice ⟨3, ![1, A, B]⟩ ![0, 0, 0] v h (ix3 (0 : Fin 1) k c) = v (ix3 (0 : Fin 4) k d) := by
  refine congrArg v (funext fun q => Fin.ext ?_)
  fin_cases q
  · rfl
  · exact Nat.zero_add _
  · exact (Nat.zero_add _).trans hd.symm

theorem finite_of (x : FVec Ideal Xs .f32) (w : FVec Ideal Ws .f32) (cw : FVec Ideal Cs .f32) (a3 a4 a5 a6 : FVec Ideal Gs .f32)
    (h : Cert.Pre_finite.fn (F := Ideal) x w cw a3 a4 a5 a6 = fun _ => 1#1) : Finite x w cw := by
  haveI : Subsingleton Cert.Pre_finite.S_.Idx := inferInstanceAs (Subsingleton ((a : Fin 0) → _))
  have e := congrFun h ix0
  dsimp only [Cert.Pre_finite.fn] at e
  obtain ⟨e, hc⟩ := Cert.Routed.both.mp e
  obtain ⟨hx, hw⟩ := Cert.Routed.both.mp e
  refine ⟨fun i => ?_, fun k c => ?_, fun j c => ?_⟩
  · exact Cert.KernelIdeal.Experts.real_of_bit (Host.reduce_andi_all _ _ _ _ _ hx i)
  · have r := Cert.KernelIdeal.Experts.real_at _ _ (Host.reduce_andi_all _ _ _ _ _ hw (ix2 k c))
    rw [ValueIdx.shapeCast_1ab_ab_apply] at r
    exact Eq.mp (congrArg Cert.Reals.IsReal (front_apply w _ k c (col c) rfl)) r
  · have r := Cert.KernelIdeal.Experts.real_at _ _ (Host.reduce_andi_all _ _ _ _ _ hc (ix2 j c))
    rw [ValueIdx.shapeCast_1ab_ab_apply] at r
    exact Eq.mp (congrArg Cert.Reals.IsReal (front_apply cw _ j c c rfl)) r

variable (m : (ℓ : Loc nD τ sig) → Buf (Elt Ideal) ℓ) (c : Dev nD)

/-- A row of a point's block among the rows of the results. -/
abbrev outRow (t : Fin cfg0.N) (r : Fin 1024) : Fin 32768 := ⟨(batch t).val * 4096 + (rowOf (place t) r).val, by omega⟩

theorem outRow_val (t : Fin cfg0.N) (r : Fin 1024) : (outRow t r).val = t.val * 1024 + r.val := by
  show t.val / 4 * 4096 + (t.val % 4 * 1024 + r.val) = t.val * 1024 + r.val
  omega

/-- q, k and v of a row. -/
theorem tile8 (hf : Finite (ax m c) (aw m c) (acw m c)) (t : Fin cfg0.N) (r : Fin 1024) (q : Fin 1536) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (ix2 r q) = qkvR (ax m c) (aw m c) (acw m c) (ix2 (outRow t r) q) := by
  refine (out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) r q).trans (Eq.trans ?_ (qkvR_apply (ax m c) (aw m c) (acw m c) (batch t) (rowOf (place t) r) q).symm)
  unfold qkv
  refine congrArg (fun f => normed f q) (funext fun d => ?_)
  refine kact_eq (ax m c) (aw m c) (acw m c) (batch t) (place t) (iblk m c 0 t) (iblk m c 1 t) (iblk m c 2 t) hf.input hf.weight hf.taps _ ?_
    (iblk0 m c t) (iblk1 m c t) (iblk2 m c t) (iblk m c 3 t) (fun k d => (iblk3 m c t k d).trans (hqkv_apply _ k d))
    (iblk m c 6 t) (fun j d => (iblk6 m c t _ d).trans (htaps_apply _ j d)) r d
  show (grid0.coords t 0).val % 4 = t.val % 4
  rw [coord_eq]

/-- z, u and v of a row. -/
theorem tile9 (t : Fin cfg0.N) (r : Fin 1024) (q : Fin 1536) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (ix2 r q) = zuvR (ax m c) (aw m c) (ix2 (outRow t r) q) := by
  refine (out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) r q).trans (Eq.trans ?_ (zuvR_apply (ax m c) (aw m c) (batch t) (rowOf (place t) r) q).symm)
  unfold zuv prj
  exact Finset.sum_congr rfl fun k _ => congrArg₂ (· * ·) (iblk0 m c t r k) ((iblk4 m c t k q).trans (hzuv_apply _ k q))

/-- A column of the gates in a block. -/
def gcol (x0 : Vec Ideal S1024x1024 .f32) (x5 : Vec Ideal S1024x128 .bf16) (r : Fin 1024) (h : Fin 128) : EReal := ∑ k : Fin 1024, x0 (ix2 r k) * x5 (ix2 k h)

/-- The gates of a row. -/
theorem tile10 (t : Fin cfg0.N) (r : Fin 1024) (h : Fin 16) :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (ix2 r h) = gatesR (ax m c) (aw m c) (aaf m c) (adf m c) (aab m c) (adb m c) (ix2 (outRow t r) h) := by
  refine (out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) r h).trans (Eq.trans ?_ (gatesR_apply (ax m c) (aw m c) (aaf m c) (adf m c) (aab m c) (adb m c) (batch t) (rowOf (place t) r) h).symm)
  refine kgates_eq (ax m c) (aw m c) (batch t) (place t) (aaf m c) (adf m c) (aab m c) (adb m c) _ _ (iblk m c 7 t)
    (gcol (iblk m c 0 t) (iblk m c 5 t)) (fun r h => ?_) (fun r h => ?_) (fun r h => ?_) (iblk7 m c t) r h
  · unfold gcol glo prj
    exact Finset.sum_congr rfl fun k _ => congrArg₂ (· * ·) (iblk0 m c t r k) ((iblk5 m c t k _).trans (hgate_apply _ k h))
  · exact decay_at c (grid0.coords t) (ms0_0 t) (hs0_0 t) (ms0_1 t) (hs0_1 t) (ms0_2 t) (hs0_2 t) (ms0_5 t) (hs0_5 t) (ms0_7 t) (hs0_7 t) scM0_0 (iblk m c 0 t) (iblk m c 1 t) (iblk m c 2 t) (iblk m c 5 t) (iblk m c 7 t) r h
  · exact beta_at c (grid0.coords t) (ms0_0 t) (hs0_0 t) (ms0_1 t) (hs0_1 t) (ms0_2 t) (hs0_2 t) (ms0_5 t) (hs0_5 t) scM0_0 (iblk m c 0 t) (iblk m c 1 t) (iblk m c 2 t) (iblk m c 5 t) r h

/-- A block lies at its rows of the array, -/
theorem emb8 (t : Fin cfg0.N) (y : (⟨2, ![1024, 1536]⟩ : Shape).Idx) (a : Fin 2) :
    (((cfg0.win 8).rect t).emb y a : Nat) = (![t.val * 1024 + (y 0).val, (y 1).val] : Fin 2 → Nat) a := by
  refine (Window.rect_emb_val (cfg0.win 8) t y a (by rfl)).trans ?_
  rw [index8]
  fin_cases a
  · rfl
  · show 0 * 1536 + (y 1).val = (y 1).val
    omega

/-- every entry of the array lies in a block, -/
theorem in_block8 (i : (⟨2, ![32768, 1536]⟩ : Shape).Idx) : ∃ t : Fin cfg0.N, (cfg0.win 8).flush t = true ∧ i ∈ ((cfg0.win 8).blk t).view.set := by
  have h0 : (i 0).val < 32768 := (i 0).isLt
  have h1 : (i 1).val < 1536 := (i 1).isLt
  obtain ⟨t, ht⟩ : ∃ t : Fin cfg0.N, t.val = (i 0).val / 1024 :=
    ⟨⟨(i 0).val / 1024, lt_of_lt_of_eq (show (i 0).val / 1024 < 32 by omega) (show cfg0.N = 32 from N_0).symm⟩, rfl⟩
  refine ⟨t, flush0_8 t, ?_⟩
  have e : ((cfg0.win 8).blk t).view.emb (ix2 ⟨(i 0).val % 1024, by omega⟩ ⟨(i 1).val, h1⟩ : (⟨2, ![1024, 1536]⟩ : Shape).Idx) = i := by
    funext a
    refine Fin.ext ((emb8 t _ a).trans ?_)
    match a with
    | ⟨0, _⟩ =>
      show t.val * 1024 + (i 0).val % 1024 = (i 0).val
      omega
    | ⟨1, _⟩ => rfl
  have h := ((cfg0.win 8).blk t).view.emb_mem_set (ix2 ⟨(i 0).val % 1024, by omega⟩ ⟨(i 1).val, h1⟩ : (⟨2, ![1024, 1536]⟩ : Shape).Idx)
  rw [e] at h
  exact h

/-- and the array after the run holds q, k and v. -/
theorem final8 (hf : Finite (ax m c) (aw m c) (acw m c)) : (dats m 0 c).arrAt 8 cfg0.N = qkvR (ax m c) (aw m c) (acw m c) := by
  refine (dats m 0 c).arrAt_eq_of_cover 8 (qkvR (ax m c) (aw m c) (acw m c)) (fun t _ => ?_) in_block8
  rw [flushed8_A]
  funext y
  refine Eq.trans (b := qkvR (ax m c) (aw m c) (acw m c) (ix2 (outRow t (⟨(y 0).val, (y 0).isLt⟩ : Fin 1024)) (⟨(y 1).val, (y 1).isLt⟩ : Fin 1536))) ?_ (congrArg (qkvR (ax m c) (aw m c) (acw m c)) (funext fun a => Fin.ext ?_))
  · refine Eq.trans (congrArg (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t)) (a₂ := ix2 (⟨(y 0).val, (y 0).isLt⟩ : Fin 1024) (⟨(y 1).val, (y 1).isLt⟩ : Fin 1536)) ?_) (tile8 m c hf t _ _)
    funext a
    fin_cases a <;> rfl
  · refine Eq.trans ?_ (emb8 t y a).symm
    fin_cases a
    · exact outRow_val t _
    · rfl

/-- A block lies at its rows of the array, -/
theorem emb9 (t : Fin cfg0.N) (y : (⟨2, ![1024, 1536]⟩ : Shape).Idx) (a : Fin 2) :
    (((cfg0.win 9).rect t).emb y a : Nat) = (![t.val * 1024 + (y 0).val, (y 1).val] : Fin 2 → Nat) a := by
  refine (Window.rect_emb_val (cfg0.win 9) t y a (by rfl)).trans ?_
  rw [index9]
  fin_cases a
  · rfl
  · show 0 * 1536 + (y 1).val = (y 1).val
    omega

/-- every entry of the array lies in a block, -/
theorem in_block9 (i : (⟨2, ![32768, 1536]⟩ : Shape).Idx) : ∃ t : Fin cfg0.N, (cfg0.win 9).flush t = true ∧ i ∈ ((cfg0.win 9).blk t).view.set := by
  have h0 : (i 0).val < 32768 := (i 0).isLt
  have h1 : (i 1).val < 1536 := (i 1).isLt
  obtain ⟨t, ht⟩ : ∃ t : Fin cfg0.N, t.val = (i 0).val / 1024 :=
    ⟨⟨(i 0).val / 1024, lt_of_lt_of_eq (show (i 0).val / 1024 < 32 by omega) (show cfg0.N = 32 from N_0).symm⟩, rfl⟩
  refine ⟨t, flush0_9 t, ?_⟩
  have e : ((cfg0.win 9).blk t).view.emb (ix2 ⟨(i 0).val % 1024, by omega⟩ ⟨(i 1).val, h1⟩ : (⟨2, ![1024, 1536]⟩ : Shape).Idx) = i := by
    funext a
    refine Fin.ext ((emb9 t _ a).trans ?_)
    match a with
    | ⟨0, _⟩ =>
      show t.val * 1024 + (i 0).val % 1024 = (i 0).val
      omega
    | ⟨1, _⟩ => rfl
  have h := ((cfg0.win 9).blk t).view.emb_mem_set (ix2 ⟨(i 0).val % 1024, by omega⟩ ⟨(i 1).val, h1⟩ : (⟨2, ![1024, 1536]⟩ : Shape).Idx)
  rw [e] at h
  exact h

/-- and the array after the run holds z, u and v. -/
theorem final9 : (dats m 0 c).arrAt 9 cfg0.N = zuvR (ax m c) (aw m c) := by
  refine (dats m 0 c).arrAt_eq_of_cover 9 (zuvR (ax m c) (aw m c)) (fun t _ => ?_) in_block9
  rw [flushed9_A]
  funext y
  refine Eq.trans (b := zuvR (ax m c) (aw m c) (ix2 (outRow t (⟨(y 0).val, (y 0).isLt⟩ : Fin 1024)) (⟨(y 1).val, (y 1).isLt⟩ : Fin 1536))) ?_ (congrArg (zuvR (ax m c) (aw m c)) (funext fun a => Fin.ext ?_))
  · refine Eq.trans (congrArg (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t)) (a₂ := ix2 (⟨(y 0).val, (y 0).isLt⟩ : Fin 1024) (⟨(y 1).val, (y 1).isLt⟩ : Fin 1536)) ?_) (tile9 m c t _ _)
    funext a
    fin_cases a <;> rfl
  · refine Eq.trans ?_ (emb9 t y a).symm
    fin_cases a
    · exact outRow_val t _
    · rfl

/-- A block lies at its rows of the array, -/
theorem emb10 (t : Fin cfg0.N) (y : (⟨2, ![1024, 16]⟩ : Shape).Idx) (a : Fin 2) :
    (((cfg0.win 10).rect t).emb y a : Nat) = (![t.val * 1024 + (y 0).val, (y 1).val] : Fin 2 → Nat) a := by
  refine (Window.rect_emb_val (cfg0.win 10) t y a (by rfl)).trans ?_
  rw [index10]
  fin_cases a
  · rfl
  · show 0 * 16 + (y 1).val = (y 1).val
    omega

/-- every entry of the array lies in a block, -/
theorem in_block10 (i : (⟨2, ![32768, 16]⟩ : Shape).Idx) : ∃ t : Fin cfg0.N, (cfg0.win 10).flush t = true ∧ i ∈ ((cfg0.win 10).blk t).view.set := by
  have h0 : (i 0).val < 32768 := (i 0).isLt
  have h1 : (i 1).val < 16 := (i 1).isLt
  obtain ⟨t, ht⟩ : ∃ t : Fin cfg0.N, t.val = (i 0).val / 1024 :=
    ⟨⟨(i 0).val / 1024, lt_of_lt_of_eq (show (i 0).val / 1024 < 32 by omega) (show cfg0.N = 32 from N_0).symm⟩, rfl⟩
  refine ⟨t, flush0_10 t, ?_⟩
  have e : ((cfg0.win 10).blk t).view.emb (ix2 ⟨(i 0).val % 1024, by omega⟩ ⟨(i 1).val, h1⟩ : (⟨2, ![1024, 16]⟩ : Shape).Idx) = i := by
    funext a
    refine Fin.ext ((emb10 t _ a).trans ?_)
    match a with
    | ⟨0, _⟩ =>
      show t.val * 1024 + (i 0).val % 1024 = (i 0).val
      omega
    | ⟨1, _⟩ => rfl
  have h := ((cfg0.win 10).blk t).view.emb_mem_set (ix2 ⟨(i 0).val % 1024, by omega⟩ ⟨(i 1).val, h1⟩ : (⟨2, ![1024, 16]⟩ : Shape).Idx)
  rw [e] at h
  exact h

/-- and the array after the run holds the gates. -/
theorem final10 : (dats m 0 c).arrAt 10 cfg0.N = gatesR (ax m c) (aw m c) (aaf m c) (adf m c) (aab m c) (adb m c) := by
  refine (dats m 0 c).arrAt_eq_of_cover 10 (gatesR (ax m c) (aw m c) (aaf m c) (adf m c) (aab m c) (adb m c)) (fun t _ => ?_) in_block10
  rw [flushed10_A]
  funext y
  refine Eq.trans (b := gatesR (ax m c) (aw m c) (aaf m c) (adf m c) (aab m c) (adb m c) (ix2 (outRow t (⟨(y 0).val, (y 0).isLt⟩ : Fin 1024)) (⟨(y 1).val, (y 1).isLt⟩ : Fin 16))) ?_ (congrArg (gatesR (ax m c) (aw m c) (aaf m c) (adf m c) (aab m c) (adb m c)) (funext fun a => Fin.ext ?_))
  · refine Eq.trans (congrArg (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t)) (a₂ := ix2 (⟨(y 0).val, (y 0).isLt⟩ : Fin 1024) (⟨(y 1).val, (y 1).isLt⟩ : Fin 16)) ?_) (tile10 m c t _ _)
    funext a
    fin_cases a <;> rfl
  · refine Eq.trans ?_ (emb10 t y a).symm
    fin_cases a
    · exact outRow_val t _
    · rfl

end Cert.Kernel2Ideal.Proj

end
-- ==== Proof.Mix.Ideal.Points.lean ====
/-
  The mixing call: its points.
-/
module

public import proofs.«01_k».proof.Proof.Gen.Kernel3Ideal
public import Idealize.ShloMosaic.Lib.Pipeline.Kit

@[expose] public section

noncomputable section

namespace Cert.Kernel3Ideal.Mix

open Cert.Kernel3Ideal.Gen

open Idealize.ShloMosaic Idealize.ShloMosaic.TcCoe
open Idealize.SL Idealize.SL.Sem

variable {F : FTy → Type} [FloatOps F]

theorem fetch0_0 : ∀ t : Fin cfg0.N, (cfg0.win 0).fetch t = true :=
  (fun t => (Pipeline.Window.fetch_reads win0_0 rfl 0 (by decide) (by decide) (Pipeline.Window.sep_of_coord cc0_transform_0 0 0 (fun _ => rfl) (by decide)) (P := 1) (by decide) t).mpr (Nat.mod_one _) : ∀ t : Fin grid0.N, win0_0.fetch t = true)
theorem fetch0_1 : ∀ t : Fin cfg0.N, (cfg0.win 1).fetch t = true :=
  (fun t => (Pipeline.Window.fetch_reads win0_1 rfl 0 (by decide) (by decide) (Pipeline.Window.sep_of_coord cc0_transform_1 0 0 (fun _ => rfl) (by decide)) (P := 1) (by decide) t).mpr (Nat.mod_one _) : ∀ t : Fin grid0.N, win0_1.fetch t = true)
theorem fetch0_2 : ∀ t : Fin cfg0.N, (cfg0.win 2).fetch t = true :=
  (fun t => (Pipeline.Window.fetch_reads win0_2 rfl 0 (by decide) (by decide) (Pipeline.Window.sep_of_coord cc0_transform_2 0 0 (fun _ => rfl) (by decide)) (P := 1) (by decide) t).mpr (Nat.mod_one _) : ∀ t : Fin grid0.N, win0_2.fetch t = true)
theorem fetch0_3 : ∀ t : Fin cfg0.N, (cfg0.win 3).fetch t = true :=
  (fun t => (Pipeline.Window.fetch_reads win0_3 rfl 0 (by decide) (by decide) (Pipeline.Window.sep_of_coord cc0_transform_3 0 0 (fun _ => rfl) (by decide)) (P := 1) (by decide) t).mpr (Nat.mod_one _) : ∀ t : Fin grid0.N, win0_3.fetch t = true)
theorem fetch0_4 : ∀ t : Fin cfg0.N, (cfg0.win 4).fetch t = true :=
  (fun t => (Pipeline.Window.fetch_reads win0_4 rfl 0 (by decide) (by decide) (Pipeline.Window.sep_of_coord cc0_transform_4 0 0 (fun _ => rfl) (by decide)) (P := 1) (by decide) t).mpr (Nat.mod_one _) : ∀ t : Fin grid0.N, win0_4.fetch t = true)
theorem fetch0_5 : ∀ t : Fin cfg0.N, (cfg0.win 5).fetch t = true :=
  (fun t => (Pipeline.Window.fetch_reads win0_5 rfl 0 (by decide) (by decide) (Pipeline.Window.sep_of_coord cc0_transform_5 0 0 (fun _ => rfl) (by decide)) (P := 1) (by decide) t).mpr (Nat.mod_one _) : ∀ t : Fin grid0.N, win0_5.fetch t = true)
theorem fetch0_6 : ∀ t : Fin cfg0.N, (cfg0.win 6).fetch t = true ↔ t.val % 32 = 0 :=
  (fun t => Pipeline.Window.fetch_const win0_6 rfl (fun _ _ => rfl) (n := 32) (by decide) t : ∀ t : Fin grid0.N, win0_6.fetch t = true ↔ t.val % 32 = 0)
theorem fetch0_7 : ∀ t : Fin cfg0.N, (cfg0.win 7).fetch t = true ↔ t.val % 32 = 0 :=
  (fun t => Pipeline.Window.fetch_const win0_7 rfl (fun _ _ => rfl) (n := 32) (by decide) t : ∀ t : Fin grid0.N, win0_7.fetch t = true ↔ t.val % 32 = 0)
theorem fetch0_8 : ∀ t : Fin cfg0.N, (cfg0.win 8).fetch t = true ↔ t.val % 32 = 0 :=
  (fun t => Pipeline.Window.fetch_const win0_8 rfl (fun _ _ => rfl) (n := 32) (by decide) t : ∀ t : Fin grid0.N, win0_8.fetch t = true ↔ t.val % 32 = 0)
theorem fetch0_9 : ∀ t : Fin cfg0.N, (cfg0.win 9).fetch t = true ↔ t.val % 32 = 0 :=
  (fun t => Pipeline.Window.fetch_const win0_9 rfl (fun _ _ => rfl) (n := 32) (by decide) t : ∀ t : Fin grid0.N, win0_9.fetch t = true ↔ t.val % 32 = 0)
theorem fetch0_10 : ∀ t : Fin cfg0.N, (cfg0.win 10).fetch t = true ↔ t.val % 32 = 0 :=
  (fun t => Pipeline.Window.fetch_const win0_10 rfl (fun _ _ => rfl) (n := 32) (by decide) t : ∀ t : Fin grid0.N, win0_10.fetch t = true ↔ t.val % 32 = 0)
theorem fetch0_11 : ∀ t : Fin cfg0.N, (cfg0.win 11).fetch t = true ↔ t.val % 32 = 0 :=
  (fun t => Pipeline.Window.fetch_const win0_11 rfl (fun _ _ => rfl) (n := 32) (by decide) t : ∀ t : Fin grid0.N, win0_11.fetch t = true ↔ t.val % 32 = 0)
theorem fetch0_12 : ∀ t : Fin cfg0.N, (cfg0.win 12).fetch t = true ↔ t.val % 32 = 0 :=
  (fun t => Pipeline.Window.fetch_const win0_12 rfl (fun _ _ => rfl) (n := 32) (by decide) t : ∀ t : Fin grid0.N, win0_12.fetch t = true ↔ t.val % 32 = 0)
theorem fetch0_13 : ∀ t : Fin cfg0.N, (cfg0.win 13).fetch t = true ↔ t.val % 32 = 0 :=
  (fun t => Pipeline.Window.fetch_const win0_13 rfl (fun _ _ => rfl) (n := 32) (by decide) t : ∀ t : Fin grid0.N, win0_13.fetch t = true ↔ t.val % 32 = 0)
theorem fetch0_14 : ∀ t : Fin cfg0.N, (cfg0.win 14).fetch t = true ↔ t.val % 32 = 0 :=
  (fun t => Pipeline.Window.fetch_const win0_14 rfl (fun _ _ => rfl) (n := 32) (by decide) t : ∀ t : Fin grid0.N, win0_14.fetch t = true ↔ t.val % 32 = 0)
theorem fetch0_15 : ∀ t : Fin cfg0.N, (cfg0.win 15).fetch t = true ↔ t.val % 32 = 0 :=
  (fun t => Pipeline.Window.fetch_const win0_15 rfl (fun _ _ => rfl) (n := 32) (by decide) t : ∀ t : Fin grid0.N, win0_15.fetch t = true ↔ t.val % 32 = 0)
theorem flush0_16 : ∀ t : Fin cfg0.N, (cfg0.win 16).flush t = true :=
  (fun t => (Pipeline.Window.flush_reads win0_16 rfl 0 (by decide) (by decide) (Pipeline.Window.sep_of_coord cc0_transform_16 0 0 (fun _ => rfl) (by decide)) (P := 1) (m := 0) (by decide) rfl t).mpr (Nat.mod_one _) : ∀ t : Fin grid0.N, win0_16.flush t = true)
theorem flush0_17 : ∀ t : Fin cfg0.N, (cfg0.win 17).flush t = true :=
  (fun t => (Pipeline.Window.flush_reads win0_17 rfl 0 (by decide) (by decide) (Pipeline.Window.sep_of_coord cc0_transform_17 0 1 (fun _ => rfl) (by decide)) (P := 1) (m := 0) (by decide) rfl t).mpr (Nat.mod_one _) : ∀ t : Fin grid0.N, win0_17.flush t = true)
theorem flush0_18 : ∀ t : Fin cfg0.N, (cfg0.win 18).flush t = true ↔ t.val % 32 = 31 :=
  (fun t => Pipeline.Window.flush_const win0_18 rfl (fun _ _ => rfl) (n := 32) (by decide) rfl t : ∀ t : Fin grid0.N, win0_18.flush t = true ↔ t.val % 32 = 31)

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)
abbrev st0_5 (t : Fin cfg0.N) := (cfg0.win 5).stage (cfg0.slots t 5)
abbrev st0_6 (t : Fin cfg0.N) := (cfg0.win 6).stage (cfg0.slots t 6)
abbrev st0_7 (t : Fin cfg0.N) := (cfg0.win 7).stage (cfg0.slots t 7)
abbrev st0_8 (t : Fin cfg0.N) := (cfg0.win 8).stage (cfg0.slots t 8)
abbrev st0_9 (t : Fin cfg0.N) := (cfg0.win 9).stage (cfg0.slots t 9)
abbrev st0_10 (t : Fin cfg0.N) := (cfg0.win 10).stage (cfg0.slots t 10)
abbrev st0_11 (t : Fin cfg0.N) := (cfg0.win 11).stage (cfg0.slots t 11)
abbrev st0_12 (t : Fin cfg0.N) := (cfg0.win 12).stage (cfg0.slots t 12)
abbrev st0_13 (t : Fin cfg0.N) := (cfg0.win 13).stage (cfg0.slots t 13)
abbrev st0_14 (t : Fin cfg0.N) := (cfg0.win 14).stage (cfg0.slots t 14)
abbrev st0_15 (t : Fin cfg0.N) := (cfg0.win 15).stage (cfg0.slots t 15)
abbrev st0_16 (t : Fin cfg0.N) := (cfg0.win 16).stage (cfg0.slots t 16)
abbrev st0_17 (t : Fin cfg0.N) := (cfg0.win 17).stage (cfg0.slots t 17)
abbrev st0_18 (t : Fin cfg0.N) := (cfg0.win 18).stage (cfg0.slots t 18)

abbrev bodyAt0 (t : Fin cfg0.N) : Prog (TpuEff nD τ sig (Elt F) Λ₀ .tc) PUnit :=
  cc0_mix (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18))

end Cert.Kernel3Ideal.Mix

end
-- ==== Proof.Mix.Ideal.Runs.lean ====
/-
  The mixing call: its launch up to the region.
-/
module

public import proofs.«01_k».proof.Proof.Gen.Kernel3Ideal.Launch
public import proofs.«01_k».proof.Proof.Gen.Kernel3Ideal.Skeleton
public import proofs.«01_k».proof.Proof.Mix.Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Mix

open Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the host operations before the call write. -/
def hostRefs : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27]

theorem V_kept (c : Dev nD) (b : Ref sig .tc) (h : ∀ r ∈ hostRefs, b ≠ r) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))

theorem V_main_arg0 (c : Dev nD) : V m c main_arg0 = m ((c : Thread nD τ).loc main_arg0) := V_kept m c _ (by decide)
theorem V_main_arg1 (c : Dev nD) : V m c main_arg1 = m ((c : Thread nD τ).loc main_arg1) := V_kept m c _ (by decide)
theorem V_main_arg2 (c : Dev nD) : V m c main_arg2 = m ((c : Thread nD τ).loc main_arg2) := V_kept m c _ (by decide)
theorem V_main_arg3 (c : Dev nD) : V m c main_arg3 = m ((c : Thread nD τ).loc main_arg3) := V_kept m c _ (by decide)
theorem V_main_arg4 (c : Dev nD) : V m c main_arg4 = m ((c : Thread nD τ).loc main_arg4) := V_kept m c _ (by decide)
theorem V_main_arg5 (c : Dev nD) : V m c main_arg5 = m ((c : Thread nD τ).loc main_arg5) := V_kept m c _ (by decide)
theorem V_main_arg6 (c : Dev nD) : V m c main_arg6 = m ((c : Thread nD τ).loc main_arg6) := V_kept m c _ (by decide)
theorem V_main_arg7 (c : Dev nD) : V m c main_arg7 = m ((c : Thread nD τ).loc main_arg7) := V_kept m c _ (by decide)
theorem V_main_arg8 (c : Dev nD) : V m c main_arg8 = m ((c : Thread nD τ).loc main_arg8) := V_kept m c _ (by decide)
theorem V_main_arg9 (c : Dev nD) : V m c main_arg9 = m ((c : Thread nD τ).loc main_arg9) := V_kept m c _ (by decide)
theorem V_main_arg10 (c : Dev nD) : V m c main_arg10 = m ((c : Thread nD τ).loc main_arg10) := V_kept m c _ (by decide)
theorem V_main_arg11 (c : Dev nD) : V m c main_arg11 = m ((c : Thread nD τ).loc main_arg11) := V_kept m c _ (by decide)
theorem V_main_arg12 (c : Dev nD) : V m c main_arg12 = m ((c : Thread nD τ).loc main_arg12) := V_kept m c _ (by decide)
theorem V_main_arg13 (c : Dev nD) : V m c main_arg13 = m ((c : Thread nD τ).loc main_arg13) := V_kept m c _ (by decide)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1140000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 4).trans (((dats 0 c).arrAt_in 4 rfl _).trans ((hA c 4).trans (V_main_arg2 m c))),
      ((h c).1 5).trans (((dats 0 c).arrAt_in 5 rfl _).trans ((hA c 5).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

abbrev VO0_16 : View sig .tc .vmem S8192x128 .f32 := (Memref.whole cc0_stg16_0 : Memref sig .tc .vmem S8192x128 .f32).view
abbrev VO0_17 : View sig .tc .vmem S8x1024 .f32 := (Memref.whole cc0_stg17_0 : Memref sig .tc .vmem S8x1024 .f32).view
abbrev VO0_18 : View sig .tc .vmem S16x128 .f32 := (Memref.whole cc0_stg18_0 : Memref sig .tc .vmem S16x128 .f32).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x128x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S16x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S16x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S8192x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S8x1024 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S16x128 .f32 := win0_18.stage (cfg0.slots t 18)
abbrev hs0_18 (t : Fin cfg0.N) : (ms0_18 t).IsWhole := hstage0_18 ((cfg0.slots t 18).cast nbuf0_18)

end Cert.Kernel3Ideal.Mix

end
-- ==== Proof.Mix.Ideal.RunA.lean ====
/-
  The mixing call: its body at the first point.
-/
module

public import proofs.«01_k».proof.Proof.Mix.Ideal.Runs

@[expose] public section

set_option maxRecDepth 16384

noncomputable section

namespace Cert.Kernel3Ideal.Mix

open Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S4x128x128 .bf16) (harg10 : arg10.IsWhole) (arg11 : Memref sig .tc .vmem S4x128x128 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S16x1024 .f32) (harg15 : arg15.IsWhole) (arg16 : Memref sig .tc .vmem S16x128 .f32) (harg16 : arg16.IsWhole) (arg17 : Memref sig .tc .vmem S8192x128 .f32) (harg17 : arg17.IsWhole) (arg18 : Memref sig .tc .vmem S8x1024 .f32) (harg18 : arg18.IsWhole) (arg19 : Memref sig .tc .vmem S16x128 .f32) (harg19 : arg19.IsWhole) (hc0 : cond0_0 i)
    (x0 : Vec F S1024x512 .f32) (x1 : Vec F S1024x512 .f32) (x2 : Vec F S1024x512 .bf16) (x3 : Vec F S1024x512 .bf16) (x4 : Vec F S1024x512 .bf16) (x5 : Vec F S1024x1024 .f32) (x6 : Vec F S1x128 .f32) (x7 : Vec F S1x512 .f32) (x8 : Vec F S1x512 .f32) (x9 : Vec F S4x128x128 .bf16) (x10 : Vec F S4x128x128 .f32) (x11 : Vec F S1024x1024 .bf16) (x12 : Vec F S1x1024 .f32) (x13 : Vec F S1x1024 .f32) (x14 : Vec F S16x1024 .f32) (x15 : Vec F S16x128 .f32) :
    Σ' (L16 : List (View.Piece (Elt F) S8192x128 .f32)), Σ' (L17 : List (View.Piece (Elt F) S8x1024 .f32)), { L18 : List (View.Piece (Elt F) S16x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18)) -∗ K ⟨⟩))
          ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    simp only [cc0_mix_eq_skeleton]; unfold cc0_mix_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    iexists _; iexact H18

end Cert.Kernel3Ideal.Mix

end
-- ==== Proof.Mix.Ideal.RunB.lean ====
/-
  The mixing call: its body at a later point.
-/
module

public import proofs.«01_k».proof.Proof.Mix.Ideal.RunA

@[expose] public section

set_option maxRecDepth 16384

noncomputable section

namespace Cert.Kernel3Ideal.Mix

open Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S4x128x128 .bf16) (harg10 : arg10.IsWhole) (arg11 : Memref sig .tc .vmem S4x128x128 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S16x1024 .f32) (harg15 : arg15.IsWhole) (arg16 : Memref sig .tc .vmem S16x128 .f32) (harg16 : arg16.IsWhole) (arg17 : Memref sig .tc .vmem S8192x128 .f32) (harg17 : arg17.IsWhole) (arg18 : Memref sig .tc .vmem S8x1024 .f32) (harg18 : arg18.IsWhole) (arg19 : Memref sig .tc .vmem S16x128 .f32) (harg19 : arg19.IsWhole) (hc0 : ¬cond0_0 i)
    (x0 : Vec F S1024x512 .f32) (x1 : Vec F S1024x512 .f32) (x2 : Vec F S1024x512 .bf16) (x3 : Vec F S1024x512 .bf16) (x4 : Vec F S1024x512 .bf16) (x5 : Vec F S1024x1024 .f32) (x6 : Vec F S1x128 .f32) (x7 : Vec F S1x512 .f32) (x8 : Vec F S1x512 .f32) (x9 : Vec F S4x128x128 .bf16) (x10 : Vec F S4x128x128 .f32) (x11 : Vec F S1024x1024 .bf16) (x12 : Vec F S1x1024 .f32) (x13 : Vec F S1x1024 .f32) (x14 : Vec F S16x1024 .f32) (x15 : Vec F S16x128 .f32) (xo18 : Vec F S16x128 .f32) :
    Σ' (L16 : List (View.Piece (Elt F) S8192x128 .f32)), Σ' (L17 : List (View.Piece (Elt F) S8x1024 .f32)), { L18 : List (View.Piece (Elt F) S16x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ owns (c : Thread nD τ) arg19 fullShare xo18
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18)) -∗ K ⟨⟩))
          ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    simp only [cc0_mix_eq_skeleton]; unfold cc0_mix_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%f18, %hf18, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg19.eq_unread hf18
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    iexists _; iexact H18

end Cert.Kernel3Ideal.Mix

end
-- ==== Proof.Mix.Ideal.Rows.lean ====
/-
  The mixing call: its eight stores of a tile of activations, one for each group of 128 columns.
-/
module

public import proofs.«01_k».proof.Proof.Mix.Ideal.RunB
public import Idealize.ShloMosaic.Lib.ValueIdxCore
public import Idealize.ShloMosaic.Lib.Pipeline.Value
import Mathlib.Tactic.IntervalCases

@[expose] public section

noncomputable section

namespace Cert.Kernel3Ideal.Mix

open Cert.Kernel3Ideal.Gen
open Idealize.ShloMosaic Idealize.ShloMosaic.TcCoe

variable {F : FTy → Type} [FloatOps F]

/-- A tile of 1024 rows of 1024 laid as eight rows of 128 for each row. -/
def asRows {e : EltTy} (P : Vec F S1024x1024 e) : Vec F S8192x128 e := fun y =>
  P (fun a => ⟨(![(y 0).val / 8, (y 0).val % 8 * 128 + (y 1).val] : Fin 2 → Nat) a, by
    have h0 : (y 0).val < 8192 := (y 0).isLt
    have h1 : (y 1).val < 128 := (y 1).isLt
    fin_cases a
    · show (y 0).val / 8 < 1024
      omega
    · show (y 0).val % 8 * 128 + (y 1).val < 1024
      omega⟩)

/-- The eight stores, the last one first. -/
def rowStores (q0 q1 q2 q3 q4 q5 q6 q7 : FVec F S1024x128 .f32) : List (View.Piece (Elt F) S8192x128 .f32) :=
  [⟨⟨⟨![7, 0], S1024x128.size, ![8, 1], inb_S8192x128_S1024x128_7_0_s_8_1⟩, spos_8_1⟩, q7⟩,
    ⟨⟨⟨![6, 0], S1024x128.size, ![8, 1], inb_S8192x128_S1024x128_6_0_s_8_1⟩, spos_8_1⟩, q6⟩,
    ⟨⟨⟨![5, 0], S1024x128.size, ![8, 1], inb_S8192x128_S1024x128_5_0_s_8_1⟩, spos_8_1⟩, q5⟩,
    ⟨⟨⟨![4, 0], S1024x128.size, ![8, 1], inb_S8192x128_S1024x128_4_0_s_8_1⟩, spos_8_1⟩, q4⟩,
    ⟨⟨⟨![3, 0], S1024x128.size, ![8, 1], inb_S8192x128_S1024x128_3_0_s_8_1⟩, spos_8_1⟩, q3⟩,
    ⟨⟨⟨![2, 0], S1024x128.size, ![8, 1], inb_S8192x128_S1024x128_2_0_s_8_1⟩, spos_8_1⟩, q2⟩,
    ⟨⟨⟨![1, 0], S1024x128.size, ![8, 1], inb_S8192x128_S1024x128_1_0_s_8_1⟩, spos_8_1⟩, q1⟩,
    ⟨⟨⟨![0, 0], S1024x128.size, ![8, 1], inb_S8192x128_S1024x128_0_0_s_8_1⟩, spos_8_1⟩, q0⟩]

theorem mem_rows (s : Nat) (hs : s < 8) (inb : ∀ a, S1024x128.size a = 0 ∨ (![s, 0] : Fin 2 → Nat) a + (![8, 1] : Fin 2 → Nat) a * (S1024x128.size a - 1) < S8192x128.size a)
    (y : S8192x128.Idx) (hy : (y 0).val % 8 = s) :
    y ∈ (⟨⟨![s, 0], S1024x128.size, ![8, 1], inb⟩, spos_8_1⟩ : Rect S8192x128).set := by
  have h0 : (y 0).val < 8192 := (y 0).isLt
  have h1 : (y 1).val < 128 := (y 1).isLt
  refine (LoadRect.mem_set _).mpr fun a => ?_
  fin_cases a
  · refine ⟨(y 0).val / 8, ?_, ?_⟩
    · show (y 0).val / 8 < 1024
      omega
    · show _ = s + 8 * ((y 0).val / 8)
      show (y 0).val = _
      omega
  · refine ⟨(y 1).val, h1, ?_⟩
    show (y 1).val = 0 + 1 * (y 1).val
    omega

theorem rowStores_cover (q0 q1 q2 q3 q4 q5 q6 q7 : FVec F S1024x128 .f32) (y : S8192x128.Idx) :
    ∃ p ∈ rowStores q0 q1 q2 q3 q4 q5 q6 q7, y ∈ p.1.set := by
  have hlt : (y 0).val % 8 < 8 := Nat.mod_lt _ (by decide)
  unfold rowStores
  generalize hs : (y 0).val % 8 = s at hlt
  interval_cases s
  · exact ⟨_, List.Mem.tail _ (List.Mem.tail _ (List.Mem.tail _ (List.Mem.tail _ (List.Mem.tail _ (List.Mem.tail _ (List.Mem.tail _ (List.Mem.head _))))))), mem_rows 0 (by decide) inb_S8192x128_S1024x128_0_0_s_8_1 y hs⟩
  · exact ⟨_, List.Mem.tail _ (List.Mem.tail _ (List.Mem.tail _ (List.Mem.tail _ (List.Mem.tail _ (List.Mem.tail _ (List.Mem.head _)))))), mem_rows 1 (by decide) inb_S8192x128_S1024x128_1_0_s_8_1 y hs⟩
  · exact ⟨_, List.Mem.tail _ (List.Mem.tail _ (List.Mem.tail _ (List.Mem.tail _ (List.Mem.tail _ (List.Mem.head _))))), mem_rows 2 (by decide) inb_S8192x128_S1024x128_2_0_s_8_1 y hs⟩
  · exact ⟨_, List.Mem.tail _ (List.Mem.tail _ (List.Mem.tail _ (List.Mem.tail _ (List.Mem.head _)))), mem_rows 3 (by decide) inb_S8192x128_S1024x128_3_0_s_8_1 y hs⟩
  · exact ⟨_, List.Mem.tail _ (List.Mem.tail _ (List.Mem.tail _ (List.Mem.head _))), mem_rows 4 (by decide) inb_S8192x128_S1024x128_4_0_s_8_1 y hs⟩
  · exact ⟨_, List.Mem.tail _ (List.Mem.tail _ (List.Mem.head _)), mem_rows 5 (by decide) inb_S8192x128_S1024x128_5_0_s_8_1 y hs⟩
  · exact ⟨_, List.Mem.tail _ (List.Mem.head _), mem_rows 6 (by decide) inb_S8192x128_S1024x128_6_0_s_8_1 y hs⟩
  · exact ⟨_, List.Mem.head _, mem_rows 7 (by decide) inb_S8192x128_S1024x128_7_0_s_8_1 y hs⟩

theorem row_piece (P : FVec F S1024x1024 .f32) (s : Nat) (hs : s < 8) (c : Nat) (hc : c = 128 * s)
    (inb : ∀ a, S1024x128.size a = 0 ∨ (![s, 0] : Fin 2 → Nat) a + (![8, 1] : Fin 2 → Nat) a * (S1024x128.size a - 1) < S8192x128.size a)
    (hsl : S1024x1024.Slices ![0, c] S1024x128) (x : S1024x128.Idx) :
    extractStridedSlice S1024x128 ![0, c] P hsl x
      = asRows (e := .f32) P ((⟨⟨![s, 0], S1024x128.size, ![8, 1], inb⟩, spos_8_1⟩ : Rect S8192x128).emb x) := by
  refine congrArg P (funext fun a => Fin.ext ?_)
  have h0 : (x 0).val < 1024 := (x 0).isLt
  have h1 : (x 1).val < 128 := (x 1).isLt
  fin_cases a
  · show 0 + (x 0).val = (s + 8 * (x 0).val) / 8
    omega
  · show c + (x 1).val = (s + 8 * (x 0).val) % 8 * 128 + (0 + 1 * (x 1).val)
    omega

/-- The stores of the eight column groups leave the tile. -/
theorem canon_rowStores (P : FVec F S1024x1024 .f32) :
    View.canon (rowStores
      (extractStridedSlice S1024x128 ![0, 0] P slices_S1024x1024_o0_0_S1024x128)
      (extractStridedSlice S1024x128 ![0, 128] P slices_S1024x1024_o0_128_S1024x128)
      (extractStridedSlice S1024x128 ![0, 256] P slices_S1024x1024_o0_256_S1024x128)
      (extractStridedSlice S1024x128 ![0, 384] P slices_S1024x1024_o0_384_S1024x128)
      (extractStridedSlice S1024x128 ![0, 512] P slices_S1024x1024_o0_512_S1024x128)
      (extractStridedSlice S1024x128 ![0, 640] P slices_S1024x1024_o0_640_S1024x128)
      (extractStridedSlice S1024x128 ![0, 768] P slices_S1024x1024_o0_768_S1024x128)
      (extractStridedSlice S1024x128 ![0, 896] P slices_S1024x1024_o0_896_S1024x128)) = asRows (e := .f32) P := by
  funext y
  refine View.canon_apply_of_pieces (asRows (e := .f32) P) _ ?_ y (rowStores_cover _ _ _ _ _ _ _ _ y)
  intro p hp
  unfold rowStores at hp
  simp only [List.mem_cons, List.not_mem_nil, or_false] at hp
  rcases hp with rfl | rfl | rfl | rfl | rfl | rfl | rfl | rfl
  · exact fun x => row_piece P 7 (by decide) 896 rfl inb_S8192x128_S1024x128_7_0_s_8_1 slices_S1024x1024_o0_896_S1024x128 x
  · exact fun x => row_piece P 6 (by decide) 768 rfl inb_S8192x128_S1024x128_6_0_s_8_1 slices_S1024x1024_o0_768_S1024x128 x
  · exact fun x => row_piece P 5 (by decide) 640 rfl inb_S8192x128_S1024x128_5_0_s_8_1 slices_S1024x1024_o0_640_S1024x128 x
  · exact fun x => row_piece P 4 (by decide) 512 rfl inb_S8192x128_S1024x128_4_0_s_8_1 slices_S1024x1024_o0_512_S1024x128 x
  · exact fun x => row_piece P 3 (by decide) 384 rfl inb_S8192x128_S1024x128_3_0_s_8_1 slices_S1024x1024_o0_384_S1024x128 x
  · exact fun x => row_piece P 2 (by decide) 256 rfl inb_S8192x128_S1024x128_2_0_s_8_1 slices_S1024x1024_o0_256_S1024x128 x
  · exact fun x => row_piece P 1 (by decide) 128 rfl inb_S8192x128_S1024x128_1_0_s_8_1 slices_S1024x1024_o0_128_S1024x128 x
  · exact fun x => row_piece P 0 (by decide) 0 rfl inb_S8192x128_S1024x128_0_0_s_8_1 slices_S1024x1024_o0_0_S1024x128 x

end Cert.Kernel3Ideal.Mix

end
-- ==== Proof.Mix.Ideal.Frame.lean ====
/-
  The mixing call: its frame.
-/
module

public import proofs.«01_k».proof.Proof.Mix.Ideal.Rows
public import Idealize.ShloMosaic.Lib.Claim

@[expose] public section

set_option maxRecDepth 16384

noncomputable section

namespace Cert.Kernel3Ideal.Mix

open Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Reads

variable (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S4x128x128 .bf16) (harg10 : arg10.IsWhole) (arg11 : Memref sig .tc .vmem S4x128x128 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S16x1024 .f32) (harg15 : arg15.IsWhole) (arg16 : Memref sig .tc .vmem S16x128 .f32) (harg16 : arg16.IsWhole) (arg17 : Memref sig .tc .vmem S8192x128 .f32) (harg17 : arg17.IsWhole) (arg18 : Memref sig .tc .vmem S8x1024 .f32) (harg18 : arg18.IsWhole) (arg19 : Memref sig .tc .vmem S16x128 .f32) (harg19 : arg19.IsWhole)

section First

variable (hc0 : cond0_0 i)
    (x0 : Vec F S1024x512 .f32) (x1 : Vec F S1024x512 .f32) (x2 : Vec F S1024x512 .bf16) (x3 : Vec F S1024x512 .bf16) (x4 : Vec F S1024x512 .bf16) (x5 : Vec F S1024x1024 .f32) (x6 : Vec F S1x128 .f32) (x7 : Vec F S1x512 .f32) (x8 : Vec F S1x512 .f32) (x9 : Vec F S4x128x128 .bf16) (x10 : Vec F S4x128x128 .f32) (x11 : Vec F S1024x1024 .bf16) (x12 : Vec F S1x1024 .f32) (x13 : Vec F S1x1024 .f32) (x14 : Vec F S16x1024 .f32) (x15 : Vec F S16x128 .f32)

theorem cover0_A_16 (y : S8192x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15).1, y ∈ pc.1.set :=
  rowStores_cover _ _ _ _ _ _ _ _ y

def out0_A_16 : Vec F S8192x128 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15).1)

theorem cover0_A_17 (y : S8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15).2.1, y ∈ pc.1.set :=
  View.cover_of_tiledL _ S8x1024.size (by sl_kernel_rfl) y

def out0_A_17 : Vec F S8x1024 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15).2.1)

theorem cover0_A_18 (y : S16x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15).2.2.1, y ∈ pc.1.set :=
  View.cover_of_tiledL _ S16x128.size (by sl_kernel_rfl) y

def out0_A_18 : Vec F S16x128 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15).2.2.1)

end First

section Later

variable (hc0 : ¬cond0_0 i)
    (x0 : Vec F S1024x512 .f32) (x1 : Vec F S1024x512 .f32) (x2 : Vec F S1024x512 .bf16) (x3 : Vec F S1024x512 .bf16) (x4 : Vec F S1024x512 .bf16) (x5 : Vec F S1024x1024 .f32) (x6 : Vec F S1x128 .f32) (x7 : Vec F S1x512 .f32) (x8 : Vec F S1x512 .f32) (x9 : Vec F S4x128x128 .bf16) (x10 : Vec F S4x128x128 .f32) (x11 : Vec F S1024x1024 .bf16) (x12 : Vec F S1x1024 .f32) (x13 : Vec F S1x1024 .f32) (x14 : Vec F S16x1024 .f32) (x15 : Vec F S16x128 .f32) (xo18 : Vec F S16x128 .f32)

theorem cover0_B_16 (y : S8192x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 xo18).1, y ∈ pc.1.set :=
  rowStores_cover _ _ _ _ _ _ _ _ y

def out0_B_16 : Vec F S8192x128 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 xo18).1)

theorem cover0_B_17 (y : S8x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 xo18).2.1, y ∈ pc.1.set :=
  View.cover_of_tiledL _ S8x1024.size (by sl_kernel_rfl) y

def out0_B_17 : Vec F S8x1024 .f32 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 xo18).2.1)

theorem cover0_B_18 (y : S16x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 xo18).2.2.1, y ∈ pc.1.set :=
  View.cover_of_tiledL _ S16x128.size (by sl_kernel_rfl) y

def out0_B_18 : Vec F S16x128 .f32 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 xo18).2.2.1)

end Later

end Reads

/-- What the first of the 32 points leaves in the three outputs. -/
def firstOuts (c : Dev nD) (t : Fin cfg0.N) (h0 : t.val % 32 = 0) : Vec F S8192x128 .f32 × Vec F S8x1024 .f32 × Vec F S16x128 .f32 :=
  (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))

/-- What a later point leaves in the three outputs, with the running total before it. -/
def laterOuts (c : Dev nD) (t : Fin cfg0.N) (h0 : ¬t.val % 32 = 0) (xo18 : Vec F S16x128 .f32) : Vec F S8192x128 .f32 × Vec F S8x1024 .f32 × Vec F S16x128 .f32 :=
  (out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xo18, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xo18, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xo18)

def outsAt0 (c : Dev nD) : (n : ℕ) → n < cfg0.N → Vec F S8192x128 .f32 × Vec F S8x1024 .f32 × Vec F S16x128 .f32
  | 0, hn => firstOuts m c ⟨0, hn⟩ (Nat.zero_mod _)
  | n + 1, hn =>
    if h0 : (n + 1) % 32 = 0 then
      firstOuts m c ⟨n + 1, hn⟩ h0
    else
      laterOuts m c ⟨n + 1, hn⟩ h0 (outsAt0 c n (Nat.lt_of_succ_lt hn)).2.2

theorem outsAt0_A (c : Dev nD) (t : Fin cfg0.N) (h0 : t.val % 32 = 0) :
    outsAt0 m c t.val t.isLt = firstOuts m c t h0 := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = laterOuts m c t h0 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t.val t.isLt).1
    | ⟨17, _⟩ => (outsAt0 m c t.val t.isLt).2.1
    | ⟨18, _⟩ => (outsAt0 m c t.val t.isLt).2.2
    | ⟨_ + 19, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t.val t.isLt).1 := by dsimp only [dats]
theorem after0_17 (c : Dev nD) (t : Fin cfg0.N) : (dats m 0 c).after 17 t = (outsAt0 m c t.val t.isLt).2.1 := by dsimp only [dats]
theorem after0_18 (c : Dev nD) (t : Fin cfg0.N) : (dats m 0 c).after 18 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_18_B (c : Dev nD) (t : Fin cfg0.N) (h0 : ¬t.val % 32 = 0) (d) :
    (dats m 0 c).before 18 t d = (outsAt0 m c (t.val - 1) (Nat.lt_of_le_of_lt (Nat.sub_le _ _) t.isLt)).2.2 := by
  have hN : t.val < 32 := lt_of_lt_of_eq t.isLt (show cfg0.N = 32 from N_0)
  rw [Dat.before_out_kept _ 18 rfl t (by omega) (Bool.eq_false_iff.mpr fun h => by have := (flush0_18 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  have hN : t.val < 32 := lt_of_lt_of_eq t.isLt (show cfg0.N = 32 from N_0)
  by_cases h0 : t.val % 32 = 0
  · rw [outsAt0_A m c t h0]
    unfold firstOuts out0_A_16 out0_A_17 out0_A_18; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((kernelRun0_A c (grid0.coords t) _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    iintro ⟨H0, H1, H2, H3, H4, H5, H6, H7, H8, H9, H10, H11, H12, H13, H14, H15, ⟨%e16, H16⟩, ⟨%e17, H17⟩, ⟨%e18, H18⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]
    · unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _)
  · rw [outsAt0_B m c t h0]
    simp only [before0_18_B m c t h0]
    unfold laterOuts out0_B_16 out0_B_17 out0_B_18; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((kernelRun0_B c (grid0.coords t) _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexact H18
    iintro ⟨H0, H1, H2, H3, H4, H5, H6, H7, H8, H9, H10, H11, H12, H13, H14, H15, ⟨%e16, H16⟩, ⟨%e17, H17⟩, ⟨%e18, H18⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]
    · unfold owns; iexists _; isplitr
      swap; · iexact H16
      ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H18
    ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Kernel3Ideal.Mix

end
-- ==== Proof.Mix.Same.lean ====
module

public import proofs.«01_k».proof.Defs
public import proofs.«01_k».proof.Proof.Mix.Ideal.Frame
public import proofs.«01_k».proof.Proof.Gen.Kernel3

/- The printed kernel and the ideal kernel are one program, printed twice, since no line of it is rewritten. What is shown of the second
   with any float operations holds of the first. -/

@[expose] public section

noncomputable section

namespace Cert.Kernel3.Mix

open Idealize.ShloMosaic Idealize.SL.Sem

set_option maxHeartbeats 4000000 in
theorem body_eq : @Cert.Kernel3.cc0_mix Bits _ _ = @Cert.Kernel3Ideal.cc0_mix Bits _ _ := rfl

set_option maxHeartbeats 4000000 in
theorem table_eq : @Cert.Kernel3.defs₀ Bits _ _ = @Cert.Kernel3Ideal.defs₀ Bits _ _ := by
  unfold Cert.Kernel3.defs₀ Cert.Kernel3Ideal.defs₀
  refine congrArg Defs.onTc (funext fun ℓ => funext fun a => ?_)
  match ℓ, a with
  | 0, (t, s) =>
    dsimp only
    rw [body_eq]
    rfl
  | ⟨_ + 1, h⟩, _ => exact absurd h (Nat.not_lt.2 (Nat.le_add_left _ _))

theorem defs_eq : @Cert.Kernel3.defs Bits _ _ = @Cert.Kernel3Ideal.defs Bits _ _ :=
  congrArg (Pipeline.defs Cert.Kernel3.pcfgs) table_eq

set_option maxHeartbeats 4000000 in
theorem main_eq : @Cert.Kernel3.main Bits _ _ = @Cert.Kernel3Ideal.main Bits _ _ := rfl

set_option maxHeartbeats 4000000 in
theorem frame : Cert.quiescent_Kernel3 := fun m g _ => by
  have h := Cert.Kernel3Ideal.Mix.frame (F := Bits) m g
  rw [defs_eq, main_eq]
  exact h

end Cert.Kernel3.Mix

end
-- ==== Proof.Mix.Spec.lean ====
/- The end of the two mixers, the output projection and the norm, entry by entry, on extended reals. -/
module

public import proofs.«01_k».proof.Proof.Real
public import Idealize.ShloMosaic.Lib.ValueIdx

@[expose] public section

noncomputable section

namespace Cert.Mixing

open Idealize.ShloMosaic

/-- The gelu by the error function. -/
def gelu (y : EReal) : EReal :=
  Ideal.ofBits .f32 0x3F000000#32 * y * (Ideal.ofBits .f32 0x3F800000#32 + Ideal.erf (y * Ideal.ofBits .f32 0x3F3504F3#32))

/-- The gate by the hyperbolic tangent of the half. -/
def tgate (y : EReal) : EReal :=
  Ideal.ofBits .f32 0x3F000000#32 * y + Ideal.ofBits .f32 0x3F000000#32 * y * Ideal.tanh (Ideal.ofBits .f32 0x3F000000#32 * y)

/-- The gate by the exponential. -/
def egate (y : EReal) : EReal := y * Ideal.div (Ideal.ofBits .f32 0x3F800000#32) (Ideal.ofBits .f32 0x3F800000#32 + Ideal.exp (-y))

/-- The sum of a row over `w`. -/
def mean {n : ℕ} (w : EReal) (f : Fin n → EReal) : EReal := Ideal.div (∑ k, f k) w

/-- The layer norm of a row whose length is `w`. -/
def norm {n : ℕ} (w : EReal) (f g b : Fin n → EReal) (j : Fin n) : EReal :=
  (f j - mean w f) * Ideal.rsqrt (mean w (fun k => (f k - mean w f) * (f k - mean w f)) + Ideal.ofBits .f32 0x3727C5AC#32) * g j + b j

/-- A head divided by its root mean square. -/
def head (f g : Fin 128 → EReal) (j : Fin 128) : EReal :=
  f j * Ideal.rsqrt (mean (Ideal.ofBits .f32 0x43000000#32) (fun k => f k * f k) + Ideal.ofBits .f32 0x358637BD#32) * g j

/-- What one row needs: its entries, and of its chunk of 128 rows the gating values and the spatial weights' row. -/
structure Row where
  o : Fin 512 → EReal
  z : Fin 512 → EReal
  u : Fin 512 → EReal
  v : Fin 128 → Fin 512 → EReal
  x : Fin 1024 → EReal
  nw : Fin 128 → EReal
  sg : Fin 512 → EReal
  sb : Fin 512 → EReal
  w : Fin 4 → Fin 128 → EReal
  b : Fin 512 → EReal
  wo : Fin 1024 → Fin 1024 → EReal
  lg : Fin 1024 → EReal
  lb : Fin 1024 → EReal

/-- A gating value of the chunk, normed. -/
def Row.gating (R : Row) (q : Fin 128) (d : Fin 512) : EReal :=
  norm (Ideal.ofBits .f32 0x44000000#32) (fun e => gelu (R.v q e)) R.sg R.sb d

/-- The spatial gating's output at a column. -/
def Row.spatial (R : Row) (d : Fin 512) : EReal :=
  gelu (R.u d) * ((∑ q : Fin 128, R.w ⟨d.val / 128, by omega⟩ q * R.gating q d) + R.b d)

/-- The delta mixer's output at a column. -/
def Row.delta (R : Row) (gate : EReal → EReal) (d : Fin 512) : EReal :=
  head (fun l => R.o ⟨d.val / 128 * 128 + l.val, by omega⟩) R.nw ⟨d.val % 128, by omega⟩ * gate (R.z d)

/-- Both outputs side by side. -/
def Row.joined (R : Row) (gate : EReal → EReal) (k : Fin 1024) : EReal :=
  if h : k.val < 512 then R.delta gate ⟨k.val, h⟩ else R.spatial ⟨k.val - 512, by omega⟩

/-- The row before its norm. -/
def Row.sum (R : Row) (gate : EReal → EReal) (j : Fin 1024) : EReal :=
  Ideal.ofBits .f32 0x3FD744FD#32 * R.x j + ∑ k : Fin 1024, R.joined gate k * R.wo k j

/-- The row. -/
def Row.out (R : Row) (gate : EReal → EReal) (j : Fin 1024) : EReal :=
  norm (Ideal.ofBits .f32 0x44800000#32) (R.sum gate) R.lg R.lb j

/-- The two gates agree where the gate's entries are real numbers. -/
theorem Row.out_gate (R : Row) (h : ∀ d, tgate (R.z d) = egate (R.z d)) (j : Fin 1024) : R.out tgate j = R.out egate j := by
  have e : R.joined tgate = R.joined egate := by
    funext k
    unfold Row.joined
    split
    · unfold Row.delta
      rw [h]
    · rfl
  have e2 : R.sum tgate = R.sum egate := by
    funext j
    unfold Row.sum
    rw [e]
  unfold Row.out
  rw [e2]

end Cert.Mixing

end
-- ==== Proof.Mix.Ideal.Tile.lean ====
/- The mixing body's tile, read at a row and a column. -/
module

public import proofs.«01_k».proof.Proof.Gen.Kernel3Ideal.Skeleton
public import proofs.«01_k».proof.Proof.Mix.Spec
public import Idealize.ShloMosaic.PureOps.Ideal
public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.Pipeline.Value
import Mathlib.Tactic.IntervalCases

@[expose] public section

set_option maxRecDepth 16384

noncomputable section

namespace Cert.Kernel3Ideal.Mix

open Cert.Kernel3Ideal Cert.Kernel3Ideal.Gen
open Idealize.ShloMosaic
open Idealize.ShloMosaic.ValueIdx (ix1 ix2 ix3)
open Cert.Mixing

/-- A number in every place. -/
abbrev all (s : Shape) (b : BitVec 32) : FVec Ideal s .f32 := broadcast s (FloatOps.ofBits (F := Ideal) FTy.f32 b)

/-- The rows' means, as a column. -/
abbrev means128 (y : FVec Ideal S1024x128 .f32) : FVec Ideal S1024x1 .f32 :=
  divf (shapeCast S1024x1 (multiReduction .add [1] S1024 y 0x00000000#32 reduces_S1024x128_S1024 (.inl rfl) rfl) shapeCasts_S1024_S1024x1) (all S1024x1 0x43000000#32)

theorem means128_apply (y : FVec Ideal S1024x128 .f32) (r : Fin 1024) :
    means128 y (ix2 r 0) = mean (Ideal.ofBits .f32 0x43000000#32) fun k => y (ix2 r k) := by
  refine congrArg (fun s : EReal => Ideal.div s (Ideal.ofBits .f32 0x43000000#32)) ?_
  refine (ValueIdx.shapeCast_a_a1_apply _ _ r 0).trans ?_
  refine (Ideal.multiReduction_add_single _ _ _ _ _ (ix1 r)).trans ?_
  refine Finset.sum_congr rfl fun k _ => ?_
  refine congrArg y (funext fun a => Fin.ext ?_)
  rw [Shape.Reduces.lift_val]
  fin_cases a <;> rfl

/-- The rows' means, as a column. -/
abbrev means512 (y : FVec Ideal S1024x512 .f32) : FVec Ideal S1024x1 .f32 :=
  divf (shapeCast S1024x1 (multiReduction .add [1] S1024 y 0x00000000#32 reduces_S1024x512_S1024 (.inl rfl) rfl) shapeCasts_S1024_S1024x1) (all S1024x1 0x44000000#32)

theorem means512_apply (y : FVec Ideal S1024x512 .f32) (r : Fin 1024) :
    means512 y (ix2 r 0) = mean (Ideal.ofBits .f32 0x44000000#32) fun k => y (ix2 r k) := by
  refine congrArg (fun s : EReal => Ideal.div s (Ideal.ofBits .f32 0x44000000#32)) ?_
  refine (ValueIdx.shapeCast_a_a1_apply _ _ r 0).trans ?_
  refine (Ideal.multiReduction_add_single _ _ _ _ _ (ix1 r)).trans ?_
  refine Finset.sum_congr rfl fun k _ => ?_
  refine congrArg y (funext fun a => Fin.ext ?_)
  rw [Shape.Reduces.lift_val]
  fin_cases a <;> rfl

/-- The rows' means, as a column. -/
abbrev means1024 (y : FVec Ideal S1024x1024 .f32) : FVec Ideal S1024x1 .f32 :=
  divf (shapeCast S1024x1 (multiReduction .add [1] S1024 y 0x00000000#32 reduces_S1024x1024_S1024 (.inl rfl) rfl) shapeCasts_S1024_S1024x1) (all S1024x1 0x44800000#32)

theorem means1024_apply (y : FVec Ideal S1024x1024 .f32) (r : Fin 1024) :
    means1024 y (ix2 r 0) = mean (Ideal.ofBits .f32 0x44800000#32) fun k => y (ix2 r k) := by
  refine congrArg (fun s : EReal => Ideal.div s (Ideal.ofBits .f32 0x44800000#32)) ?_
  refine (ValueIdx.shapeCast_a_a1_apply _ _ r 0).trans ?_
  refine (Ideal.multiReduction_add_single _ _ _ _ _ (ix1 r)).trans ?_
  refine Finset.sum_congr rfl fun k _ => ?_
  refine congrArg y (funext fun a => Fin.ext ?_)
  rw [Shape.Reduces.lift_val]
  fin_cases a <;> rfl

/-- The rows less their means. -/
abbrev centred512 (y : FVec Ideal S1024x512 .f32) : FVec Ideal S1024x512 .f32 := subf y (broadcastTo S1024x512 (means512 y) broadcasts_S1024x1_S1024x512)

theorem centred512_apply (y : FVec Ideal S1024x512 .f32) (r : Fin 1024) (j : Fin 512) :
    centred512 y (ix2 r j) = (y (ix2 r j) : EReal) - mean (Ideal.ofBits .f32 0x44000000#32) fun k => y (ix2 r k) := by
  refine congrArg (fun s : EReal => (y (ix2 r j) : EReal) - s) ?_
  exact (broadcastTo_apply _ _ (ix2 r j) (ix2 r (0 : Fin 1)) fun a => by fin_cases a <;> rfl).trans (means512_apply y r)

/-- The rows' layer norms. -/
abbrev norms512 (y : FVec Ideal S1024x512 .f32) (g b : FVec Ideal S1x512 .f32) : FVec Ideal S1024x512 .f32 :=
  addf (mulf (mulf (centred512 y) (broadcastTo S1024x512 (rsqrt (addf (means512 (mulf (centred512 y) (centred512 y))) (all S1024x1 0x3727C5AC#32))) broadcasts_S1024x1_S1024x512))
    (broadcastTo S1024x512 g broadcasts_S1x512_S1024x512)) (broadcastTo S1024x512 b broadcasts_S1x512_S1024x512)

theorem norms512_apply (y : FVec Ideal S1024x512 .f32) (g b : FVec Ideal S1x512 .f32) (r : Fin 1024) (j : Fin 512) :
    norms512 y g b (ix2 r j) = norm (Ideal.ofBits .f32 0x44000000#32) (fun k => y (ix2 r k)) (fun k => g (ix2 0 k)) (fun k => b (ix2 0 k)) j := by
  refine congrArg₂ (fun a c : EReal => a + c) (congrArg₂ (fun a c : EReal => a * c) (congrArg₂ (fun a c : EReal => a * c) (centred512_apply y r j) ?_) ?_) ?_
  · refine (broadcastTo_apply _ _ (ix2 r j) (ix2 r (0 : Fin 1)) fun a => by fin_cases a <;> rfl).trans ?_
    refine congrArg (fun s : EReal => Ideal.rsqrt (s + Ideal.ofBits .f32 0x3727C5AC#32)) ?_
    refine (means512_apply _ r).trans (congrArg (mean _) (funext fun k => ?_))
    exact congrArg₂ (fun a c : EReal => a * c) (centred512_apply y r k) (centred512_apply y r k)
  · exact broadcastTo_apply _ _ (ix2 r j) (ix2 (0 : Fin 1) j) fun a => by fin_cases a <;> rfl
  · exact broadcastTo_apply _ _ (ix2 r j) (ix2 (0 : Fin 1) j) fun a => by fin_cases a <;> rfl

/-- The rows less their means. -/
abbrev centred1024 (y : FVec Ideal S1024x1024 .f32) : FVec Ideal S1024x1024 .f32 := subf y (broadcastTo S1024x1024 (means1024 y) broadcasts_S1024x1_S1024x1024)

theorem centred1024_apply (y : FVec Ideal S1024x1024 .f32) (r : Fin 1024) (j : Fin 1024) :
    centred1024 y (ix2 r j) = (y (ix2 r j) : EReal) - mean (Ideal.ofBits .f32 0x44800000#32) fun k => y (ix2 r k) := by
  refine congrArg (fun s : EReal => (y (ix2 r j) : EReal) - s) ?_
  exact (broadcastTo_apply _ _ (ix2 r j) (ix2 r (0 : Fin 1)) fun a => by fin_cases a <;> rfl).trans (means1024_apply y r)

/-- The rows' layer norms. -/
abbrev norms1024 (y : FVec Ideal S1024x1024 .f32) (g b : FVec Ideal S1x1024 .f32) : FVec Ideal S1024x1024 .f32 :=
  addf (mulf (mulf (centred1024 y) (broadcastTo S1024x1024 (rsqrt (addf (means1024 (mulf (centred1024 y) (centred1024 y))) (all S1024x1 0x3727C5AC#32))) broadcasts_S1024x1_S1024x1024))
    (broadcastTo S1024x1024 g broadcasts_S1x1024_S1024x1024)) (broadcastTo S1024x1024 b broadcasts_S1x1024_S1024x1024)

theorem norms1024_apply (y : FVec Ideal S1024x1024 .f32) (g b : FVec Ideal S1x1024 .f32) (r : Fin 1024) (j : Fin 1024) :
    norms1024 y g b (ix2 r j) = norm (Ideal.ofBits .f32 0x44800000#32) (fun k => y (ix2 r k)) (fun k => g (ix2 0 k)) (fun k => b (ix2 0 k)) j := by
  refine congrArg₂ (fun a c : EReal => a + c) (congrArg₂ (fun a c : EReal => a * c) (congrArg₂ (fun a c : EReal => a * c) (centred1024_apply y r j) ?_) ?_) ?_
  · refine (broadcastTo_apply _ _ (ix2 r j) (ix2 r (0 : Fin 1)) fun a => by fin_cases a <;> rfl).trans ?_
    refine congrArg (fun s : EReal => Ideal.rsqrt (s + Ideal.ofBits .f32 0x3727C5AC#32)) ?_
    refine (means1024_apply _ r).trans (congrArg (mean _) (funext fun k => ?_))
    exact congrArg₂ (fun a c : EReal => a * c) (centred1024_apply y r k) (centred1024_apply y r k)
  · exact broadcastTo_apply _ _ (ix2 r j) (ix2 (0 : Fin 1) j) fun a => by fin_cases a <;> rfl
  · exact broadcastTo_apply _ _ (ix2 r j) (ix2 (0 : Fin 1) j) fun a => by fin_cases a <;> rfl

/-- The gelu of a tile. -/
abbrev gelus (x : FVec Ideal S1024x512 .f32) : FVec Ideal S1024x512 .f32 :=
  mulf (mulf (all S1024x512 0x3F000000#32) x) (addf (all S1024x512 0x3F800000#32) (erf (mulf x (all S1024x512 0x3F3504F3#32))))

theorem gelus_apply (x : FVec Ideal S1024x512 .f32) (i : S1024x512.Idx) : gelus x i = gelu (x i) := rfl

/-- One head of a tile. -/
abbrev part128 {e : FTy} (v : FVec Ideal S1024x512 e) (c : ℕ) (h : S1024x512.Slices ![0, c] S1024x128) : FVec Ideal S1024x128 e := extractStridedSlice S1024x128 ![0, c] v h

theorem part128_apply {e : FTy} (v : FVec Ideal S1024x512 e) (c : ℕ) (h : S1024x512.Slices ![0, c] S1024x128) (r : Fin 1024) (l : Fin 128) (d : Fin 512) (hd : d.val = c + l.val) :
    part128 v c h (ix2 r l) = v (ix2 r d) := by
  refine congrArg v (funext fun a => Fin.ext ?_)
  fin_cases a
  · exact Nat.zero_add _
  · exact hd.symm

/-- The half of a head's gate entries. -/
abbrev halves (z : FVec Ideal S1024x128 .f32) : FVec Ideal S1024x128 .f32 := mulf (all S1024x128 0x3F000000#32) z

/-- One head of the delta mixer's output. -/
abbrev heads (o z : FVec Ideal S1024x128 .f32) (nw : FVec Ideal S1x128 .f32) : FVec Ideal S1024x128 .bf16 :=
  truncf .bf16 (mulf (mulf (mulf o (broadcastTo S1024x128 (rsqrt (addf (means128 (mulf o o)) (all S1024x1 0x358637BD#32))) broadcasts_S1024x1_S1024x128))
    (broadcastTo S1024x128 nw broadcasts_S1x128_S1024x128)) (addf (halves z) (mulf (halves z) (tanh (halves z))))) bitsLt_bf16_f32

theorem heads_apply (o z : FVec Ideal S1024x128 .f32) (nw : FVec Ideal S1x128 .f32) (r : Fin 1024) (l : Fin 128) :
    heads o z nw (ix2 r l) = head (fun k => o (ix2 r k)) (fun k => nw (ix2 0 k)) l * tgate (z (ix2 r l)) := by
  refine congrArg (fun a : EReal => a * tgate (z (ix2 r l))) ?_
  refine congrArg₂ (fun a c : EReal => a * c) (congrArg (fun c : EReal => (o (ix2 r l) : EReal) * c) ?_) ?_
  · refine (broadcastTo_apply _ _ (ix2 r l) (ix2 r (0 : Fin 1)) fun a => by fin_cases a <;> rfl).trans ?_
    exact congrArg (fun s : EReal => Ideal.rsqrt (s + Ideal.ofBits .f32 0x358637BD#32)) (means128_apply _ r)
  · exact broadcastTo_apply _ _ (ix2 r l) (ix2 (0 : Fin 1) l) fun a => by fin_cases a <;> rfl

theorem slices (o c : ℕ) (ho : o ≤ 896) (hc : c ≤ 384) : S1024x512.Slices ![o, c] S128x128 :=
  ⟨rfl, fun a => by
    fin_cases a
    · show o + 128 ≤ 1024
      omega
    · show c + 128 ≤ 512
      omega⟩

/-- The spatial gating of one chunk and one group of columns. -/
abbrev chunk (u : FVec Ideal S1024x512 .f32) (v : FVec Ideal S1024x512 .bf16) (w : Vec Ideal S1x128x128 .bf16) (b : Vec Ideal S1x128x128 .f32) (c : ℕ) (hc : c ≤ 384) (o : ℕ) (ho : o ≤ 896) :
    FVec Ideal S128x128 .f32 :=
  mulf (extractStridedSlice S128x128 ![o, c] u (slices o c ho hc))
    (addf (matmul dot_S128x128_S128x128_S128x128_1_0_0_1_n_n none (shapeCast S128x128 w shapeCasts_S1x128x128_S128x128 : FVec Ideal S128x128 .bf16)
      (extractStridedSlice S128x128 ![o, c] v (slices o c ho hc)) (constant S128x128 .f32 0x00000000#32)) (shapeCast S128x128 b shapeCasts_S1x128x128_S128x128))

theorem product128_apply (x y : FVec Ideal S128x128 .bf16) (p l : Fin 128) :
    matmul dot_S128x128_S128x128_S128x128_1_0_0_1_n_n none x y (constant S128x128 .f32 0x00000000#32) (ix2 p l)
      = ∑ q : Fin 128, (x (ix2 p q) : EReal) * y (ix2 q l) := by
  simp only [matmul]
  rw [Ideal.matmul_constant_zero_apply]
  refine Fintype.sum_equiv (ValueIdx.contrEquiv1 dot_S128x128_S128x128_S128x128_1_0_0_1_n_n 128 rfl rfl) _ _ fun k => ?_
  refine congrArg₂ (fun a b : EReal => a * b) (congrArg x (funext fun a => Fin.ext ?_)) (congrArg y (funext fun a => Fin.ext ?_))
  · fin_cases a <;> rfl
  · fin_cases a <;> rfl

theorem product1024_apply (x y : FVec Ideal S1024x1024 .bf16) (r j : Fin 1024) :
    matmul dot_S1024x1024_S1024x1024_S1024x1024_1_0_0_1_n_n none x y (constant S1024x1024 .f32 0x00000000#32) (ix2 r j)
      = ∑ k : Fin 1024, (x (ix2 r k) : EReal) * y (ix2 k j) := by
  simp only [matmul]
  rw [Ideal.matmul_constant_zero_apply]
  refine Fintype.sum_equiv (ValueIdx.contrEquiv1 dot_S1024x1024_S1024x1024_S1024x1024_1_0_0_1_n_n 1024 rfl rfl) _ _ fun k => ?_
  refine congrArg₂ (fun a b : EReal => a * b) (congrArg x (funext fun a => Fin.ext ?_)) (congrArg y (funext fun a => Fin.ext ?_))
  · fin_cases a <;> rfl
  · fin_cases a <;> rfl

theorem chunk_apply (u : FVec Ideal S1024x512 .f32) (v : FVec Ideal S1024x512 .bf16) (w : Vec Ideal S1x128x128 .bf16) (b : Vec Ideal S1x128x128 .f32) (c : ℕ) (hc : c ≤ 384) (o : ℕ) (ho : o ≤ 896)
    (p l : Fin 128) :
    chunk u v w b c hc o ho (ix2 p l) = (u (ix2 ⟨o + p.val, by omega⟩ ⟨c + l.val, by omega⟩) : EReal)
      * ((∑ q : Fin 128, (w (ix3 0 p q) : EReal) * v (ix2 ⟨o + q.val, by omega⟩ ⟨c + l.val, by omega⟩)) + b (ix3 0 p l)) := by
  refine congrArg₂ (fun a c : EReal => a * c) ?_ (congrArg₂ (fun a c : EReal => a + c) ?_ ?_)
  · refine congrArg u (funext fun a => Fin.ext ?_)
    fin_cases a <;> rfl
  · refine (product128_apply _ _ p l).trans (Finset.sum_congr rfl fun q _ => ?_)
    refine congrArg₂ (fun a c : EReal => a * c) (ValueIdx.shapeCast_1ab_ab_apply _ _ p q) ?_
    refine congrArg v (funext fun a => Fin.ext ?_)
    fin_cases a <;> rfl
  · exact ValueIdx.shapeCast_1ab_ab_apply _ _ p l

/-- The chunks of one group of columns, one below the other. -/
abbrev stacked (u : FVec Ideal S1024x512 .f32) (v : FVec Ideal S1024x512 .bf16) (w : Vec Ideal S1x128x128 .bf16) (b : Vec Ideal S1x128x128 .f32) (c : ℕ) (hc : c ≤ 384) : FVec Ideal S1024x128 .f32 :=
  concatenate S1024x128 0 [⟨S128x128, chunk u v w b c hc 0 (by decide)⟩,
    ⟨S128x128, chunk u v w b c hc 128 (by decide)⟩,
    ⟨S128x128, chunk u v w b c hc 256 (by decide)⟩,
    ⟨S128x128, chunk u v w b c hc 384 (by decide)⟩,
    ⟨S128x128, chunk u v w b c hc 512 (by decide)⟩,
    ⟨S128x128, chunk u v w b c hc 640 (by decide)⟩,
    ⟨S128x128, chunk u v w b c hc 768 (by decide)⟩,
    ⟨S128x128, chunk u v w b c hc 896 (by decide)⟩]
    concatenates_S128x128_S128x128_S128x128_S128x128_S128x128_S128x128_S128x128_S128x128_S1024x128_d0

/-- The spatial gating of one group of columns. -/
abbrev group (u : FVec Ideal S1024x512 .f32) (v : FVec Ideal S1024x512 .bf16) (w : Vec Ideal S1x128x128 .bf16) (b : Vec Ideal S1x128x128 .f32) (c : ℕ) (hc : c ≤ 384) : FVec Ideal S1024x128 .bf16 :=
  truncf .bf16 (stacked u v w b c hc) bitsLt_bf16_f32

theorem group_apply (u : FVec Ideal S1024x512 .f32) (v : FVec Ideal S1024x512 .bf16) (w : Vec Ideal S1x128x128 .bf16) (b : Vec Ideal S1x128x128 .f32) (c : ℕ) (hc : c ≤ 384) (r : Fin 1024) (l : Fin 128) :
    group u v w b c hc (ix2 r l) = (u (ix2 r ⟨c + l.val, by omega⟩) : EReal)
      * ((∑ q : Fin 128, (w (ix3 0 ⟨r.val % 128, by omega⟩ q) : EReal) * v (ix2 ⟨r.val / 128 * 128 + q.val, by omega⟩ ⟨c + l.val, by omega⟩)) + b (ix3 0 ⟨r.val % 128, by omega⟩ l)) := by
  show (stacked u v w b c hc (ix2 r l) : EReal) = _
  have hr := r.isLt
  have key : ∀ (s : ℕ) (hs : 128 * s ≤ 896), r.val / 128 = s → chunk u v w b c hc (128 * s) hs (ix2 ⟨r.val % 128, by omega⟩ l) = (u (ix2 r ⟨c + l.val, by omega⟩) : EReal)
      * ((∑ q : Fin 128, (w (ix3 0 ⟨r.val % 128, by omega⟩ q) : EReal) * v (ix2 ⟨r.val / 128 * 128 + q.val, by omega⟩ ⟨c + l.val, by omega⟩)) + b (ix3 0 ⟨r.val % 128, by omega⟩ l)) := fun s hs e => by
    refine (chunk_apply u v w b c hc (128 * s) hs _ l).trans ?_
    have e1 : (⟨128 * s + r.val % 128, by omega⟩ : Fin 1024) = r := Fin.ext (by show 128 * s + r.val % 128 = r.val; omega)
    have e2 : ∀ q : Fin 128, (⟨128 * s + q.val, by omega⟩ : Fin 1024) = ⟨r.val / 128 * 128 + q.val, by omega⟩ := fun q => Fin.ext (by show 128 * s + q.val = r.val / 128 * 128 + q.val; omega)
    show (u (ix2 (⟨128 * s + r.val % 128, by omega⟩ : Fin 1024) ⟨c + l.val, by omega⟩) : EReal) * _ = _
    rw [e1]
    simp only [e2]
  have hoff : ∀ b : Fin 2, b.cast (rfl : (2 : ℕ) = 2) ≠ (0 : Fin 2) →
      ((ix2 (⟨r.val % 128, by omega⟩ : Fin 128) l : S128x128.Idx) b).val = ((ix2 r l : S1024x128.Idx) (b.cast rfl)).val := fun b hb => by
    fin_cases b
    · exact absurd rfl hb
    · rfl
  obtain ⟨s, hs⟩ : ∃ s, r.val / 128 = s := ⟨_, rfl⟩
  have hd : s < 8 := by omega
  interval_cases s
  · exact (concatenate_apply_piece 0 _ _ (ix2 r l) 0 (by exact (show 0 < 8 by decide)) S128x128 _ rfl rfl 0 rfl (ix2 ⟨r.val % 128, by omega⟩ l) hoff (by show 0 + r.val % 128 = r.val; omega)).trans (key 0 (by decide) hs)
  · exact (concatenate_apply_piece 0 _ _ (ix2 r l) 1 (by exact (show 1 < 8 by decide)) S128x128 _ rfl rfl 128 rfl (ix2 ⟨r.val % 128, by omega⟩ l) hoff (by show 128 + r.val % 128 = r.val; omega)).trans (key 1 (by decide) hs)
  · exact (concatenate_apply_piece 0 _ _ (ix2 r l) 2 (by exact (show 2 < 8 by decide)) S128x128 _ rfl rfl 256 rfl (ix2 ⟨r.val % 128, by omega⟩ l) hoff (by show 256 + r.val % 128 = r.val; omega)).trans (key 2 (by decide) hs)
  · exact (concatenate_apply_piece 0 _ _ (ix2 r l) 3 (by exact (show 3 < 8 by decide)) S128x128 _ rfl rfl 384 rfl (ix2 ⟨r.val % 128, by omega⟩ l) hoff (by show 384 + r.val % 128 = r.val; omega)).trans (key 3 (by decide) hs)
  · exact (concatenate_apply_piece 0 _ _ (ix2 r l) 4 (by exact (show 4 < 8 by decide)) S128x128 _ rfl rfl 512 rfl (ix2 ⟨r.val % 128, by omega⟩ l) hoff (by show 512 + r.val % 128 = r.val; omega)).trans (key 4 (by decide) hs)
  · exact (concatenate_apply_piece 0 _ _ (ix2 r l) 5 (by exact (show 5 < 8 by decide)) S128x128 _ rfl rfl 640 rfl (ix2 ⟨r.val % 128, by omega⟩ l) hoff (by show 640 + r.val % 128 = r.val; omega)).trans (key 5 (by decide) hs)
  · exact (concatenate_apply_piece 0 _ _ (ix2 r l) 6 (by exact (show 6 < 8 by decide)) S128x128 _ rfl rfl 768 rfl (ix2 ⟨r.val % 128, by omega⟩ l) hoff (by show 768 + r.val % 128 = r.val; omega)).trans (key 6 (by decide) hs)
  · exact (concatenate_apply_piece 0 _ _ (ix2 r l) 7 (by exact (show 7 < 8 by decide)) S128x128 _ rfl rfl 896 rfl (ix2 ⟨r.val % 128, by omega⟩ l) hoff (by show 896 + r.val % 128 = r.val; omega)).trans (key 7 (by decide) hs)

theorem slices128 (c : ℕ) (hc : c ≤ 384) : S1024x512.Slices ![0, c] S1024x128 :=
  ⟨rfl, fun a => by
    fin_cases a
    · show 0 + 1024 ≤ 1024
      omega
    · show c + 128 ≤ 512
      omega⟩

theorem part_inb (g : ℕ) (hg : g < 4) (a : Fin S4x128x128.rank) : (![g, 0, 0] : Fin 3 → ℕ) a + S1x128x128.size a ≤ S4x128x128.size a := by
  fin_cases a
  · show g + 1 ≤ 4
    omega
  · show 0 + 128 ≤ 128
    omega
  · show 0 + 128 ≤ 128
    omega

/-- One group's part of a spatial operand. -/
abbrev gpart {e : EltTy} (x : Vec Ideal S4x128x128 e) (g : ℕ) (hg : g < 4) : Vec Ideal S1x128x128 e :=
  fun j => x ((Rect.unit (s := S4x128x128) ![g, 0, 0] S1x128x128.size (part_inb g hg)).toLoadRect.idx j)

theorem gpart_apply {e : EltTy} (x : Vec Ideal S4x128x128 e) (g : ℕ) (hg : g < 4) (p q : Fin 128) : gpart x g hg (ix3 0 p q) = x (ix3 ⟨g, hg⟩ p q) := by
  refine congrArg x (funext fun a => Fin.ext ?_)
  fin_cases a
  · show g + 1 * 0 = g
    omega
  · show 0 + 1 * p.val = p.val
    omega
  · show 0 + 1 * q.val = q.val
    omega

/-- What the body reads of its blocks. -/
structure Blocks where
  o1 : Vec Ideal S1024x512 .f32
  o2 : Vec Ideal S1024x512 .f32
  z : Vec Ideal S1024x512 .bf16
  u : Vec Ideal S1024x512 .bf16
  v : Vec Ideal S1024x512 .bf16
  x : Vec Ideal S1024x1024 .f32
  nw : Vec Ideal S1x128 .f32
  sg : Vec Ideal S1x512 .f32
  sb : Vec Ideal S1x512 .f32
  w : Vec Ideal S4x128x128 .bf16
  b : Vec Ideal S4x128x128 .f32
  wo : Vec Ideal S1024x1024 .bf16
  lg : Vec Ideal S1x1024 .f32
  lb : Vec Ideal S1x1024 .f32

/-- A row of the blocks. -/
def Blocks.row (B : Blocks) (r : Fin 1024) : Row where
  o d := B.o1 (ix2 r d) + B.o2 (ix2 r d)
  z d := B.z (ix2 r d)
  u d := B.u (ix2 r d)
  v q d := B.v (ix2 ⟨r.val / 128 * 128 + q.val, by omega⟩ d)
  x j := B.x (ix2 r j)
  nw l := B.nw (ix2 0 l)
  sg d := B.sg (ix2 0 d)
  sb d := B.sb (ix2 0 d)
  w g q := B.w (ix3 g ⟨r.val % 128, by omega⟩ q)
  b d := B.b (ix3 ⟨d.val / 128, by omega⟩ ⟨r.val % 128, by omega⟩ ⟨d.val % 128, by omega⟩)
  wo k j := B.wo (ix2 k j)
  lg j := B.lg (ix2 0 j)
  lb j := B.lb (ix2 0 j)

/-- Both directions' sum. -/
abbrev Blocks.both (B : Blocks) : FVec Ideal S1024x512 .f32 := addf (B.o1 : FVec Ideal S1024x512 .f32) B.o2

/-- A block of gating entries at the wider type. -/
abbrev wide (x : Vec Ideal S1024x512 .bf16) : FVec Ideal S1024x512 .f32 := extf .f32 (x : FVec Ideal S1024x512 .bf16) bitsLt_bf16_f32

/-- The normed gating values. -/
abbrev Blocks.gating (B : Blocks) : FVec Ideal S1024x512 .bf16 := truncf .bf16 (norms512 (gelus (wide B.v)) B.sg B.sb) bitsLt_bf16_f32

abbrev Blocks.head (B : Blocks) (c : ℕ) (hc : c ≤ 384) : FVec Ideal S1024x128 .bf16 :=
  heads (part128 B.both c (slices128 c hc)) (part128 (wide B.z) c (slices128 c hc)) B.nw

abbrev Blocks.group (B : Blocks) (c : ℕ) (hc : c ≤ 384) (g : ℕ) (hg : g < 4) : FVec Ideal S1024x128 .bf16 :=
  Mix.group (gelus (wide B.u)) B.gating (gpart B.w g hg) (gpart B.b g hg) c hc

/-- Both mixers' outputs side by side. -/
abbrev Blocks.joined (B : Blocks) : FVec Ideal S1024x1024 .bf16 :=
  concatenate S1024x1024 1 [⟨S1024x128, B.head 0 (by decide)⟩,
    ⟨S1024x128, B.head 128 (by decide)⟩,
    ⟨S1024x128, B.head 256 (by decide)⟩,
    ⟨S1024x128, B.head 384 (by decide)⟩,
    ⟨S1024x128, B.group 0 (by decide) 0 (by decide)⟩,
    ⟨S1024x128, B.group 128 (by decide) 1 (by decide)⟩,
    ⟨S1024x128, B.group 256 (by decide) 2 (by decide)⟩,
    ⟨S1024x128, B.group 384 (by decide) 3 (by decide)⟩]
    concatenates_S1024x128_S1024x128_S1024x128_S1024x128_S1024x128_S1024x128_S1024x128_S1024x128_S1024x1024_d1

/-- The tile before its norm. -/
abbrev Blocks.sum (B : Blocks) : FVec Ideal S1024x1024 .f32 :=
  addf (mulf (all S1024x1024 0x3FD744FD#32) B.x) (matmul (φ₂ := .bf16) dot_S1024x1024_S1024x1024_S1024x1024_1_0_0_1_n_n none B.joined B.wo (constant S1024x1024 .f32 0x00000000#32))

/-- The tile. -/
abbrev Blocks.tile (B : Blocks) : FVec Ideal S1024x1024 .f32 := norms1024 B.sum B.lg B.lb

theorem Blocks.head_apply (B : Blocks) (s : ℕ) (hs : 128 * s ≤ 384) (r : Fin 1024) (d : Fin 512) (hd : d.val / 128 = s) :
    B.head (128 * s) hs (ix2 r ⟨d.val % 128, by omega⟩) = (B.row r).delta tgate d := by
  refine (heads_apply _ _ _ r _).trans ?_
  refine congrArg₂ (fun a c : EReal => a * c) ?_ ?_
  · refine congrArg (fun f : Fin 128 → EReal => Mixing.head f (B.row r).nw ⟨d.val % 128, by omega⟩) (funext fun l => ?_)
    exact part128_apply _ _ _ r l ⟨d.val / 128 * 128 + l.val, by omega⟩ (by show d.val / 128 * 128 + l.val = 128 * s + l.val; omega)
  · exact congrArg tgate (part128_apply _ _ _ r _ d (by show d.val = 128 * s + d.val % 128; omega))

theorem Blocks.gating_apply (B : Blocks) (r : Fin 1024) (q : Fin 128) (d : Fin 512) :
    B.gating (ix2 ⟨r.val / 128 * 128 + q.val, by omega⟩ d) = (B.row r).gating q d :=
  norms512_apply _ _ _ _ d

theorem Blocks.group_apply (B : Blocks) (s : ℕ) (hs : 128 * s ≤ 384) (hg : s < 4) (r : Fin 1024) (d : Fin 512) (hd : d.val / 128 = s) :
    B.group (128 * s) hs s hg (ix2 r ⟨d.val % 128, by omega⟩) = (B.row r).spatial d := by
  refine (Mix.group_apply _ _ _ _ _ _ r _).trans ?_
  have e1 : (⟨128 * s + d.val % 128, by omega⟩ : Fin 512) = d := Fin.ext (by show 128 * s + d.val % 128 = d.val; omega)
  have e2 : (⟨s, hg⟩ : Fin 4) = ⟨d.val / 128, by omega⟩ := Fin.ext hd.symm
  refine congrArg₂ (fun a c : EReal => a * c) ?_ (congrArg₂ (fun a c : EReal => a + c) (Finset.sum_congr rfl fun q _ => congrArg₂ (fun a c : EReal => a * c) ?_ ?_) ?_)
  · exact congrArg (fun e : Fin 512 => gelu (B.u (ix2 r e))) e1
  · exact (gpart_apply _ _ _ _ q).trans (congrArg (fun g : Fin 4 => (B.w (ix3 g ⟨r.val % 128, by omega⟩ q) : EReal)) e2)
  · exact (congrArg (fun e : Fin 512 => (B.gating (ix2 ⟨r.val / 128 * 128 + q.val, by omega⟩ e) : EReal)) e1).trans (B.gating_apply r q d)
  · exact (gpart_apply _ _ _ _ _).trans (congrArg (fun g : Fin 4 => (B.b (ix3 g ⟨r.val % 128, by omega⟩ ⟨d.val % 128, by omega⟩) : EReal)) e2)

theorem Blocks.joined_apply (B : Blocks) (r k : Fin 1024) : B.joined (ix2 r k) = (B.row r).joined tgate k := by
  have hk := k.isLt
  have low : ∀ (s : ℕ) (hs : 128 * s ≤ 384), k.val / 128 = s → B.head (128 * s) hs (ix2 r ⟨k.val % 128, by omega⟩) = (B.row r).joined tgate k := fun s hs e => by
    have hlt : k.val < 512 := by omega
    refine (B.head_apply s hs r ⟨k.val, hlt⟩ e).trans ?_
    unfold Row.joined
    rw [dif_pos hlt]
  have high : ∀ (s : ℕ) (hs : 128 * s ≤ 384) (hg : s < 4), k.val / 128 = s + 4 → B.group (128 * s) hs s hg (ix2 r ⟨k.val % 128, by omega⟩) = (B.row r).joined tgate k := fun s hs hg e => by
    have hge : ¬k.val < 512 := by omega
    have e1 : (⟨k.val % 128, by omega⟩ : Fin 128) = ⟨(k.val - 512) % 128, by omega⟩ := Fin.ext (by show k.val % 128 = (k.val - 512) % 128; omega)
    refine (congrArg (fun l : Fin 128 => (B.group (128 * s) hs s hg (ix2 r l) : EReal)) e1).trans ?_
    refine (B.group_apply s hs hg r ⟨k.val - 512, by omega⟩ (by show (k.val - 512) / 128 = s; omega)).trans ?_
    unfold Row.joined
    rw [dif_neg hge]
  have hoff : ∀ b : Fin 2, b.cast (rfl : (2 : ℕ) = 2) ≠ (1 : Fin 2) →
      ((ix2 r (⟨k.val % 128, by omega⟩ : Fin 128) : S1024x128.Idx) b).val = ((ix2 r k : S1024x1024.Idx) (b.cast rfl)).val := fun b hb => by
    fin_cases b
    · rfl
    · exact absurd rfl hb
  obtain ⟨s, hs⟩ : ∃ s, k.val / 128 = s := ⟨_, rfl⟩
  have hd : s < 8 := by omega
  interval_cases s
  · exact (concatenate_apply_piece 1 _ _ (ix2 r k) 0 (by exact (show 0 < 8 by decide)) S1024x128 _ rfl rfl 0 rfl (ix2 r ⟨k.val % 128, by omega⟩) hoff (by show 0 + k.val % 128 = k.val; omega)).trans (low 0 (by decide) hs)
  · exact (concatenate_apply_piece 1 _ _ (ix2 r k) 1 (by exact (show 1 < 8 by decide)) S1024x128 _ rfl rfl 128 rfl (ix2 r ⟨k.val % 128, by omega⟩) hoff (by show 128 + k.val % 128 = k.val; omega)).trans (low 1 (by decide) hs)
  · exact (concatenate_apply_piece 1 _ _ (ix2 r k) 2 (by exact (show 2 < 8 by decide)) S1024x128 _ rfl rfl 256 rfl (ix2 r ⟨k.val % 128, by omega⟩) hoff (by show 256 + k.val % 128 = k.val; omega)).trans (low 2 (by decide) hs)
  · exact (concatenate_apply_piece 1 _ _ (ix2 r k) 3 (by exact (show 3 < 8 by decide)) S1024x128 _ rfl rfl 384 rfl (ix2 r ⟨k.val % 128, by omega⟩) hoff (by show 384 + k.val % 128 = k.val; omega)).trans (low 3 (by decide) hs)
  · exact (concatenate_apply_piece 1 _ _ (ix2 r k) 4 (by exact (show 4 < 8 by decide)) S1024x128 _ rfl rfl 512 rfl (ix2 r ⟨k.val % 128, by omega⟩) hoff (by show 512 + k.val % 128 = k.val; omega)).trans (high 0 (by decide) (by decide) hs)
  · exact (concatenate_apply_piece 1 _ _ (ix2 r k) 5 (by exact (show 5 < 8 by decide)) S1024x128 _ rfl rfl 640 rfl (ix2 r ⟨k.val % 128, by omega⟩) hoff (by show 640 + k.val % 128 = k.val; omega)).trans (high 1 (by decide) (by decide) hs)
  · exact (concatenate_apply_piece 1 _ _ (ix2 r k) 6 (by exact (show 6 < 8 by decide)) S1024x128 _ rfl rfl 768 rfl (ix2 r ⟨k.val % 128, by omega⟩) hoff (by show 768 + k.val % 128 = k.val; omega)).trans (high 2 (by decide) (by decide) hs)
  · exact (concatenate_apply_piece 1 _ _ (ix2 r k) 7 (by exact (show 7 < 8 by decide)) S1024x128 _ rfl rfl 896 rfl (ix2 r ⟨k.val % 128, by omega⟩) hoff (by show 896 + k.val % 128 = k.val; omega)).trans (high 3 (by decide) (by decide) hs)

theorem Blocks.sum_apply (B : Blocks) (r j : Fin 1024) : B.sum (ix2 r j) = (B.row r).sum tgate j := by
  refine congrArg (fun s : EReal => Ideal.ofBits .f32 0x3FD744FD#32 * (B.x (ix2 r j) : EReal) + s) ?_
  refine (product1024_apply _ _ r j).trans (Finset.sum_congr rfl fun k _ => ?_)
  exact congrArg (fun a : EReal => a * (B.wo (ix2 k j) : EReal)) (B.joined_apply r k)

/-- An entry of the tile. -/
theorem Blocks.tile_apply (B : Blocks) (r j : Fin 1024) : B.tile (ix2 r j) = (B.row r).out tgate j := by
  refine (norms1024_apply _ _ _ r j).trans ?_
  exact congrArg (fun f : Fin 1024 → EReal => norm (Ideal.ofBits .f32 0x44800000#32) f (B.row r).lg (B.row r).lb j) (funext fun k => B.sum_apply r k)

end Cert.Kernel3Ideal.Mix

end
-- ==== Proof.Mix.Ideal.Pays.lean ====
/- The mixing body's values, gathered into its tile. -/
module

public import proofs.«01_k».proof.Proof.Mix.Ideal.Tile

@[expose] public section

set_option maxRecDepth 16384

noncomputable section

namespace Cert.Kernel3Ideal.Mix

open Cert.Kernel3Ideal Cert.Kernel3Ideal.Gen
open Idealize.ShloMosaic

variable (o1 o2 : Vec Ideal S1024x512 .f32) (z xu xv : Vec Ideal S1024x512 .bf16) (nw : Vec Ideal S1x128 .f32) (sg sb : Vec Ideal S1x512 .f32)

theorem pay_nw : k0_pay5 nw = (nw : FVec Ideal S1x128 .f32) := shapeCast_self _ _

theorem pay_head0 : k0_pay6 o1 o2 z nw = heads (part128 (addf (o1 : FVec Ideal S1024x512 .f32) o2) 0 (slices128 0 (by decide))) (part128 (wide z) 0 (slices128 0 (by decide))) nw := by
  unfold k0_pay6
  rw [pay_nw]
  rfl

theorem pay_head1 : k0_pay9 (k0_pay4 z) (k0_pay5 nw) (k0_pay7 o1 o2) (k0_pay8 o1 o2)
    = heads (part128 (addf (o1 : FVec Ideal S1024x512 .f32) o2) 128 (slices128 128 (by decide))) (part128 (wide z) 128 (slices128 128 (by decide))) nw := by
  rw [pay_nw]
  rfl

theorem pay_head2 : k0_pay10 (k0_pay3 o1 o2) (k0_pay4 z) (k0_pay5 nw)
    = heads (part128 (addf (o1 : FVec Ideal S1024x512 .f32) o2) 256 (slices128 256 (by decide))) (part128 (wide z) 256 (slices128 256 (by decide))) nw := by
  rw [pay_nw]
  rfl

theorem pay_head3 : k0_pay13 (k0_pay11 (k0_pay3 o1 o2) (k0_pay5 nw)) (k0_pay12 (k0_pay4 z))
    = heads (part128 (addf (o1 : FVec Ideal S1024x512 .f32) o2) 384 (slices128 384 (by decide))) (part128 (wide z) 384 (slices128 384 (by decide))) nw := by
  rw [pay_nw]
  rfl

theorem pay_gelus : k0_pay14 xu = gelus (wide xu) := rfl

theorem pay_gating : k0_pay19 (k0_pay15 sg) (k0_pay16 sb) (k0_pay17 xv) (k0_pay18 xv) = truncf .bf16 (norms512 (gelus (wide xv)) sg sb) bitsLt_bf16_f32 := by
  rw [show k0_pay15 sg = (sg : FVec Ideal S1x512 .f32) from shapeCast_self _ _, show k0_pay16 sb = (sb : FVec Ideal S1x512 .f32) from shapeCast_self _ _]
  rfl

variable (u : FVec Ideal S1024x512 .f32) (g : FVec Ideal S1024x512 .bf16) (w : Vec Ideal S1x128x128 .bf16) (b : Vec Ideal S1x128x128 .f32)

theorem pay_group0 (s1 s2 : FVec Ideal S1x512 .f32) (v1 v2 : FVec Ideal S1024x512 .f32) :
    k0_pay26 u (k0_pay19 s1 s2 v1 v2) (k0_pay20 w) (k0_pay21 u s1 s2 v1 v2 w b) (k0_pay22 u s1 s2 v1 v2 w b) (k0_pay23 u s1 s2 v1 v2 w b) (k0_pay24 u s1 s2 v1 v2 w b) (k0_pay25 s1 s2 v1 v2 w) b b b b
      = group u (k0_pay19 s1 s2 v1 v2) w b 0 (by decide) := rfl

theorem pay_group1 : k0_pay37 u g (k0_pay27 w) (k0_pay28 u g w b) (k0_pay30 u (k0_pay29 g w) b) (k0_pay31 u g (k0_pay27 w) b) (k0_pay32 u g (k0_pay27 w) b) (k0_pay33 u g (k0_pay27 w) b)
    (k0_pay34 u g (k0_pay27 w) b) (k0_pay35 g (k0_pay27 w)) (k0_pay36 b) b = group u g w b 128 (by decide) := rfl

theorem pay_group2 : k0_pay43 u g (k0_pay38 w) (k0_pay39 u g w b) (k0_pay40 u g w b) (k0_pay41 u g w b) (k0_pay42 g w) b b b b b = group u g w b 256 (by decide) := rfl

/-- The tile before its norm, of the parts. -/
abbrev gathered (h0 h1 h2 h3 g0 g1 g2 g3 : FVec Ideal S1024x128 .bf16) (wo : Vec Ideal S1024x1024 .bf16) (x : Vec Ideal S1024x1024 .f32) : FVec Ideal S1024x1024 .f32 :=
  addf (mulf (all S1024x1024 0x3FD744FD#32) x) (matmul (φ₂ := .bf16) dot_S1024x1024_S1024x1024_S1024x1024_1_0_0_1_n_n none
    (concatenate S1024x1024 1 [⟨S1024x128, h0⟩, ⟨S1024x128, h1⟩, ⟨S1024x128, h2⟩, ⟨S1024x128, h3⟩, ⟨S1024x128, g0⟩, ⟨S1024x128, g1⟩, ⟨S1024x128, g2⟩, ⟨S1024x128, g3⟩]
      concatenates_S1024x128_S1024x128_S1024x128_S1024x128_S1024x128_S1024x128_S1024x128_S1024x128_S1024x1024_d1) wo (constant S1024x1024 .f32 0x00000000#32))

theorem pay_centred (h0 h1 h2 h3 g0 g1 g2 : FVec Ideal S1024x128 .bf16) (wo : Vec Ideal S1024x1024 .bf16) (x : Vec Ideal S1024x1024 .f32) :
    k0_pay54 h0 h1 h2 h3 u g g0 g1 g2 (k0_pay44 w) (k0_pay46 u (k0_pay45 g w) b) (k0_pay47 u g (k0_pay44 w) b) (k0_pay48 u g (k0_pay44 w) b) (k0_pay49 u g (k0_pay44 w) b) (k0_pay50 u g (k0_pay44 w) b)
      (k0_pay51 g (k0_pay44 w) b) b b wo x = centred1024 (gathered h0 h1 h2 h3 g0 g1 g2 (group u g w b 384 (by decide)) wo x) := by
  unfold k0_pay54
  rw [show shapeCast S1024x1024 wo shapeCasts_S1024x1024_S1024x1024 = wo from shapeCast_self _ _]
  rfl

theorem pay_squares (h0 h1 h2 h3 g0 g1 g2 : FVec Ideal S1024x128 .bf16) (p : FVec Ideal S128x128 .bf16) (q1 q2 q3 q4 q5 q6 : FVec Ideal S128x128 .f32) (b1 b2 : Vec Ideal S1x128x128 .f32) (wo : Vec Ideal S1024x1024 .bf16) (x : Vec Ideal S1024x1024 .f32) :
    k0_pay55 h0 h1 h2 h3 u g g0 g1 g2 p q1 q2 q3 q4 q5 q6 b1 b2 wo x
      = shapeCast S1024x1 (multiReduction .add [1] S1024 (mulf (k0_pay54 h0 h1 h2 h3 u g g0 g1 g2 p q1 q2 q3 q4 q5 q6 b1 b2 wo x) (k0_pay54 h0 h1 h2 h3 u g g0 g1 g2 p q1 q2 q3 q4 q5 q6 b1 b2 wo x))
          0x00000000#32 reduces_S1024x1024_S1024 (.inl rfl) rfl) shapeCasts_S1024_S1024x1 := rfl

theorem pay_norm (y : FVec Ideal S1024x1024 .f32) (lg lb : Vec Ideal S1x1024 .f32) :
    k0_pay56 (k0_pay52 lg) (k0_pay53 lb) (centred1024 y) (shapeCast S1024x1 (multiReduction .add [1] S1024 (mulf (centred1024 y) (centred1024 y)) 0x00000000#32 reduces_S1024x1024_S1024 (.inl rfl) rfl) shapeCasts_S1024_S1024x1)
      = norms1024 y lg lb := by
  rw [show k0_pay52 lg = (lg : FVec Ideal S1x1024 .f32) from shapeCast_self _ _, show k0_pay53 lb = (lb : FVec Ideal S1x1024 .f32) from shapeCast_self _ _]
  rfl

end Cert.Kernel3Ideal.Mix

end
-- ==== Proof.Mix.Ideal.Out.lean ====
/- What the mixing body leaves in its tile of activations, from the blocks it reads. -/
module

public import proofs.«01_k».proof.Proof.Mix.Ideal.Frame
public import proofs.«01_k».proof.Proof.Mix.Ideal.Pays

@[expose] public section

set_option maxRecDepth 65536

noncomputable section

namespace Cert.Kernel3Ideal.Mix

open Cert.Kernel3Ideal Cert.Kernel3Ideal.Gen
open Idealize.ShloMosaic Idealize.ShloMosaic.TcCoe

/-- A load from a buffer of known contents reads them at the loaded places. -/
theorem known {sp : Space} {S : Shape} {e : EltTy} {M : Memref sig .tc sp S e} (h : M.IsWhole) (x : S.Idx → Elt Ideal e) (r : LoadRect S) :
    M.view.readAt (Elt Ideal) r (h.unread x) = fun j => x (r.idx j) :=
  funext fun j => congrFun (h.read_unread (Val := Elt Ideal) x) (r.idx j)

/-- A load of the whole of it reads them all. -/
theorem known_whole {sp : Space} {S : Shape} {e : EltTy} {M : Memref sig .tc sp S e} (h : M.IsWhole) (x : S.Idx → Elt Ideal e) {off : Fin S.rank → Nat} (h0 : off = fun _ => 0)
    (inb : ∀ a, off a + S.size a ≤ S.size a) :
    M.view.readAt (Elt Ideal) (Rect.unit off S.size inb).toLoadRect (h.unread x) = x :=
  (known h x _).trans (View.ld_unit_zero h0 inb x)

variable (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .f32) (harg6 : arg6.IsWhole) (arg7 : Memref sig .tc .vmem S1x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S4x128x128 .bf16) (harg10 : arg10.IsWhole) (arg11 : Memref sig .tc .vmem S4x128x128 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S16x1024 .f32) (harg15 : arg15.IsWhole) (arg16 : Memref sig .tc .vmem S16x128 .f32) (harg16 : arg16.IsWhole) (arg17 : Memref sig .tc .vmem S8192x128 .f32) (harg17 : arg17.IsWhole) (arg18 : Memref sig .tc .vmem S8x1024 .f32) (harg18 : arg18.IsWhole) (arg19 : Memref sig .tc .vmem S16x128 .f32) (harg19 : arg19.IsWhole)
  (x0 : Vec Ideal S1024x512 .f32) (x1 : Vec Ideal S1024x512 .f32) (x2 : Vec Ideal S1024x512 .bf16) (x3 : Vec Ideal S1024x512 .bf16) (x4 : Vec Ideal S1024x512 .bf16) (x5 : Vec Ideal S1024x1024 .f32) (x6 : Vec Ideal S1x128 .f32) (x7 : Vec Ideal S1x512 .f32) (x8 : Vec Ideal S1x512 .f32) (x9 : Vec Ideal S4x128x128 .bf16) (x10 : Vec Ideal S4x128x128 .f32) (x11 : Vec Ideal S1024x1024 .bf16) (x12 : Vec Ideal S1x1024 .f32) (x13 : Vec Ideal S1x1024 .f32) (x14 : Vec Ideal S16x1024 .f32) (x15 : Vec Ideal S16x128 .f32)

theorem out_A (hc0 : cond0_0 i) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15
      = asRows (e := .f32) (Blocks.tile ⟨x0, x1, x2, x3, x4, x5, x6, x7, x8, x9, x10, x11, x12, x13⟩) := by
  unfold out0_A_16 kernelRun0_A
  refine (View.read_writes_eq_canon _ _ _ (fun y => rowStores_cover _ _ _ _ _ _ _ _ y)).trans ((canon_rowStores _).trans (congrArg (asRows (e := .f32)) ?_))
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  simp only [known_whole (off := ![0, 0]) harg1 x0 (by decide), known_whole (off := ![0, 0]) harg2 x1 (by decide), known_whole (off := ![0, 0]) harg3 x2 (by decide), known_whole (off := ![0, 0]) harg4 x3 (by decide), known_whole (off := ![0, 0]) harg5 x4 (by decide), known_whole (off := ![0, 0]) harg6 x5 (by decide), known_whole (off := ![0, 0]) harg7 x6 (by decide), known_whole (off := ![0, 0]) harg8 x7 (by decide), known_whole (off := ![0, 0]) harg9 x8 (by decide), known_whole (off := ![0, 0]) harg12 x11 (by decide), known_whole (off := ![0, 0]) harg13 x12 (by decide), known_whole (off := ![0, 0]) harg14 x13 (by decide)]
  simp only [known]
  rw [pay_head0, pay_head1, pay_head2, pay_head3, pay_gelus, pay_group0, pay_gating, pay_group1, pay_group2, pay_squares, pay_centred, pay_norm]
  rfl

theorem out_B (hc0 : ¬cond0_0 i) (xo18 : Vec Ideal S16x128 .f32) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 xo18
      = asRows (e := .f32) (Blocks.tile ⟨x0, x1, x2, x3, x4, x5, x6, x7, x8, x9, x10, x11, x12, x13⟩) := by
  unfold out0_B_16 kernelRun0_B
  refine (View.read_writes_eq_canon _ _ _ (fun y => rowStores_cover _ _ _ _ _ _ _ _ y)).trans ((canon_rowStores _).trans (congrArg (asRows (e := .f32)) ?_))
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52]
  simp only [known_whole (off := ![0, 0]) harg1 x0 (by decide), known_whole (off := ![0, 0]) harg2 x1 (by decide), known_whole (off := ![0, 0]) harg3 x2 (by decide), known_whole (off := ![0, 0]) harg4 x3 (by decide), known_whole (off := ![0, 0]) harg5 x4 (by decide), known_whole (off := ![0, 0]) harg6 x5 (by decide), known_whole (off := ![0, 0]) harg7 x6 (by decide), known_whole (off := ![0, 0]) harg8 x7 (by decide), known_whole (off := ![0, 0]) harg9 x8 (by decide), known_whole (off := ![0, 0]) harg12 x11 (by decide), known_whole (off := ![0, 0]) harg13 x12 (by decide), known_whole (off := ![0, 0]) harg14 x13 (by decide)]
  simp only [known]
  rw [pay_head0, pay_head1, pay_head2, pay_head3, pay_gelus, pay_group0, pay_gating, pay_group1, pay_group2, pay_squares, pay_centred, pay_norm]
  rfl

end Cert.Kernel3Ideal.Mix

end
-- ==== Proof.Mix.Ref.lean ====
/- The mixing reference's result, read at a row and a column. -/
module

public import proofs.«01_k».proof.Proof.Gen.Reference3Ideal.Run
public import proofs.«01_k».proof.Proof.Mix.Spec
public import Idealize.ShloMosaic.PureOps.Ideal
public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.Pipeline.Value

@[expose] public section

set_option maxRecDepth 16384

noncomputable section

namespace Cert.Reference3Ideal.Mix

open Cert.Reference3Ideal Cert.Reference3Ideal.Gen
open Idealize.ShloMosaic
open Idealize.ShloMosaic.TcCoe
open Idealize.ShloMosaic.ValueIdx (ix0 ix1 ix2 ix3 ix4)
open Cert.Mixing

/-- A number in every place. -/
abbrev all (s : Shape) (h : S_.BroadcastsInDim s (![] : Fin 0 → Fin s.rank)) (b : BitVec 32) : FVec Ideal s .f32 := broadcastInDim s ![] h (constant S_ .f32 b)

theorem zero_bits : Ideal.ofBits .f32 0x00000000#32 = 0 := by exact Ideal.ofBits_zero_f32

/-- The rows' means, as a column. -/
abbrev means512 (y : FVec Ideal S32768x512 .f32) : FVec Ideal S32768x1 .f32 :=
  Host.divf (broadcastInDim S32768x1 ![0] bcast_S32768_S32768x1_0 (Host.reduceAdd y (constant S_ .f32 0x00000000#32) reducesTo_S32768x512_S32768_d1 h_S_)) (all S32768x1 bcast_S_S32768x1 0x44000000#32)

theorem means512_apply (y : FVec Ideal S32768x512 .f32) (n : Fin 32768) :
    means512 y (ix2 n 0) = mean (Ideal.ofBits .f32 0x44000000#32) fun k => y (ix2 n k) := by
  refine congrArg (fun s : EReal => Ideal.div s (Ideal.ofBits .f32 0x44000000#32)) ?_
  refine (broadcastInDim_apply _ _ _ (ix2 n (0 : Fin 1)) (ix1 n) fun a => by fin_cases a; rfl).trans ?_
  refine (Ideal.hostReduceAdd_single reducesTo_S32768x512_S32768_d1 (by decide : Shape.Reduces S32768x512 [1] S32768) _ _ (ix1 n)).trans ?_
  refine (congrArg (fun z : EReal => z + _) zero_bits).trans ((zero_add _).trans ?_)
  refine Finset.sum_congr rfl fun k _ => ?_
  refine congrArg y (funext fun a => Fin.ext ?_)
  rw [Shape.Reduces.lift_val]
  fin_cases a <;> rfl

/-- The rows less their means. -/
abbrev centred512 (y : FVec Ideal S32768x512 .f32) : FVec Ideal S32768x512 .f32 := subf y (broadcastInDim S32768x512 ![0, 1] bcast_S32768x1_S32768x512_0_1 (means512 y))

theorem centred512_apply (y : FVec Ideal S32768x512 .f32) (n : Fin 32768) (j : Fin 512) :
    centred512 y (ix2 n j) = (y (ix2 n j) : EReal) - mean (Ideal.ofBits .f32 0x44000000#32) fun k => y (ix2 n k) := by
  refine congrArg (fun s : EReal => (y (ix2 n j) : EReal) - s) ?_
  exact (broadcastInDim_apply _ _ _ (ix2 n j) (ix2 n (0 : Fin 1)) fun a => by fin_cases a <;> rfl).trans (means512_apply y n)

/-- The first layer's row of an argument, for every row. -/
abbrev spread512 (g : FVec Ideal S4x512 .f32) : FVec Ideal S32768x512 .f32 :=
  broadcastInDim S32768x512 ![0, 1] bcast_S1x512_S32768x512_0_1 (broadcastInDim S1x512 ![1] bcast_S512_S1x512_1 (shapeCast S512 (extractStridedSlice S1x512 ![0, 0] g slices_S4x512_S1x512_0_0) shapeCasts_S1x512_S512))

theorem spread512_apply (g : FVec Ideal S4x512 .f32) (n : Fin 32768) (j : Fin 512) : spread512 g (ix2 n j) = g (ix2 0 j) := by
  refine (broadcastInDim_apply _ _ _ (ix2 n j) (ix2 (0 : Fin 1) j) fun a => by fin_cases a <;> rfl).trans ?_
  refine (broadcastInDim_apply _ _ _ (ix2 (0 : Fin 1) j) (ix1 j) fun a => by fin_cases a; rfl).trans ?_
  refine (ValueIdx.shapeCast_1a_a_apply _ _ j).trans ?_
  exact extractStridedSlice_apply _ _ _ _ (ix2 (0 : Fin 4) j) fun a => by fin_cases a <;> simp

/-- The rows' layer norms. -/
abbrev norms512 (y : FVec Ideal S32768x512 .f32) (g b : FVec Ideal S4x512 .f32) : FVec Ideal S32768x512 .f32 :=
  addf (mulf (mulf (centred512 y) (broadcastInDim S32768x512 ![0, 1] bcast_S32768x1_S32768x512_0_1 (Host.rsqrt (addf (means512 (mulf (centred512 y) (centred512 y))) (all S32768x1 bcast_S_S32768x1 0x3727C5AC#32)))))
    (spread512 g)) (spread512 b)

theorem norms512_apply (y : FVec Ideal S32768x512 .f32) (g b : FVec Ideal S4x512 .f32) (n : Fin 32768) (j : Fin 512) :
    norms512 y g b (ix2 n j) = norm (Ideal.ofBits .f32 0x44000000#32) (fun k => y (ix2 n k)) (fun k => g (ix2 0 k)) (fun k => b (ix2 0 k)) j := by
  refine congrArg₂ (fun a c : EReal => a + c) (congrArg₂ (fun a c : EReal => a * c) (congrArg₂ (fun a c : EReal => a * c) (centred512_apply y n j) ?_) (spread512_apply g n j)) (spread512_apply b n j)
  refine (broadcastInDim_apply _ _ _ (ix2 n j) (ix2 n (0 : Fin 1)) fun a => by fin_cases a <;> rfl).trans ?_
  refine congrArg (fun s : EReal => Ideal.rsqrt (s + Ideal.ofBits .f32 0x3727C5AC#32)) ?_
  refine (means512_apply _ n).trans (congrArg (mean _) (funext fun k => ?_))
  exact congrArg₂ (fun a c : EReal => a * c) (centred512_apply y n k) (centred512_apply y n k)

/-- The rows' means, as a column. -/
abbrev means1024 (y : FVec Ideal S32768x1024 .f32) : FVec Ideal S32768x1 .f32 :=
  Host.divf (broadcastInDim S32768x1 ![0] bcast_S32768_S32768x1_0 (Host.reduceAdd y (constant S_ .f32 0x00000000#32) reducesTo_S32768x1024_S32768_d1 h_S_)) (all S32768x1 bcast_S_S32768x1 0x44800000#32)

theorem means1024_apply (y : FVec Ideal S32768x1024 .f32) (n : Fin 32768) :
    means1024 y (ix2 n 0) = mean (Ideal.ofBits .f32 0x44800000#32) fun k => y (ix2 n k) := by
  refine congrArg (fun s : EReal => Ideal.div s (Ideal.ofBits .f32 0x44800000#32)) ?_
  refine (broadcastInDim_apply _ _ _ (ix2 n (0 : Fin 1)) (ix1 n) fun a => by fin_cases a; rfl).trans ?_
  refine (Ideal.hostReduceAdd_single reducesTo_S32768x1024_S32768_d1 (by decide : Shape.Reduces S32768x1024 [1] S32768) _ _ (ix1 n)).trans ?_
  refine (congrArg (fun z : EReal => z + _) zero_bits).trans ((zero_add _).trans ?_)
  refine Finset.sum_congr rfl fun k _ => ?_
  refine congrArg y (funext fun a => Fin.ext ?_)
  rw [Shape.Reduces.lift_val]
  fin_cases a <;> rfl

/-- The rows less their means. -/
abbrev centred1024 (y : FVec Ideal S32768x1024 .f32) : FVec Ideal S32768x1024 .f32 := subf y (broadcastInDim S32768x1024 ![0, 1] bcast_S32768x1_S32768x1024_0_1 (means1024 y))

theorem centred1024_apply (y : FVec Ideal S32768x1024 .f32) (n : Fin 32768) (j : Fin 1024) :
    centred1024 y (ix2 n j) = (y (ix2 n j) : EReal) - mean (Ideal.ofBits .f32 0x44800000#32) fun k => y (ix2 n k) := by
  refine congrArg (fun s : EReal => (y (ix2 n j) : EReal) - s) ?_
  exact (broadcastInDim_apply _ _ _ (ix2 n j) (ix2 n (0 : Fin 1)) fun a => by fin_cases a <;> rfl).trans (means1024_apply y n)

/-- The first layer's row of an argument, for every row. -/
abbrev spread1024 (g : FVec Ideal S4x1024 .f32) : FVec Ideal S32768x1024 .f32 :=
  broadcastInDim S32768x1024 ![0, 1] bcast_S1x1024_S32768x1024_0_1 (broadcastInDim S1x1024 ![1] bcast_S1024_S1x1024_1 (shapeCast S1024 (extractStridedSlice S1x1024 ![0, 0] g slices_S4x1024_S1x1024_0_0) shapeCasts_S1x1024_S1024))

theorem spread1024_apply (g : FVec Ideal S4x1024 .f32) (n : Fin 32768) (j : Fin 1024) : spread1024 g (ix2 n j) = g (ix2 0 j) := by
  refine (broadcastInDim_apply _ _ _ (ix2 n j) (ix2 (0 : Fin 1) j) fun a => by fin_cases a <;> rfl).trans ?_
  refine (broadcastInDim_apply _ _ _ (ix2 (0 : Fin 1) j) (ix1 j) fun a => by fin_cases a; rfl).trans ?_
  refine (ValueIdx.shapeCast_1a_a_apply _ _ j).trans ?_
  exact extractStridedSlice_apply _ _ _ _ (ix2 (0 : Fin 4) j) fun a => by fin_cases a <;> simp

/-- The rows' layer norms. -/
abbrev norms1024 (y : FVec Ideal S32768x1024 .f32) (g b : FVec Ideal S4x1024 .f32) : FVec Ideal S32768x1024 .f32 :=
  addf (mulf (mulf (centred1024 y) (broadcastInDim S32768x1024 ![0, 1] bcast_S32768x1_S32768x1024_0_1 (Host.rsqrt (addf (means1024 (mulf (centred1024 y) (centred1024 y))) (all S32768x1 bcast_S_S32768x1 0x3727C5AC#32)))))
    (spread1024 g)) (spread1024 b)

theorem norms1024_apply (y : FVec Ideal S32768x1024 .f32) (g b : FVec Ideal S4x1024 .f32) (n : Fin 32768) (j : Fin 1024) :
    norms1024 y g b (ix2 n j) = norm (Ideal.ofBits .f32 0x44800000#32) (fun k => y (ix2 n k)) (fun k => g (ix2 0 k)) (fun k => b (ix2 0 k)) j := by
  refine congrArg₂ (fun a c : EReal => a + c) (congrArg₂ (fun a c : EReal => a * c) (congrArg₂ (fun a c : EReal => a * c) (centred1024_apply y n j) ?_) (spread1024_apply g n j)) (spread1024_apply b n j)
  refine (broadcastInDim_apply _ _ _ (ix2 n j) (ix2 n (0 : Fin 1)) fun a => by fin_cases a <;> rfl).trans ?_
  refine congrArg (fun s : EReal => Ideal.rsqrt (s + Ideal.ofBits .f32 0x3727C5AC#32)) ?_
  refine (means1024_apply _ n).trans (congrArg (mean _) (funext fun k => ?_))
  exact congrArg₂ (fun a c : EReal => a * c) (centred1024_apply y n k) (centred1024_apply y n k)

/-- The gelu of every entry. -/
abbrev gelus (x : FVec Ideal S32768x512 .f32) : FVec Ideal S32768x512 .f32 :=
  mulf (mulf (all S32768x512 bcast_S_S32768x512 0x3F000000#32) x) (addf (all S32768x512 bcast_S_S32768x512 0x3F800000#32) (Host.erf (mulf x (all S32768x512 bcast_S_S32768x512 0x3F3504F3#32))))

theorem gelus_apply (x : FVec Ideal S32768x512 .f32) (i : S32768x512.Idx) : gelus x i = gelu (x i) := rfl

/-- The heads of every row. -/
abbrev byHead (o : FVec Ideal S32768x512 .f32) : FVec Ideal S32768x4x128 .f32 := shapeCast S32768x4x128 o shapeCasts_S32768x512_S32768x4x128

theorem byHead_apply (o : FVec Ideal S32768x512 .f32) (n : Fin 32768) (h : Fin 4) (l : Fin 128) (d : Fin 512) (hd : d.val = h.val * 128 + l.val) :
    byHead o (ix3 n h l) = o (ix2 n d) := by
  refine shapeCast_apply _ _ _ (ix2 n d) ?_
  rw [Shape.rowMajor_val_two, Shape.rowMajor_val_three]
  show n.val * 512 + d.val = (n.val * 4 + h.val) * 128 + l.val
  omega

/-- The heads' mean squares. -/
abbrev squares (o : FVec Ideal S32768x4x128 .f32) : FVec Ideal S32768x4x1 .f32 :=
  Host.divf (broadcastInDim S32768x4x1 ![0, 1] bcast_S32768x4_S32768x4x1_0_1 (Host.reduceAdd (mulf o o) (constant S_ .f32 0x00000000#32) reducesTo_S32768x4x128_S32768x4_d2 h_S_)) (all S32768x4x1 bcast_S_S32768x4x1 0x43000000#32)

theorem squares_apply (o : FVec Ideal S32768x4x128 .f32) (n : Fin 32768) (h : Fin 4) :
    squares o (ix3 n h 0) = mean (Ideal.ofBits .f32 0x43000000#32) fun k => o (ix3 n h k) * o (ix3 n h k) := by
  refine congrArg (fun s : EReal => Ideal.div s (Ideal.ofBits .f32 0x43000000#32)) ?_
  refine (broadcastInDim_apply _ _ _ (ix3 n h (0 : Fin 1)) (ix2 n h) fun a => by fin_cases a <;> rfl).trans ?_
  refine (Ideal.hostReduceAdd_single reducesTo_S32768x4x128_S32768x4_d2 (by decide : Shape.Reduces S32768x4x128 [2] S32768x4) _ _ (ix2 n h)).trans ?_
  refine (congrArg (fun z : EReal => z + _) zero_bits).trans ((zero_add _).trans ?_)
  refine Finset.sum_congr rfl fun k _ => ?_
  have e : (by decide : Shape.Reduces S32768x4x128 [2] S32768x4).lift (ix2 n h) k = ix3 n h k := funext fun a => Fin.ext (by
    rw [Shape.Reduces.lift_val]
    fin_cases a <;> rfl)
  exact congrArg₂ (fun a c : EReal => a * c) (congrArg o e) (congrArg o e)

/-- The first layer's norm weights of a head, for every head. -/
abbrev spreadHead (g : FVec Ideal S4x128 .f32) : FVec Ideal S32768x4x128 .f32 :=
  broadcastInDim S32768x4x128 ![0, 1, 2] bcast_S1x1x128_S32768x4x128_0_1_2 (broadcastInDim S1x1x128 ![2] bcast_S128_S1x1x128_2 (shapeCast S128 (extractStridedSlice S1x128 ![0, 0] g slices_S4x128_S1x128_0_0) shapeCasts_S1x128_S128))

theorem spreadHead_apply (g : FVec Ideal S4x128 .f32) (n : Fin 32768) (h : Fin 4) (l : Fin 128) : spreadHead g (ix3 n h l) = g (ix2 0 l) := by
  refine (broadcastInDim_apply _ _ _ (ix3 n h l) (ix3 (0 : Fin 1) (0 : Fin 1) l) fun a => by fin_cases a <;> rfl).trans ?_
  refine (broadcastInDim_apply _ _ _ (ix3 (0 : Fin 1) (0 : Fin 1) l) (ix1 l) fun a => by fin_cases a; rfl).trans ?_
  refine (ValueIdx.shapeCast_1a_a_apply _ _ l).trans ?_
  exact extractStridedSlice_apply _ _ _ _ (ix2 (0 : Fin 4) l) fun a => by fin_cases a <;> simp

/-- The delta mixer's output. -/
abbrev deltas (o z : FVec Ideal S32768x4x128 .f32) (g : FVec Ideal S4x128 .f32) : FVec Ideal S32768x4x128 .f32 :=
  mulf (mulf (mulf o (broadcastInDim S32768x4x128 ![0, 1, 2] bcast_S32768x4x1_S32768x4x128_0_1_2 (Host.rsqrt (addf (squares o) (all S32768x4x1 bcast_S_S32768x4x1 0x358637BD#32))))) (spreadHead g))
    (mulf z (Host.divf (all S32768x4x128 bcast_S_S32768x4x128 0x3F800000#32) (addf (all S32768x4x128 bcast_S_S32768x4x128 0x3F800000#32) (Host.exp (Host.negf z)))))

theorem deltas_apply (o z : FVec Ideal S32768x4x128 .f32) (g : FVec Ideal S4x128 .f32) (n : Fin 32768) (h : Fin 4) (l : Fin 128) :
    deltas o z g (ix3 n h l) = head (fun k => o (ix3 n h k)) (fun k => g (ix2 0 k)) l * egate (z (ix3 n h l)) := by
  refine congrArg (fun a : EReal => a * egate (z (ix3 n h l))) ?_
  refine congrArg₂ (fun a c : EReal => a * c) (congrArg (fun c : EReal => (o (ix3 n h l) : EReal) * c) ?_) (spreadHead_apply g n h l)
  refine (broadcastInDim_apply _ _ _ (ix3 n h l) (ix3 n h (0 : Fin 1)) fun a => by fin_cases a <;> rfl).trans ?_
  exact congrArg (fun s : EReal => Ideal.rsqrt (s + Ideal.ofBits .f32 0x358637BD#32)) (squares_apply o n h)

/-- A third of the projection's columns. -/
abbrev third (x : FVec Ideal S32768x1536 .bf16) (c : ℕ) (h : S32768x1536.Slices ![0, c] S32768x512) : FVec Ideal S32768x512 .f32 :=
  extractStridedSlice S32768x512 ![0, c] (extf .f32 x bitsLt_bf16_f32) h

theorem third_apply (x : FVec Ideal S32768x1536 .bf16) (c : ℕ) (h : S32768x1536.Slices ![0, c] S32768x512) (n : Fin 32768) (d : Fin 512) (e : Fin 1536) (he : e.val = c + d.val) :
    third x c h (ix2 n d) = x (ix2 n e) :=
  extractStridedSlice_apply _ _ _ _ (ix2 n e) fun a => by
    fin_cases a
    · exact (Nat.zero_add _).symm
    · exact he

/-- The first layer's spatial weights. -/
abbrev weights (w : FVec Ideal S4x4x128x128 .f32) : FVec Ideal S4x128x128 .f32 :=
  shapeCast S4x128x128 (extractStridedSlice S1x4x128x128 ![0, 0, 0, 0] w slices_S4x4x128x128_S1x4x128x128_0_0_0_0) shapeCasts_S1x4x128x128_S4x128x128

theorem weights_apply (w : FVec Ideal S4x4x128x128 .f32) (g : Fin 4) (p q : Fin 128) : weights w (ix3 g p q) = w (ix4 0 g p q) := by
  refine (ValueIdx.shapeCast_1abc_abc_apply _ _ g p q).trans ?_
  exact extractStridedSlice_apply _ _ _ _ (ix4 (0 : Fin 4) g p q) fun a => by fin_cases a <;> simp

/-- The spatial product, its axes in the chunks' order. -/
abbrev products (v : FVec Ideal S256x128x4x128 .f32) (w : FVec Ideal S4x128x128 .f32) : FVec Ideal S256x128x4x128 .f32 :=
  transpose S256x128x4x128 [1, 3, 0, 2] (Host.dotGeneral dot_S256x128x4x128_S4x128x128_S4x256x128x128_1_2_03_1_2_0 none v w) transposes_S4x256x128x128_S256x128x4x128_1_3_0_2

theorem products_apply (v : FVec Ideal S256x128x4x128 .f32) (w : FVec Ideal S4x128x128 .f32) (n : Fin 256) (p : Fin 128) (g : Fin 4) (d : Fin 128) :
    products v w (ix4 n p g d) = ∑ q : Fin 128, (w (ix3 g p q) : EReal) * v (ix4 n q g d) := by
  refine (transpose_apply _ _ _ (ix4 n p g d) (ix4 g n d p) fun b => by fin_cases b <;> rfl).trans ?_
  simp only [Host.dotGeneral]
  rw [Ideal.dotGeneral_apply]
  refine Fintype.sum_equiv (ValueIdx.contrEquiv1 dot_S256x128x4x128_S4x128x128_S4x256x128x128_1_2_03_1_2_0 128 rfl rfl) _ _ fun k => ?_
  refine (mul_comm _ _).trans (congrArg₂ (fun a c : EReal => a * c) (congrArg w (funext fun a => Fin.ext ?_)) (congrArg v (funext fun a => Fin.ext ?_)))
  · fin_cases a <;> rfl
  · fin_cases a <;> rfl

/-- The first layer's spatial biases, for every chunk and column. -/
abbrev biases (b : FVec Ideal S4x4x128 .f32) : FVec Ideal S256x128x4x128 .f32 :=
  broadcastInDim S256x128x4x128 ![0, 1, 2, 3] bcast_S1x128x4x1_S256x128x4x128_0_1_2_3 (broadcastInDim S1x128x4x1 ![1, 2, 3] bcast_S128x4x1_S1x128x4x1_1_2_3 (broadcastInDim S128x4x1 ![0, 1] bcast_S128x4_S128x4x1_0_1
    (transpose S128x4 [1, 0] (shapeCast S4x128 (extractStridedSlice S1x4x128 ![0, 0, 0] b slices_S4x4x128_S1x4x128_0_0_0) shapeCasts_S1x4x128_S4x128) transposes_S4x128_S128x4_1_0)))

theorem biases_apply (b : FVec Ideal S4x4x128 .f32) (n : Fin 256) (p : Fin 128) (g : Fin 4) (d : Fin 128) : biases b (ix4 n p g d) = b (ix3 0 g p) := by
  refine (broadcastInDim_apply _ _ _ (ix4 n p g d) (ix4 (0 : Fin 1) p g (0 : Fin 1)) fun a => by fin_cases a <;> rfl).trans ?_
  refine (broadcastInDim_apply _ _ _ (ix4 (0 : Fin 1) p g (0 : Fin 1)) (ix3 p g (0 : Fin 1)) fun a => by fin_cases a <;> rfl).trans ?_
  refine (broadcastInDim_apply _ _ _ (ix3 p g (0 : Fin 1)) (ix2 p g) fun a => by fin_cases a <;> rfl).trans ?_
  refine (transpose_apply _ _ _ (ix2 p g) (ix2 g p) fun b => by fin_cases b <;> rfl).trans ?_
  refine (ValueIdx.shapeCast_1ab_ab_apply _ _ g p).trans ?_
  exact extractStridedSlice_apply _ _ _ _ (ix3 (0 : Fin 4) g p) fun a => by fin_cases a <;> simp

/-- The spatial gating's output. -/
abbrev spatials (u v : FVec Ideal S32768x512 .f32) (w : FVec Ideal S4x4x128x128 .f32) (b : FVec Ideal S4x4x128 .f32) : FVec Ideal S32768x512 .f32 :=
  mulf u (shapeCast S32768x512 (addf (products (shapeCast S256x128x4x128 v shapeCasts_S32768x512_S256x128x4x128) (weights w)) (biases b)) shapeCasts_S256x128x4x128_S32768x512)

theorem spatials_apply (u v : FVec Ideal S32768x512 .f32) (w : FVec Ideal S4x4x128x128 .f32) (b : FVec Ideal S4x4x128 .f32) (n : Fin 32768) (d : Fin 512) :
    spatials u v w b (ix2 n d) = (u (ix2 n d) : EReal) * ((∑ q : Fin 128, (w (ix4 0 ⟨d.val / 128, by omega⟩ ⟨n.val % 128, by omega⟩ q) : EReal) * v (ix2 ⟨n.val / 128 * 128 + q.val, by omega⟩ d))
      + b (ix3 0 ⟨d.val / 128, by omega⟩ ⟨n.val % 128, by omega⟩)) := by
  refine congrArg (fun s : EReal => (u (ix2 n d) : EReal) * s) ?_
  refine (shapeCast_apply _ _ _ (ix4 (⟨n.val / 128, by omega⟩ : Fin 256) (⟨n.val % 128, by omega⟩ : Fin 128) (⟨d.val / 128, by omega⟩ : Fin 4) (⟨d.val % 128, by omega⟩ : Fin 128)) ?_).trans ?_
  · rw [Shape.rowMajor_val_two, Shape.rowMajor_val_four]
    show ((n.val / 128 * 128 + n.val % 128) * 4 + d.val / 128) * 128 + d.val % 128 = n.val * 512 + d.val
    omega
  · refine congrArg₂ (fun a c : EReal => a + c) ((products_apply _ _ _ _ _ _).trans (Finset.sum_congr rfl fun q _ => ?_)) (biases_apply b _ _ _ _)
    refine congrArg₂ (fun a c : EReal => a * c) (weights_apply w _ _ q) (shapeCast_apply _ _ _ (ix2 (⟨n.val / 128 * 128 + q.val, by omega⟩ : Fin 32768) d) ?_)
    rw [Shape.rowMajor_val_two, Shape.rowMajor_val_four]
    show (n.val / 128 * 128 + q.val) * 512 + d.val = ((n.val / 128 * 128 + q.val) * 4 + d.val / 128) * 128 + d.val % 128
    omega

/-- The arguments the result depends on. -/
structure Args where
  o1 : FVec Ideal S32768x512 .f32
  o2 : FVec Ideal S32768x512 .f32
  zuv : FVec Ideal S32768x1536 .bf16
  x : FVec Ideal S32768x1024 .f32
  nw : FVec Ideal S4x128 .f32
  sg : FVec Ideal S4x512 .f32
  sb : FVec Ideal S4x512 .f32
  w : FVec Ideal S4x4x128x128 .f32
  b : FVec Ideal S4x4x128 .f32
  wo : FVec Ideal S4x1024x1024 .f32
  lg : FVec Ideal S4x1024 .f32
  lb : FVec Ideal S4x1024 .f32

/-- A row of the arguments. -/
def Args.row (A : Args) (n : Fin 32768) : Row where
  o d := A.o1 (ix2 n d) + A.o2 (ix2 n d)
  z d := A.zuv (ix2 n ⟨d.val, by omega⟩)
  u d := A.zuv (ix2 n ⟨512 + d.val, by omega⟩)
  v q d := A.zuv (ix2 ⟨n.val / 128 * 128 + q.val, by omega⟩ ⟨1024 + d.val, by omega⟩)
  x j := A.x (ix2 n j)
  nw l := A.nw (ix2 0 l)
  sg d := A.sg (ix2 0 d)
  sb d := A.sb (ix2 0 d)
  w g q := A.w (ix4 0 g ⟨n.val % 128, by omega⟩ q)
  b d := A.b (ix3 0 ⟨d.val / 128, by omega⟩ ⟨n.val % 128, by omega⟩)
  wo k j := A.wo (ix3 0 k j)
  lg j := A.lg (ix2 0 j)
  lb j := A.lb (ix2 0 j)

/-- The normed gating values. -/
abbrev Args.gating (A : Args) : FVec Ideal S32768x512 .f32 := norms512 (gelus (third A.zuv 1024 slices_S32768x1536_S32768x512_0_1024)) A.sg A.sb

theorem Args.gating_apply (A : Args) (n : Fin 32768) (q : Fin 128) (d : Fin 512) :
    A.gating (ix2 ⟨n.val / 128 * 128 + q.val, by omega⟩ d) = (A.row n).gating q d := by
  refine (norms512_apply _ _ _ _ d).trans ?_
  exact congrArg (fun f : Fin 512 → EReal => norm _ f (A.row n).sg (A.row n).sb d) (funext fun e => congrArg gelu (third_apply _ _ _ _ e ⟨1024 + e.val, by omega⟩ rfl))

/-- Both mixers' outputs side by side. -/
abbrev Args.left (A : Args) : FVec Ideal S32768x512 .f32 :=
  shapeCast S32768x512 (deltas (byHead (addf A.o1 A.o2)) (byHead (third A.zuv 0 slices_S32768x1536_S32768x512_0_0)) A.nw) shapeCasts_S32768x4x128_S32768x512

abbrev Args.right (A : Args) : FVec Ideal S32768x512 .f32 :=
  spatials (gelus (third A.zuv 512 slices_S32768x1536_S32768x512_0_512)) A.gating A.w A.b

theorem Args.left_apply (A : Args) (n : Fin 32768) (d : Fin 512) : A.left (ix2 n d) = (A.row n).delta egate d := by
  refine (shapeCast_apply _ _ _ (ix3 n (⟨d.val / 128, by omega⟩ : Fin 4) (⟨d.val % 128, by omega⟩ : Fin 128)) ?_).trans ?_
  · rw [Shape.rowMajor_val_two, Shape.rowMajor_val_three]
    show (n.val * 4 + d.val / 128) * 128 + d.val % 128 = n.val * 512 + d.val
    omega
  refine (deltas_apply _ _ _ _ _ _).trans (congrArg₂ (fun a c : EReal => a * c) ?_ ?_)
  · refine congrArg (fun f : Fin 128 → EReal => Mixing.head f (A.row n).nw ⟨d.val % 128, by omega⟩) (funext fun l => ?_)
    exact byHead_apply _ _ _ _ ⟨d.val / 128 * 128 + l.val, by omega⟩ rfl
  · refine congrArg egate ((byHead_apply _ _ _ _ d ?_).trans (third_apply _ _ _ _ d ⟨d.val, by omega⟩ (Nat.zero_add _).symm))
    show d.val = d.val / 128 * 128 + d.val % 128
    omega

theorem Args.right_apply (A : Args) (n : Fin 32768) (d : Fin 512) : A.right (ix2 n d) = (A.row n).spatial d := by
  refine (spatials_apply _ _ _ _ n d).trans ?_
  refine congrArg₂ (fun a c : EReal => a * c) (congrArg gelu (third_apply _ _ _ _ d ⟨512 + d.val, by omega⟩ rfl)) ?_
  refine congrArg (fun s : EReal => s + (A.row n).b d) (Finset.sum_congr rfl fun q _ => ?_)
  exact congrArg (fun s : EReal => (A.row n).w ⟨d.val / 128, by omega⟩ q * s) (A.gating_apply n q d)

abbrev Args.joined (A : Args) : FVec Ideal S32768x1024 .f32 :=
  concatenate S32768x1024 1 [⟨S32768x512, A.left⟩, ⟨S32768x512, A.right⟩] concatenates_S32768x512_S32768x512_S32768x1024_d1

theorem Args.joined_apply (A : Args) (n : Fin 32768) (k : Fin 1024) : A.joined (ix2 n k) = (A.row n).joined egate k := by
  unfold Row.joined
  split
  case isTrue h =>
    refine (concatenate_apply_piece 1 _ _ (ix2 n k) 0 (by exact (show 0 < 2 by decide)) S32768x512 _ rfl rfl 0 rfl (ix2 n (⟨k.val, h⟩ : Fin 512))
      (fun a ha => by fin_cases a <;> first | rfl | exact absurd rfl ha) (by exact (Nat.zero_add _))).trans ?_
    exact A.left_apply n _
  case isFalse h =>
    refine (concatenate_apply_piece 1 _ _ (ix2 n k) 1 (by exact (show 1 < 2 by decide)) S32768x512 _ rfl rfl 512 rfl (ix2 n (⟨k.val - 512, by omega⟩ : Fin 512))
      (fun a ha => by fin_cases a <;> first | rfl | exact absurd rfl ha) (by show 512 + (k.val - 512) = k.val; omega)).trans ?_
    exact A.right_apply n _

/-- The first layer's output weights. -/
abbrev outWeights (w : FVec Ideal S4x1024x1024 .f32) : FVec Ideal S1024x1024 .f32 :=
  shapeCast S1024x1024 (extractStridedSlice S1x1024x1024 ![0, 0, 0] w slices_S4x1024x1024_S1x1024x1024_0_0_0) shapeCasts_S1x1024x1024_S1024x1024

theorem outWeights_apply (w : FVec Ideal S4x1024x1024 .f32) (k j : Fin 1024) : outWeights w (ix2 k j) = w (ix3 0 k j) := by
  refine (ValueIdx.shapeCast_1ab_ab_apply _ _ k j).trans ?_
  exact extractStridedSlice_apply _ _ _ _ (ix3 (0 : Fin 4) k j) fun a => by fin_cases a <;> simp

theorem product_apply (p : FVec Ideal S32768x1024 .f32) (w : FVec Ideal S1024x1024 .f32) (n : Fin 32768) (j : Fin 1024) :
    Host.dotGeneral dot_S32768x1024_S1024x1024_S32768x1024_1_0_0_1_n_n none p w (ix2 n j) = ∑ k : Fin 1024, (p (ix2 n k) : EReal) * w (ix2 k j) := by
  simp only [Host.dotGeneral]
  rw [Ideal.dotGeneral_apply]
  refine Fintype.sum_equiv (ValueIdx.contrEquiv1 dot_S32768x1024_S1024x1024_S32768x1024_1_0_0_1_n_n 1024 rfl rfl) _ _ fun k => ?_
  refine congrArg₂ (fun a c : EReal => a * c) (congrArg p (funext fun a => Fin.ext ?_)) (congrArg w (funext fun a => Fin.ext ?_))
  · fin_cases a <;> rfl
  · fin_cases a <;> rfl

abbrev Args.sum (A : Args) : FVec Ideal S32768x1024 .f32 :=
  addf (mulf (all S32768x1024 bcast_S_S32768x1024 0x3FD744FD#32) A.x) (Host.dotGeneral dot_S32768x1024_S1024x1024_S32768x1024_1_0_0_1_n_n none A.joined (outWeights A.wo))

theorem Args.sum_apply (A : Args) (n : Fin 32768) (j : Fin 1024) : A.sum (ix2 n j) = (A.row n).sum egate j := by
  refine congrArg (fun s : EReal => Ideal.ofBits .f32 0x3FD744FD#32 * (A.x (ix2 n j) : EReal) + s) ?_
  refine (product_apply _ _ n j).trans (Finset.sum_congr rfl fun k _ => ?_)
  exact congrArg₂ (fun a c : EReal => a * c) (A.joined_apply n k) (outWeights_apply _ k j)

/-- The result. -/
abbrev Args.result (A : Args) : FVec Ideal S262144x128 .f32 := shapeCast S262144x128 (norms1024 A.sum A.lg A.lb) shapeCasts_S32768x1024_S262144x128

/-- An entry of the result. -/
theorem Args.result_apply (A : Args) (n : Fin 32768) (s : Fin 8) (l : Fin 128) :
    A.result (ix2 ⟨n.val * 8 + s.val, by omega⟩ l) = (A.row n).out egate ⟨s.val * 128 + l.val, by omega⟩ := by
  refine (shapeCast_apply _ _ _ (ix2 n (⟨s.val * 128 + l.val, by omega⟩ : Fin 1024)) ?_).trans ?_
  · rw [Shape.rowMajor_val_two, Shape.rowMajor_val_two]
    show n.val * 1024 + (s.val * 128 + l.val) = (n.val * 8 + s.val) * 128 + l.val
    omega
  refine (norms1024_apply _ _ _ n _).trans ?_
  exact congrArg (fun f : Fin 1024 → EReal => norm (Ideal.ofBits .f32 0x44800000#32) f (A.row n).lg (A.row n).lb ⟨s.val * 128 + l.val, by omega⟩) (funext fun k => A.sum_apply n k)

/-- The arguments as a run finds them. -/
abbrev args (m : (ℓ : Loc nD τ sig) → Buf (Elt Ideal) ℓ) (c : Dev nD) : Args where
  o1 := m ((c.tc : Thread nD τ).loc main_arg0)
  o2 := m ((c.tc : Thread nD τ).loc main_arg1)
  zuv := m ((c.tc : Thread nD τ).loc main_arg2)
  x := m ((c.tc : Thread nD τ).loc main_arg3)
  nw := m ((c.tc : Thread nD τ).loc main_arg4)
  sg := m ((c.tc : Thread nD τ).loc main_arg5)
  sb := m ((c.tc : Thread nD τ).loc main_arg6)
  w := m ((c.tc : Thread nD τ).loc main_arg7)
  b := m ((c.tc : Thread nD τ).loc main_arg8)
  wo := m ((c.tc : Thread nD τ).loc main_arg9)
  lg := m ((c.tc : Thread nD τ).loc main_arg10)
  lb := m ((c.tc : Thread nD τ).loc main_arg11)

theorem result_eq (m : (ℓ : Loc nD τ sig) → Buf (Elt Ideal) ℓ) (c : Dev nD) : Value.res_main_v118 m c = (args m c).result := rfl

end Cert.Reference3Ideal.Mix

end
-- ==== Proof.Mix.Ideal.Blocks.lean ====
/- The blocks the mixing kernel is given at each point, as entries of the arguments. -/
module

public import proofs.«01_k».proof.Proof.Mix.Ideal.Out
public import proofs.«01_k».proof.Proof.Mix.Ref

@[expose] public section

set_option maxRecDepth 16384

noncomputable section

namespace Cert.Kernel3Ideal.Mix

open Cert.Kernel3Ideal Cert.Kernel3Ideal.Gen
open Idealize.ShloMosaic Idealize.ShloMosaic.TcCoe
open Idealize.SL Idealize.SL.Sem
open Idealize.ShloMosaic.Pipeline (Dat Cfg Window)
open Idealize.ShloMosaic.ValueIdx (ix0 ix1 ix2 ix3 ix4)

variable (m : (ℓ : Loc nD τ sig) → Buf (Elt Ideal) ℓ) (c : Dev nD)

/-- The arguments as a run finds them. -/
abbrev args : Cert.Reference3Ideal.Mix.Args where
  o1 := m ((c : Thread nD τ).loc main_arg0)
  o2 := m ((c : Thread nD τ).loc main_arg1)
  zuv := m ((c : Thread nD τ).loc main_arg2)
  x := m ((c : Thread nD τ).loc main_arg3)
  nw := m ((c : Thread nD τ).loc main_arg4)
  sg := m ((c : Thread nD τ).loc main_arg5)
  sb := m ((c : Thread nD τ).loc main_arg6)
  w := m ((c : Thread nD τ).loc main_arg7)
  b := m ((c : Thread nD τ).loc main_arg8)
  wo := m ((c : Thread nD τ).loc main_arg9)
  lg := m ((c : Thread nD τ).loc main_arg10)
  lb := m ((c : Thread nD τ).loc main_arg11)

theorem at_v9 : V m c main_v9 = broadcastInDim S1x128 ![1] bcast_S128_S1x128_1 (shapeCast S128 (extractStridedSlice S1x128 ![0, 0] (args m c).nw slices_S4x128_S1x128_0_0) shapeCasts_S1x128_S128) := by
  show StableHlo.after hostOps0 _ (Proc.devRef .tc main_v9) = _
  simp only [hostOps0, StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl

theorem at_v12 : V m c main_v12 = broadcastInDim S1x512 ![1] bcast_S512_S1x512_1 (shapeCast S512 (extractStridedSlice S1x512 ![0, 0] (args m c).sg slices_S4x512_S1x512_0_0) shapeCasts_S1x512_S512) := by
  show StableHlo.after hostOps0 _ (Proc.devRef .tc main_v12) = _
  simp only [hostOps0, StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl

theorem at_v15 : V m c main_v15 = broadcastInDim S1x512 ![1] bcast_S512_S1x512_1 (shapeCast S512 (extractStridedSlice S1x512 ![0, 0] (args m c).sb slices_S4x512_S1x512_0_0) shapeCasts_S1x512_S512) := by
  show StableHlo.after hostOps0 _ (Proc.devRef .tc main_v15) = _
  simp only [hostOps0, StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl

theorem at_v24 : V m c main_v24 = broadcastInDim S1x1024 ![1] bcast_S1024_S1x1024_1 (shapeCast S1024 (extractStridedSlice S1x1024 ![0, 0] (args m c).lg slices_S4x1024_S1x1024_0_0) shapeCasts_S1x1024_S1024) := by
  show StableHlo.after hostOps0 _ (Proc.devRef .tc main_v24) = _
  simp only [hostOps0, StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl

theorem at_v27 : V m c main_v27 = broadcastInDim S1x1024 ![1] bcast_S1024_S1x1024_1 (shapeCast S1024 (extractStridedSlice S1x1024 ![0, 0] (args m c).lb slices_S4x1024_S1x1024_0_0) shapeCasts_S1x1024_S1024) := by
  show StableHlo.after hostOps0 _ (Proc.devRef .tc main_v27) = _
  simp only [hostOps0, StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl

theorem at_v17 : V m c main_v17 = shapeCast S4x128x128 (extractStridedSlice S1x4x128x128 ![0, 0, 0, 0] (truncf .bf16 (args m c).w bitsLt_bf16_f32) slices_S4x4x128x128_S1x4x128x128_0_0_0_0) shapeCasts_S1x4x128x128_S4x128x128 := by
  show StableHlo.after hostOps0 _ (Proc.devRef .tc main_v17) = _
  simp only [hostOps0, StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl

theorem at_v19 : V m c main_v19 = shapeCast S4x128x128 (extractStridedSlice S1x4x128x128 ![0, 0, 0, 0] (broadcastInDim S4x4x128x128 ![0, 1, 2, 3] bcast_S4x4x128x1_S4x4x128x128_0_1_2_3 (broadcastInDim S4x4x128x1 ![0, 1, 2] bcast_S4x4x128_S4x4x128x1_0_1_2 (args m c).b)) slices_S4x4x128x128_S1x4x128x128_0_0_0_0) shapeCasts_S1x4x128x128_S4x128x128 := by
  show StableHlo.after hostOps0 _ (Proc.devRef .tc main_v19) = _
  simp only [hostOps0, StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl

theorem at_v21 : V m c main_v21 = shapeCast S1024x1024 (extractStridedSlice S1x1024x1024 ![0, 0, 0] (truncf .bf16 (args m c).wo bitsLt_bf16_f32) slices_S4x1024x1024_S1x1024x1024_0_0_0) shapeCasts_S1x1024x1024_S1024x1024 := by
  show StableHlo.after hostOps0 _ (Proc.devRef .tc main_v21) = _
  simp only [hostOps0, StableHlo.TRef.binary, StableHlo.TRef.nullary, StableHlo.TRef.unary, StableHlo.TRef.toBuf, StableHlo.TRef.ofBuf, cast_eq]
  after_results_simp <;> (try dsimp only [Matrix.cons_val]) <;> (try after_results_simp) <;> rfl

theorem index0 (t : Fin cfg0.N) : (cfg0.win 0).index t = ![t.val, 0] := (by decide +kernel : ∀ t : Fin grid0.N, win0_0.index t = ![t.val, 0]) t
theorem index1 (t : Fin cfg0.N) : (cfg0.win 1).index t = ![t.val, 0] := (by decide +kernel : ∀ t : Fin grid0.N, win0_1.index t = ![t.val, 0]) t
theorem index2 (t : Fin cfg0.N) : (cfg0.win 2).index t = ![t.val, 0] := (by decide +kernel : ∀ t : Fin grid0.N, win0_2.index t = ![t.val, 0]) t
theorem index3 (t : Fin cfg0.N) : (cfg0.win 3).index t = ![t.val, 1] := (by decide +kernel : ∀ t : Fin grid0.N, win0_3.index t = ![t.val, 1]) t
theorem index4 (t : Fin cfg0.N) : (cfg0.win 4).index t = ![t.val, 2] := (by decide +kernel : ∀ t : Fin grid0.N, win0_4.index t = ![t.val, 2]) t
theorem index5 (t : Fin cfg0.N) : (cfg0.win 5).index t = ![t.val, 0] := (by decide +kernel : ∀ t : Fin grid0.N, win0_5.index t = ![t.val, 0]) t
theorem index16 (t : Fin cfg0.N) : (cfg0.win 16).index t = ![t.val, 0] := (by decide +kernel : ∀ t : Fin grid0.N, win0_16.index t = ![t.val, 0]) t

theorem lt_points (t : Fin cfg0.N) : t.val < 32 := lt_of_lt_of_eq t.isLt (show cfg0.N = 32 from N_0)

/-- A row of a point's block among all rows. -/
abbrev rowAt (t : Fin cfg0.N) (r : Fin 1024) : Fin 32768 := ⟨t.val * 1024 + r.val, by have := lt_points t; omega⟩

theorem iblk0 (t : Fin cfg0.N) (r : Fin 1024) (k : Fin 512) : iblk m c 0 t (ix2 r k) = (args m c).o1 (ix2 (rowAt t r) k) := by
  refine (congrFun (V_main_arg0 m c) _).trans (congrArg (args m c).o1 (funext fun a => Fin.ext ?_))
  refine (Window.rect_emb_val (cfg0.win 0) t (ix2 r k) a (by rfl)).trans ?_
  rw [index0]
  fin_cases a
  · rfl
  · show 0 * 512 + k.val = k.val
    omega

theorem iblk1 (t : Fin cfg0.N) (r : Fin 1024) (k : Fin 512) : iblk m c 1 t (ix2 r k) = (args m c).o2 (ix2 (rowAt t r) k) := by
  refine (congrFun (V_main_arg1 m c) _).trans (congrArg (args m c).o2 (funext fun a => Fin.ext ?_))
  refine (Window.rect_emb_val (cfg0.win 1) t (ix2 r k) a (by rfl)).trans ?_
  rw [index1]
  fin_cases a
  · rfl
  · show 0 * 512 + k.val = k.val
    omega

theorem iblk2 (t : Fin cfg0.N) (r : Fin 1024) (k : Fin 512) : iblk m c 2 t (ix2 r k) = (args m c).zuv (ix2 (rowAt t r) (⟨k.val, by omega⟩ : Fin 1536)) := by
  refine (congrFun (V_main_arg2 m c) _).trans (congrArg (args m c).zuv (funext fun a => Fin.ext ?_))
  refine (Window.rect_emb_val (cfg0.win 2) t (ix2 r k) a (by rfl)).trans ?_
  rw [index2]
  fin_cases a
  · rfl
  · show 0 * 512 + k.val = k.val
    omega

theorem iblk3 (t : Fin cfg0.N) (r : Fin 1024) (k : Fin 512) : iblk m c 3 t (ix2 r k) = (args m c).zuv (ix2 (rowAt t r) (⟨512 + k.val, by omega⟩ : Fin 1536)) := by
  refine (congrFun (V_main_arg2 m c) _).trans (congrArg (args m c).zuv (funext fun a => Fin.ext ?_))
  refine (Window.rect_emb_val (cfg0.win 3) t (ix2 r k) a (by rfl)).trans ?_
  rw [index3]
  fin_cases a
  · rfl
  · show 1 * 512 + k.val = 512 + k.val
    omega

theorem iblk4 (t : Fin cfg0.N) (r : Fin 1024) (k : Fin 512) : iblk m c 4 t (ix2 r k) = (args m c).zuv (ix2 (rowAt t r) (⟨1024 + k.val, by omega⟩ : Fin 1536)) := by
  refine (congrFun (V_main_arg2 m c) _).trans (congrArg (args m c).zuv (funext fun a => Fin.ext ?_))
  refine (Window.rect_emb_val (cfg0.win 4) t (ix2 r k) a (by rfl)).trans ?_
  rw [index4]
  fin_cases a
  · rfl
  · show 2 * 512 + k.val = 1024 + k.val
    omega

theorem iblk5 (t : Fin cfg0.N) (r : Fin 1024) (k : Fin 1024) : iblk m c 5 t (ix2 r k) = (args m c).x (ix2 (rowAt t r) k) := by
  refine (congrFun (V_main_arg3 m c) _).trans (congrArg (args m c).x (funext fun a => Fin.ext ?_))
  refine (Window.rect_emb_val (cfg0.win 5) t (ix2 r k) a (by rfl)).trans ?_
  rw [index5]
  fin_cases a
  · rfl
  · show 0 * 1024 + k.val = k.val
    omega

theorem iblk6 (t : Fin cfg0.N) (k : Fin 128) : iblk m c 6 t (ix2 0 k) = (args m c).nw (ix2 0 k) := by
  refine (congrFun (at_v9 m c) _).trans ?_
  refine (broadcastInDim_apply _ _ _ _ (ix1 k) fun a => by fin_cases a; exact ((Window.rect_emb_val (cfg0.win 6) t (ix2 0 k) 1 (by rfl)).trans (Nat.zero_add _)).symm).trans ?_
  refine (ValueIdx.shapeCast_1a_a_apply _ _ k).trans ?_
  exact extractStridedSlice_apply _ _ _ _ (ix2 (0 : Fin 4) k) fun a => by fin_cases a <;> simp

theorem iblk7 (t : Fin cfg0.N) (k : Fin 512) : iblk m c 7 t (ix2 0 k) = (args m c).sg (ix2 0 k) := by
  refine (congrFun (at_v12 m c) _).trans ?_
  refine (broadcastInDim_apply _ _ _ _ (ix1 k) fun a => by fin_cases a; exact ((Window.rect_emb_val (cfg0.win 7) t (ix2 0 k) 1 (by rfl)).trans (Nat.zero_add _)).symm).trans ?_
  refine (ValueIdx.shapeCast_1a_a_apply _ _ k).trans ?_
  exact extractStridedSlice_apply _ _ _ _ (ix2 (0 : Fin 4) k) fun a => by fin_cases a <;> simp

theorem iblk8 (t : Fin cfg0.N) (k : Fin 512) : iblk m c 8 t (ix2 0 k) = (args m c).sb (ix2 0 k) := by
  refine (congrFun (at_v15 m c) _).trans ?_
  refine (broadcastInDim_apply _ _ _ _ (ix1 k) fun a => by fin_cases a; exact ((Window.rect_emb_val (cfg0.win 8) t (ix2 0 k) 1 (by rfl)).trans (Nat.zero_add _)).symm).trans ?_
  refine (ValueIdx.shapeCast_1a_a_apply _ _ k).trans ?_
  exact extractStridedSlice_apply _ _ _ _ (ix2 (0 : Fin 4) k) fun a => by fin_cases a <;> simp

theorem iblk12 (t : Fin cfg0.N) (k : Fin 1024) : iblk m c 12 t (ix2 0 k) = (args m c).lg (ix2 0 k) := by
  refine (congrFun (at_v24 m c) _).trans ?_
  refine (broadcastInDim_apply _ _ _ _ (ix1 k) fun a => by fin_cases a; exact ((Window.rect_emb_val (cfg0.win 12) t (ix2 0 k) 1 (by rfl)).trans (Nat.zero_add _)).symm).trans ?_
  refine (ValueIdx.shapeCast_1a_a_apply _ _ k).trans ?_
  exact extractStridedSlice_apply _ _ _ _ (ix2 (0 : Fin 4) k) fun a => by fin_cases a <;> simp

theorem iblk13 (t : Fin cfg0.N) (k : Fin 1024) : iblk m c 13 t (ix2 0 k) = (args m c).lb (ix2 0 k) := by
  refine (congrFun (at_v27 m c) _).trans ?_
  refine (broadcastInDim_apply _ _ _ _ (ix1 k) fun a => by fin_cases a; exact ((Window.rect_emb_val (cfg0.win 13) t (ix2 0 k) 1 (by rfl)).trans (Nat.zero_add _)).symm).trans ?_
  refine (ValueIdx.shapeCast_1a_a_apply _ _ k).trans ?_
  exact extractStridedSlice_apply _ _ _ _ (ix2 (0 : Fin 4) k) fun a => by fin_cases a <;> simp

theorem iblk9 (t : Fin cfg0.N) (g : Fin 4) (p q : Fin 128) : iblk m c 9 t (ix3 g p q) = (args m c).w (ix4 0 g p q) := by
  refine (congrFun (at_v17 m c) _).trans ?_
  refine Eq.trans (congrArg _ (a₂ := ix3 g p q) (funext fun a => Fin.ext ((Window.rect_emb_val (cfg0.win 9) t (ix3 g p q) a (by rfl)).trans (by fin_cases a <;> exact Nat.zero_add _)))) ?_
  refine (ValueIdx.shapeCast_1abc_abc_apply _ _ g p q).trans ?_
  exact extractStridedSlice_apply _ _ _ _ (ix4 (0 : Fin 4) g p q) fun a => by fin_cases a <;> simp

theorem iblk10 (t : Fin cfg0.N) (g : Fin 4) (p q : Fin 128) : iblk m c 10 t (ix3 g p q) = (args m c).b (ix3 0 g p) := by
  refine (congrFun (at_v19 m c) _).trans ?_
  refine Eq.trans (congrArg _ (a₂ := ix3 g p q) (funext fun a => Fin.ext ((Window.rect_emb_val (cfg0.win 10) t (ix3 g p q) a (by rfl)).trans (by fin_cases a <;> exact Nat.zero_add _)))) ?_
  refine (ValueIdx.shapeCast_1abc_abc_apply _ _ g p q).trans ?_
  refine (extractStridedSlice_apply _ _ _ _ (ix4 (0 : Fin 4) g p q) fun a => by fin_cases a <;> simp).trans ?_
  refine (broadcastInDim_apply _ _ _ (ix4 (0 : Fin 4) g p q) (ix4 (0 : Fin 4) g p (0 : Fin 1)) fun a => by fin_cases a <;> rfl).trans ?_
  exact broadcastInDim_apply _ _ _ (ix4 (0 : Fin 4) g p (0 : Fin 1)) (ix3 (0 : Fin 4) g p) fun a => by fin_cases a <;> rfl

theorem iblk11 (t : Fin cfg0.N) (k j : Fin 1024) : iblk m c 11 t (ix2 k j) = (args m c).wo (ix3 0 k j) := by
  refine (congrFun (at_v21 m c) _).trans ?_
  refine Eq.trans (congrArg _ (a₂ := ix2 k j) (funext fun a => Fin.ext ((Window.rect_emb_val (cfg0.win 11) t (ix2 k j) a (by rfl)).trans (by fin_cases a <;> exact Nat.zero_add _)))) ?_
  refine (ValueIdx.shapeCast_1ab_ab_apply _ _ k j).trans ?_
  exact extractStridedSlice_apply _ _ _ _ (ix3 (0 : Fin 4) k j) fun a => by fin_cases a <;> simp

/-- The blocks of a point. -/
def blocks (t : Fin cfg0.N) : Blocks :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩

/-- A row of blocks that hold an argument's rows is the row of the arguments. -/
theorem row_of (B : Blocks) (A : Cert.Reference3Ideal.Mix.Args) (t : ℕ) (ht : t < 32) (r : Fin 1024)
    (h0 : ∀ (r : Fin 1024) (d : Fin 512), B.o1 (ix2 r d) = A.o1 (ix2 ⟨t * 1024 + r.val, by omega⟩ d)) (h1 : ∀ (r : Fin 1024) (d : Fin 512), B.o2 (ix2 r d) = A.o2 (ix2 ⟨t * 1024 + r.val, by omega⟩ d))
    (h2 : ∀ (r : Fin 1024) (d : Fin 512), B.z (ix2 r d) = A.zuv (ix2 ⟨t * 1024 + r.val, by omega⟩ ⟨d.val, by omega⟩)) (h3 : ∀ (r : Fin 1024) (d : Fin 512), B.u (ix2 r d) = A.zuv (ix2 ⟨t * 1024 + r.val, by omega⟩ ⟨512 + d.val, by omega⟩))
    (h4 : ∀ (r : Fin 1024) (d : Fin 512), B.v (ix2 r d) = A.zuv (ix2 ⟨t * 1024 + r.val, by omega⟩ ⟨1024 + d.val, by omega⟩)) (h5 : ∀ (r j : Fin 1024), B.x (ix2 r j) = A.x (ix2 ⟨t * 1024 + r.val, by omega⟩ j))
    (h6 : ∀ l : Fin 128, B.nw (ix2 0 l) = A.nw (ix2 0 l)) (h7 : ∀ d : Fin 512, B.sg (ix2 0 d) = A.sg (ix2 0 d)) (h8 : ∀ d : Fin 512, B.sb (ix2 0 d) = A.sb (ix2 0 d))
    (h9 : ∀ (g : Fin 4) (p q : Fin 128), B.w (ix3 g p q) = A.w (ix4 0 g p q)) (h10 : ∀ (g : Fin 4) (p q : Fin 128), B.b (ix3 g p q) = A.b (ix3 0 g p)) (h11 : ∀ k j : Fin 1024, B.wo (ix2 k j) = A.wo (ix3 0 k j))
    (h12 : ∀ j : Fin 1024, B.lg (ix2 0 j) = A.lg (ix2 0 j)) (h13 : ∀ j : Fin 1024, B.lb (ix2 0 j) = A.lb (ix2 0 j)) : B.row r = A.row ⟨t * 1024 + r.val, by omega⟩ := by
  have hm : (⟨r.val % 128, by omega⟩ : Fin 128) = ⟨(t * 1024 + r.val) % 128, by omega⟩ := Fin.ext (by show r.val % 128 = (t * 1024 + r.val) % 128; omega)
  have e : ∀ (R S : Mixing.Row), R.o = S.o → R.z = S.z → R.u = S.u → R.v = S.v → R.x = S.x → R.nw = S.nw → R.sg = S.sg → R.sb = S.sb → R.w = S.w → R.b = S.b → R.wo = S.wo → R.lg = S.lg → R.lb = S.lb → R = S := by
    rintro ⟨⟩ ⟨⟩ h h h h h h h h h h h h h
    simp_all
  refine e _ _ (funext fun d => congrArg₂ (fun a b : EReal => a + b) (h0 r d) (h1 r d)) (funext fun d => h2 r d) (funext fun d => h3 r d) (funext fun q => funext fun d => (h4 _ d).trans ?_) (funext fun j => h5 r j)
    (funext h6) (funext h7) (funext h8) (funext fun g => funext fun q => (h9 g _ q).trans (congrArg (fun p : Fin 128 => A.w (ix4 0 g p q)) hm))
    (funext fun d => (h10 _ _ _).trans (congrArg (fun p : Fin 128 => A.b (ix3 0 ⟨d.val / 128, by omega⟩ p)) hm)) (funext fun k => funext fun j => h11 k j) (funext h12) (funext h13)
  refine congrArg (fun n : Fin 32768 => A.zuv (ix2 n ⟨1024 + d.val, by omega⟩)) (Fin.ext ?_)
  show t * 1024 + (r.val / 128 * 128 + q.val) = (t * 1024 + r.val) / 128 * 128 + q.val
  omega

set_option maxHeartbeats 2000000 in
/-- A row of a point's blocks is the row of the arguments. -/
theorem row_eq (t : Fin cfg0.N) (r : Fin 1024) : (blocks m c t).row r = (args m c).row (rowAt t r) := by
  generalize hB : blocks m c t = B
  generalize hA : args m c = A
  apply row_of B A t.val (lt_points t) r <;> subst hB hA
  · exact iblk0 m c t
  · exact iblk1 m c t
  · exact iblk2 m c t
  · exact iblk3 m c t
  · exact iblk4 m c t
  · exact iblk5 m c t
  · exact iblk6 m c t
  · exact iblk7 m c t
  · exact iblk8 m c t
  · exact iblk9 m c t
  · exact iblk10 m c t
  · exact iblk11 m c t
  · exact iblk12 m c t
  · exact iblk13 m c t

end Cert.Kernel3Ideal.Mix

end
-- ==== Proof.Mix.Ideal.Final.lean ====
/- The mixing kernel's activations after its run are the reference's. -/
module

public import proofs.«01_k».proof.Proof.Mix.Ideal.Blocks
public import proofs.«01_k».proof.Proof.Ideal.Value
public import proofs.«01_k».proof.Proof.Gen.Pre_gated

@[expose] public section

set_option maxRecDepth 16384

noncomputable section

namespace Cert.Kernel3Ideal.Mix

open Cert.Kernel3Ideal Cert.Kernel3Ideal.Gen
open Idealize.ShloMosaic Idealize.ShloMosaic.TcCoe
open Idealize.SL Idealize.SL.Sem
open Idealize.ShloMosaic.Pipeline (Dat Cfg Window)
open Idealize.ShloMosaic.ValueIdx (ix0 ix1 ix2 ix3 ix4)
open Cert.Mixing

/-- The gate's entries are real numbers. -/
abbrev Gated (A : Cert.Reference3Ideal.Mix.Args) : Prop := ∀ (n : Fin 32768) (d : Fin 512), Cert.Reals.IsReal (A.zuv (ix2 n ⟨d.val, by omega⟩))

theorem gated_of (a0 a1 : FVec Ideal S32768x512 .f32) (a2 : FVec Ideal S32768x1536 .bf16) (a3 : FVec Ideal S32768x1024 .f32) (a4 : FVec Ideal S4x128 .f32) (a5 a6 : FVec Ideal S4x512 .f32)
    (a7 : FVec Ideal S4x4x128x128 .f32) (a8 : FVec Ideal S4x4x128 .f32) (a9 : FVec Ideal S4x1024x1024 .f32) (a10 a11 : FVec Ideal S4x1024 .f32) (a12 : FVec Ideal S1024x16 .f32) (a13 : FVec Ideal S16 .f32)
    (h : Cert.Pre_gated.fn (F := Ideal) a0 a1 a2 a3 a4 a5 a6 a7 a8 a9 a10 a11 a12 a13 = fun _ => 1#1) (n : Fin 32768) (d : Fin 512) : Cert.Reals.IsReal (a2 (ix2 n ⟨d.val, by omega⟩)) := by
  haveI : Subsingleton Cert.Pre_gated.S_.Idx := inferInstanceAs (Subsingleton ((a : Fin 0) → _))
  have e := congrFun h ix0
  dsimp only [Cert.Pre_gated.fn] at e
  have r := Cert.KernelIdeal.Experts.real_at _ _ (Host.reduce_andi_all _ _ _ _ _ e (ix2 n d))
  refine Eq.mp (congrArg (fun i => Cert.Reals.IsReal (a2 i)) (funext fun a => Fin.ext ?_)) r
  fin_cases a
  · exact Nat.zero_add _
  · exact Nat.zero_add _

variable (m : (ℓ : Loc nD τ sig) → Buf (Elt Ideal) ℓ) (c : Dev nD)

set_option maxHeartbeats 2000000 in
/-- What a point leaves in its block of activations. -/
theorem outs_eq (t : Fin cfg0.N) : (outsAt0 m c t.val t.isLt).1 = asRows (e := .f32) (blocks m c t).tile := by
  unfold blocks
  by_cases h0 : t.val % 32 = 0
  · exact (congrArg Prod.fst (outsAt0_A m c t h0)).trans (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ((hcond0_0 t).mpr h0))
  · exact (congrArg Prod.fst (outsAt0_B m c t h0)).trans (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (fun h => h0 ((hcond0_0 t).mp h)) (outsAt0 m c (t.val - 1) (Nat.lt_of_le_of_lt (Nat.sub_le _ _) t.isLt)).2.2)

/-- An entry of it. -/
theorem asRows_apply (P : FVec Ideal S1024x1024 .f32) (r : Fin 1024) (s : Fin 8) (l : Fin 128) :
    asRows (F := Ideal) (e := .f32) P (ix2 ⟨r.val * 8 + s.val, by omega⟩ l) = P (ix2 r ⟨s.val * 128 + l.val, by omega⟩) := by
  refine congrArg P (funext fun a => Fin.ext ?_)
  fin_cases a
  · show (r.val * 8 + s.val) / 8 = r.val
    omega
  · show (r.val * 8 + s.val) % 8 * 128 + l.val = s.val * 128 + l.val
    omega

theorem tile_eq (h : Gated (args m c)) (t : Fin cfg0.N) (r : Fin 1024) (s : Fin 8) (l : Fin 128) :
    asRows (F := Ideal) (e := .f32) (blocks m c t).tile (ix2 ⟨r.val * 8 + s.val, by omega⟩ l) = (args m c).result (ix2 ⟨(rowAt t r).val * 8 + s.val, by have := lt_points t; omega⟩ l) := by
  refine (asRows_apply _ r s l).trans (((blocks m c t).tile_apply r _).trans ?_)
  rw [row_eq m c t r]
  refine (Row.out_gate _ (fun d => ?_) _).trans ((args m c).result_apply (rowAt t r) s l).symm
  exact Cert.Reals.gate_eq (h (rowAt t r) d)

/-- A block lies at its rows of the array, -/
theorem emb16 (t : Fin cfg0.N) (y : (⟨2, ![8192, 128]⟩ : Shape).Idx) (a : Fin 2) :
    (((cfg0.win 16).rect t).emb y a : Nat) = (![t.val * 8192 + (y 0).val, (y 1).val] : Fin 2 → Nat) a := by
  refine (Window.rect_emb_val (cfg0.win 16) t y a (by rfl)).trans ?_
  rw [index16]
  fin_cases a
  · rfl
  · show 0 * 128 + (y 1).val = (y 1).val
    omega

/-- every entry of the array lies in a block, -/
theorem in_block16 (i : (⟨2, ![262144, 128]⟩ : Shape).Idx) : ∃ t : Fin cfg0.N, (cfg0.win 16).flush t = true ∧ i ∈ ((cfg0.win 16).blk t).view.set := by
  have h0 : (i 0).val < 262144 := (i 0).isLt
  have h1 : (i 1).val < 128 := (i 1).isLt
  obtain ⟨t, ht⟩ : ∃ t : Fin cfg0.N, t.val = (i 0).val / 8192 :=
    ⟨⟨(i 0).val / 8192, lt_of_lt_of_eq (show (i 0).val / 8192 < 32 by omega) (show cfg0.N = 32 from N_0).symm⟩, rfl⟩
  refine ⟨t, flush0_16 t, ?_⟩
  have e : ((cfg0.win 16).blk t).view.emb (ix2 ⟨(i 0).val % 8192, by omega⟩ ⟨(i 1).val, h1⟩ : (⟨2, ![8192, 128]⟩ : Shape).Idx) = i := by
    funext a
    refine Fin.ext ((emb16 t _ a).trans ?_)
    match a with
    | ⟨0, _⟩ =>
      show t.val * 8192 + (i 0).val % 8192 = (i 0).val
      omega
    | ⟨1, _⟩ => rfl
  have h := ((cfg0.win 16).blk t).view.emb_mem_set (ix2 ⟨(i 0).val % 8192, by omega⟩ ⟨(i 1).val, h1⟩ : (⟨2, ![8192, 128]⟩ : Shape).Idx)
  rw [e] at h
  exact h

theorem flushed16 (t : Fin cfg0.N) : (dats m 0 c).flushed 16 t = (cfg0.win 16).cut (grid0.coords t) (asRows (F := Ideal) (e := .f32) (blocks m c t).tile) := by
  show (cfg0.win 16).cut (grid0.coords t) ((dats m 0 c).after 16 t) = _
  rw [after0_16, outs_eq]

/-- and the array after the run holds the activations. -/
theorem final16 (h : Gated (args m c)) : (dats m 0 c).arrAt 16 cfg0.N = (args m c).result := by
  refine (dats m 0 c).arrAt_eq_of_cover 16 (args m c).result (fun t _ => ?_) in_block16
  rw [flushed16]
  funext y
  have ht := lt_points t
  have y0 : (y 0).val < 8192 := (y 0).isLt
  have y1 : (y 1).val < 128 := (y 1).isLt
  refine Eq.trans (congrArg (asRows (F := Ideal) (e := .f32) (blocks m c t).tile) (a₂ := ix2 ⟨(y 0).val / 8 * 8 + (y 0).val % 8, by omega⟩ ⟨(y 1).val, y1⟩) (funext fun a => Fin.ext ?_))
    ((tile_eq m c h t ⟨(y 0).val / 8, by omega⟩ ⟨(y 0).val % 8, by omega⟩ ⟨(y 1).val, y1⟩).trans (congrArg (args m c).result (funext fun a => Fin.ext ?_)))
  · fin_cases a
    · show (y 0).val = (y 0).val / 8 * 8 + (y 0).val % 8
      omega
    · rfl
  · refine Eq.trans ?_ (emb16 t y a).symm
    fin_cases a
    · show (t.val * 1024 + (y 0).val / 8) * 8 + (y 0).val % 8 = t.val * 8192 + (y 0).val
      omega
    · rfl

end Cert.Kernel3Ideal.Mix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_routed
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Pre_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Pre_gated
public import proofs.«01_k».proof.Proof.Bits.Tables
public import proofs.«01_k».proof.Proof.Ideal.Value
public import proofs.«01_k».proof.Proof.Proj.RefRun
public import proofs.«01_k».proof.Proof.Proj.Final
public import proofs.«01_k».proof.Proof.Mix.Same
public import proofs.«01_k».proof.Proof.Mix.Ideal.Final
public import Idealize.ShloMosaic.Adequacy
public import Idealize.ShloMosaic.Init

@[expose] public section

noncomputable section

namespace Cert.Proof

open Idealize.ShloMosaic Idealize.SL.Sem

theorem fits_bits (m : (ℓ : Loc Cert.Kernel.nD Cert.Kernel.τ Cert.Kernel.sig) → Buf (Elt Bits) ℓ) (h : Cert.Pre_Kernel m) : Cert.Kernel.Experts.Fits m :=
  have hs := Cert.Routed.tabled_meaning _ _ _ _ _ _ (h 0)
  Cert.Kernel.Experts.fits m hs.some_tile hs.tiles hs.expert

theorem frame_kernel : Cert.quiescent_Kernel := fun m g h =>
  (θ_run Cert.Kernel.defs _ _).mono (fun r hr => ⟨fun c => ⟨(hr.1 c).1, (hr.1 c).2.1, (hr.1 c).2.2.1, (hr.1 c).2.2.2.1, (hr.1 c).2.2.2.2.1, (hr.1 c).2.2.2.2.2.1⟩, hr.2⟩)
    (Cert.Kernel.Experts.frame_value m g (fits_bits m h))

theorem said (m : (ℓ : Loc Cert.KernelIdeal.nD Cert.KernelIdeal.τ Cert.KernelIdeal.sig) → Buf (Elt Ideal) ℓ) (h : Cert.Pre_KernelIdeal_routed m) : Cert.KernelIdeal.Experts.Said m :=
  Cert.Routed.meaning _ _ _ _ _ _ (h 0)

theorem fits_tabled (m : (ℓ : Loc Cert.KernelIdeal.nD Cert.KernelIdeal.τ Cert.KernelIdeal.sig) → Buf (Elt Ideal) ℓ) (h : Cert.Pre_KernelIdeal m) : Cert.KernelIdeal.Experts.Fits m :=
  have hs := Cert.Routed.tabled_meaning _ _ _ _ _ _ (h 0)
  Cert.KernelIdeal.Experts.fits m hs.some_tile hs.tiles hs.expert

theorem fits_ideal (m : (ℓ : Loc Cert.KernelIdeal.nD Cert.KernelIdeal.τ Cert.KernelIdeal.sig) → Buf (Elt Ideal) ℓ) (h : Cert.Pre_KernelIdeal_routed m) : Cert.KernelIdeal.Experts.Fits m :=
  Cert.KernelIdeal.Experts.fits m (said m h).some_tile (said m h).tiles (said m h).expert

theorem frame_ideal : Cert.quiescent_KernelIdeal := fun m g h =>
  (θ_run Cert.KernelIdeal.defs _ _).mono (fun r hr => ⟨fun c => ⟨(hr.1 c).1, (hr.1 c).2.1, (hr.1 c).2.2.1, (hr.1 c).2.2.2.1, (hr.1 c).2.2.2.2.1, (hr.1 c).2.2.2.2.2.1⟩, hr.2⟩)
    (Cert.KernelIdeal.Experts.frame_value m g (fits_tabled m h))

theorem frame_ideal_routed : Cert.quiescent_KernelIdeal_pre_routed := fun m g h =>
  (θ_run Cert.KernelIdeal.defs _ _).mono (fun r hr => ⟨fun c => ⟨(hr.1 c).1, (hr.1 c).2.1, (hr.1 c).2.2.1, (hr.1 c).2.2.2.1, (hr.1 c).2.2.2.2.1, (hr.1 c).2.2.2.2.2.1⟩, hr.2⟩)
    (Cert.KernelIdeal.Experts.frame_value m g (fits_ideal m h))

theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

theorem frame_reference_routed : Cert.quiescent_ReferenceIdeal_pre_routed := fun m g _ =>
  (θ_run Cert.ReferenceIdeal.defs _ _).mono (fun r h => ⟨fun c => (h c).2, sem_eq_zero_of_no_sems (by decide) r.2⟩) (Cert.ReferenceIdeal.Value.run m g)

/-- The kernel and the reference end with equal results. -/
theorem values : Cert.algebraic_KernelIdeal_ReferenceIdeal_pre_routed := fun m g m' g' h ha => by
  refine ⟨fun c => Cert.ReferenceIdeal.Experts.result (Cert.KernelIdeal.Experts.arg0 m) (Cert.KernelIdeal.Experts.arg1 m) (Cert.KernelIdeal.Experts.arg2 m)
    (Cert.KernelIdeal.Experts.arg3 m) (Cert.KernelIdeal.Experts.arg4 m) (Cert.KernelIdeal.Experts.arg5 m), ?_, ?_⟩
  · refine (θ_run Cert.KernelIdeal.defs _ _).mono (fun r hr c => ?_) (Cert.KernelIdeal.Experts.frame_value m g (fits_ideal m h))
    obtain rfl : c = 0 := Subsingleton.elim _ _
    exact ⟨(hr.1 0).2.2.2.2.2.2.trans (Cert.KernelIdeal.Experts.final m (said m h) (fits_ideal m h)),
      (hr.1 0).1, (hr.1 0).2.1, (hr.1 0).2.2.1, (hr.1 0).2.2.2.1, (hr.1 0).2.2.2.2.1, (hr.1 0).2.2.2.2.2.1⟩
  · refine (θ_run Cert.ReferenceIdeal.defs _ _).mono (fun r hr c => ?_) (Cert.ReferenceIdeal.Value.run m' g')
    obtain rfl : c = 0 := Subsingleton.elim _ _
    obtain ⟨e0, e1, e2, e3, e4, e5⟩ := ha 0
    refine ⟨(hr 0).1.trans ?_, (hr 0).2⟩
    refine Eq.trans (b := Cert.ReferenceIdeal.Experts.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))
      (m' (((0 : Dev Cert.ReferenceIdeal.nD).tc : Thread Cert.ReferenceIdeal.nD Cert.ReferenceIdeal.τ).loc Cert.ReferenceIdeal.main_arg5))) rfl ?_
    rw [e0, e1, e2, e3, e4, e5]

theorem frame_reference2 : Cert.quiescent_Reference2Ideal := fun m g _ =>
  (θ_run Cert.Reference2Ideal.defs _ _).mono (fun r h => ⟨fun c => (h c).2.2.2, sem_eq_zero_of_no_sems (by decide) r.2⟩) (Cert.Reference2Ideal.Proj.run m g)

theorem frame_reference2_finite : Cert.quiescent_Reference2Ideal_pre_finite := fun m g _ =>
  (θ_run Cert.Reference2Ideal.defs _ _).mono (fun r h => ⟨fun c => (h c).2.2.2, sem_eq_zero_of_no_sems (by decide) r.2⟩) (Cert.Reference2Ideal.Proj.run m g)

theorem finite2 (m : (ℓ : Loc Cert.Kernel2Ideal.nD Cert.Kernel2Ideal.τ Cert.Kernel2Ideal.sig) → Buf (Elt Ideal) ℓ) (h : Cert.Pre_Kernel2Ideal_finite m) :
    Cert.Kernel2Ideal.Proj.Finite (Cert.Kernel2Ideal.Proj.ax m 0) (Cert.Kernel2Ideal.Proj.aw m 0) (Cert.Kernel2Ideal.Proj.acw m 0) :=
  Cert.Kernel2Ideal.Proj.finite_of _ _ _ _ _ _ _ (h 0)

/-- The projection kernel and its reference end with equal results. -/
theorem values2 : Cert.algebraic_Kernel2Ideal_Reference2Ideal_pre_finite := fun m g m' g' h ha => by
  refine ⟨fun c => Cert.Reference2Ideal.Proj.qkvR (Cert.Kernel2Ideal.Proj.ax m c) (Cert.Kernel2Ideal.Proj.aw m c) (Cert.Kernel2Ideal.Proj.acw m c), fun c => Cert.Reference2Ideal.Proj.zuvR (Cert.Kernel2Ideal.Proj.ax m c) (Cert.Kernel2Ideal.Proj.aw m c),
    fun c => Cert.Reference2Ideal.Proj.gatesR (Cert.Kernel2Ideal.Proj.ax m c) (Cert.Kernel2Ideal.Proj.aw m c) (Cert.Kernel2Ideal.Proj.aaf m c) (Cert.Kernel2Ideal.Proj.adf m c) (Cert.Kernel2Ideal.Proj.aab m c) (Cert.Kernel2Ideal.Proj.adb m c), ?_, ?_⟩
  · refine (θ_run Cert.Kernel2Ideal.defs _ _).mono (fun r hr c => ?_) (Cert.Kernel2Ideal.Value.run_blocks m g)
    obtain rfl : c = 0 := Subsingleton.elim _ _
    exact ⟨(hr 0).1.trans (Cert.Kernel2Ideal.Proj.final8 m 0 (finite2 m h)), (hr 0).2.1.trans (Cert.Kernel2Ideal.Proj.final9 m 0), (hr 0).2.2.1.trans (Cert.Kernel2Ideal.Proj.final10 m 0), (hr 0).2.2.2⟩
  · refine (θ_run Cert.Reference2Ideal.defs _ _).mono (fun r hr c => ?_) (Cert.Reference2Ideal.Proj.run m' g')
    obtain rfl : c = 0 := Subsingleton.elim _ _
    obtain ⟨e0, e1, e2, e3, e4, e5, e6⟩ := ha 0
    refine ⟨(hr 0).1.trans ?_, (hr 0).2.1.trans ?_, (hr 0).2.2.1.trans ?_, (hr 0).2.2.2⟩
    · refine Eq.trans (b := Cert.Reference2Ideal.Proj.qkvR (m' (((0 : Dev Cert.Reference2Ideal.nD).tc : Thread Cert.Reference2Ideal.nD Cert.Reference2Ideal.τ).loc Cert.Reference2Ideal.main_arg0)) (m' (((0 : Dev Cert.Reference2Ideal.nD).tc : Thread Cert.Reference2Ideal.nD Cert.Reference2Ideal.τ).loc Cert.Reference2Ideal.main_arg1)) (m' (((0 : Dev Cert.Reference2Ideal.nD).tc : Thread Cert.Reference2Ideal.nD Cert.Reference2Ideal.τ).loc Cert.Reference2Ideal.main_arg2))) rfl ?_
      rw [e0, e1, e2]
    · refine Eq.trans (b := Cert.Reference2Ideal.Proj.zuvR (m' (((0 : Dev Cert.Reference2Ideal.nD).tc : Thread Cert.Reference2Ideal.nD Cert.Reference2Ideal.τ).loc Cert.Reference2Ideal.main_arg0)) (m' (((0 : Dev Cert.Reference2Ideal.nD).tc : Thread Cert.Reference2Ideal.nD Cert.Reference2Ideal.τ).loc Cert.Reference2Ideal.main_arg1))) rfl ?_
      rw [e0, e1]
    · refine Eq.trans (b := Cert.Reference2Ideal.Proj.gatesR (m' (((0 : Dev Cert.Reference2Ideal.nD).tc : Thread Cert.Reference2Ideal.nD Cert.Reference2Ideal.τ).loc Cert.Reference2Ideal.main_arg0)) (m' (((0 : Dev Cert.Reference2Ideal.nD).tc : Thread Cert.Reference2Ideal.nD Cert.Reference2Ideal.τ).loc Cert.Reference2Ideal.main_arg1)) (m' (((0 : Dev Cert.Reference2Ideal.nD).tc : Thread Cert.Reference2Ideal.nD Cert.Reference2Ideal.τ).loc Cert.Reference2Ideal.main_arg3)) (m' (((0 : Dev Cert.Reference2Ideal.nD).tc : Thread Cert.Reference2Ideal.nD Cert.Reference2Ideal.τ).loc Cert.Reference2Ideal.main_arg4)) (m' (((0 : Dev Cert.Reference2Ideal.nD).tc : Thread Cert.Reference2Ideal.nD Cert.Reference2Ideal.τ).loc Cert.Reference2Ideal.main_arg5)) (m' (((0 : Dev Cert.Reference2Ideal.nD).tc : Thread Cert.Reference2Ideal.nD Cert.Reference2Ideal.τ).loc Cert.Reference2Ideal.main_arg6))) rfl ?_
      rw [e0, e1, e3, e4, e5, e6]

theorem frame_reference3 : Cert.quiescent_Reference3Ideal := fun m g _ =>
  (θ_run Cert.Reference3Ideal.defs _ _).mono (fun r h => ⟨fun c => (h c).2, sem_eq_zero_of_no_sems (by decide) r.2⟩) (Cert.Reference3Ideal.Value.run m g)

theorem frame_reference3_gated : Cert.quiescent_Reference3Ideal_pre_gated := fun m g _ =>
  (θ_run Cert.Reference3Ideal.defs _ _).mono (fun r h => ⟨fun c => (h c).2, sem_eq_zero_of_no_sems (by decide) r.2⟩) (Cert.Reference3Ideal.Value.run m g)

theorem gated3 (m : (ℓ : Loc Cert.Kernel3Ideal.nD Cert.Kernel3Ideal.τ Cert.Kernel3Ideal.sig) → Buf (Elt Ideal) ℓ) (h : Cert.Pre_Kernel3Ideal_gated m) :
    Cert.Kernel3Ideal.Mix.Gated (Cert.Kernel3Ideal.Mix.args m 0) :=
  Cert.Kernel3Ideal.Mix.gated_of _ _ _ _ _ _ _ _ _ _ _ _ _ _ (h 0)

theorem args_congr {A B : Cert.Reference3Ideal.Mix.Args} (h0 : A.o1 = B.o1) (h1 : A.o2 = B.o2) (h2 : A.zuv = B.zuv) (h3 : A.x = B.x) (h4 : A.nw = B.nw) (h5 : A.sg = B.sg) (h6 : A.sb = B.sb) (h7 : A.w = B.w) (h8 : A.b = B.b) (h9 : A.wo = B.wo) (h10 : A.lg = B.lg) (h11 : A.lb = B.lb) : A = B := by
  cases A; cases B
  exact (Cert.Reference3Ideal.Mix.Args.mk.injEq ..).mpr ⟨h0, h1, h2, h3, h4, h5, h6, h7, h8, h9, h10, h11⟩

/-- The kernel of the mixers' end and its reference end with equal results. -/
theorem values3 : Cert.algebraic_Kernel3Ideal_Reference3Ideal_pre_gated := fun m g m' g' h ha => by
  refine ⟨fun c => (Cert.Kernel3Ideal.Mix.args m c).result, ?_, ?_⟩
  · refine (θ_run Cert.Kernel3Ideal.defs _ _).mono (fun r hr c => ?_) (θ_run_and (Cert.Kernel3Ideal.Mix.run_main m g) (Cert.Kernel3Ideal.Mix.unchanged m g))
    obtain rfl : c = 0 := Subsingleton.elim _ _
    exact ⟨((hr.1 0).1 16).trans (Cert.Kernel3Ideal.Mix.final16 m 0 (gated3 m h)), hr.2 0⟩
  · refine (θ_run Cert.Reference3Ideal.defs _ _).mono (fun r hr c => ?_) (Cert.Reference3Ideal.Value.run m' g')
    obtain rfl : c = 0 := Subsingleton.elim _ _
    obtain ⟨e0, e1, e2, e3, e4, e5, e6, e7, e8, e9, e10, e11, e12, e13⟩ := ha 0
    refine ⟨(hr 0).1.trans ((Cert.Reference3Ideal.Mix.result_eq m' 0).trans (congrArg Cert.Reference3Ideal.Mix.Args.result ?_)), (hr 0).2⟩
    exact args_congr e0 e1 e2 e3 e4 e5 e6 e7 e8 e9 e10 e11

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Routed.tabled_facts, Cert.Pre_routed.Gen.facts, Cert.Pre_finite.Gen.facts, Cert.Pre_gated.Gen.facts,
  frame_kernel, frame_ideal, frame_ideal_routed, frame_reference, frame_reference_routed, fun m g _ => Cert.Kernel2.Gen.frame m g, fun m g _ => Cert.Kernel2Ideal.Gen.frame m g, fun m g _ => Cert.Kernel2Ideal.Gen.frame m g,
  frame_reference2, frame_reference2_finite, Cert.Kernel3.Mix.frame, fun m g _ => Cert.Kernel3Ideal.Mix.frame m g, fun m g _ => Cert.Kernel3Ideal.Mix.frame m g,
  frame_reference3, frame_reference3_gated, trivial, values, trivial, values2, trivial, values3⟩

end Cert.Proof

end
